-- ==== Defs.lean ====
def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite [hPre_finite : Cert.Pre_finite.Facts] (m : (ℓ : Loc Cert.MobaIdeal.nD Cert.MobaIdeal.τ Cert.MobaIdeal.sig) → Buf (Elt Ideal) ℓ) : Prop :=
  ∀ c : Dev Cert.MobaIdeal.nD,
    (Cert.Pre_finite.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2)) (m ((c.tc : Thread Cert.MobaIdeal.nD Cert.MobaIdeal.τ).loc Cert.MobaIdeal.main_arg3))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite [hPre_finite : Cert.Pre_finite.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2)) (m ((c.tc : Thread Cert.MobaRefIdeal.nD Cert.MobaRefIdeal.τ).loc Cert.MobaRefIdeal.main_arg3))) = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_PostSample (m : (ℓ : Loc Cert.PostSample.nD Cert.PostSample.τ Cert.PostSample.sig) → Buf (Elt Bits) ℓ) : Prop :=
  True

def Pre_PostSampleIdeal (m : (ℓ : Loc Cert.PostSampleIdeal.nD Cert.PostSampleIdeal.τ Cert.PostSampleIdeal.sig) → Buf (Elt Ideal) ℓ) : Prop :=
  True

def Pre_PostSampleRefIdeal (m : (ℓ : Loc Cert.PostSampleRefIdeal.nD Cert.PostSampleRefIdeal.τ Cert.PostSampleRefIdeal.sig) → Buf (Elt Ideal) ℓ) : Prop :=
  True

def Pre_ProjectSample (m : (ℓ : Loc Cert.ProjectSample.nD Cert.ProjectSample.τ Cert.ProjectSample.sig) → Buf (Elt Bits) ℓ) : Prop :=
  True

def Pre_ProjectSampleIdeal (m : (ℓ : Loc Cert.ProjectSampleIdeal.nD Cert.ProjectSampleIdeal.τ Cert.ProjectSampleIdeal.sig) → Buf (Elt Ideal) ℓ) : Prop :=
  True

def Pre_ProjectSampleRefIdeal (m : (ℓ : Loc Cert.ProjectSampleRefIdeal.nD Cert.ProjectSampleRefIdeal.τ Cert.ProjectSampleRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2)
      ∧ r.2.mem ((c.tc : Thread Cert.Moba.nD Cert.Moba.τ).loc Cert.Moba.main_arg3) = m ((c.tc : Thread Cert.Moba.nD Cert.Moba.τ).loc Cert.Moba.main_arg3))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ r.2.sem = fun _ => 0)

def quiescent_MobaIdeal_pre_finite [hMobaIdeal : Cert.MobaIdeal.Facts] [hPre_finite : Cert.Pre_finite.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3))
      ∧ r.2.sem = fun _ => 0)

def quiescent_MobaRefIdeal_pre_finite [hMobaRefIdeal : Cert.MobaRefIdeal.Facts] [hPre_finite : Cert.Pre_finite.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8)
      ∧ r.2.mem ((c.tc : Thread Cert.Project.nD Cert.Project.τ).loc Cert.Project.main_arg9) = m ((c.tc : Thread Cert.Project.nD Cert.Project.τ).loc Cert.Project.main_arg9)
      ∧ r.2.mem ((c.tc : Thread Cert.Project.nD Cert.Project.τ).loc Cert.Project.main_arg10) = m ((c.tc : Thread Cert.Project.nD Cert.Project.τ).loc Cert.Project.main_arg10))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
      ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
      ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5)
      ∧ r.2.mem ((c.tc : Thread Cert.ProjectRefIdeal.nD Cert.ProjectRefIdeal.τ).loc Cert.ProjectRefIdeal.main_arg6) = m ((c.tc : Thread Cert.ProjectRefIdeal.nD Cert.ProjectRefIdeal.τ).loc Cert.ProjectRefIdeal.main_arg6)
      ∧ r.2.mem ((c.tc : Thread Cert.ProjectRefIdeal.nD Cert.ProjectRefIdeal.τ).loc Cert.ProjectRefIdeal.main_arg7) = m ((c.tc : Thread Cert.ProjectRefIdeal.nD Cert.ProjectRefIdeal.τ).loc Cert.ProjectRefIdeal.main_arg7)
      ∧ r.2.mem ((c.tc : Thread Cert.ProjectRefIdeal.nD Cert.ProjectRefIdeal.τ).loc Cert.ProjectRefIdeal.main_arg8) = m ((c.tc : Thread Cert.ProjectRefIdeal.nD Cert.ProjectRefIdeal.τ).loc Cert.ProjectRefIdeal.main_arg8)
      ∧ r.2.mem ((c.tc : Thread Cert.ProjectRefIdeal.nD Cert.ProjectRefIdeal.τ).loc Cert.ProjectRefIdeal.main_arg9) = m ((c.tc : Thread Cert.ProjectRefIdeal.nD Cert.ProjectRefIdeal.τ).loc Cert.ProjectRefIdeal.main_arg9)
      ∧ r.2.mem ((c.tc : Thread Cert.ProjectRefIdeal.nD Cert.ProjectRefIdeal.τ).loc Cert.ProjectRefIdeal.main_arg10) = m ((c.tc : Thread Cert.ProjectRefIdeal.nD Cert.ProjectRefIdeal.τ).loc Cert.ProjectRefIdeal.main_arg10))
      ∧ r.2.sem = fun _ => 0)

def quiescent_PostSample [hPostSample : Cert.PostSample.Facts] : Prop :=
  ∀ (m : (ℓ : Loc Cert.PostSample.nD Cert.PostSample.τ Cert.PostSample.sig) → Buf (Elt Bits) ℓ) (g : Dev Cert.PostSample.nD → PrngReg), Pre_PostSample m →
    θ_run (Cert.PostSample.defs (F := Bits)) (onTc (τ := Cert.PostSample.τ) (Cert.PostSample.main (F := Bits))) ⟨m, fun _ => 0, g⟩ (fun r => (∀ c : Dev Cert.PostSample.nD,
      r.2.mem ((c.tc : Thread Cert.PostSample.nD Cert.PostSample.τ).loc Cert.PostSample.main_arg0) = m ((c.tc : Thread Cert.PostSample.nD Cert.PostSample.τ).loc Cert.PostSample.main_arg0)
      ∧ r.2.mem ((c.tc : Thread Cert.PostSample.nD Cert.PostSample.τ).loc Cert.PostSample.main_arg1) = m ((c.tc : Thread Cert.PostSample.nD Cert.PostSample.τ).loc Cert.PostSample.main_arg1)
      ∧ r.2.mem ((c.tc : Thread Cert.PostSample.nD Cert.PostSample.τ).loc Cert.PostSample.main_arg2) = m ((c.tc : Thread Cert.PostSample.nD Cert.PostSample.τ).loc Cert.PostSample.main_arg2)
      ∧ r.2.mem ((c.tc : Thread Cert.PostSample.nD Cert.PostSample.τ).loc Cert.PostSample.main_arg3) = m ((c.tc : Thread Cert.PostSample.nD Cert.PostSample.τ).loc Cert.PostSample.main_arg3)
      ∧ r.2.mem ((c.tc : Thread Cert.PostSample.nD Cert.PostSample.τ).loc Cert.PostSample.main_arg4) = m ((c.tc : Thread Cert.PostSample.nD Cert.PostSample.τ).loc Cert.PostSample.main_arg4)
      ∧ r.2.mem ((c.tc : Thread Cert.PostSample.nD Cert.PostSample.τ).loc Cert.PostSample.main_arg5) = m ((c.tc : Thread Cert.PostSample.nD Cert.PostSample.τ).loc Cert.PostSample.main_arg5))
      ∧ r.2.sem = fun _ => 0)

def quiescent_PostSampleIdeal [hPostSampleIdeal : Cert.PostSampleIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg), Pre_PostSampleIdeal m →
    θ_run (Cert.PostSampleIdeal.defs (F := Ideal)) (onTc (τ := Cert.PostSampleIdeal.τ) (Cert.PostSampleIdeal.main (F := Ideal))) ⟨m, fun _ => 0, g⟩ (fun r => (∀ c : Dev Cert.PostSampleIdeal.nD,
      r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
      ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
      ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
      ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
      ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
      ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5))
      ∧ r.2.sem = fun _ => 0)

def quiescent_PostSampleRefIdeal [hPostSampleRefIdeal : Cert.PostSampleRefIdeal.Facts] : Prop :=
  ∀ (m : (ℓ : Loc Cert.PostSampleRefIdeal.nD Cert.PostSampleRefIdeal.τ Cert.PostSampleRefIdeal.sig) → Buf (Elt Ideal) ℓ) (g : Dev Cert.PostSampleRefIdeal.nD → PrngReg), Pre_PostSampleRefIdeal m →
    θ_run (Cert.PostSampleRefIdeal.defs (F := Ideal)) (onTc (τ := Cert.PostSampleRefIdeal.τ) (Cert.PostSampleRefIdeal.main (F := Ideal))) ⟨m, fun _ => 0, g⟩ (fun r => (∀ c : Dev Cert.PostSampleRefIdeal.nD,
      r.2.mem ((c.tc : Thread Cert.PostSampleRefIdeal.nD Cert.PostSampleRefIdeal.τ).loc Cert.PostSampleRefIdeal.main_arg0) = m ((c.tc : Thread Cert.PostSampleRefIdeal.nD Cert.PostSampleRefIdeal.τ).loc Cert.PostSampleRefIdeal.main_arg0)
      ∧ r.2.mem ((c.tc : Thread Cert.PostSampleRefIdeal.nD Cert.PostSampleRefIdeal.τ).loc Cert.PostSampleRefIdeal.main_arg1) = m ((c.tc : Thread Cert.PostSampleRefIdeal.nD Cert.PostSampleRefIdeal.τ).loc Cert.PostSampleRefIdeal.main_arg1)
      ∧ r.2.mem ((c.tc : Thread Cert.PostSampleRefIdeal.nD Cert.PostSampleRefIdeal.τ).loc Cert.PostSampleRefIdeal.main_arg2) = m ((c.tc : Thread Cert.PostSampleRefIdeal.nD Cert.PostSampleRefIdeal.τ).loc Cert.PostSampleRefIdeal.main_arg2)
      ∧ r.2.mem ((c.tc : Thread Cert.PostSampleRefIdeal.nD Cert.PostSampleRefIdeal.τ).loc Cert.PostSampleRefIdeal.main_arg3) = m ((c.tc : Thread Cert.PostSampleRefIdeal.nD Cert.PostSampleRefIdeal.τ).loc Cert.PostSampleRefIdeal.main_arg3)
      ∧ r.2.mem ((c.tc : Thread Cert.PostSampleRefIdeal.nD Cert.PostSampleRefIdeal.τ).loc Cert.PostSampleRefIdeal.main_arg4) = m ((c.tc : Thread Cert.PostSampleRefIdeal.nD Cert.PostSampleRefIdeal.τ).loc Cert.PostSampleRefIdeal.main_arg4)
      ∧ r.2.mem ((c.tc : Thread Cert.PostSampleRefIdeal.nD Cert.PostSampleRefIdeal.τ).loc Cert.PostSampleRefIdeal.main_arg5) = m ((c.tc : Thread Cert.PostSampleRefIdeal.nD Cert.PostSampleRefIdeal.τ).loc Cert.PostSampleRefIdeal.main_arg5))
      ∧ r.2.sem = fun _ => 0)

def quiescent_ProjectSample [hProjectSample : Cert.ProjectSample.Facts] : Prop :=
  ∀ (m : (ℓ : Loc Cert.ProjectSample.nD Cert.ProjectSample.τ Cert.ProjectSample.sig) → Buf (Elt Bits) ℓ) (g : Dev Cert.ProjectSample.nD → PrngReg), Pre_ProjectSample m →
    θ_run (Cert.ProjectSample.defs (F := Bits)) (onTc (τ := Cert.ProjectSample.τ) (Cert.ProjectSample.main (F := Bits))) ⟨m, fun _ => 0, g⟩ (fun r => (∀ c : Dev Cert.ProjectSample.nD,
      r.2.mem ((c.tc : Thread Cert.ProjectSample.nD Cert.ProjectSample.τ).loc Cert.ProjectSample.main_arg0) = m ((c.tc : Thread Cert.ProjectSample.nD Cert.ProjectSample.τ).loc Cert.ProjectSample.main_arg0)
      ∧ r.2.mem ((c.tc : Thread Cert.ProjectSample.nD Cert.ProjectSample.τ).loc Cert.ProjectSample.main_arg1) = m ((c.tc : Thread Cert.ProjectSample.nD Cert.ProjectSample.τ).loc Cert.ProjectSample.main_arg1)
      ∧ r.2.mem ((c.tc : Thread Cert.ProjectSample.nD Cert.ProjectSample.τ).loc Cert.ProjectSample.main_arg2) = m ((c.tc : Thread Cert.ProjectSample.nD Cert.ProjectSample.τ).loc Cert.ProjectSample.main_arg2)
      ∧ r.2.mem ((c.tc : Thread Cert.ProjectSample.nD Cert.ProjectSample.τ).loc Cert.ProjectSample.main_arg3) = m ((c.tc : Thread Cert.ProjectSample.nD Cert.ProjectSample.τ).loc Cert.ProjectSample.main_arg3)
      ∧ r.2.mem ((c.tc : Thread Cert.ProjectSample.nD Cert.ProjectSample.τ).loc Cert.ProjectSample.main_arg4) = m ((c.tc : Thread Cert.ProjectSample.nD Cert.ProjectSample.τ).loc Cert.ProjectSample.main_arg4)
      ∧ r.2.mem ((c.tc : Thread Cert.ProjectSample.nD Cert.ProjectSample.τ).loc Cert.ProjectSample.main_arg5) = m ((c.tc : Thread Cert.ProjectSample.nD Cert.ProjectSample.τ).loc Cert.ProjectSample.main_arg5)
      ∧ r.2.mem ((c.tc : Thread Cert.ProjectSample.nD Cert.ProjectSample.τ).loc Cert.ProjectSample.main_arg6) = m ((c.tc : Thread Cert.ProjectSample.nD Cert.ProjectSample.τ).loc Cert.ProjectSample.main_arg6)
      ∧ r.2.mem ((c.tc : Thread Cert.ProjectSample.nD Cert.ProjectSample.τ).loc Cert.ProjectSample.main_arg7) = m ((c.tc : Thread Cert.ProjectSample.nD Cert.ProjectSample.τ).loc Cert.ProjectSample.main_arg7)
      ∧ r.2.mem ((c.tc : Thread Cert.ProjectSample.nD Cert.ProjectSample.τ).loc Cert.ProjectSample.main_arg8) = m ((c.tc : Thread Cert.ProjectSample.nD Cert.ProjectSample.τ).loc Cert.ProjectSample.main_arg8)
      ∧ r.2.mem ((c.tc : Thread Cert.ProjectSample.nD Cert.ProjectSample.τ).loc Cert.ProjectSample.main_arg9) = m ((c.tc : Thread Cert.ProjectSample.nD Cert.ProjectSample.τ).loc Cert.ProjectSample.main_arg9)
      ∧ r.2.mem ((c.tc : Thread Cert.ProjectSample.nD Cert.ProjectSample.τ).loc Cert.ProjectSample.main_arg10) = m ((c.tc : Thread Cert.ProjectSample.nD Cert.ProjectSample.τ).loc Cert.ProjectSample.main_arg10))
      ∧ r.2.sem = fun _ => 0)

def quiescent_ProjectSampleIdeal [hProjectSampleIdeal : Cert.ProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg), Pre_ProjectSampleIdeal m →
    θ_run (Cert.ProjectSampleIdeal.defs (F := Ideal)) (onTc (τ := Cert.ProjectSampleIdeal.τ) (Cert.ProjectSampleIdeal.main (F := Ideal))) ⟨m, fun _ => 0, g⟩ (fun r => (∀ c : Dev Cert.ProjectSampleIdeal.nD,
      r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
      ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
      ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
      ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3)
      ∧ r.2.mem ((c.tc : Thread Cert.ProjectSampleIdeal.nD Cert.ProjectSampleIdeal.τ).loc Cert.ProjectSampleIdeal.main_arg4) = m ((c.tc : Thread Cert.ProjectSampleIdeal.nD Cert.ProjectSampleIdeal.τ).loc Cert.ProjectSampleIdeal.main_arg4)
      ∧ r.2.mem ((c.tc : Thread Cert.ProjectSampleIdeal.nD Cert.ProjectSampleIdeal.τ).loc Cert.ProjectSampleIdeal.main_arg5) = m ((c.tc : Thread Cert.ProjectSampleIdeal.nD Cert.ProjectSampleIdeal.τ).loc Cert.ProjectSampleIdeal.main_arg5)
      ∧ r.2.mem ((c.tc : Thread Cert.ProjectSampleIdeal.nD Cert.ProjectSampleIdeal.τ).loc Cert.ProjectSampleIdeal.main_arg6) = m ((c.tc : Thread Cert.ProjectSampleIdeal.nD Cert.ProjectSampleIdeal.τ).loc Cert.ProjectSampleIdeal.main_arg6)
      ∧ r.2.mem ((c.tc : Thread Cert.ProjectSampleIdeal.nD Cert.ProjectSampleIdeal.τ).loc Cert.ProjectSampleIdeal.main_arg7) = m ((c.tc : Thread Cert.ProjectSampleIdeal.nD Cert.ProjectSampleIdeal.τ).loc Cert.ProjectSampleIdeal.main_arg7)
      ∧ r.2.mem ((c.tc : Thread Cert.ProjectSampleIdeal.nD Cert.ProjectSampleIdeal.τ).loc Cert.ProjectSampleIdeal.main_arg8) = m ((c.tc : Thread Cert.ProjectSampleIdeal.nD Cert.ProjectSampleIdeal.τ).loc Cert.ProjectSampleIdeal.main_arg8)
      ∧ r.2.mem ((c.tc : Thread Cert.ProjectSampleIdeal.nD Cert.ProjectSampleIdeal.τ).loc Cert.ProjectSampleIdeal.main_arg9) = m ((c.tc : Thread Cert.ProjectSampleIdeal.nD Cert.ProjectSampleIdeal.τ).loc Cert.ProjectSampleIdeal.main_arg9)
      ∧ r.2.mem ((c.tc : Thread Cert.ProjectSampleIdeal.nD Cert.ProjectSampleIdeal.τ).loc Cert.ProjectSampleIdeal.main_arg10) = m ((c.tc : Thread Cert.ProjectSampleIdeal.nD Cert.ProjectSampleIdeal.τ).loc Cert.ProjectSampleIdeal.main_arg10))
      ∧ r.2.sem = fun _ => 0)

def quiescent_ProjectSampleRefIdeal [hProjectSampleRefIdeal : Cert.ProjectSampleRefIdeal.Facts] : Prop :=
  ∀ (m : (ℓ : Loc Cert.ProjectSampleRefIdeal.nD Cert.ProjectSampleRefIdeal.τ Cert.ProjectSampleRefIdeal.sig) → Buf (Elt Ideal) ℓ) (g : Dev Cert.ProjectSampleRefIdeal.nD → PrngReg), Pre_ProjectSampleRefIdeal m →
    θ_run (Cert.ProjectSampleRefIdeal.defs (F := Ideal)) (onTc (τ := Cert.ProjectSampleRefIdeal.τ) (Cert.ProjectSampleRefIdeal.main (F := Ideal))) ⟨m, fun _ => 0, g⟩ (fun r => (∀ c : Dev Cert.ProjectSampleRefIdeal.nD,
      r.2.mem ((c.tc : Thread Cert.ProjectSampleRefIdeal.nD Cert.ProjectSampleRefIdeal.τ).loc Cert.ProjectSampleRefIdeal.main_arg0) = m ((c.tc : Thread Cert.ProjectSampleRefIdeal.nD Cert.ProjectSampleRefIdeal.τ).loc Cert.ProjectSampleRefIdeal.main_arg0)
      ∧ r.2.mem ((c.tc : Thread Cert.ProjectSampleRefIdeal.nD Cert.ProjectSampleRefIdeal.τ).loc Cert.ProjectSampleRefIdeal.main_arg1) = m ((c.tc : Thread Cert.ProjectSampleRefIdeal.nD Cert.ProjectSampleRefIdeal.τ).loc Cert.ProjectSampleRefIdeal.main_arg1)
      ∧ r.2.mem ((c.tc : Thread Cert.ProjectSampleRefIdeal.nD Cert.ProjectSampleRefIdeal.τ).loc Cert.ProjectSampleRefIdeal.main_arg2) = m ((c.tc : Thread Cert.ProjectSampleRefIdeal.nD Cert.ProjectSampleRefIdeal.τ).loc Cert.ProjectSampleRefIdeal.main_arg2)
      ∧ r.2.mem ((c.tc : Thread Cert.ProjectSampleRefIdeal.nD Cert.ProjectSampleRefIdeal.τ).loc Cert.ProjectSampleRefIdeal.main_arg3) = m ((c.tc : Thread Cert.ProjectSampleRefIdeal.nD Cert.ProjectSampleRefIdeal.τ).loc Cert.ProjectSampleRefIdeal.main_arg3)
      ∧ r.2.mem ((c.tc : Thread Cert.ProjectSampleRefIdeal.nD Cert.ProjectSampleRefIdeal.τ).loc Cert.ProjectSampleRefIdeal.main_arg4) = m ((c.tc : Thread Cert.ProjectSampleRefIdeal.nD Cert.ProjectSampleRefIdeal.τ).loc Cert.ProjectSampleRefIdeal.main_arg4)
      ∧ r.2.mem ((c.tc : Thread Cert.ProjectSampleRefIdeal.nD Cert.ProjectSampleRefIdeal.τ).loc Cert.ProjectSampleRefIdeal.main_arg5) = m ((c.tc : Thread Cert.ProjectSampleRefIdeal.nD Cert.ProjectSampleRefIdeal.τ).loc Cert.ProjectSampleRefIdeal.main_arg5)
      ∧ r.2.mem ((c.tc : Thread Cert.ProjectSampleRefIdeal.nD Cert.ProjectSampleRefIdeal.τ).loc Cert.ProjectSampleRefIdeal.main_arg6) = m ((c.tc : Thread Cert.ProjectSampleRefIdeal.nD Cert.ProjectSampleRefIdeal.τ).loc Cert.ProjectSampleRefIdeal.main_arg6)
      ∧ r.2.mem ((c.tc : Thread Cert.ProjectSampleRefIdeal.nD Cert.ProjectSampleRefIdeal.τ).loc Cert.ProjectSampleRefIdeal.main_arg7) = m ((c.tc : Thread Cert.ProjectSampleRefIdeal.nD Cert.ProjectSampleRefIdeal.τ).loc Cert.ProjectSampleRefIdeal.main_arg7)
      ∧ r.2.mem ((c.tc : Thread Cert.ProjectSampleRefIdeal.nD Cert.ProjectSampleRefIdeal.τ).loc Cert.ProjectSampleRefIdeal.main_arg8) = m ((c.tc : Thread Cert.ProjectSampleRefIdeal.nD Cert.ProjectSampleRefIdeal.τ).loc Cert.ProjectSampleRefIdeal.main_arg8)
      ∧ r.2.mem ((c.tc : Thread Cert.ProjectSampleRefIdeal.nD Cert.ProjectSampleRefIdeal.τ).loc Cert.ProjectSampleRefIdeal.main_arg9) = m ((c.tc : Thread Cert.ProjectSampleRefIdeal.nD Cert.ProjectSampleRefIdeal.τ).loc Cert.ProjectSampleRefIdeal.main_arg9)
      ∧ r.2.mem ((c.tc : Thread Cert.ProjectSampleRefIdeal.nD Cert.ProjectSampleRefIdeal.τ).loc Cert.ProjectSampleRefIdeal.main_arg10) = m ((c.tc : Thread Cert.ProjectSampleRefIdeal.nD Cert.ProjectSampleRefIdeal.τ).loc Cert.ProjectSampleRefIdeal.main_arg10))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def preserves_Moba_MobaIdeal : Prop :=
  True

def algebraic_MobaIdeal_MobaRefIdeal_pre_finite [hMobaIdeal : Cert.MobaIdeal.Facts] [hMobaRefIdeal : Cert.MobaRefIdeal.Facts] [hPre_finite : Cert.Pre_finite.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)
      ∧ m' ((c.tc : Thread Cert.MobaRefIdeal.nD Cert.MobaRefIdeal.τ).loc Cert.MobaRefIdeal.main_arg3) = m ((c.tc : Thread Cert.MobaIdeal.nD Cert.MobaIdeal.τ).loc Cert.MobaIdeal.main_arg3)) →
    ∃ (v0 : (c : Dev Cert.MobaIdeal.nD) → Buf (Elt Ideal) ((c.tc : Thread Cert.MobaIdeal.nD Cert.MobaIdeal.τ).loc Cert.MobaIdeal.main_v9)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v9) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
          ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v83) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2)
          ∧ r.2.mem ((c.tc : Thread Cert.MobaRefIdeal.nD Cert.MobaRefIdeal.τ).loc Cert.MobaRefIdeal.main_arg3) = m' ((c.tc : Thread Cert.MobaRefIdeal.nD Cert.MobaRefIdeal.τ).loc Cert.MobaRefIdeal.main_arg3))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v7_0)) (v1 : (c : Dev Cert.MemoryIdeal.nD) → Buf (Elt Ideal) ((c.tc : Thread Cert.MemoryIdeal.nD Cert.MemoryIdeal.τ).loc Cert.MemoryIdeal.main_v7_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v7_0) = v0 c
          ∧ r.2.mem ((c.tc : Thread Cert.MemoryIdeal.nD Cert.MemoryIdeal.τ).loc Cert.MemoryIdeal.main_v7_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v33) = v0 c
          ∧ r.2.mem ((c.tc : Thread Cert.MemoryRefIdeal.nD Cert.MemoryRefIdeal.τ).loc Cert.MemoryRefIdeal.main_v34) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11_0)) (v1 : (c : Dev Cert.FfnIdeal.nD) → Buf (Elt Ideal) ((c.tc : Thread Cert.FfnIdeal.nD Cert.FfnIdeal.τ).loc Cert.FfnIdeal.main_v11_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11_0) = v0 c
          ∧ r.2.mem ((c.tc : Thread Cert.FfnIdeal.nD Cert.FfnIdeal.τ).loc Cert.FfnIdeal.main_v11_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_v41) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v14)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v14) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v39) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v10)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v10) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v24) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5))

def preserves_Project_ProjectIdeal : Prop :=
  IdealRules.named_const.Statement Cert.ProjectIdeal.κ "i96" .f32 0x3C2AAAAB#32 ((96⁻¹ : ℝ) : EReal)

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)
      ∧ m' ((c.tc : Thread Cert.ProjectRefIdeal.nD Cert.ProjectRefIdeal.τ).loc Cert.ProjectRefIdeal.main_arg5) = m ((c.tc : Thread Cert.ProjectIdeal.nD Cert.ProjectIdeal.τ).loc Cert.ProjectIdeal.main_arg5)
      ∧ m' ((c.tc : Thread Cert.ProjectRefIdeal.nD Cert.ProjectRefIdeal.τ).loc Cert.ProjectRefIdeal.main_arg6) = m ((c.tc : Thread Cert.ProjectIdeal.nD Cert.ProjectIdeal.τ).loc Cert.ProjectIdeal.main_arg6)
      ∧ m' ((c.tc : Thread Cert.ProjectRefIdeal.nD Cert.ProjectRefIdeal.τ).loc Cert.ProjectRefIdeal.main_arg7) = m ((c.tc : Thread Cert.ProjectIdeal.nD Cert.ProjectIdeal.τ).loc Cert.ProjectIdeal.main_arg7)
      ∧ m' ((c.tc : Thread Cert.ProjectRefIdeal.nD Cert.ProjectRefIdeal.τ).loc Cert.ProjectRefIdeal.main_arg8) = m ((c.tc : Thread Cert.ProjectIdeal.nD Cert.ProjectIdeal.τ).loc Cert.ProjectIdeal.main_arg8)
      ∧ m' ((c.tc : Thread Cert.ProjectRefIdeal.nD Cert.ProjectRefIdeal.τ).loc Cert.ProjectRefIdeal.main_arg9) = m ((c.tc : Thread Cert.ProjectIdeal.nD Cert.ProjectIdeal.τ).loc Cert.ProjectIdeal.main_arg9)
      ∧ m' ((c.tc : Thread Cert.ProjectRefIdeal.nD Cert.ProjectRefIdeal.τ).loc Cert.ProjectRefIdeal.main_arg10) = m ((c.tc : Thread Cert.ProjectIdeal.nD Cert.ProjectIdeal.τ).loc Cert.ProjectIdeal.main_arg10)) →
    ∃ (v0 : (c : Dev Cert.ProjectIdeal.nD) → Buf (Elt Ideal) ((c.tc : Thread Cert.ProjectIdeal.nD Cert.ProjectIdeal.τ).loc Cert.ProjectIdeal.main_v113_0)) (v1 : (c : Dev Cert.ProjectIdeal.nD) → Buf (Elt Ideal) ((c.tc : Thread Cert.ProjectIdeal.nD Cert.ProjectIdeal.τ).loc Cert.ProjectIdeal.main_v113_1)) (v2 : (c : Dev Cert.ProjectIdeal.nD) → Buf (Elt Ideal) ((c.tc : Thread Cert.ProjectIdeal.nD Cert.ProjectIdeal.τ).loc Cert.ProjectIdeal.main_v113_2)) (v3 : (c : Dev Cert.ProjectIdeal.nD) → Buf (Elt Ideal) ((c.tc : Thread Cert.ProjectIdeal.nD Cert.ProjectIdeal.τ).loc Cert.ProjectIdeal.main_v113_3)) (v4 : (c : Dev Cert.ProjectIdeal.nD) → Buf (Elt Ideal) ((c.tc : Thread Cert.ProjectIdeal.nD Cert.ProjectIdeal.τ).loc Cert.ProjectIdeal.main_v113_4)) (v5 : (c : Dev Cert.ProjectIdeal.nD) → Buf (Elt Ideal) ((c.tc : Thread Cert.ProjectIdeal.nD Cert.ProjectIdeal.τ).loc Cert.ProjectIdeal.main_v113_5)) (v6 : (c : Dev Cert.ProjectIdeal.nD) → Buf (Elt Ideal) ((c.tc : Thread Cert.ProjectIdeal.nD Cert.ProjectIdeal.τ).loc Cert.ProjectIdeal.main_v113_6)) (v7 : (c : Dev Cert.ProjectIdeal.nD) → Buf (Elt Ideal) ((c.tc : Thread Cert.ProjectIdeal.nD Cert.ProjectIdeal.τ).loc Cert.ProjectIdeal.main_v113_7)) (v8 : (c : Dev Cert.ProjectIdeal.nD) → Buf (Elt Ideal) ((c.tc : Thread Cert.ProjectIdeal.nD Cert.ProjectIdeal.τ).loc Cert.ProjectIdeal.main_v113_8)) (v9 : (c : Dev Cert.ProjectIdeal.nD) → Buf (Elt Ideal) ((c.tc : Thread Cert.ProjectIdeal.nD Cert.ProjectIdeal.τ).loc Cert.ProjectIdeal.main_v113_9)) (v10 : (c : Dev Cert.ProjectIdeal.nD) → Buf (Elt Ideal) ((c.tc : Thread Cert.ProjectIdeal.nD Cert.ProjectIdeal.τ).loc Cert.ProjectIdeal.main_v113_10)) (v11 : (c : Dev Cert.ProjectIdeal.nD) → Buf (Elt Ideal) ((c.tc : Thread Cert.ProjectIdeal.nD Cert.ProjectIdeal.τ).loc Cert.ProjectIdeal.main_v113_11)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v113_0) = v0 c
          ∧ r.2.mem ((c.tc : Thread Cert.ProjectIdeal.nD Cert.ProjectIdeal.τ).loc Cert.ProjectIdeal.main_v113_1) = v1 c
          ∧ r.2.mem ((c.tc : Thread Cert.ProjectIdeal.nD Cert.ProjectIdeal.τ).loc Cert.ProjectIdeal.main_v113_2) = v2 c
          ∧ r.2.mem ((c.tc : Thread Cert.ProjectIdeal.nD Cert.ProjectIdeal.τ).loc Cert.ProjectIdeal.main_v113_3) = v3 c
          ∧ r.2.mem ((c.tc : Thread Cert.ProjectIdeal.nD Cert.ProjectIdeal.τ).loc Cert.ProjectIdeal.main_v113_4) = v4 c
          ∧ r.2.mem ((c.tc : Thread Cert.ProjectIdeal.nD Cert.ProjectIdeal.τ).loc Cert.ProjectIdeal.main_v113_5) = v5 c
          ∧ r.2.mem ((c.tc : Thread Cert.ProjectIdeal.nD Cert.ProjectIdeal.τ).loc Cert.ProjectIdeal.main_v113_6) = v6 c
          ∧ r.2.mem ((c.tc : Thread Cert.ProjectIdeal.nD Cert.ProjectIdeal.τ).loc Cert.ProjectIdeal.main_v113_7) = v7 c
          ∧ r.2.mem ((c.tc : Thread Cert.ProjectIdeal.nD Cert.ProjectIdeal.τ).loc Cert.ProjectIdeal.main_v113_8) = v8 c
          ∧ r.2.mem ((c.tc : Thread Cert.ProjectIdeal.nD Cert.ProjectIdeal.τ).loc Cert.ProjectIdeal.main_v113_9) = v9 c
          ∧ r.2.mem ((c.tc : Thread Cert.ProjectIdeal.nD Cert.ProjectIdeal.τ).loc Cert.ProjectIdeal.main_v113_10) = v10 c
          ∧ r.2.mem ((c.tc : Thread Cert.ProjectIdeal.nD Cert.ProjectIdeal.τ).loc Cert.ProjectIdeal.main_v113_11) = v11 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8)
          ∧ r.2.mem ((c.tc : Thread Cert.ProjectIdeal.nD Cert.ProjectIdeal.τ).loc Cert.ProjectIdeal.main_arg9) = m ((c.tc : Thread Cert.ProjectIdeal.nD Cert.ProjectIdeal.τ).loc Cert.ProjectIdeal.main_arg9)
          ∧ r.2.mem ((c.tc : Thread Cert.ProjectIdeal.nD Cert.ProjectIdeal.τ).loc Cert.ProjectIdeal.main_arg10) = m ((c.tc : Thread Cert.ProjectIdeal.nD Cert.ProjectIdeal.τ).loc Cert.ProjectIdeal.main_arg10))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v194) = v0 c
          ∧ r.2.mem ((c.tc : Thread Cert.ProjectRefIdeal.nD Cert.ProjectRefIdeal.τ).loc Cert.ProjectRefIdeal.main_v196) = v1 c
          ∧ r.2.mem ((c.tc : Thread Cert.ProjectRefIdeal.nD Cert.ProjectRefIdeal.τ).loc Cert.ProjectRefIdeal.main_v198) = v2 c
          ∧ r.2.mem ((c.tc : Thread Cert.ProjectRefIdeal.nD Cert.ProjectRefIdeal.τ).loc Cert.ProjectRefIdeal.main_v199) = v3 c
          ∧ r.2.mem ((c.tc : Thread Cert.ProjectRefIdeal.nD Cert.ProjectRefIdeal.τ).loc Cert.ProjectRefIdeal.main_v201) = v4 c
          ∧ r.2.mem ((c.tc : Thread Cert.ProjectRefIdeal.nD Cert.ProjectRefIdeal.τ).loc Cert.ProjectRefIdeal.main_v209) = v5 c
          ∧ r.2.mem ((c.tc : Thread Cert.ProjectRefIdeal.nD Cert.ProjectRefIdeal.τ).loc Cert.ProjectRefIdeal.main_v210) = v6 c
          ∧ r.2.mem ((c.tc : Thread Cert.ProjectRefIdeal.nD Cert.ProjectRefIdeal.τ).loc Cert.ProjectRefIdeal.main_v211) = v7 c
          ∧ r.2.mem ((c.tc : Thread Cert.ProjectRefIdeal.nD Cert.ProjectRefIdeal.τ).loc Cert.ProjectRefIdeal.main_v213) = v8 c
          ∧ r.2.mem ((c.tc : Thread Cert.ProjectRefIdeal.nD Cert.ProjectRefIdeal.τ).loc Cert.ProjectRefIdeal.main_v221) = v9 c
          ∧ r.2.mem ((c.tc : Thread Cert.ProjectRefIdeal.nD Cert.ProjectRefIdeal.τ).loc Cert.ProjectRefIdeal.main_v223) = v10 c
          ∧ r.2.mem ((c.tc : Thread Cert.ProjectRefIdeal.nD Cert.ProjectRefIdeal.τ).loc Cert.ProjectRefIdeal.main_v224) = v11 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4)
          ∧ r.2.mem ((c.tc : Thread Cert.ProjectRefIdeal.nD Cert.ProjectRefIdeal.τ).loc Cert.ProjectRefIdeal.main_arg5) = m' ((c.tc : Thread Cert.ProjectRefIdeal.nD Cert.ProjectRefIdeal.τ).loc Cert.ProjectRefIdeal.main_arg5)
          ∧ r.2.mem ((c.tc : Thread Cert.ProjectRefIdeal.nD Cert.ProjectRefIdeal.τ).loc Cert.ProjectRefIdeal.main_arg6) = m' ((c.tc : Thread Cert.ProjectRefIdeal.nD Cert.ProjectRefIdeal.τ).loc Cert.ProjectRefIdeal.main_arg6)
          ∧ r.2.mem ((c.tc : Thread Cert.ProjectRefIdeal.nD Cert.ProjectRefIdeal.τ).loc Cert.ProjectRefIdeal.main_arg7) = m' ((c.tc : Thread Cert.ProjectRefIdeal.nD Cert.ProjectRefIdeal.τ).loc Cert.ProjectRefIdeal.main_arg7)
          ∧ r.2.mem ((c.tc : Thread Cert.ProjectRefIdeal.nD Cert.ProjectRefIdeal.τ).loc Cert.ProjectRefIdeal.main_arg8) = m' ((c.tc : Thread Cert.ProjectRefIdeal.nD Cert.ProjectRefIdeal.τ).loc Cert.ProjectRefIdeal.main_arg8)
          ∧ r.2.mem ((c.tc : Thread Cert.ProjectRefIdeal.nD Cert.ProjectRefIdeal.τ).loc Cert.ProjectRefIdeal.main_arg9) = m' ((c.tc : Thread Cert.ProjectRefIdeal.nD Cert.ProjectRefIdeal.τ).loc Cert.ProjectRefIdeal.main_arg9)
          ∧ r.2.mem ((c.tc : Thread Cert.ProjectRefIdeal.nD Cert.ProjectRefIdeal.τ).loc Cert.ProjectRefIdeal.main_arg10) = m' ((c.tc : Thread Cert.ProjectRefIdeal.nD Cert.ProjectRefIdeal.τ).loc Cert.ProjectRefIdeal.main_arg10))

def preserves_PostSample_PostSampleIdeal : Prop :=
  True

def algebraic_PostSampleIdeal_PostSampleRefIdeal [hPostSampleIdeal : Cert.PostSampleIdeal.Facts] [hPostSampleRefIdeal : Cert.PostSampleRefIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg)
    (m' : (ℓ : Loc Cert.PostSampleRefIdeal.nD Cert.PostSampleRefIdeal.τ Cert.PostSampleRefIdeal.sig) → Buf (Elt Ideal) ℓ) (g' : Dev Cert.PostSampleRefIdeal.nD → PrngReg), Pre_PostSampleIdeal m →
    (∀ c : Dev Cert.PostSampleIdeal.nD,
      m' ((c.tc : Thread Cert.PostSampleRefIdeal.nD Cert.PostSampleRefIdeal.τ).loc Cert.PostSampleRefIdeal.main_arg0) = m ((c.tc : Thread Cert.PostSampleIdeal.nD Cert.PostSampleIdeal.τ).loc Cert.PostSampleIdeal.main_arg0)
      ∧ m' ((c.tc : Thread Cert.PostSampleRefIdeal.nD Cert.PostSampleRefIdeal.τ).loc Cert.PostSampleRefIdeal.main_arg1) = m ((c.tc : Thread Cert.PostSampleIdeal.nD Cert.PostSampleIdeal.τ).loc Cert.PostSampleIdeal.main_arg1)
      ∧ m' ((c.tc : Thread Cert.PostSampleRefIdeal.nD Cert.PostSampleRefIdeal.τ).loc Cert.PostSampleRefIdeal.main_arg2) = m ((c.tc : Thread Cert.PostSampleIdeal.nD Cert.PostSampleIdeal.τ).loc Cert.PostSampleIdeal.main_arg2)
      ∧ m' ((c.tc : Thread Cert.PostSampleRefIdeal.nD Cert.PostSampleRefIdeal.τ).loc Cert.PostSampleRefIdeal.main_arg3) = m ((c.tc : Thread Cert.PostSampleIdeal.nD Cert.PostSampleIdeal.τ).loc Cert.PostSampleIdeal.main_arg3)
      ∧ m' ((c.tc : Thread Cert.PostSampleRefIdeal.nD Cert.PostSampleRefIdeal.τ).loc Cert.PostSampleRefIdeal.main_arg4) = m ((c.tc : Thread Cert.PostSampleIdeal.nD Cert.PostSampleIdeal.τ).loc Cert.PostSampleIdeal.main_arg4)
      ∧ m' ((c.tc : Thread Cert.PostSampleRefIdeal.nD Cert.PostSampleRefIdeal.τ).loc Cert.PostSampleRefIdeal.main_arg5) = m ((c.tc : Thread Cert.PostSampleIdeal.nD Cert.PostSampleIdeal.τ).loc Cert.PostSampleIdeal.main_arg5)) →
    ∃ (v0 : (c : Dev Cert.PostSampleIdeal.nD) → Buf (Elt Ideal) ((c.tc : Thread Cert.PostSampleIdeal.nD Cert.PostSampleIdeal.τ).loc Cert.PostSampleIdeal.main_v10)),
      θ_run (Cert.PostSampleIdeal.defs (F := Ideal)) (onTc (τ := Cert.PostSampleIdeal.τ) (Cert.PostSampleIdeal.main (F := Ideal))) ⟨m, fun _ => 0, g⟩ (fun r => ∀ c : Dev Cert.PostSampleIdeal.nD,
          r.2.mem ((c.tc : Thread Cert.PostSampleIdeal.nD Cert.PostSampleIdeal.τ).loc Cert.PostSampleIdeal.main_v10) = v0 c
          ∧ r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
          ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
          ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
          ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
          ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
          ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5))
      ∧ θ_run (Cert.PostSampleRefIdeal.defs (F := Ideal)) (onTc (τ := Cert.PostSampleRefIdeal.τ) (Cert.PostSampleRefIdeal.main (F := Ideal))) ⟨m', fun _ => 0, g'⟩ (fun r => ∀ c : Dev Cert.PostSampleRefIdeal.nD,
          r.2.mem ((c.tc : Thread Cert.PostSampleRefIdeal.nD Cert.PostSampleRefIdeal.τ).loc Cert.PostSampleRefIdeal.main_v24) = v0 c
          ∧ r.2.mem ((c.tc : Thread Cert.PostSampleRefIdeal.nD Cert.PostSampleRefIdeal.τ).loc Cert.PostSampleRefIdeal.main_arg0) = m' ((c.tc : Thread Cert.PostSampleRefIdeal.nD Cert.PostSampleRefIdeal.τ).loc Cert.PostSampleRefIdeal.main_arg0)
          ∧ r.2.mem ((c.tc : Thread Cert.PostSampleRefIdeal.nD Cert.PostSampleRefIdeal.τ).loc Cert.PostSampleRefIdeal.main_arg1) = m' ((c.tc : Thread Cert.PostSampleRefIdeal.nD Cert.PostSampleRefIdeal.τ).loc Cert.PostSampleRefIdeal.main_arg1)
          ∧ r.2.mem ((c.tc : Thread Cert.PostSampleRefIdeal.nD Cert.PostSampleRefIdeal.τ).loc Cert.PostSampleRefIdeal.main_arg2) = m' ((c.tc : Thread Cert.PostSampleRefIdeal.nD Cert.PostSampleRefIdeal.τ).loc Cert.PostSampleRefIdeal.main_arg2)
          ∧ r.2.mem ((c.tc : Thread Cert.PostSampleRefIdeal.nD Cert.PostSampleRefIdeal.τ).loc Cert.PostSampleRefIdeal.main_arg3) = m' ((c.tc : Thread Cert.PostSampleRefIdeal.nD Cert.PostSampleRefIdeal.τ).loc Cert.PostSampleRefIdeal.main_arg3)
          ∧ r.2.mem ((c.tc : Thread Cert.PostSampleRefIdeal.nD Cert.PostSampleRefIdeal.τ).loc Cert.PostSampleRefIdeal.main_arg4) = m' ((c.tc : Thread Cert.PostSampleRefIdeal.nD Cert.PostSampleRefIdeal.τ).loc Cert.PostSampleRefIdeal.main_arg4)
          ∧ r.2.mem ((c.tc : Thread Cert.PostSampleRefIdeal.nD Cert.PostSampleRefIdeal.τ).loc Cert.PostSampleRefIdeal.main_arg5) = m' ((c.tc : Thread Cert.PostSampleRefIdeal.nD Cert.PostSampleRefIdeal.τ).loc Cert.PostSampleRefIdeal.main_arg5))

def preserves_ProjectSample_ProjectSampleIdeal : Prop :=
  IdealRules.named_const.Statement Cert.ProjectSampleIdeal.κ "i96" .f32 0x3C2AAAAB#32 ((96⁻¹ : ℝ) : EReal)

def algebraic_ProjectSampleIdeal_ProjectSampleRefIdeal [hProjectSampleIdeal : Cert.ProjectSampleIdeal.Facts] [hProjectSampleRefIdeal : Cert.ProjectSampleRefIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg)
    (m' : (ℓ : Loc Cert.ProjectSampleRefIdeal.nD Cert.ProjectSampleRefIdeal.τ Cert.ProjectSampleRefIdeal.sig) → Buf (Elt Ideal) ℓ) (g' : Dev Cert.ProjectSampleRefIdeal.nD → PrngReg), Pre_ProjectSampleIdeal m →
    (∀ c : Dev Cert.ProjectSampleIdeal.nD,
      m' ((c.tc : Thread Cert.ProjectSampleRefIdeal.nD Cert.ProjectSampleRefIdeal.τ).loc Cert.ProjectSampleRefIdeal.main_arg0) = m ((c.tc : Thread Cert.ProjectSampleIdeal.nD Cert.ProjectSampleIdeal.τ).loc Cert.ProjectSampleIdeal.main_arg0)
      ∧ m' ((c.tc : Thread Cert.ProjectSampleRefIdeal.nD Cert.ProjectSampleRefIdeal.τ).loc Cert.ProjectSampleRefIdeal.main_arg1) = m ((c.tc : Thread Cert.ProjectSampleIdeal.nD Cert.ProjectSampleIdeal.τ).loc Cert.ProjectSampleIdeal.main_arg1)
      ∧ m' ((c.tc : Thread Cert.ProjectSampleRefIdeal.nD Cert.ProjectSampleRefIdeal.τ).loc Cert.ProjectSampleRefIdeal.main_arg2) = m ((c.tc : Thread Cert.ProjectSampleIdeal.nD Cert.ProjectSampleIdeal.τ).loc Cert.ProjectSampleIdeal.main_arg2)
      ∧ m' ((c.tc : Thread Cert.ProjectSampleRefIdeal.nD Cert.ProjectSampleRefIdeal.τ).loc Cert.ProjectSampleRefIdeal.main_arg3) = m ((c.tc : Thread Cert.ProjectSampleIdeal.nD Cert.ProjectSampleIdeal.τ).loc Cert.ProjectSampleIdeal.main_arg3)
      ∧ m' ((c.tc : Thread Cert.ProjectSampleRefIdeal.nD Cert.ProjectSampleRefIdeal.τ).loc Cert.ProjectSampleRefIdeal.main_arg4) = m ((c.tc : Thread Cert.ProjectSampleIdeal.nD Cert.ProjectSampleIdeal.τ).loc Cert.ProjectSampleIdeal.main_arg4)
      ∧ m' ((c.tc : Thread Cert.ProjectSampleRefIdeal.nD Cert.ProjectSampleRefIdeal.τ).loc Cert.ProjectSampleRefIdeal.main_arg5) = m ((c.tc : Thread Cert.ProjectSampleIdeal.nD Cert.ProjectSampleIdeal.τ).loc Cert.ProjectSampleIdeal.main_arg5)
      ∧ m' ((c.tc : Thread Cert.ProjectSampleRefIdeal.nD Cert.ProjectSampleRefIdeal.τ).loc Cert.ProjectSampleRefIdeal.main_arg6) = m ((c.tc : Thread Cert.ProjectSampleIdeal.nD Cert.ProjectSampleIdeal.τ).loc Cert.ProjectSampleIdeal.main_arg6)
      ∧ m' ((c.tc : Thread Cert.ProjectSampleRefIdeal.nD Cert.ProjectSampleRefIdeal.τ).loc Cert.ProjectSampleRefIdeal.main_arg7) = m ((c.tc : Thread Cert.ProjectSampleIdeal.nD Cert.ProjectSampleIdeal.τ).loc Cert.ProjectSampleIdeal.main_arg7)
      ∧ m' ((c.tc : Thread Cert.ProjectSampleRefIdeal.nD Cert.ProjectSampleRefIdeal.τ).loc Cert.ProjectSampleRefIdeal.main_arg8) = m ((c.tc : Thread Cert.ProjectSampleIdeal.nD Cert.ProjectSampleIdeal.τ).loc Cert.ProjectSampleIdeal.main_arg8)
      ∧ m' ((c.tc : Thread Cert.ProjectSampleRefIdeal.nD Cert.ProjectSampleRefIdeal.τ).loc Cert.ProjectSampleRefIdeal.main_arg9) = m ((c.tc : Thread Cert.ProjectSampleIdeal.nD Cert.ProjectSampleIdeal.τ).loc Cert.ProjectSampleIdeal.main_arg9)
      ∧ m' ((c.tc : Thread Cert.ProjectSampleRefIdeal.nD Cert.ProjectSampleRefIdeal.τ).loc Cert.ProjectSampleRefIdeal.main_arg10) = m ((c.tc : Thread Cert.ProjectSampleIdeal.nD Cert.ProjectSampleIdeal.τ).loc Cert.ProjectSampleIdeal.main_arg10)) →
    ∃ (v0 : (c : Dev Cert.ProjectSampleIdeal.nD) → Buf (Elt Ideal) ((c.tc : Thread Cert.ProjectSampleIdeal.nD Cert.ProjectSampleIdeal.τ).loc Cert.ProjectSampleIdeal.main_v116_1)) (v1 : (c : Dev Cert.ProjectSampleIdeal.nD) → Buf (Elt Ideal) ((c.tc : Thread Cert.ProjectSampleIdeal.nD Cert.ProjectSampleIdeal.τ).loc Cert.ProjectSampleIdeal.main_v116_3)) (v2 : (c : Dev Cert.ProjectSampleIdeal.nD) → Buf (Elt Ideal) ((c.tc : Thread Cert.ProjectSampleIdeal.nD Cert.ProjectSampleIdeal.τ).loc Cert.ProjectSampleIdeal.main_v116_6)) (v3 : (c : Dev Cert.ProjectSampleIdeal.nD) → Buf (Elt Ideal) ((c.tc : Thread Cert.ProjectSampleIdeal.nD Cert.ProjectSampleIdeal.τ).loc Cert.ProjectSampleIdeal.main_v116_7)),
      θ_run (Cert.ProjectSampleIdeal.defs (F := Ideal)) (onTc (τ := Cert.ProjectSampleIdeal.τ) (Cert.ProjectSampleIdeal.main (F := Ideal))) ⟨m, fun _ => 0, g⟩ (fun r => ∀ c : Dev Cert.ProjectSampleIdeal.nD,
          r.2.mem ((c.tc : Thread Cert.ProjectSampleIdeal.nD Cert.ProjectSampleIdeal.τ).loc Cert.ProjectSampleIdeal.main_v116_1) = v0 c
          ∧ r.2.mem ((c.tc : Thread Cert.ProjectSampleIdeal.nD Cert.ProjectSampleIdeal.τ).loc Cert.ProjectSampleIdeal.main_v116_3) = v1 c
          ∧ r.2.mem ((c.tc : Thread Cert.ProjectSampleIdeal.nD Cert.ProjectSampleIdeal.τ).loc Cert.ProjectSampleIdeal.main_v116_6) = v2 c
          ∧ r.2.mem ((c.tc : Thread Cert.ProjectSampleIdeal.nD Cert.ProjectSampleIdeal.τ).loc Cert.ProjectSampleIdeal.main_v116_7) = v3 c
          ∧ r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
          ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
          ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2)
          ∧ r.2.mem ((c.tc : Thread Cert.ProjectSampleIdeal.nD Cert.ProjectSampleIdeal.τ).loc Cert.ProjectSampleIdeal.main_arg3) = m ((c.tc : Thread Cert.ProjectSampleIdeal.nD Cert.ProjectSampleIdeal.τ).loc Cert.ProjectSampleIdeal.main_arg3)
          ∧ r.2.mem ((c.tc : Thread Cert.ProjectSampleIdeal.nD Cert.ProjectSampleIdeal.τ).loc Cert.ProjectSampleIdeal.main_arg4) = m ((c.tc : Thread Cert.ProjectSampleIdeal.nD Cert.ProjectSampleIdeal.τ).loc Cert.ProjectSampleIdeal.main_arg4)
          ∧ r.2.mem ((c.tc : Thread Cert.ProjectSampleIdeal.nD Cert.ProjectSampleIdeal.τ).loc Cert.ProjectSampleIdeal.main_arg5) = m ((c.tc : Thread Cert.ProjectSampleIdeal.nD Cert.ProjectSampleIdeal.τ).loc Cert.ProjectSampleIdeal.main_arg5)
          ∧ r.2.mem ((c.tc : Thread Cert.ProjectSampleIdeal.nD Cert.ProjectSampleIdeal.τ).loc Cert.ProjectSampleIdeal.main_arg6) = m ((c.tc : Thread Cert.ProjectSampleIdeal.nD Cert.ProjectSampleIdeal.τ).loc Cert.ProjectSampleIdeal.main_arg6)
          ∧ r.2.mem ((c.tc : Thread Cert.ProjectSampleIdeal.nD Cert.ProjectSampleIdeal.τ).loc Cert.ProjectSampleIdeal.main_arg7) = m ((c.tc : Thread Cert.ProjectSampleIdeal.nD Cert.ProjectSampleIdeal.τ).loc Cert.ProjectSampleIdeal.main_arg7)
          ∧ r.2.mem ((c.tc : Thread Cert.ProjectSampleIdeal.nD Cert.ProjectSampleIdeal.τ).loc Cert.ProjectSampleIdeal.main_arg8) = m ((c.tc : Thread Cert.ProjectSampleIdeal.nD Cert.ProjectSampleIdeal.τ).loc Cert.ProjectSampleIdeal.main_arg8)
          ∧ r.2.mem ((c.tc : Thread Cert.ProjectSampleIdeal.nD Cert.ProjectSampleIdeal.τ).loc Cert.ProjectSampleIdeal.main_arg9) = m ((c.tc : Thread Cert.ProjectSampleIdeal.nD Cert.ProjectSampleIdeal.τ).loc Cert.ProjectSampleIdeal.main_arg9)
          ∧ r.2.mem ((c.tc : Thread Cert.ProjectSampleIdeal.nD Cert.ProjectSampleIdeal.τ).loc Cert.ProjectSampleIdeal.main_arg10) = m ((c.tc : Thread Cert.ProjectSampleIdeal.nD Cert.ProjectSampleIdeal.τ).loc Cert.ProjectSampleIdeal.main_arg10))
      ∧ θ_run (Cert.ProjectSampleRefIdeal.defs (F := Ideal)) (onTc (τ := Cert.ProjectSampleRefIdeal.τ) (Cert.ProjectSampleRefIdeal.main (F := Ideal))) ⟨m', fun _ => 0, g'⟩ (fun r => ∀ c : Dev Cert.ProjectSampleRefIdeal.nD,
          r.2.mem ((c.tc : Thread Cert.ProjectSampleRefIdeal.nD Cert.ProjectSampleRefIdeal.τ).loc Cert.ProjectSampleRefIdeal.main_v26) = v0 c
          ∧ r.2.mem ((c.tc : Thread Cert.ProjectSampleRefIdeal.nD Cert.ProjectSampleRefIdeal.τ).loc Cert.ProjectSampleRefIdeal.main_v5) = v1 c
          ∧ r.2.mem ((c.tc : Thread Cert.ProjectSampleRefIdeal.nD Cert.ProjectSampleRefIdeal.τ).loc Cert.ProjectSampleRefIdeal.main_v40) = v2 c
          ∧ r.2.mem ((c.tc : Thread Cert.ProjectSampleRefIdeal.nD Cert.ProjectSampleRefIdeal.τ).loc Cert.ProjectSampleRefIdeal.main_v8) = v3 c
          ∧ r.2.mem ((c.tc : Thread Cert.ProjectSampleRefIdeal.nD Cert.ProjectSampleRefIdeal.τ).loc Cert.ProjectSampleRefIdeal.main_arg0) = m' ((c.tc : Thread Cert.ProjectSampleRefIdeal.nD Cert.ProjectSampleRefIdeal.τ).loc Cert.ProjectSampleRefIdeal.main_arg0)
          ∧ r.2.mem ((c.tc : Thread Cert.ProjectSampleRefIdeal.nD Cert.ProjectSampleRefIdeal.τ).loc Cert.ProjectSampleRefIdeal.main_arg1) = m' ((c.tc : Thread Cert.ProjectSampleRefIdeal.nD Cert.ProjectSampleRefIdeal.τ).loc Cert.ProjectSampleRefIdeal.main_arg1)
          ∧ r.2.mem ((c.tc : Thread Cert.ProjectSampleRefIdeal.nD Cert.ProjectSampleRefIdeal.τ).loc Cert.ProjectSampleRefIdeal.main_arg2) = m' ((c.tc : Thread Cert.ProjectSampleRefIdeal.nD Cert.ProjectSampleRefIdeal.τ).loc Cert.ProjectSampleRefIdeal.main_arg2)
          ∧ r.2.mem ((c.tc : Thread Cert.ProjectSampleRefIdeal.nD Cert.ProjectSampleRefIdeal.τ).loc Cert.ProjectSampleRefIdeal.main_arg3) = m' ((c.tc : Thread Cert.ProjectSampleRefIdeal.nD Cert.ProjectSampleRefIdeal.τ).loc Cert.ProjectSampleRefIdeal.main_arg3)
          ∧ r.2.mem ((c.tc : Thread Cert.ProjectSampleRefIdeal.nD Cert.ProjectSampleRefIdeal.τ).loc Cert.ProjectSampleRefIdeal.main_arg4) = m' ((c.tc : Thread Cert.ProjectSampleRefIdeal.nD Cert.ProjectSampleRefIdeal.τ).loc Cert.ProjectSampleRefIdeal.main_arg4)
          ∧ r.2.mem ((c.tc : Thread Cert.ProjectSampleRefIdeal.nD Cert.ProjectSampleRefIdeal.τ).loc Cert.ProjectSampleRefIdeal.main_arg5) = m' ((c.tc : Thread Cert.ProjectSampleRefIdeal.nD Cert.ProjectSampleRefIdeal.τ).loc Cert.ProjectSampleRefIdeal.main_arg5)
          ∧ r.2.mem ((c.tc : Thread Cert.ProjectSampleRefIdeal.nD Cert.ProjectSampleRefIdeal.τ).loc Cert.ProjectSampleRefIdeal.main_arg6) = m' ((c.tc : Thread Cert.ProjectSampleRefIdeal.nD Cert.ProjectSampleRefIdeal.τ).loc Cert.ProjectSampleRefIdeal.main_arg6)
          ∧ r.2.mem ((c.tc : Thread Cert.ProjectSampleRefIdeal.nD Cert.ProjectSampleRefIdeal.τ).loc Cert.ProjectSampleRefIdeal.main_arg7) = m' ((c.tc : Thread Cert.ProjectSampleRefIdeal.nD Cert.ProjectSampleRefIdeal.τ).loc Cert.ProjectSampleRefIdeal.main_arg7)
          ∧ r.2.mem ((c.tc : Thread Cert.ProjectSampleRefIdeal.nD Cert.ProjectSampleRefIdeal.τ).loc Cert.ProjectSampleRefIdeal.main_arg8) = m' ((c.tc : Thread Cert.ProjectSampleRefIdeal.nD Cert.ProjectSampleRefIdeal.τ).loc Cert.ProjectSampleRefIdeal.main_arg8)
          ∧ r.2.mem ((c.tc : Thread Cert.ProjectSampleRefIdeal.nD Cert.ProjectSampleRefIdeal.τ).loc Cert.ProjectSampleRefIdeal.main_arg9) = m' ((c.tc : Thread Cert.ProjectSampleRefIdeal.nD Cert.ProjectSampleRefIdeal.τ).loc Cert.ProjectSampleRefIdeal.main_arg9)
          ∧ r.2.mem ((c.tc : Thread Cert.ProjectSampleRefIdeal.nD Cert.ProjectSampleRefIdeal.τ).loc Cert.ProjectSampleRefIdeal.main_arg10) = m' ((c.tc : Thread Cert.ProjectSampleRefIdeal.nD Cert.ProjectSampleRefIdeal.τ).loc Cert.ProjectSampleRefIdeal.main_arg10))

def preserves_Mla_MlaIdeal : Prop :=
  True

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v42) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def Claim : Prop :=
  ∃ (hMoba : Cert.Moba.Facts) (hMobaIdeal : Cert.MobaIdeal.Facts) (hMobaRefIdeal : Cert.MobaRefIdeal.Facts) (hMemory : Cert.Memory.Facts) (hMemoryIdeal : Cert.MemoryIdeal.Facts) (hMemoryRefIdeal : Cert.MemoryRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hPost : Cert.Post.Facts) (hPostIdeal : Cert.PostIdeal.Facts) (hPostRefIdeal : Cert.PostRefIdeal.Facts) (hProject : Cert.Project.Facts) (hProjectIdeal : Cert.ProjectIdeal.Facts) (hProjectRefIdeal : Cert.ProjectRefIdeal.Facts) (hPostSample : Cert.PostSample.Facts) (hPostSampleIdeal : Cert.PostSampleIdeal.Facts) (hPostSampleRefIdeal : Cert.PostSampleRefIdeal.Facts) (hProjectSample : Cert.ProjectSample.Facts) (hProjectSampleIdeal : Cert.ProjectSampleIdeal.Facts) (hProjectSampleRefIdeal : Cert.ProjectSampleRefIdeal.Facts) (hMla : Cert.Mla.Facts) (hMlaIdeal : Cert.MlaIdeal.Facts) (hMlaRefIdeal : Cert.MlaRefIdeal.Facts) (hPre_finite : Cert.Pre_finite.Facts) (hPre_finite_mla : Cert.Pre_finite_mla.Facts),
    quiescent_Moba (hMoba := hMoba)
    ∧ quiescent_MobaIdeal (hMobaIdeal := hMobaIdeal)
    ∧ quiescent_MobaIdeal_pre_finite (hMobaIdeal := hMobaIdeal) (hPre_finite := hPre_finite)
    ∧ quiescent_MobaRefIdeal (hMobaRefIdeal := hMobaRefIdeal)
    ∧ quiescent_MobaRefIdeal_pre_finite (hMobaRefIdeal := hMobaRefIdeal) (hPre_finite := hPre_finite)
    ∧ quiescent_Memory (hMemory := hMemory)
    ∧ quiescent_MemoryIdeal (hMemoryIdeal := hMemoryIdeal)
    ∧ quiescent_MemoryRefIdeal (hMemoryRefIdeal := hMemoryRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Post (hPost := hPost)
    ∧ quiescent_PostIdeal (hPostIdeal := hPostIdeal)
    ∧ quiescent_PostRefIdeal (hPostRefIdeal := hPostRefIdeal)
    ∧ quiescent_Project (hProject := hProject)
    ∧ quiescent_ProjectIdeal (hProjectIdeal := hProjectIdeal)
    ∧ quiescent_ProjectRefIdeal (hProjectRefIdeal := hProjectRefIdeal)
    ∧ quiescent_PostSample (hPostSample := hPostSample)
    ∧ quiescent_PostSampleIdeal (hPostSampleIdeal := hPostSampleIdeal)
    ∧ quiescent_PostSampleRefIdeal (hPostSampleRefIdeal := hPostSampleRefIdeal)
    ∧ quiescent_ProjectSample (hProjectSample := hProjectSample)
    ∧ quiescent_ProjectSampleIdeal (hProjectSampleIdeal := hProjectSampleIdeal)
    ∧ quiescent_ProjectSampleRefIdeal (hProjectSampleRefIdeal := hProjectSampleRefIdeal)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ preserves_Moba_MobaIdeal
    ∧ algebraic_MobaIdeal_MobaRefIdeal_pre_finite (hMobaIdeal := hMobaIdeal) (hMobaRefIdeal := hMobaRefIdeal) (hPre_finite := hPre_finite)
    ∧ preserves_Memory_MemoryIdeal
    ∧ algebraic_MemoryIdeal_MemoryRefIdeal (hMemoryIdeal := hMemoryIdeal) (hMemoryRefIdeal := hMemoryRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Post_PostIdeal
    ∧ algebraic_PostIdeal_PostRefIdeal (hPostIdeal := hPostIdeal) (hPostRefIdeal := hPostRefIdeal)
    ∧ preserves_Project_ProjectIdeal
    ∧ algebraic_ProjectIdeal_ProjectRefIdeal (hProjectIdeal := hProjectIdeal) (hProjectRefIdeal := hProjectRefIdeal)
    ∧ preserves_PostSample_PostSampleIdeal
    ∧ algebraic_PostSampleIdeal_PostSampleRefIdeal (hPostSampleIdeal := hPostSampleIdeal) (hPostSampleRefIdeal := hPostSampleRefIdeal)
    ∧ preserves_ProjectSample_ProjectSampleIdeal
    ∧ algebraic_ProjectSampleIdeal_ProjectSampleRefIdeal (hProjectSampleIdeal := hProjectSampleIdeal) (hProjectSampleRefIdeal := hProjectSampleRefIdeal)
    ∧ preserves_Mla_MlaIdeal
    ∧ algebraic_MlaIdeal_MlaRefIdeal_pre_finite_mla (hMlaIdeal := hMlaIdeal) (hMlaRefIdeal := hMlaRefIdeal) (hPre_finite_mla := hPre_finite_mla)
-- ==== Pre_finite.lean ====
abbrev S8x2048x512 : Shape := ⟨3, ![8, 2048, 512]⟩
abbrev S8x8x512 : Shape := ⟨3, ![8, 8, 512]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .bf16) (main_arg1 : FVec F S8x2048x512 .bf16) (main_arg2 : FVec F S8x2048x512 .bf16) (main_arg3 : FVec F S8x8x512 .bf16) : IVec S_ 1 :=
  let main_v0 : FVec F S8x2048x512 .f32 := (extf .f32 · bitsLt_bf16_f32) main_arg0
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_c : IVec S_ 1 := constantI S_ 1 1#1
  let main_v4 : IVec S_ 1 := (fun x v => Host.reduce IntOp.andi x v reducesTo_S8x2048x512_S_d0_1_2 h_S_) main_v3 main_c
  let main_v5 : FVec F S8x2048x512 .f32 := (extf .f32 · bitsLt_bf16_f32) main_arg1
  let main_v6 : FVec F S8x2048x512 .f32 := Host.absf main_v5
  let main_cst_0 : FVec F S_ .f32 := constant S_ .f32 0x7F800000#32
  let main_v7 : FVec F S8x2048x512 .f32 := broadcastInDim S8x2048x512 ![] bcast_S_S8x2048x512 main_cst_0
  let main_v8 : IVec S8x2048x512 1 := cmpf .olt main_v6 main_v7
  let main_c_1 : IVec S_ 1 := constantI S_ 1 1#1
  let main_v9 : IVec S_ 1 := (fun x v => Host.reduce IntOp.andi x v reducesTo_S8x2048x512_S_d0_1_2 h_S_) main_v8 main_c_1
  let main_v10 : IVec S_ 1 := andi main_v4 main_v9
  main_v10
-- ==== Pre_finite_mla.lean ====
abbrev S8x2048x768 : Shape := ⟨3, ![8, 2048, 768]⟩
abbrev S8x2048x512 : Shape := ⟨3, ![8, 2048, 512]⟩
abbrev S_ : Shape := ⟨0, ![]⟩

class Facts : Prop where
  bitsLt_bf16_f32 : FTy.bits .bf16 < FTy.bits .f32
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel

variable [Facts]

def fn {F : FTy → Type} [FloatOps F] (main_arg0 : FVec F S8x2048x768 .bf16) (main_arg1 : FVec F S8x2048x768 .bf16) (main_arg2 : FVec F S8x2048x512 .bf16) : IVec S_ 1 :=
  let main_v0 : FVec F S8x2048x768 .f32 := (extf .f32 · bitsLt_bf16_f32) main_arg0
  let main_v1 : FVec F S8x2048x768 .f32 := Host.absf main_v0
  let main_cst : FVec F S_ .f32 := constant S_ .f32 0x7F800000#32
  let main_v2 : FVec F S8x2048x768 .f32 := broadcastInDim S8x2048x768 ![] bcast_S_S8x2048x768 main_cst
  let main_v3 : IVec S8x2048x768 1 := cmpf .olt main_v1 main_v2
  let main_c : IVec S_ 1 := constantI S_ 1 1#1
  let main_v4 : IVec S_ 1 := (fun x v => Host.reduce IntOp.andi x v reducesTo_S8x2048x768_S_d0_1_2 h_S_) main_v3 main_c
  let main_v5 : FVec F S8x2048x768 .f32 := (extf .f32 · bitsLt_bf16_f32) main_arg1
  let main_v6 : FVec F S8x2048x768 .f32 := Host.absf main_v5
  let main_cst_0 : FVec F S_ .f32 := constant S_ .f32 0x7F800000#32
  let main_v7 : FVec F S8x2048x768 .f32 := broadcastInDim S8x2048x768 ![] bcast_S_S8x2048x768 main_cst_0
  let main_v8 : IVec S8x2048x768 1 := cmpf .olt main_v6 main_v7
  let main_c_1 : IVec S_ 1 := constantI S_ 1 1#1
  let main_v9 : IVec S_ 1 := (fun x v => Host.reduce IntOp.andi x v reducesTo_S8x2048x768_S_d0_1_2 h_S_) main_v8 main_c_1
  let main_v10 : IVec S_ 1 := andi main_v4 main_v9
  main_v10
-- ==== Moba.lean ====
abbrev S8x2048x512 : Shape := ⟨3, ![8, 2048, 512]⟩
abbrev S8x8x512 : Shape := ⟨3, ![8, 8, 512]⟩
abbrev S8 : Shape := ⟨1, ![8]⟩
abbrev S_ : Shape := ⟨0, ![]⟩
abbrev S1x256x128 : Shape := ⟨3, ![1, 256, 128]⟩
abbrev S1x2048x128 : Shape := ⟨3, ![1, 2048, 128]⟩
abbrev S1x8x128 : Shape := ⟨3, ![1, 8, 128]⟩
abbrev S256x128 : Shape := ⟨2, ![256, 128]⟩
abbrev S256x256 : Shape := ⟨2, ![256, 256]⟩
abbrev S256x8 : Shape := ⟨2, ![256, 8]⟩
abbrev S1 : Shape := ⟨1, ![1]⟩
abbrev S8x128 : Shape := ⟨2, ![8, 128]⟩
abbrev S256 : Shape := ⟨1, ![256]⟩
abbrev S256x1 : Shape := ⟨2, ![256, 1]⟩

abbrev nBuf : Space → Nat
  | .hbm => 18
  | .vmem => 10
  | .smem => 1
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S8x8x512, .bf16⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x8x128, .bf16⟩
  | .local _ .vmem, ⟨7, _⟩ => ⟨S1x8x128, .bf16⟩
  | .local _ .vmem, ⟨8, _⟩ => ⟨S1x256x128, .bf16⟩
  | .local _ .vmem, ⟨9, _⟩ => ⟨S1x256x128, .bf16⟩
  | .local _ .smem, ⟨0, _⟩ => ⟨S8, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 8], ![false, false, false]⟩

def k0_off1 (i : grid0.Coords) (c0_i32 : BitVec 32) : Fin 1 → Nat :=
  let c2_i32 : BitVec 32 := 2#32
  let arg1 : BitVec 32 := BitVec.ofNat 32 (i 1).val
  let v16 : BitVec 32 := Scalar.muli c2_i32 arg1
  let v17 : BitVec 32 := Scalar.addi v16 c0_i32
  let v18 : Index := Scalar.indexCast v17
  ![v18.toNat]
@[reducible] def k0_t1_loop (i : grid0.Coords) : Scf.Loop 32 :=
  let c0_i32_28 : BitVec 32 := 0#32
  let arg2 : BitVec 32 := BitVec.ofNat 32 (i 2).val
  let v85 : BitVec 32 := Scalar.subi arg2 c0_i32_28
  let c1_i32 : BitVec 32 := 1#32
  let v87 : BitVec 32 := Scalar.divsi v85 c1_i32
  let v88 : BitVec 32 := Scalar.muli v87 c1_i32
  let v89 : BitVec 32 := Scalar.addi c0_i32_28 v88
  let c1_i32_29 : BitVec 32 := 1#32
  ⟨c0_i32_28, v89, c1_i32_29⟩
def k0_mult1 (i : grid0.Coords) (k0_t1 : Fin (k0_t1_loop i).trips) : BitVec 32 :=
  let c0_i32_28 : BitVec 32 := 0#32
  let c1_i32_29 : BitVec 32 := 1#32
  let arg9 : BitVec 32 := Scf.iv c0_i32_28 c1_i32_29 k0_t1
  let c256_i32_92 : BitVec 32 := 256#32
  let v250 : BitVec 32 := Scalar.muli arg9 c256_i32_92
  v250
def k0_off2 (i : grid0.Coords) (k0_t1 : Fin (k0_t1_loop i).trips) : Fin 3 → Nat :=
  let c0_93 : Index := 0#32
  let c0_i32_28 : BitVec 32 := 0#32
  let c1_i32_29 : BitVec 32 := 1#32
  let arg9 : BitVec 32 := Scf.iv c0_i32_28 c1_i32_29 k0_t1
  let c256_i32_92 : BitVec 32 := 256#32
  let v250 : BitVec 32 := Scalar.muli arg9 c256_i32_92
  let v251 : BitVec 32 := v250
  let v252 : Index := Scalar.indexCast v251
  let c0_94 : Index := 0#32
  ![0, v252.toNat, 0]
@[reducible] def k0_t2_loop (i : grid0.Coords) : Scf.Loop 32 :=
  let c0_i32_28 : BitVec 32 := 0#32
  let arg2 : BitVec 32 := BitVec.ofNat 32 (i 2).val
  let v85 : BitVec 32 := Scalar.subi arg2 c0_i32_28
  let c1_i32 : BitVec 32 := 1#32
  let v87 : BitVec 32 := Scalar.divsi v85 c1_i32
  let v88 : BitVec 32 := Scalar.muli v87 c1_i32
  let v89 : BitVec 32 := Scalar.addi c0_i32_28 v88
  let v86 : BitVec 32 := Scalar.addi c0_i32_28 v85
  let c1_i32_30 : BitVec 32 := 1#32
  ⟨v89, v86, c1_i32_30⟩
def k0_mult2 (i : grid0.Coords) (k0_t2 : Fin (k0_t2_loop i).trips) : BitVec 32 :=
  let c0_i32_28 : BitVec 32 := 0#32
  let arg2 : BitVec 32 := BitVec.ofNat 32 (i 2).val
  let v85 : BitVec 32 := Scalar.subi arg2 c0_i32_28
  let c1_i32 : BitVec 32 := 1#32
  let v87 : BitVec 32 := Scalar.divsi v85 c1_i32
  let v88 : BitVec 32 := Scalar.muli v87 c1_i32
  let v89 : BitVec 32 := Scalar.addi c0_i32_28 v88
  let c1_i32_30 : BitVec 32 := 1#32
  let arg9 : BitVec 32 := Scf.iv v89 c1_i32_30 k0_t2
  let c256_i32_92 : BitVec 32 := 256#32
  let v250 : BitVec 32 := Scalar.muli arg9 c256_i32_92
  v250
def k0_off3 (i : grid0.Coords) (k0_t2 : Fin (k0_t2_loop i).trips) : Fin 3 → Nat :=
  let c0_93 : Index := 0#32
  let c0_i32_28 : BitVec 32 := 0#32
  let arg2 : BitVec 32 := BitVec.ofNat 32 (i 2).val
  let v85 : BitVec 32 := Scalar.subi arg2 c0_i32_28
  let c1_i32 : BitVec 32 := 1#32
  let v87 : BitVec 32 := Scalar.divsi v85 c1_i32
  let v88 : BitVec 32 := Scalar.muli v87 c1_i32
  let v89 : BitVec 32 := Scalar.addi c0_i32_28 v88
  let c1_i32_30 : BitVec 32 := 1#32
  let arg9 : BitVec 32 := Scf.iv v89 c1_i32_30 k0_t2
  let c256_i32_92 : BitVec 32 := 256#32
  let v250 : BitVec 32 := Scalar.muli arg9 c256_i32_92
  let v251 : BitVec 32 := v250
  let v252 : Index := Scalar.indexCast v251
  let c0_94 : Index := 0#32
  ![0, v252.toNat, 0]
def k0_mult3 (i : grid0.Coords) : BitVec 32 :=
  let arg2 : BitVec 32 := BitVec.ofNat 32 (i 2).val
  let c256_i32 : BitVec 32 := 256#32
  let v92 : BitVec 32 := Scalar.muli arg2 c256_i32
  v92
def k0_off4 (i : grid0.Coords) : Fin 3 → Nat :=
  let c0_31 : Index := 0#32
  let arg2 : BitVec 32 := BitVec.ofNat 32 (i 2).val
  let c256_i32 : BitVec 32 := 256#32
  let v92 : BitVec 32 := Scalar.muli arg2 c256_i32
  let v93 : BitVec 32 := v92
  let v94 : Index := Scalar.indexCast v93
  let c0_32 : Index := 0#32
  ![0, v94.toNat, 0]
@[reducible] def k0_t3_loop (i : grid0.Coords) : Scf.Loop 32 :=
  let c0_i32_72 : BitVec 32 := 0#32
  let arg2 : BitVec 32 := BitVec.ofNat 32 (i 2).val
  let v201 : BitVec 32 := Scalar.subi arg2 c0_i32_72
  let c1_i32_73 : BitVec 32 := 1#32
  let v203 : BitVec 32 := Scalar.divsi v201 c1_i32_73
  let v204 : BitVec 32 := Scalar.muli v203 c1_i32_73
  let v205 : BitVec 32 := Scalar.addi c0_i32_72 v204
  let c1_i32_74 : BitVec 32 := 1#32
  ⟨c0_i32_72, v205, c1_i32_74⟩
def k0_mult4 (i : grid0.Coords) (k0_t3 : Fin (k0_t3_loop i).trips) : BitVec 32 :=
  let c0_i32_72 : BitVec 32 := 0#32
  let c1_i32_74 : BitVec 32 := 1#32
  let arg9 : BitVec 32 := Scf.iv c0_i32_72 c1_i32_74 k0_t3
  let c256_i32_92 : BitVec 32 := 256#32
  let v250 : BitVec 32 := Scalar.muli arg9 c256_i32_92
  v250
def k0_off5 (i : grid0.Coords) (k0_t3 : Fin (k0_t3_loop i).trips) : Fin 3 → Nat :=
  let c0_93 : Index := 0#32
  let c0_i32_72 : BitVec 32 := 0#32
  let c1_i32_74 : BitVec 32 := 1#32
  let arg9 : BitVec 32 := Scf.iv c0_i32_72 c1_i32_74 k0_t3
  let c256_i32_92 : BitVec 32 := 256#32
  let v250 : BitVec 32 := Scalar.muli arg9 c256_i32_92
  let v251 : BitVec 32 := v250
  let v252 : Index := Scalar.indexCast v251
  let c0_94 : Index := 0#32
  ![0, v252.toNat, 0]
@[reducible] def k0_t4_loop (i : grid0.Coords) : Scf.Loop 32 :=
  let c0_i32_72 : BitVec 32 := 0#32
  let arg2 : BitVec 32 := BitVec.ofNat 32 (i 2).val
  let v201 : BitVec 32 := Scalar.subi arg2 c0_i32_72
  let c1_i32_73 : BitVec 32 := 1#32
  let v203 : BitVec 32 := Scalar.divsi v201 c1_i32_73
  let v204 : BitVec 32 := Scalar.muli v203 c1_i32_73
  let v205 : BitVec 32 := Scalar.addi c0_i32_72 v204
  let v202 : BitVec 32 := Scalar.addi c0_i32_72 v201
  let c1_i32_75 : BitVec 32 := 1#32
  ⟨v205, v202, c1_i32_75⟩
def k0_mult5 (i : grid0.Coords) (k0_t4 : Fin (k0_t4_loop i).trips) : BitVec 32 :=
  let c0_i32_72 : BitVec 32 := 0#32
  let arg2 : BitVec 32 := BitVec.ofNat 32 (i 2).val
  let v201 : BitVec 32 := Scalar.subi arg2 c0_i32_72
  let c1_i32_73 : BitVec 32 := 1#32
  let v203 : BitVec 32 := Scalar.divsi v201 c1_i32_73
  let v204 : BitVec 32 := Scalar.muli v203 c1_i32_73
  let v205 : BitVec 32 := Scalar.addi c0_i32_72 v204
  let c1_i32_75 : BitVec 32 := 1#32
  let arg9 : BitVec 32 := Scf.iv v205 c1_i32_75 k0_t4
  let c256_i32_92 : BitVec 32 := 256#32
  let v250 : BitVec 32 := Scalar.muli arg9 c256_i32_92
  v250
def k0_off6 (i : grid0.Coords) (k0_t4 : Fin (k0_t4_loop i).trips) : Fin 3 → Nat :=
  let c0_93 : Index := 0#32
  let c0_i32_72 : BitVec 32 := 0#32
  let arg2 : BitVec 32 := BitVec.ofNat 32 (i 2).val
  let v201 : BitVec 32 := Scalar.subi arg2 c0_i32_72
  let c1_i32_73 : BitVec 32 := 1#32
  let v203 : BitVec 32 := Scalar.divsi v201 c1_i32_73
  let v204 : BitVec 32 := Scalar.muli v203 c1_i32_73
  let v205 : BitVec 32 := Scalar.addi c0_i32_72 v204
  let c1_i32_75 : BitVec 32 := 1#32
  let arg9 : BitVec 32 := Scf.iv v205 c1_i32_75 k0_t4
  let c256_i32_92 : BitVec 32 := 256#32
  let v250 : BitVec 32 := Scalar.muli arg9 c256_i32_92
  let v251 : BitVec 32 := v250
  let v252 : Index := Scalar.indexCast v251
  let c0_94 : Index := 0#32
  ![0, v252.toNat, 0]
def k0_mult6 (i : grid0.Coords) : BitVec 32 :=
  let arg2 : BitVec 32 := BitVec.ofNat 32 (i 2).val
  let c256_i32_76 : BitVec 32 := 256#32
  let v208 : BitVec 32 := Scalar.muli arg2 c256_i32_76
  v208
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MobaRefIdeal.lean ====
abbrev S8x2048x512 : Shape := ⟨3, ![8, 2048, 512]⟩
abbrev S8x8x512 : Shape := ⟨3, ![8, 8, 512]⟩
abbrev S8x2048x8x64 : Shape := ⟨4, ![8, 2048, 8, 64]⟩
abbrev S8x8x8x64 : Shape := ⟨4, ![8, 8, 8, 64]⟩
abbrev S8 : Shape := ⟨1, ![8]⟩
abbrev S_ : Shape := ⟨0, ![]⟩
abbrev S2048 : Shape := ⟨1, ![2048]⟩
abbrev S8x8x2048x8 : Shape := ⟨4, ![8, 8, 2048, 8]⟩
abbrev S1x8 : Shape := ⟨2, ![1, 8]⟩
abbrev S2048x1 : Shape := ⟨2, ![2048, 1]⟩
abbrev S2048x8 : Shape := ⟨2, ![2048, 8]⟩
abbrev S8x8x2048x3 : Shape := ⟨4, ![8, 8, 2048, 3]⟩
abbrev S8x8x2048x3x1 : Shape := ⟨5, ![8, 8, 2048, 3, 1]⟩
abbrev S1x1x1x1x8 : Shape := ⟨5, ![1, 1, 1, 1, 8]⟩
abbrev S8x8x2048x3x8 : Shape := ⟨5, ![8, 8, 2048, 3, 8]⟩
abbrev S1x2048 : Shape := ⟨2, ![1, 2048]⟩
abbrev S2048x2048 : Shape := ⟨2, ![2048, 2048]⟩
abbrev S8x8x2048x2048 : Shape := ⟨4, ![8, 8, 2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S1x8x2048x2048 : Shape := ⟨4, ![1, 8, 2048, 2048]⟩
abbrev S8x8x2048x8x256 : Shape := ⟨5, ![8, 8, 2048, 8, 256]⟩
abbrev S1x1x2048x2048 : Shape := ⟨4, ![1, 1, 2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 125
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S8x8x512, .bf16⟩
  | .hbm, ⟨4, _⟩ => ⟨S8x2048x512, .f32⟩
  | .hbm, ⟨5, _⟩ => ⟨S8x2048x8x64, .f32⟩
  | .hbm, ⟨6, _⟩ => ⟨S8x2048x512, .f32⟩
  | .hbm, ⟨7, _⟩ => ⟨S8x2048x8x64, .f32⟩
  | .hbm, ⟨8, _⟩ => ⟨S8x2048x512, .f32⟩
  | .hbm, ⟨9, _⟩ => ⟨S8x2048x8x64, .f32⟩
  | .hbm, ⟨10, _⟩ => ⟨S8x8x512, .f32⟩
  | .hbm, ⟨11, _⟩ => ⟨S8x8x8x64, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S2048, .i32⟩
  | .hbm, ⟨26, _⟩ => ⟨S_, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S2048, .i1⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S8, .i32⟩
  | .hbm, ⟨45, _⟩ => ⟨S8x8x2048x8, .f32⟩
  | .hbm, ⟨46, _⟩ => ⟨S1x8, .i32⟩
  | .hbm, ⟨47, _⟩ => ⟨S2048x1, .i32⟩
  | .hbm, ⟨48, _⟩ => ⟨S2048x8, .i32⟩
  | .hbm, ⟨49, _⟩ => ⟨S2048x8, .i32⟩
  | .hbm, ⟨50, _⟩ => ⟨S2048x8, .i1⟩
  | .hbm, ⟨51, _⟩ => ⟨S_, .f32⟩
  | .hbm, ⟨52, _⟩ => ⟨S_, .f32⟩
  | .hbm, ⟨53, _⟩ => ⟨S8x8x2048x8, .i1⟩
  | .hbm, ⟨54, _⟩ => ⟨S8x8x2048x8, .f32⟩
  | .hbm, ⟨55, _⟩ => ⟨S8x8x2048x8, .f32⟩
  | .hbm, ⟨56, _⟩ => ⟨S8x8x2048x3, .f32⟩
  | .hbm, ⟨57, _⟩ => ⟨S8x8x2048x3, .i32⟩
  | .hbm, ⟨58, _⟩ => ⟨S_, .f32⟩
  | .hbm, ⟨59, _⟩ => ⟨S8x8x2048x3, .f32⟩
  | .hbm, ⟨60, _⟩ => ⟨S8x8x2048x3, .i1⟩
  | .hbm, ⟨61, _⟩ => ⟨S8x8x2048x3x1, .i32⟩
  | .hbm, ⟨62, _⟩ => ⟨S1x1x1x1x8, .i32⟩
  | .hbm, ⟨63, _⟩ => ⟨S8x8x2048x3x8, .i32⟩
  | .hbm, ⟨64, _⟩ => ⟨S8x8x2048x3x8, .i32⟩
  | .hbm, ⟨65, _⟩ => ⟨S8x8x2048x3x8, .i1⟩
  | .hbm, ⟨66, _⟩ => ⟨S8x8x2048x3x1, .i1⟩
  | .hbm, ⟨67, _⟩ => ⟨S8x8x2048x3x8, .i1⟩
  | .hbm, ⟨68, _⟩ => ⟨S8x8x2048x3x8, .i1⟩
  | .hbm, ⟨69, _⟩ => ⟨S_, .i1⟩
  | .hbm, ⟨70, _⟩ => ⟨S8x8x2048x8, .i1⟩
  | .hbm, ⟨71, _⟩ => ⟨S2048x1, .i32⟩
  | .hbm, ⟨72, _⟩ => ⟨S1x2048, .i32⟩
  | .hbm, ⟨73, _⟩ => ⟨S2048x2048, .i32⟩
  | .hbm, ⟨74, _⟩ => ⟨S2048x2048, .i32⟩
  | .hbm, ⟨75, _⟩ => ⟨S2048x2048, .i32⟩
  | .hbm, ⟨76, _⟩ => ⟨S2048x2048, .f32⟩
  | .hbm, ⟨77, _⟩ => ⟨S8x8x2048x2048, .f32⟩
  | .hbm, ⟨78, _⟩ => ⟨S_, .f32⟩
  | .hbm, ⟨79, _⟩ => ⟨S8x8x2048x2048, .f32⟩
  | .hbm, ⟨80, _⟩ => ⟨S8x8x2048x2048, .f32⟩
  | .hbm, ⟨81, _⟩ => ⟨S8x1x1, .f32⟩
  | .hbm, ⟨82, _⟩ => ⟨S1x2048x2048, .f32⟩
  | .hbm, ⟨83, _⟩ => ⟨S8x2048x2048, .f32⟩
  | .hbm, ⟨84, _⟩ => ⟨S8x2048x2048, .f32⟩
  | .hbm, ⟨85, _⟩ => ⟨S8x2048x2048, .f32⟩
  | .hbm, ⟨86, _⟩ => ⟨S1x8x2048x2048, .f32⟩
  | .hbm, ⟨87, _⟩ => ⟨S8x8x2048x2048, .f32⟩
  | .hbm, ⟨88, _⟩ => ⟨S8x8x2048x2048, .f32⟩
  | .hbm, ⟨89, _⟩ => ⟨S2048x1, .i32⟩
  | .hbm, ⟨90, _⟩ => ⟨S1x2048, .i32⟩
  | .hbm, ⟨91, _⟩ => ⟨S2048x2048, .i32⟩
  | .hbm, ⟨92, _⟩ => ⟨S2048x2048, .i32⟩
  | .hbm, ⟨93, _⟩ => ⟨S2048x2048, .i1⟩
  | .hbm, ⟨94, _⟩ => ⟨S_, .f32⟩
  | .hbm, ⟨95, _⟩ => ⟨S2048x2048, .f32⟩
  | .hbm, ⟨96, _⟩ => ⟨S2048x2048, .i1⟩
  | .hbm, ⟨97, _⟩ => ⟨S2048x2048, .i1⟩
  | .hbm, ⟨98, _⟩ => ⟨S8x8x2048x8x256, .i1⟩
  | .hbm, ⟨99, _⟩ => ⟨S8x8x2048x2048, .i1⟩
  | .hbm, ⟨100, _⟩ => ⟨S1x1x2048x2048, .i1⟩
  | .hbm, ⟨101, _⟩ => ⟨S8x8x2048x2048, .i1⟩
  | .hbm, ⟨102, _⟩ => ⟨S8x8x2048x2048, .i1⟩
  | .hbm, ⟨103, _⟩ => ⟨S_, .f32⟩
  | .hbm, ⟨104, _⟩ => ⟨S_, .f32⟩
  | .hbm, ⟨105, _⟩ => ⟨S8x8x2048x2048, .f32⟩
  | .hbm, ⟨106, _⟩ => ⟨S8x8x2048x2048, .f32⟩
  | .hbm, ⟨107, _⟩ => ⟨S_, .f32⟩
  | .hbm, ⟨108, _⟩ => ⟨S8x8x2048, .f32⟩
  | .hbm, ⟨109, _⟩ => ⟨S_, .f32⟩
  | .hbm, ⟨110, _⟩ => ⟨S8x8x2048, .f32⟩
  | .hbm, ⟨111, _⟩ => ⟨S8x8x2048, .f32⟩
  | .hbm, ⟨112, _⟩ => ⟨S8x8x2048x1, .f32⟩
  | .hbm, ⟨113, _⟩ => ⟨S8x8x2048x2048, .f32⟩
  | .hbm, ⟨114, _⟩ => ⟨S8x8x2048x2048, .f32⟩
  | .hbm, ⟨115, _⟩ => ⟨S8x8x2048x2048, .f32⟩
  | .hbm, ⟨116, _⟩ => ⟨S_, .f32⟩
  | .hbm, ⟨117, _⟩ => ⟨S8x8x2048, .f32⟩
  | .hbm, ⟨118, _⟩ => ⟨S8x8x2048x1, .f32⟩
  | .hbm, ⟨119, _⟩ => ⟨S8x8x2048x2048, .f32⟩
  | .hbm, ⟨120, _⟩ => ⟨S8x8x2048x2048, .f32⟩
  | .hbm, ⟨121, _⟩ => ⟨S8x8x64x2048, .f32⟩
  | .hbm, ⟨122, _⟩ => ⟨S8x2048x8x64, .f32⟩
  | .hbm, ⟨123, _⟩ => ⟨S8x2048x512, .f32⟩
  | .hbm, ⟨124, _⟩ => ⟨S8x2048x512, .bf16⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v26 : Ref sig .tc := ⟨.hbm, 55, rfl⟩
abbrev main_values : Ref sig .tc := ⟨.hbm, 56, rfl⟩
abbrev main_indices : Ref sig .tc := ⟨.hbm, 57, rfl⟩
abbrev main_cst_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_6 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_7 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_8 : Ref sig .tc := ⟨.hbm, 103, rfl⟩
abbrev main_call2_v0 : Ref sig .tc := ⟨.hbm, 104, rfl⟩
abbrev main_call2_v1 : Ref sig .tc := ⟨.hbm, 105, rfl⟩
abbrev main_v68 : Ref sig .tc := ⟨.hbm, 106, rfl⟩
abbrev main_cst_9 : Ref sig .tc := ⟨.hbm, 107, rfl⟩
abbrev main_v69 : Ref sig .tc := ⟨.hbm, 108, rfl⟩
abbrev main_cst_10 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_11 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩

abbrev nD : Nat := 1
abbrev τ : Topo := Topo.v7x

variable {F : FTy → Type} [FloatOps F]
-- ==== Memory.lean ====
abbrev S8x256x1024 : Shape := ⟨3, ![8, 256, 1024]⟩
abbrev S1x1024 : Shape := ⟨2, ![1, 1024]⟩
abbrev S1x1024x1024 : Shape := ⟨3, ![1, 1024, 1024]⟩
abbrev S1x128 : Shape := ⟨2, ![1, 128]⟩
abbrev S2048x1024 : Shape := ⟨2, ![2048, 1024]⟩
abbrev S1024 : Shape := ⟨1, ![1024]⟩
abbrev S1024x1024 : Shape := ⟨2, ![1024, 1024]⟩
abbrev S128 : Shape := ⟨1, ![128]⟩
abbrev S2048x512 : Shape := ⟨2, ![2048, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x128 : Shape := ⟨2, ![512, 128]⟩

abbrev nBuf : Space → Nat
  | .hbm => 13
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S2048x1024, .f32⟩
  | .hbm, ⟨5, _⟩ => ⟨S1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S128, .f32⟩
  | .hbm, ⟨10, _⟩ => ⟨S1x128, .f32⟩
  | .hbm, ⟨11, _⟩ => ⟨S2048x512, .f32⟩
  | .hbm, ⟨12, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemoryRefIdeal.lean ====
abbrev S8x256x1024 : Shape := ⟨3, ![8, 256, 1024]⟩
abbrev S1x1024 : Shape := ⟨2, ![1, 1024]⟩
abbrev S1x1024x1024 : Shape := ⟨3, ![1, 1024, 1024]⟩
abbrev S1x128 : Shape := ⟨2, ![1, 128]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S8x256x512 : Shape := ⟨3, ![8, 256, 512]⟩
abbrev S8x256x4x128 : Shape := ⟨4, ![8, 256, 4, 128]⟩
abbrev S128 : Shape := ⟨1, ![128]⟩
abbrev S8x256x4 : Shape := ⟨3, ![8, 256, 4]⟩
abbrev S8x256x4x1 : Shape := ⟨4, ![8, 256, 4, 1]⟩
abbrev S1x1x1x128 : Shape := ⟨4, ![1, 1, 1, 128]⟩
abbrev S2048x512 : Shape := ⟨2, ![2048, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1024x1024, .f32⟩
  | .hbm, ⟨22, _⟩ => ⟨S8x256x1024, .f32⟩
  | .hbm, ⟨23, _⟩ => ⟨S8x256x512, .f32⟩
  | .hbm, ⟨24, _⟩ => ⟨S8x256x512, .f32⟩
  | .hbm, ⟨25, _⟩ => ⟨S8x256x4x128, .f32⟩
  | .hbm, ⟨26, _⟩ => ⟨S128, .f32⟩
  | .hbm, ⟨27, _⟩ => ⟨S8x256x4x128, .f32⟩
  | .hbm, ⟨28, _⟩ => ⟨S_, .f32⟩
  | .hbm, ⟨29, _⟩ => ⟨S8x256x4, .f32⟩
  | .hbm, ⟨30, _⟩ => ⟨S8x256x4x1, .f32⟩
  | .hbm, ⟨31, _⟩ => ⟨S_, .f32⟩
  | .hbm, ⟨32, _⟩ => ⟨S8x256x4x1, .f32⟩
  | .hbm, ⟨33, _⟩ => ⟨S8x256x4x1, .f32⟩
  | .hbm, ⟨34, _⟩ => ⟨S_, .f32⟩
  | .hbm, ⟨35, _⟩ => ⟨S8x256x4x1, .f32⟩
  | .hbm, ⟨36, _⟩ => ⟨S8x256x4x1, .f32⟩
  | .hbm, ⟨37, _⟩ => ⟨S8x256x4x1, .f32⟩
  | .hbm, ⟨38, _⟩ => ⟨S8x256x4x128, .f32⟩
  | .hbm, ⟨39, _⟩ => ⟨S8x256x4x128, .f32⟩
  | .hbm, ⟨40, _⟩ => ⟨S1x1x1x128, .f32⟩
  | .hbm, ⟨41, _⟩ => ⟨S8x256x4x128, .f32⟩
  | .hbm, ⟨42, _⟩ => ⟨S8x256x4x128, .f32⟩
  | .hbm, ⟨43, _⟩ => ⟨S2048x512, .f32⟩
  | .hbm, ⟨44, _⟩ => ⟨S2048x512, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Ffn.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 19
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S8x2048x1024 : Shape := ⟨3, ![8, 2048, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S2816x1024 : Shape := ⟨2, ![2816, 1024]⟩
abbrev S8x2048x2816 : Shape := ⟨3, ![8, 2048, 2816]⟩
abbrev S16384x1024 : Shape := ⟨2, ![16384, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S8x2048x2816, .f32⟩
  | .hbm, ⟨27, _⟩ => ⟨S8x2048x2816, .f32⟩
  | .hbm, ⟨28, _⟩ => ⟨S8x2048x2816, .f32⟩
  | .hbm, ⟨29, _⟩ => ⟨S_, .f32⟩
  | .hbm, ⟨30, _⟩ => ⟨S8x2048x2816, .f32⟩
  | .hbm, ⟨31, _⟩ => ⟨S8x2048x2816, .f32⟩
  | .hbm, ⟨32, _⟩ => ⟨S_, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x1024, .f32⟩
  | .hbm, ⟨39, _⟩ => ⟨S_, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S1024, .f32⟩
  | .hbm, ⟨44, _⟩ => ⟨S8x2048x1024, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048x1, .f32⟩
  | .hbm, ⟨55, _⟩ => ⟨S8x2048x1024, .f32⟩
  | .hbm, ⟨56, _⟩ => ⟨S8x2048x1024, .f32⟩
  | .hbm, ⟨57, _⟩ => ⟨S1x1x1024, .f32⟩
  | .hbm, ⟨58, _⟩ => ⟨S8x2048x1024, .f32⟩
  | .hbm, ⟨59, _⟩ => ⟨S8x2048x1024, .f32⟩
  | .hbm, ⟨60, _⟩ => ⟨S16384x1024, .f32⟩
  | .hbm, ⟨61, _⟩ => ⟨S16384x1024, .f32⟩
  | .hbm, ⟨62, _⟩ => ⟨S16384x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Merge.lean ====
abbrev S16384x1024 : Shape := ⟨2, ![16384, 1024]⟩
abbrev S8x2048x512 : Shape := ⟨3, ![8, 2048, 512]⟩
abbrev S1x1024x5536 : Shape := ⟨3, ![1, 1024, 5536]⟩
abbrev S1x512x1024 : Shape := ⟨3, ![1, 512, 1024]⟩
abbrev S1x1024x1024 : Shape := ⟨3, ![1, 1024, 1024]⟩
abbrev S1024x5536 : Shape := ⟨2, ![1024, 5536]⟩
abbrev S1024x3072 : Shape := ⟨2, ![1024, 3072]⟩
abbrev S512x1024 : Shape := ⟨2, ![512, 1024]⟩
abbrev S1024x1024 : Shape := ⟨2, ![1024, 1024]⟩
abbrev S16384x512 : Shape := ⟨2, ![16384, 512]⟩
abbrev S512x512 : Shape := ⟨2, ![512, 512]⟩

abbrev nBuf : Space → Nat
  | .hbm => 25
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S16384x1024, .f32⟩
  | .hbm, ⟨5, _⟩ => ⟨S1x1024x5536, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1024x5536, .f32⟩
  | .hbm, ⟨11, _⟩ => ⟨S1024x3072, .f32⟩
  | .hbm, ⟨12, _⟩ => ⟨S1024x3072, .bf16⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S16384x512, .bf16⟩
  | .hbm, ⟨22, _⟩ => ⟨S16384x512, .bf16⟩
  | .hbm, ⟨23, _⟩ => ⟨S16384x512, .bf16⟩
  | .hbm, ⟨24, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S1024x3072, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S16384x1024 : Shape := ⟨2, ![16384, 1024]⟩
abbrev S8x2048x512 : Shape := ⟨3, ![8, 2048, 512]⟩
abbrev S1x1024x5536 : Shape := ⟨3, ![1, 1024, 5536]⟩
abbrev S1x512x1024 : Shape := ⟨3, ![1, 512, 1024]⟩
abbrev S1x1024x1024 : Shape := ⟨3, ![1, 1024, 1024]⟩
abbrev S1024x5536 : Shape := ⟨2, ![1024, 5536]⟩
abbrev S16384x5536 : Shape := ⟨2, ![16384, 5536]⟩
abbrev S16384x512 : Shape := ⟨2, ![16384, 512]⟩
abbrev S16384x256 : Shape := ⟨2, ![16384, 256]⟩
abbrev S16384x128 : Shape := ⟨2, ![16384, 128]⟩
abbrev S16384x32 : Shape := ⟨2, ![16384, 32]⟩
abbrev S16384x3072 : Shape := ⟨2, ![16384, 3072]⟩
abbrev S_ : Shape := ⟨0, ![]⟩
abbrev S512x1024 : Shape := ⟨2, ![512, 1024]⟩
abbrev S1024x1024 : Shape := ⟨2, ![1024, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S16384x1024, .f32⟩
  | .hbm, ⟨5, _⟩ => ⟨S1x1024x5536, .f32⟩
  | .hbm, ⟨6, _⟩ => ⟨S1x512x1024, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S16384x1024, .f32⟩
  | .hbm, ⟨11, _⟩ => ⟨S1024x5536, .f32⟩
  | .hbm, ⟨12, _⟩ => ⟨S16384x5536, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x256, .f32⟩
  | .hbm, ⟨17, _⟩ => ⟨S16384x128, .f32⟩
  | .hbm, ⟨18, _⟩ => ⟨S16384x32, .f32⟩
  | .hbm, ⟨19, _⟩ => ⟨S16384x512, .f32⟩
  | .hbm, ⟨20, _⟩ => ⟨S16384x3072, .f32⟩
  | .hbm, ⟨21, _⟩ => ⟨S16384x3072, .f32⟩
  | .hbm, ⟨22, _⟩ => ⟨S16384x3072, .f32⟩
  | .hbm, ⟨23, _⟩ => ⟨S_, .f32⟩
  | .hbm, ⟨24, _⟩ => ⟨S16384x3072, .f32⟩
  | .hbm, ⟨25, _⟩ => ⟨S16384x3072, .f32⟩
  | .hbm, ⟨26, _⟩ => ⟨S_, .f32⟩
  | .hbm, ⟨27, _⟩ => ⟨S16384x3072, .f32⟩
  | .hbm, ⟨28, _⟩ => ⟨S16384x3072, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S8x2048x512, .f32⟩
  | .hbm, ⟨33, _⟩ => ⟨S16384x512, .f32⟩
  | .hbm, ⟨34, _⟩ => ⟨S512x1024, .f32⟩
  | .hbm, ⟨35, _⟩ => ⟨S16384x1024, .f32⟩
  | .hbm, ⟨36, _⟩ => ⟨S8x2048x512, .f32⟩
  | .hbm, ⟨37, _⟩ => ⟨S16384x512, .f32⟩
  | .hbm, ⟨38, _⟩ => ⟨S512x1024, .f32⟩
  | .hbm, ⟨39, _⟩ => ⟨S16384x1024, .f32⟩
  | .hbm, ⟨40, _⟩ => ⟨S8x2048x512, .f32⟩
  | .hbm, ⟨41, _⟩ => ⟨S16384x512, .f32⟩
  | .hbm, ⟨42, _⟩ => ⟨S512x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S1024x1024, .f32⟩
  | .hbm, ⟨50, _⟩ => ⟨S16384x1024, .f32⟩
  | .hbm, ⟨51, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Post.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 17
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S1024, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PostIdeal.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 17
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S1024, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PostRefIdeal.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S2816x1024 : Shape := ⟨2, ![2816, 1024]⟩
abbrev S16384x2816 : Shape := ⟨2, ![16384, 2816]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== Project.lean ====
abbrev S16384x1024 : Shape := ⟨2, ![16384, 1024]⟩
abbrev S1x1024x5536 : Shape := ⟨3, ![1, 1024, 5536]⟩
abbrev S1x64 : Shape := ⟨2, ![1, 64]⟩
abbrev S1x256 : Shape := ⟨2, ![1, 256]⟩
abbrev S1x256x768 : Shape := ⟨3, ![1, 256, 768]⟩
abbrev S1x96 : Shape := ⟨2, ![1, 96]⟩
abbrev S1x128 : Shape := ⟨2, ![1, 128]⟩
abbrev S1x128x1024 : Shape := ⟨3, ![1, 128, 1024]⟩
abbrev S768 : Shape := ⟨1, ![768]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S768x1 : Shape := ⟨2, ![768, 1]⟩
abbrev S1x768 : Shape := ⟨2, ![1, 768]⟩
abbrev S768x768 : Shape := ⟨2, ![768, 768]⟩
abbrev S256 : Shape := ⟨1, ![256]⟩
abbrev S32 : Shape := ⟨1, ![32]⟩
abbrev S32x1 : Shape := ⟨2, ![32, 1]⟩
abbrev S32x256 : Shape := ⟨2, ![32, 256]⟩
abbrev S1024x5536 : Shape := ⟨2, ![1024, 5536]⟩
abbrev S1024x32 : Shape := ⟨2, ![1024, 32]⟩
abbrev S1024x512 : Shape := ⟨2, ![1024, 512]⟩
abbrev S1024x1920 : Shape := ⟨2, ![1024, 1920]⟩
abbrev S1024x96 : Shape := ⟨2, ![1024, 96]⟩
abbrev S1024x2560 : Shape := ⟨2, ![1024, 2560]⟩
abbrev S128x1024 : Shape := ⟨2, ![128, 1024]⟩
abbrev S128x8x128 : Shape := ⟨3, ![128, 8, 128]⟩
abbrev S128x8x64 : Shape := ⟨3, ![128, 8, 64]⟩
abbrev S128x512 : Shape := ⟨2, ![128, 512]⟩
abbrev S256x768 : Shape := ⟨2, ![256, 768]⟩
abbrev S64 : Shape := ⟨1, ![64]⟩
abbrev S8x64 : Shape := ⟨2, ![8, 64]⟩
abbrev S96 : Shape := ⟨1, ![96]⟩
abbrev S128 : Shape := ⟨1, ![128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S1x2048x8x16 : Shape := ⟨4, ![1, 2048, 8, 16]⟩
abbrev S2048x128 : Shape := ⟨2, ![2048, 128]⟩
abbrev S16384x512 : Shape := ⟨2, ![16384, 512]⟩
abbrev S8x512x2048 : Shape := ⟨3, ![8, 512, 2048]⟩
abbrev S16384x768 : Shape := ⟨2, ![16384, 768]⟩
abbrev S16384x128 : Shape := ⟨2, ![16384, 128]⟩
abbrev S8x32x2048 : Shape := ⟨3, ![8, 32, 2048]⟩
abbrev S64x1x512 : Shape := ⟨3, ![64, 1, 512]⟩
abbrev S512x1024 : Shape := ⟨2, ![512, 1024]⟩
abbrev S512x128 : Shape := ⟨2, ![512, 128]⟩
abbrev S1x512x512 : Shape := ⟨3, ![1, 512, 512]⟩
abbrev S512x768 : Shape := ⟨2, ![512, 768]⟩
abbrev S1x32x512 : Shape := ⟨3, ![1, 32, 512]⟩
abbrev S2x1x512 : Shape := ⟨3, ![2, 1, 512]⟩
abbrev S512x2560 : Shape := ⟨2, ![512, 2560]⟩
abbrev S256x512 : Shape := ⟨2, ![256, 512]⟩
abbrev S1x1x512 : Shape := ⟨3, ![1, 1, 512]⟩
abbrev S512x256 : Shape := ⟨2, ![512, 256]⟩
abbrev S512x32 : Shape := ⟨2, ![512, 32]⟩
abbrev S32x512 : Shape := ⟨2, ![32, 512]⟩

abbrev nBuf : Space → Nat
  | .hbm => 155
  | .vmem => 43
  | .smem => 0
  | _ => 0

abbrev hbmTy0_0 (i : Nat) : BufTy := match i % 128 with
  | 0 => ⟨S16384x1024, .bf16⟩
  | 1 => ⟨S1x1024x5536, .f32⟩
  | 2 => ⟨S1x64, .f32⟩
  | 3 => ⟨S1x64, .f32⟩
  | 4 => ⟨S1x256, .f32⟩
  | 5 => ⟨S1x256x768, .f32⟩
  | 6 => ⟨S1x96, .f32⟩
  | 7 => ⟨S1x128, .f32⟩
  | 8 => ⟨S1x128x1024, .f32⟩
  | 9 => ⟨S1x96, .f32⟩
  | 10 => ⟨S1x128, .f32⟩
  | 11 => ⟨S768, .i32⟩
  | 12 => ⟨S768, .i1⟩
  | 13 => ⟨S768, .i32⟩
  | 14 => ⟨S768, .i1⟩
  | 15 => ⟨S768, .i1⟩
  | 16 => ⟨S512, .i32⟩
  | 17 => ⟨S768, .i32⟩
  | 18 => ⟨S_, .i32⟩
  | 19 => ⟨S512, .i32⟩
  | 20 => ⟨S512, .i32⟩
  | 21 => ⟨S_, .i32⟩
  | 22 => ⟨S768, .i32⟩
  | 23 => ⟨S768, .i1⟩
  | 24 => ⟨S_, .i32⟩
  | 25 => ⟨S768, .i32⟩
  | 26 => ⟨S768, .i32⟩
  | 27 => ⟨S_, .i32⟩
  | 28 => ⟨S768, .i32⟩
  | 29 => ⟨S768, .i32⟩
  | 30 => ⟨S_, .i32⟩
  | 31 => ⟨S768, .i32⟩
  | 32 => ⟨S768, .i32⟩
  | 33 => ⟨S768, .i32⟩
  | 34 => ⟨S512x1, .i32⟩
  | 35 => ⟨S1x512, .i32⟩
  | 36 => ⟨S512x512, .i32⟩
  | 37 => ⟨S512x512, .i32⟩
  | 38 => ⟨S512x512, .i1⟩
  | 39 => ⟨S512x512, .bf16⟩
  | 40 => ⟨S768x1, .i32⟩
  | 41 => ⟨S1x768, .i32⟩
  | 42 => ⟨S768x768, .i32⟩
  | 43 => ⟨S768x768, .i32⟩
  | 44 => ⟨S768x768, .i1⟩
  | 45 => ⟨S768x768, .bf16⟩
  | 46 => ⟨S256, .i32⟩
  | 47 => ⟨S32, .i32⟩
  | 48 => ⟨S32x1, .i32⟩
  | 49 => ⟨S_, .i32⟩
  | 50 => ⟨S256, .i32⟩
  | 51 => ⟨S256, .i32⟩
  | 52 => ⟨S_, .i32⟩
  | 53 => ⟨S256, .i32⟩
  | 54 => ⟨S256, .i32⟩
  | 55 => ⟨S_, .i32⟩
  | 56 => ⟨S256, .i32⟩
  | 57 => ⟨S256, .i32⟩
  | 58 => ⟨S256, .i32⟩
  | 59 => ⟨S1x256, .i32⟩
  | 60 => ⟨S32x256, .i32⟩
  | 61 => ⟨S32x256, .i32⟩
  | 62 => ⟨S32x256, .i1⟩
  | 63 => ⟨S32x256, .bf16⟩
  | 64 => ⟨S1024x5536, .f32⟩
  | 65 => ⟨S1024x32, .f32⟩
  | 66 => ⟨S1024x512, .f32⟩
  | 67 => ⟨S1024x1920, .f32⟩
  | 68 => ⟨S_, .f32⟩
  | 69 => ⟨S1024x96, .f32⟩
  | 70 => ⟨S1024x2560, .f32⟩
  | 71 => ⟨S1024x2560, .bf16⟩
  | 72 => ⟨S128x1024, .f32⟩
  | 73 => ⟨S128x8x128, .f32⟩
  | 74 => ⟨S128x8x64, .f32⟩
  | 75 => ⟨S128x512, .f32⟩
  | 76 => ⟨S128x8x64, .f32⟩
  | 77 => ⟨S128x512, .f32⟩
  | 78 => ⟨S256x768, .f32⟩
  | 79 => ⟨S_, .i32⟩
  | 80 => ⟨S768, .i32⟩
  | 81 => ⟨S768, .i32⟩
  | 82 => ⟨S768, .i32⟩
  | 83 => ⟨S768x1, .i32⟩
  | 84 => ⟨S256x768, .f32⟩
  | 85 => ⟨S256x768, .bf16⟩
  | 86 => ⟨S128x1024, .f32⟩
  | 87 => ⟨S128x1024, .bf16⟩
  | 88 => ⟨S64, .f32⟩
  | 89 => ⟨S1x64, .f32⟩
  | 90 => ⟨S8x64, .f32⟩
  | 91 => ⟨S512, .f32⟩
  | 92 => ⟨S1x512, .f32⟩
  | 93 => ⟨S64, .f32⟩
  | 94 => ⟨S1x64, .f32⟩
  | 95 => ⟨S8x64, .f32⟩
  | 96 => ⟨S512, .f32⟩
  | 97 => ⟨S1x512, .f32⟩
  | 98 => ⟨S256, .f32⟩
  | 99 => ⟨S1x256, .f32⟩
  | 100 => ⟨S96, .f32⟩
  | 101 => ⟨S_, .i32⟩
  | 102 => ⟨S768, .i32⟩
  | 103 => ⟨S768, .i32⟩
  | 104 => ⟨S768, .i32⟩
  | 105 => ⟨S768x1, .i32⟩
  | 106 => ⟨S768, .f32⟩
  | 107 => ⟨S1x768, .f32⟩
  | 108 => ⟨S128, .f32⟩
  | 109 => ⟨S1x128, .f32⟩
  | 110 => ⟨S96, .f32⟩
  | 111 => ⟨S_, .i32⟩
  | 112 => ⟨S768, .i32⟩
  | 113 => ⟨S768, .i32⟩
  | 114 => ⟨S768, .i32⟩
  | 115 => ⟨S768x1, .i32⟩
  | 116 => ⟨S768, .f32⟩
  | 117 => ⟨S1x768, .f32⟩
  | 118 => ⟨S128, .f32⟩
  | 119 => ⟨S1x128, .f32⟩
  | 120 => ⟨S2048, .i32⟩
  | 121 => ⟨S16, .f32⟩
  | 122 => ⟨S16, .f32⟩
  | 123 => ⟨S_, .f32⟩
  | 124 => ⟨S16, .f32⟩
  | 125 => ⟨S16, .f32⟩
  | 126 => ⟨S_, .f32⟩
  | 127 => ⟨S16, .f32⟩
  | _ => ⟨S16384x1024, .bf16⟩

abbrev hbmTy0_1 (i : Nat) : BufTy := match i % 128 with
  | 0 => ⟨S16, .f32⟩
  | 1 => ⟨S2048, .f32⟩
  | 2 => ⟨S2048x1, .f32⟩
  | 3 => ⟨S1x16, .f32⟩
  | 4 => ⟨S2048x16, .f32⟩
  | 5 => ⟨S2048x16, .f32⟩
  | 6 => ⟨S2048x16, .f32⟩
  | 7 => ⟨S2048x16, .f32⟩
  | 8 => ⟨S2048x16, .f32⟩
  | 9 => ⟨S1x2048x1x16, .f32⟩
  | 10 => ⟨S1x2048x8x16, .f32⟩
  | 11 => ⟨S2048x128, .f32⟩
  | 12 => ⟨S1x2048x1x16, .f32⟩
  | 13 => ⟨S1x2048x8x16, .f32⟩
  | 14 => ⟨S2048x128, .f32⟩
  | 15 => ⟨S16384x512, .bf16⟩
  | 16 => ⟨S8x512x2048, .f32⟩
  | 17 => ⟨S16384x512, .bf16⟩
  | 18 => ⟨S8x512x2048, .f32⟩
  | 19 => ⟨S16384x512, .bf16⟩
  | 20 => ⟨S16384x768, .bf16⟩
  | 21 => ⟨S16384x128, .f32⟩
  | 22 => ⟨S8x32x2048, .f32⟩
  | 23 => ⟨S16384x512, .bf16⟩
  | 24 => ⟨S16384x768, .bf16⟩
  | 25 => ⟨S16384x512, .bf16⟩
  | 26 => ⟨S64x1x512, .f32⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1024x2560, .bf16⟩
  | .local _ .vmem, ⟨7, _⟩ => ⟨S512x512, .bf16⟩
  | .local _ .vmem, ⟨8, _⟩ => ⟨S768x768, .bf16⟩
  | .local _ .vmem, ⟨9, _⟩ => ⟨S256x768, .bf16⟩
  | .local _ .vmem, ⟨10, _⟩ => ⟨S128x1024, .bf16⟩
  | .local _ .vmem, ⟨11, _⟩ => ⟨S32x256, .bf16⟩
  | .local _ .vmem, ⟨12, _⟩ => ⟨S1x512, .f32⟩
  | .local _ .vmem, ⟨13, _⟩ => ⟨S1x512, .f32⟩
  | .local _ .vmem, ⟨14, _⟩ => ⟨S1x256, .f32⟩
  | .local _ .vmem, ⟨15, _⟩ => ⟨S1x768, .f32⟩
  | .local _ .vmem, ⟨16, _⟩ => ⟨S1x128, .f32⟩
  | .local _ .vmem, ⟨17, _⟩ => ⟨S1x768, .f32⟩
  | .local _ .vmem, ⟨18, _⟩ => ⟨S1x128, .f32⟩
  | .local _ .vmem, ⟨19, _⟩ => ⟨S512x512, .bf16⟩
  | .local _ .vmem, ⟨20, _⟩ => ⟨S512x512, .bf16⟩
  | .local _ .vmem, ⟨21, _⟩ => ⟨S1x512x512, .f32⟩
  | .local _ .vmem, ⟨22, _⟩ => ⟨S1x512x512, .f32⟩
  | .local _ .vmem, ⟨23, _⟩ => ⟨S512x512, .bf16⟩
  | .local _ .vmem, ⟨24, _⟩ => ⟨S512x512, .bf16⟩
  | .local _ .vmem, ⟨25, _⟩ => ⟨S1x512x512, .f32⟩
  | .local _ .vmem, ⟨26, _⟩ => ⟨S1x512x512, .f32⟩
  | .local _ .vmem, ⟨27, _⟩ => ⟨S512x512, .bf16⟩
  | .local _ .vmem, ⟨28, _⟩ => ⟨S512x512, .bf16⟩
  | .local _ .vmem, ⟨29, _⟩ => ⟨S512x768, .bf16⟩
  | .local _ .vmem, ⟨30, _⟩ => ⟨S512x768, .bf16⟩
  | .local _ .vmem, ⟨31, _⟩ => ⟨S512x128, .f32⟩
  | .local _ .vmem, ⟨32, _⟩ => ⟨S512x128, .f32⟩
  | .local _ .vmem, ⟨33, _⟩ => ⟨S1x32x512, .f32⟩
  | .local _ .vmem, ⟨34, _⟩ => ⟨S1x32x512, .f32⟩
  | .local _ .vmem, ⟨35, _⟩ => ⟨S512x512, .bf16⟩
  | .local _ .vmem, ⟨36, _⟩ => ⟨S512x512, .bf16⟩
  | .local _ .vmem, ⟨37, _⟩ => ⟨S512x768, .bf16⟩
  | .local _ .vmem, ⟨38, _⟩ => ⟨S512x768, .bf16⟩
  | .local _ .vmem, ⟨39, _⟩ => ⟨S512x512, .bf16⟩
  | .local _ .vmem, ⟨40, _⟩ => ⟨S512x512, .bf16⟩
  | .local _ .vmem, ⟨41, _⟩ => ⟨S2x1x512, .f32⟩
  | .local _ .vmem, ⟨42, _⟩ => ⟨S2x1x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_v0 : Ref sig .tc := ⟨.hbm, 16, rfl⟩
abbrev main_v1 : Ref sig .tc := ⟨.hbm, 17, rfl⟩
abbrev main_c_4 : Ref sig .tc := ⟨.hbm, 18, rfl⟩
abbrev main_v2 : Ref sig .tc := ⟨.hbm, 19, rfl⟩
abbrev main_v3 : Ref sig .tc := ⟨.hbm, 20, rfl⟩
abbrev main_c_5 : Ref sig .tc := ⟨.hbm, 21, rfl⟩
abbrev main_v4 : Ref sig .tc := ⟨.hbm, 22, rfl⟩
abbrev main_v5 : Ref sig .tc := ⟨.hbm, 23, rfl⟩
abbrev main_c_6 : Ref sig .tc := ⟨.hbm, 24, rfl⟩
abbrev main_v6 : Ref sig .tc := ⟨.hbm, 25, rfl⟩
abbrev main_v7 : Ref sig .tc := ⟨.hbm, 26, rfl⟩
abbrev main_c_7 : Ref sig .tc := ⟨.hbm, 27, rfl⟩
abbrev main_v8 : Ref sig .tc := ⟨.hbm, 28, rfl⟩
abbrev main_v9 : Ref sig .tc := ⟨.hbm, 29, rfl⟩
abbrev main_c_8 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_9 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_v31 : Ref sig .tc := ⟨.hbm, 54, rfl⟩
abbrev main_c_11 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_15 : Ref sig .tc := ⟨.hbm, 123, rfl⟩
abbrev main_v95 : Ref sig .tc := ⟨.hbm, 124, rfl⟩
abbrev main_v96 : Ref sig .tc := ⟨.hbm, 125, rfl⟩
abbrev main_cst_16 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113_0 : Ref sig .tc := ⟨.hbm, 143, rfl⟩
abbrev main_v113_1 : Ref sig .tc := ⟨.hbm, 144, rfl⟩
abbrev main_v113_2 : Ref sig .tc := ⟨.hbm, 145, rfl⟩
abbrev main_v113_3 : Ref sig .tc := ⟨.hbm, 146, rfl⟩
abbrev main_v113_4 : Ref sig .tc := ⟨.hbm, 147, rfl⟩
abbrev main_v113_5 : Ref sig .tc := ⟨.hbm, 148, rfl⟩
abbrev main_v113_6 : Ref sig .tc := ⟨.hbm, 149, rfl⟩
abbrev main_v113_7 : Ref sig .tc := ⟨.hbm, 150, rfl⟩
abbrev main_v113_8 : Ref sig .tc := ⟨.hbm, 151, rfl⟩
abbrev main_v113_9 : Ref sig .tc := ⟨.hbm, 152, rfl⟩
abbrev main_v113_10 : Ref sig .tc := ⟨.hbm, 153, rfl⟩
abbrev main_v113_11 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_stg27_0 : Ref sig .tc := ⟨.vmem, 41, rfl⟩
abbrev cc0_stg27_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40
abbrev cc0_sem27_0 : DmaSem sig := 41
abbrev cc0_sem27_1 : DmaSem sig := 42

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x768 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x32x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x768 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S2x1x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== ProjectIdeal.lean ====
variable {F : FTy → Type} [FloatOps F] [Named F]
def κ : String → Option EReal := fun
  | "i96" => some ((96⁻¹ : ℝ) : EReal)
  | _ => none
-- ==== ProjectRefIdeal.lean ====
abbrev S16384x1024 : Shape := ⟨2, ![16384, 1024]⟩
abbrev S1x1024x5536 : Shape := ⟨3, ![1, 1024, 5536]⟩
abbrev S1x64 : Shape := ⟨2, ![1, 64]⟩
abbrev S1x256 : Shape := ⟨2, ![1, 256]⟩
abbrev S1x256x768 : Shape := ⟨3, ![1, 256, 768]⟩
abbrev S1x96 : Shape := ⟨2, ![1, 96]⟩
abbrev S1x128 : Shape := ⟨2, ![1, 128]⟩
abbrev S1x128x1024 : Shape := ⟨3, ![1, 128, 1024]⟩
abbrev S8x2048x1024 : Shape := ⟨3, ![8, 2048, 1024]⟩
abbrev S2048 : Shape := ⟨1, ![2048]⟩
abbrev S1024x5536 : Shape := ⟨2, ![1024, 5536]⟩
abbrev S8x2048x5536 : Shape := ⟨3, ![8, 2048, 5536]⟩
abbrev S8x2048x512 : Shape := ⟨3, ![8, 2048, 512]⟩
abbrev S8x2048x256 : Shape := ⟨3, ![8, 2048, 256]⟩
abbrev S8x2048x128 : Shape := ⟨3, ![8, 2048, 128]⟩
abbrev S8x2048x32 : Shape := ⟨3, ![8, 2048, 32]⟩
abbrev S8x2048x3072 : Shape := ⟨3, ![8, 2048, 3072]⟩
abbrev S8x2048x8x64 : Shape := ⟨4, ![8, 2048, 8, 64]⟩
abbrev S64 : Shape := ⟨1, ![64]⟩
abbrev S_ : Shape := ⟨0, ![]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x8x256x512 : Shape := ⟨4, ![8, 8, 256, 512]⟩
abbrev S8x8x512 : Shape := ⟨3, ![8, 8, 512]⟩
abbrev S256 : Shape := ⟨1, ![256]⟩
abbrev S8x2048 : Shape := ⟨2, ![8, 2048]⟩
abbrev S8x2048x1 : Shape := ⟨3, ![8, 2048, 1]⟩
abbrev S1x1x256 : Shape := ⟨3, ![1, 1, 256]⟩
abbrev S256x768 : Shape := ⟨2, ![256, 768]⟩
abbrev S8x2048x768 : Shape := ⟨3, ![8, 2048, 768]⟩
abbrev S8x2048x8x96 : Shape := ⟨4, ![8, 2048, 8, 96]⟩
abbrev S96 : Shape := ⟨1, ![96]⟩
abbrev S1x1x1x96 : Shape := ⟨4, ![1, 1, 1, 96]⟩
abbrev S8x2048x8x32 : Shape := ⟨4, ![8, 2048, 8, 32]⟩
abbrev S16 : Shape := ⟨1, ![16]⟩
abbrev S2048x1x1 : Shape := ⟨3, ![2048, 1, 1]⟩
abbrev S1x1x16 : Shape := ⟨3, ![1, 1, 16]⟩
abbrev S2048x1x16 : Shape := ⟨3, ![2048, 1, 16]⟩
abbrev S8x2048x8x16 : Shape := ⟨4, ![8, 2048, 8, 16]⟩
abbrev S1x2048x1x16 : Shape := ⟨4, ![1, 2048, 1, 16]⟩
abbrev S128 : Shape := ⟨1, ![128]⟩
abbrev S1x1x128 : Shape := ⟨3, ![1, 1, 128]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S128x1024 : Shape := ⟨2, ![128, 1024]⟩
abbrev S8x2048x8x128 : Shape := ⟨4, ![8, 2048, 8, 128]⟩
abbrev S8x2048x1x32 : Shape := ⟨4, ![8, 2048, 1, 32]⟩
abbrev S16384x512 : Shape := ⟨2, ![16384, 512]⟩
abbrev S8x512x2048 : Shape := ⟨3, ![8, 512, 2048]⟩
abbrev S16384x128 : Shape := ⟨2, ![16384, 128]⟩
abbrev S16384x768 : Shape := ⟨2, ![16384, 768]⟩
abbrev S8x32x2048 : Shape := ⟨3, ![8, 32, 2048]⟩
abbrev S64x1x512 : Shape := ⟨3, ![64, 1, 512]⟩

abbrev nBuf : Space → Nat
  | .hbm => 263
  | .vmem => 0
  | .smem => 0
  | _ => 0

abbrev hbmTy0_0 (i : Nat) : BufTy := match i % 128 with
  | 0 => ⟨S16384x1024, .bf16⟩
  | 1 => ⟨S1x1024x5536, .f32⟩
  | 2 => ⟨S1x64, .f32⟩
  | 3 => ⟨S1x64, .f32⟩
  | 4 => ⟨S1x256, .f32⟩
  | 5 => ⟨S1x256x768, .f32⟩
  | 6 => ⟨S1x96, .f32⟩
  | 7 => ⟨S1x128, .f32⟩
  | 8 => ⟨S1x128x1024, .f32⟩
  | 9 => ⟨S1x96, .f32⟩
  | 10 => ⟨S1x128, .f32⟩
  | 11 => ⟨S16384x1024, .f32⟩
  | 12 => ⟨S8x2048x1024, .f32⟩
  | 13 => ⟨S2048, .i32⟩
  | 14 => ⟨S1024x5536, .f32⟩
  | 15 => ⟨S8x2048x5536, .f32⟩
  | 16 => ⟨S8x2048x512, .f32⟩
  | 17 => ⟨S8x2048x512, .f32⟩
  | 18 => ⟨S8x2048x512, .f32⟩
  | 19 => ⟨S8x2048x256, .f32⟩
  | 20 => ⟨S8x2048x128, .f32⟩
  | 21 => ⟨S8x2048x32, .f32⟩
  | 22 => ⟨S8x2048x512, .f32⟩
  | 23 => ⟨S8x2048x3072, .f32⟩
  | 24 => ⟨S8x2048x8x64, .f32⟩
  | 25 => ⟨S64, .f32⟩
  | 26 => ⟨S8x2048x8x64, .f32⟩
  | 27 => ⟨S_, .f32⟩
  | 28 => ⟨S8x2048x8, .f32⟩
  | 29 => ⟨S8x2048x8x1, .f32⟩
  | 30 => ⟨S_, .f32⟩
  | 31 => ⟨S8x2048x8x1, .f32⟩
  | 32 => ⟨S8x2048x8x1, .f32⟩
  | 33 => ⟨S_, .f32⟩
  | 34 => ⟨S8x2048x8x1, .f32⟩
  | 35 => ⟨S8x2048x8x1, .f32⟩
  | 36 => ⟨S8x2048x8x1, .f32⟩
  | 37 => ⟨S8x2048x8x64, .f32⟩
  | 38 => ⟨S8x2048x8x64, .f32⟩
  | 39 => ⟨S1x1x1x64, .f32⟩
  | 40 => ⟨S8x2048x8x64, .f32⟩
  | 41 => ⟨S8x2048x8x64, .f32⟩
  | 42 => ⟨S8x2048x8x64, .f32⟩
  | 43 => ⟨S64, .f32⟩
  | 44 => ⟨S8x2048x8x64, .f32⟩
  | 45 => ⟨S_, .f32⟩
  | 46 => ⟨S8x2048x8, .f32⟩
  | 47 => ⟨S8x2048x8x1, .f32⟩
  | 48 => ⟨S_, .f32⟩
  | 49 => ⟨S8x2048x8x1, .f32⟩
  | 50 => ⟨S8x2048x8x1, .f32⟩
  | 51 => ⟨S_, .f32⟩
  | 52 => ⟨S8x2048x8x1, .f32⟩
  | 53 => ⟨S8x2048x8x1, .f32⟩
  | 54 => ⟨S8x2048x8x1, .f32⟩
  | 55 => ⟨S8x2048x8x64, .f32⟩
  | 56 => ⟨S8x2048x8x64, .f32⟩
  | 57 => ⟨S1x1x1x64, .f32⟩
  | 58 => ⟨S8x2048x8x64, .f32⟩
  | 59 => ⟨S8x2048x8x64, .f32⟩
  | 60 => ⟨S8x8x256x512, .f32⟩
  | 61 => ⟨S_, .f32⟩
  | 62 => ⟨S8x8x512, .f32⟩
  | 63 => ⟨S_, .f32⟩
  | 64 => ⟨S8x8x512, .f32⟩
  | 65 => ⟨S8x8x512, .f32⟩
  | 66 => ⟨S256, .f32⟩
  | 67 => ⟨S8x2048x256, .f32⟩
  | 68 => ⟨S_, .f32⟩
  | 69 => ⟨S8x2048, .f32⟩
  | 70 => ⟨S8x2048x1, .f32⟩
  | 71 => ⟨S_, .f32⟩
  | 72 => ⟨S8x2048x1, .f32⟩
  | 73 => ⟨S8x2048x1, .f32⟩
  | 74 => ⟨S_, .f32⟩
  | 75 => ⟨S8x2048x1, .f32⟩
  | 76 => ⟨S8x2048x1, .f32⟩
  | 77 => ⟨S8x2048x1, .f32⟩
  | 78 => ⟨S8x2048x256, .f32⟩
  | 79 => ⟨S8x2048x256, .f32⟩
  | 80 => ⟨S1x1x256, .f32⟩
  | 81 => ⟨S8x2048x256, .f32⟩
  | 82 => ⟨S8x2048x256, .f32⟩
  | 83 => ⟨S256x768, .f32⟩
  | 84 => ⟨S8x2048x768, .f32⟩
  | 85 => ⟨S8x2048x8x96, .f32⟩
  | 86 => ⟨S96, .f32⟩
  | 87 => ⟨S8x2048x8x96, .f32⟩
  | 88 => ⟨S_, .f32⟩
  | 89 => ⟨S8x2048x8, .f32⟩
  | 90 => ⟨S8x2048x8x1, .f32⟩
  | 91 => ⟨S_, .f32⟩
  | 92 => ⟨S8x2048x8x1, .f32⟩
  | 93 => ⟨S8x2048x8x1, .f32⟩
  | 94 => ⟨S_, .f32⟩
  | 95 => ⟨S8x2048x8x1, .f32⟩
  | 96 => ⟨S8x2048x8x1, .f32⟩
  | 97 => ⟨S8x2048x8x1, .f32⟩
  | 98 => ⟨S8x2048x8x96, .f32⟩
  | 99 => ⟨S8x2048x8x96, .f32⟩
  | 100 => ⟨S1x1x1x96, .f32⟩
  | 101 => ⟨S8x2048x8x96, .f32⟩
  | 102 => ⟨S8x2048x8x96, .f32⟩
  | 103 => ⟨S8x2048x8x32, .f32⟩
  | 104 => ⟨S16, .f32⟩
  | 105 => ⟨S16, .f32⟩
  | 106 => ⟨S_, .f32⟩
  | 107 => ⟨S16, .f32⟩
  | 108 => ⟨S16, .f32⟩
  | 109 => ⟨S_, .f32⟩
  | 110 => ⟨S16, .f32⟩
  | 111 => ⟨S16, .f32⟩
  | 112 => ⟨S2048, .f32⟩
  | 113 => ⟨S2048x1x1, .f32⟩
  | 114 => ⟨S1x1x16, .f32⟩
  | 115 => ⟨S2048x1x16, .f32⟩
  | 116 => ⟨S2048x1x16, .f32⟩
  | 117 => ⟨S2048x1x16, .f32⟩
  | 118 => ⟨S2048x1x16, .f32⟩
  | 119 => ⟨S2048x1x16, .f32⟩
  | 120 => ⟨S8x2048x8x16, .f32⟩
  | 121 => ⟨S8x2048x8x16, .f32⟩
  | 122 => ⟨S1x2048x1x16, .f32⟩
  | 123 => ⟨S8x2048x8x16, .f32⟩
  | 124 => ⟨S8x2048x8x16, .f32⟩
  | 125 => ⟨S1x2048x1x16, .f32⟩
  | 126 => ⟨S8x2048x8x16, .f32⟩
  | 127 => ⟨S8x2048x8x16, .f32⟩
  | _ => ⟨S16384x1024, .bf16⟩

abbrev hbmTy0_1 (i : Nat) : BufTy := match i % 128 with
  | 0 => ⟨S8x2048x8x16, .f32⟩
  | 1 => ⟨S1x2048x1x16, .f32⟩
  | 2 => ⟨S8x2048x8x16, .f32⟩
  | 3 => ⟨S8x2048x8x16, .f32⟩
  | 4 => ⟨S1x2048x1x16, .f32⟩
  | 5 => ⟨S8x2048x8x16, .f32⟩
  | 6 => ⟨S8x2048x8x16, .f32⟩
  | 7 => ⟨S8x2048x8x16, .f32⟩
  | 8 => ⟨S8x2048x8x32, .f32⟩
  | 9 => ⟨S128, .f32⟩
  | 10 => ⟨S8x2048x128, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S_, .f32⟩
  | 18 => ⟨S8x2048x1, .f32⟩
  | 19 => ⟨S8x2048x1, .f32⟩
  | 20 => ⟨S8x2048x1, .f32⟩
  | 21 => ⟨S8x2048x128, .f32⟩
  | 22 => ⟨S8x2048x128, .f32⟩
  | 23 => ⟨S1x1x128, .f32⟩
  | 24 => ⟨S8x2048x128, .f32⟩
  | 25 => ⟨S8x2048x128, .f32⟩
  | 26 => ⟨S8x2048x4x128, .f32⟩
  | 27 => ⟨S128, .f32⟩
  | 28 => ⟨S8x2048x4x128, .f32⟩
  | 29 => ⟨S_, .f32⟩
  | 30 => ⟨S8x2048x4, .f32⟩
  | 31 => ⟨S8x2048x4x1, .f32⟩
  | 32 => ⟨S_, .f32⟩
  | 33 => ⟨S8x2048x4x1, .f32⟩
  | 34 => ⟨S8x2048x4x1, .f32⟩
  | 35 => ⟨S_, .f32⟩
  | 36 => ⟨S8x2048x4x1, .f32⟩
  | 37 => ⟨S8x2048x4x1, .f32⟩
  | 38 => ⟨S8x2048x4x1, .f32⟩
  | 39 => ⟨S8x2048x4x128, .f32⟩
  | 40 => ⟨S8x2048x4x128, .f32⟩
  | 41 => ⟨S1x1x1x128, .f32⟩
  | 42 => ⟨S8x2048x4x128, .f32⟩
  | 43 => ⟨S8x2048x4x128, .f32⟩
  | 44 => ⟨S128x1024, .f32⟩
  | 45 => ⟨S8x2048x1024, .f32⟩
  | 46 => ⟨S8x2048x8x128, .f32⟩
  | 47 => ⟨S8x2048x8x64, .f32⟩
  | 48 => ⟨S8x2048x8x64, .f32⟩
  | 49 => ⟨S8x2048x1x32, .f32⟩
  | 50 => ⟨S8x2048x8x32, .f32⟩
  | 51 => ⟨S8x2048x8x96, .f32⟩
  | 52 => ⟨S96, .f32⟩
  | 53 => ⟨S8x2048x8x96, .f32⟩
  | 54 => ⟨S_, .f32⟩
  | 55 => ⟨S8x2048x8, .f32⟩
  | 56 => ⟨S8x2048x8x1, .f32⟩
  | 57 => ⟨S_, .f32⟩
  | 58 => ⟨S8x2048x8x1, .f32⟩
  | 59 => ⟨S8x2048x8x1, .f32⟩
  | 60 => ⟨S_, .f32⟩
  | 61 => ⟨S8x2048x8x1, .f32⟩
  | 62 => ⟨S8x2048x8x1, .f32⟩
  | 63 => ⟨S8x2048x8x1, .f32⟩
  | 64 => ⟨S8x2048x8x96, .f32⟩
  | 65 => ⟨S8x2048x8x96, .f32⟩
  | 66 => ⟨S1x1x1x96, .f32⟩
  | 67 => ⟨S8x2048x8x96, .f32⟩
  | 68 => ⟨S8x2048x8x96, .f32⟩
  | 69 => ⟨S8x2048x8x32, .f32⟩
  | 70 => ⟨S16, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S2048, .f32⟩
  | 79 => ⟨S2048x1x1, .f32⟩
  | 80 => ⟨S1x1x16, .f32⟩
  | 81 => ⟨S2048x1x16, .f32⟩
  | 82 => ⟨S2048x1x16, .f32⟩
  | 83 => ⟨S2048x1x16, .f32⟩
  | 84 => ⟨S2048x1x16, .f32⟩
  | 85 => ⟨S2048x1x16, .f32⟩
  | 86 => ⟨S8x2048x8x16, .f32⟩
  | 87 => ⟨S8x2048x8x16, .f32⟩
  | 88 => ⟨S1x2048x1x16, .f32⟩
  | 89 => ⟨S8x2048x8x16, .f32⟩
  | 90 => ⟨S8x2048x8x16, .f32⟩
  | 91 => ⟨S1x2048x1x16, .f32⟩
  | 92 => ⟨S8x2048x8x16, .f32⟩
  | 93 => ⟨S8x2048x8x16, .f32⟩
  | 94 => ⟨S8x2048x8x16, .f32⟩
  | 95 => ⟨S1x2048x1x16, .f32⟩
  | 96 => ⟨S8x2048x8x16, .f32⟩
  | 97 => ⟨S8x2048x8x16, .f32⟩
  | 98 => ⟨S1x2048x1x16, .f32⟩
  | 99 => ⟨S8x2048x8x16, .f32⟩
  | 100 => ⟨S8x2048x8x16, .f32⟩
  | 101 => ⟨S8x2048x8x16, .f32⟩
  | 102 => ⟨S8x2048x8x32, .f32⟩
  | 103 => ⟨S16384x512, .f32⟩
  | 104 => ⟨S16384x512, .bf16⟩
  | 105 => ⟨S8x2048x512, .f32⟩
  | 106 => ⟨S8x512x2048, .f32⟩
  | 107 => ⟨S16384x512, .f32⟩
  | 108 => ⟨S16384x512, .bf16⟩
  | 109 => ⟨S8x512x2048, .f32⟩
  | 110 => ⟨S16384x512, .f32⟩
  | 111 => ⟨S16384x512, .bf16⟩
  | 112 => ⟨S8x2048x8x64, .f32⟩
  | 113 => ⟨S16384x512, .f32⟩
  | 114 => ⟨S8x2048x8x16, .f32⟩
  | 115 => ⟨S16384x128, .f32⟩
  | 116 => ⟨S8x2048x8x16, .f32⟩
  | 117 => ⟨S16384x128, .f32⟩
  | 118 => ⟨S16384x768, .f32⟩
  | 119 => ⟨S16384x768, .bf16⟩
  | 120 => ⟨S16384x128, .f32⟩
  | 121 => ⟨S8x32x2048, .f32⟩
  | 122 => ⟨S16384x512, .f32⟩
  | 123 => ⟨S16384x512, .bf16⟩
  | 124 => ⟨S8x2048x8x64, .f32⟩
  | 125 => ⟨S16384x512, .f32⟩
  | 126 => ⟨S8x2048x8x16, .f32⟩
  | 127 => ⟨S16384x128, .f32⟩
  | _ => ⟨S16384x1024, .bf16⟩

abbrev hbmTy0_2 (i : Nat) : BufTy := match i % 128 with
  | 0 => ⟨S8x2048x8x16, .f32⟩
  | 1 => ⟨S16384x128, .f32⟩
  | 2 => ⟨S16384x768, .f32⟩
  | 3 => ⟨S16384x768, .bf16⟩
  | 4 => ⟨S16384x512, .f32⟩
  | 5 => ⟨S16384x512, .bf16⟩
  | 6 => ⟨S64x1x512, .f32⟩
  | _ => ⟨S16384x1024, .bf16⟩

abbrev hbmTy (i : Nat) : BufTy := match i / 128 with
  | 0 => hbmTy0_0 i
  | 1 => hbmTy0_1 i
  | 2 => hbmTy0_2 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_cst_14 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_15 : Ref sig .tc := ⟨.hbm, 139, rfl⟩
abbrev main_v112 : Ref sig .tc := ⟨.hbm, 140, rfl⟩
abbrev main_v113 : Ref sig .tc := ⟨.hbm, 141, rfl⟩
abbrev main_cst_16 : Ref sig .tc := ⟨.hbm, 142, rfl⟩
abbrev main_v114 : Ref sig .tc := ⟨.hbm, 143, rfl⟩
abbrev main_v115 : Ref sig .tc := ⟨.hbm, 144, rfl⟩
abbrev main_cst_17 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_18 : Ref sig .tc := ⟨.hbm, 157, rfl⟩
abbrev main_v127 : Ref sig .tc := ⟨.hbm, 158, rfl⟩
abbrev main_v128 : Ref sig .tc := ⟨.hbm, 159, rfl⟩
abbrev main_cst_19 : Ref sig .tc := ⟨.hbm, 160, rfl⟩
abbrev main_v129 : Ref sig .tc := ⟨.hbm, 161, rfl⟩
abbrev main_v130 : Ref sig .tc := ⟨.hbm, 162, rfl⟩
abbrev main_cst_20 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_21 : Ref sig .tc := ⟨.hbm, 182, rfl⟩
abbrev main_v149 : Ref sig .tc := ⟨.hbm, 183, rfl⟩
abbrev main_v150 : Ref sig .tc := ⟨.hbm, 184, rfl⟩
abbrev main_cst_22 : Ref sig .tc := ⟨.hbm, 185, rfl⟩
abbrev main_v151 : Ref sig .tc := ⟨.hbm, 186, rfl⟩
abbrev main_v152 : Ref sig .tc := ⟨.hbm, 187, rfl⟩
abbrev main_cst_23 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_cst_24 : Ref sig .tc := ⟨.hbm, 200, rfl⟩
abbrev main_v164 : Ref sig .tc := ⟨.hbm, 201, rfl⟩
abbrev main_v165 : Ref sig .tc := ⟨.hbm, 202, rfl⟩
abbrev main_cst_25 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩

abbrev nD : Nat := 1
abbrev τ : Topo := Topo.v7x

variable {F : FTy → Type} [FloatOps F]
-- ==== PostSample.lean ====
abbrev S512x1024 : Shape := ⟨2, ![512, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 17
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .f32⟩
  | .hbm, ⟨13, _⟩ => ⟨S2816x1024, .bf16⟩
  | .hbm, ⟨14, _⟩ => ⟨S1024, .f32⟩
  | .hbm, ⟨15, _⟩ => ⟨S1x1024, .f32⟩
  | .hbm, ⟨16, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== PostSampleRefIdeal.lean ====
abbrev S512x1024 : Shape := ⟨2, ![512, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1024x2816 : Shape := ⟨2, ![1024, 2816]⟩
abbrev S2816x1024 : Shape := ⟨2, ![2816, 1024]⟩
abbrev S512x2816 : Shape := ⟨2, ![512, 2816]⟩

abbrev nBuf : Space → Nat
  | .hbm => 43
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S512x1024, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x1024, .f32⟩
  | .hbm, ⟨19, _⟩ => ⟨S512x1024, .f32⟩
  | .hbm, ⟨20, _⟩ => ⟨S1x1024, .f32⟩
  | .hbm, ⟨21, _⟩ => ⟨S512x1024, .f32⟩
  | .hbm, ⟨22, _⟩ => ⟨S512x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S512x2816, .f32⟩
  | .hbm, ⟨27, _⟩ => ⟨S512x2816, .f32⟩
  | .hbm, ⟨28, _⟩ => ⟨S512x2816, .f32⟩
  | .hbm, ⟨29, _⟩ => ⟨S_, .f32⟩
  | .hbm, ⟨30, _⟩ => ⟨S512x2816, .f32⟩
  | .hbm, ⟨31, _⟩ => ⟨S512x2816, .f32⟩
  | .hbm, ⟨32, _⟩ => ⟨S_, .f32⟩
  | .hbm, ⟨33, _⟩ => ⟨S512x2816, .f32⟩
  | .hbm, ⟨34, _⟩ => ⟨S512x2816, .f32⟩
  | .hbm, ⟨35, _⟩ => ⟨S512x2816, .f32⟩
  | .hbm, ⟨36, _⟩ => ⟨S512x2816, .f32⟩
  | .hbm, ⟨37, _⟩ => ⟨S512x2816, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | .hbm, ⟨42, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩

abbrev nD : Nat := 1
abbrev τ : Topo := Topo.v7x

variable {F : FTy → Type} [FloatOps F]
-- ==== ProjectSample.lean ====
abbrev S512x1024 : Shape := ⟨2, ![512, 1024]⟩
abbrev S1x1024x5536 : Shape := ⟨3, ![1, 1024, 5536]⟩
abbrev S1x64 : Shape := ⟨2, ![1, 64]⟩
abbrev S1x256 : Shape := ⟨2, ![1, 256]⟩
abbrev S1x256x768 : Shape := ⟨3, ![1, 256, 768]⟩
abbrev S1x96 : Shape := ⟨2, ![1, 96]⟩
abbrev S1x128 : Shape := ⟨2, ![1, 128]⟩
abbrev S1x128x1024 : Shape := ⟨3, ![1, 128, 1024]⟩
abbrev S768 : Shape := ⟨1, ![768]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S768x1 : Shape := ⟨2, ![768, 1]⟩
abbrev S1x768 : Shape := ⟨2, ![1, 768]⟩
abbrev S768x768 : Shape := ⟨2, ![768, 768]⟩
abbrev S256 : Shape := ⟨1, ![256]⟩
abbrev S32 : Shape := ⟨1, ![32]⟩
abbrev S32x1 : Shape := ⟨2, ![32, 1]⟩
abbrev S32x256 : Shape := ⟨2, ![32, 256]⟩
abbrev S1024x5536 : Shape := ⟨2, ![1024, 5536]⟩
abbrev S1024x32 : Shape := ⟨2, ![1024, 32]⟩
abbrev S1024x512 : Shape := ⟨2, ![1024, 512]⟩
abbrev S1024x1920 : Shape := ⟨2, ![1024, 1920]⟩
abbrev S1024x96 : Shape := ⟨2, ![1024, 96]⟩
abbrev S1024x2560 : Shape := ⟨2, ![1024, 2560]⟩
abbrev S128x1024 : Shape := ⟨2, ![128, 1024]⟩
abbrev S128x8x128 : Shape := ⟨3, ![128, 8, 128]⟩
abbrev S128x8x64 : Shape := ⟨3, ![128, 8, 64]⟩
abbrev S128x512 : Shape := ⟨2, ![128, 512]⟩
abbrev S256x768 : Shape := ⟨2, ![256, 768]⟩
abbrev S64 : Shape := ⟨1, ![64]⟩
abbrev S8x64 : Shape := ⟨2, ![8, 64]⟩
abbrev S96 : Shape := ⟨1, ![96]⟩
abbrev S128 : Shape := ⟨1, ![128]⟩
abbrev S16 : Shape := ⟨1, ![16]⟩
abbrev S1x16 : Shape := ⟨2, ![1, 16]⟩
abbrev S512x16 : Shape := ⟨2, ![512, 16]⟩
abbrev S1x512x1x16 : Shape := ⟨4, ![1, 512, 1, 16]⟩
abbrev S1x512x8x16 : Shape := ⟨4, ![1, 512, 8, 16]⟩
abbrev S512x128 : Shape := ⟨2, ![512, 128]⟩
abbrev S512x768 : Shape := ⟨2, ![512, 768]⟩
abbrev S512x32 : Shape := ⟨2, ![512, 32]⟩
abbrev S2x1x512 : Shape := ⟨3, ![2, 1, 512]⟩
abbrev S512x2560 : Shape := ⟨2, ![512, 2560]⟩
abbrev S256x512 : Shape := ⟨2, ![256, 512]⟩
abbrev S1x1x512 : Shape := ⟨3, ![1, 1, 512]⟩
abbrev S512x256 : Shape := ⟨2, ![512, 256]⟩

abbrev nBuf : Space → Nat
  | .hbm => 180
  | .vmem => 28
  | .smem => 0
  | _ => 0

abbrev hbmTy0_0 (i : Nat) : BufTy := match i % 128 with
  | 0 => ⟨S512x1024, .bf16⟩
  | 1 => ⟨S1x1024x5536, .f32⟩
  | 2 => ⟨S1x64, .f32⟩
  | 3 => ⟨S1x64, .f32⟩
  | 4 => ⟨S1x256, .f32⟩
  | 5 => ⟨S1x256x768, .f32⟩
  | 6 => ⟨S1x96, .f32⟩
  | 7 => ⟨S1x128, .f32⟩
  | 8 => ⟨S1x128x1024, .f32⟩
  | 9 => ⟨S1x96, .f32⟩
  | 10 => ⟨S1x128, .f32⟩
  | 11 => ⟨S768, .i32⟩
  | 12 => ⟨S768, .i1⟩
  | 13 => ⟨S768, .i32⟩
  | 14 => ⟨S768, .i1⟩
  | 15 => ⟨S768, .i1⟩
  | 16 => ⟨S512, .i32⟩
  | 17 => ⟨S768, .i32⟩
  | 18 => ⟨S_, .i32⟩
  | 19 => ⟨S512, .i32⟩
  | 20 => ⟨S512, .i32⟩
  | 21 => ⟨S_, .i32⟩
  | 22 => ⟨S768, .i32⟩
  | 23 => ⟨S768, .i1⟩
  | 24 => ⟨S_, .i32⟩
  | 25 => ⟨S768, .i32⟩
  | 26 => ⟨S768, .i32⟩
  | 27 => ⟨S_, .i32⟩
  | 28 => ⟨S768, .i32⟩
  | 29 => ⟨S768, .i32⟩
  | 30 => ⟨S_, .i32⟩
  | 31 => ⟨S768, .i32⟩
  | 32 => ⟨S768, .i32⟩
  | 33 => ⟨S768, .i32⟩
  | 34 => ⟨S512x1, .i32⟩
  | 35 => ⟨S1x512, .i32⟩
  | 36 => ⟨S512x512, .i32⟩
  | 37 => ⟨S512x512, .i32⟩
  | 38 => ⟨S512x512, .i1⟩
  | 39 => ⟨S512x512, .bf16⟩
  | 40 => ⟨S768x1, .i32⟩
  | 41 => ⟨S1x768, .i32⟩
  | 42 => ⟨S768x768, .i32⟩
  | 43 => ⟨S768x768, .i32⟩
  | 44 => ⟨S768x768, .i1⟩
  | 45 => ⟨S768x768, .bf16⟩
  | 46 => ⟨S256, .i32⟩
  | 47 => ⟨S32, .i32⟩
  | 48 => ⟨S32x1, .i32⟩
  | 49 => ⟨S_, .i32⟩
  | 50 => ⟨S256, .i32⟩
  | 51 => ⟨S256, .i32⟩
  | 52 => ⟨S_, .i32⟩
  | 53 => ⟨S256, .i32⟩
  | 54 => ⟨S256, .i32⟩
  | 55 => ⟨S_, .i32⟩
  | 56 => ⟨S256, .i32⟩
  | 57 => ⟨S256, .i32⟩
  | 58 => ⟨S256, .i32⟩
  | 59 => ⟨S1x256, .i32⟩
  | 60 => ⟨S32x256, .i32⟩
  | 61 => ⟨S32x256, .i32⟩
  | 62 => ⟨S32x256, .i1⟩
  | 63 => ⟨S32x256, .bf16⟩
  | 64 => ⟨S1024x5536, .f32⟩
  | 65 => ⟨S1024x32, .f32⟩
  | 66 => ⟨S1024x512, .f32⟩
  | 67 => ⟨S1024x1920, .f32⟩
  | 68 => ⟨S_, .f32⟩
  | 69 => ⟨S1024x96, .f32⟩
  | 70 => ⟨S1024x2560, .f32⟩
  | 71 => ⟨S1024x2560, .bf16⟩
  | 72 => ⟨S128x1024, .f32⟩
  | 73 => ⟨S128x8x128, .f32⟩
  | 74 => ⟨S128x8x64, .f32⟩
  | 75 => ⟨S128x512, .f32⟩
  | 76 => ⟨S128x8x64, .f32⟩
  | 77 => ⟨S128x512, .f32⟩
  | 78 => ⟨S256x768, .f32⟩
  | 79 => ⟨S_, .i32⟩
  | 80 => ⟨S768, .i32⟩
  | 81 => ⟨S768, .i32⟩
  | 82 => ⟨S768, .i32⟩
  | 83 => ⟨S768x1, .i32⟩
  | 84 => ⟨S256x768, .f32⟩
  | 85 => ⟨S256x768, .bf16⟩
  | 86 => ⟨S128x1024, .f32⟩
  | 87 => ⟨S128x1024, .bf16⟩
  | 88 => ⟨S64, .f32⟩
  | 89 => ⟨S1x64, .f32⟩
  | 90 => ⟨S8x64, .f32⟩
  | 91 => ⟨S512, .f32⟩
  | 92 => ⟨S1x512, .f32⟩
  | 93 => ⟨S64, .f32⟩
  | 94 => ⟨S1x64, .f32⟩
  | 95 => ⟨S8x64, .f32⟩
  | 96 => ⟨S512, .f32⟩
  | 97 => ⟨S1x512, .f32⟩
  | 98 => ⟨S256, .f32⟩
  | 99 => ⟨S1x256, .f32⟩
  | 100 => ⟨S96, .f32⟩
  | 101 => ⟨S_, .i32⟩
  | 102 => ⟨S768, .i32⟩
  | 103 => ⟨S768, .i32⟩
  | 104 => ⟨S768, .i32⟩
  | 105 => ⟨S768x1, .i32⟩
  | 106 => ⟨S768, .f32⟩
  | 107 => ⟨S1x768, .f32⟩
  | 108 => ⟨S128, .f32⟩
  | 109 => ⟨S1x128, .f32⟩
  | 110 => ⟨S96, .f32⟩
  | 111 => ⟨S_, .i32⟩
  | 112 => ⟨S768, .i32⟩
  | 113 => ⟨S768, .i32⟩
  | 114 => ⟨S768, .i32⟩
  | 115 => ⟨S768x1, .i32⟩
  | 116 => ⟨S768, .f32⟩
  | 117 => ⟨S1x768, .f32⟩
  | 118 => ⟨S128, .f32⟩
  | 119 => ⟨S1x128, .f32⟩
  | 120 => ⟨S512, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S512, .i32⟩
  | _ => ⟨S512x1024, .bf16⟩

abbrev hbmTy0_1 (i : Nat) : BufTy := match i % 128 with
  | 0 => ⟨S512, .i32⟩
  | 1 => ⟨S_, .i32⟩
  | 2 => ⟨S512, .i32⟩
  | 3 => ⟨S512, .i1⟩
  | 4 => ⟨S_, .i32⟩
  | 5 => ⟨S512, .i32⟩
  | 6 => ⟨S512, .i1⟩
  | 7 => ⟨S_, .i32⟩
  | 8 => ⟨S_, .i1⟩
  | 9 => ⟨S512, .i1⟩
  | 10 => ⟨S512, .i1⟩
  | 11 => ⟨S512, .i1⟩
  | 12 => ⟨S512, .i32⟩
  | 13 => ⟨S512, .i32⟩
  | 14 => ⟨S512, .i32⟩
  | 15 => ⟨S_, .i32⟩
  | 16 => ⟨S512, .i32⟩
  | 17 => ⟨S512, .i32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S512, .f32⟩
  | 27 => ⟨S512x1, .f32⟩
  | 28 => ⟨S1x16, .f32⟩
  | 29 => ⟨S512x16, .f32⟩
  | 30 => ⟨S512x16, .f32⟩
  | 31 => ⟨S512x16, .f32⟩
  | 32 => ⟨S512x16, .f32⟩
  | 33 => ⟨S512x16, .f32⟩
  | 34 => ⟨S1x512x1x16, .f32⟩
  | 35 => ⟨S1x512x8x16, .f32⟩
  | 36 => ⟨S512x128, .f32⟩
  | 37 => ⟨S1x512x1x16, .f32⟩
  | 38 => ⟨S1x512x8x16, .f32⟩
  | 39 => ⟨S512x128, .f32⟩
  | 40 => ⟨S512x512, .bf16⟩
  | 41 => ⟨S512x512, .f32⟩
  | 42 => ⟨S512x512, .bf16⟩
  | 43 => ⟨S512x512, .f32⟩
  | 44 => ⟨S512x512, .bf16⟩
  | 45 => ⟨S512x768, .bf16⟩
  | 46 => ⟨S512x128, .f32⟩
  | 47 => ⟨S512x32, .f32⟩
  | 48 => ⟨S512x512, .bf16⟩
  | 49 => ⟨S512x768, .bf16⟩
  | 50 => ⟨S512x512, .bf16⟩
  | 51 => ⟨S2x1x512, .f32⟩
  | _ => ⟨S512x1024, .bf16⟩

abbrev hbmTy (i : Nat) : BufTy := match i / 128 with
  | 0 => hbmTy0_0 i
  | 1 => hbmTy0_1 i
  | _ => ⟨S512x1024, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x128, .f32⟩
  | .local _ .vmem, ⟨2, _⟩ => ⟨S512x128, .f32⟩
  | .local _ .vmem, ⟨3, _⟩ => ⟨S1024x2560, .bf16⟩
  | .local _ .vmem, ⟨4, _⟩ => ⟨S512x512, .bf16⟩
  | .local _ .vmem, ⟨5, _⟩ => ⟨S768x768, .bf16⟩
  | .local _ .vmem, ⟨6, _⟩ => ⟨S256x768, .bf16⟩
  | .local _ .vmem, ⟨7, _⟩ => ⟨S128x1024, .bf16⟩
  | .local _ .vmem, ⟨8, _⟩ => ⟨S32x256, .bf16⟩
  | .local _ .vmem, ⟨9, _⟩ => ⟨S1x512, .f32⟩
  | .local _ .vmem, ⟨10, _⟩ => ⟨S1x512, .f32⟩
  | .local _ .vmem, ⟨11, _⟩ => ⟨S1x256, .f32⟩
  | .local _ .vmem, ⟨12, _⟩ => ⟨S1x768, .f32⟩
  | .local _ .vmem, ⟨13, _⟩ => ⟨S1x128, .f32⟩
  | .local _ .vmem, ⟨14, _⟩ => ⟨S1x768, .f32⟩
  | .local _ .vmem, ⟨15, _⟩ => ⟨S1x128, .f32⟩
  | .local _ .vmem, ⟨16, _⟩ => ⟨S512x512, .bf16⟩
  | .local _ .vmem, ⟨17, _⟩ => ⟨S512x512, .f32⟩
  | .local _ .vmem, ⟨18, _⟩ => ⟨S512x512, .bf16⟩
  | .local _ .vmem, ⟨19, _⟩ => ⟨S512x512, .f32⟩
  | .local _ .vmem, ⟨20, _⟩ => ⟨S512x512, .bf16⟩
  | .local _ .vmem, ⟨21, _⟩ => ⟨S512x768, .bf16⟩
  | .local _ .vmem, ⟨22, _⟩ => ⟨S512x128, .f32⟩
  | .local _ .vmem, ⟨23, _⟩ => ⟨S512x32, .f32⟩
  | .local _ .vmem, ⟨24, _⟩ => ⟨S512x512, .bf16⟩
  | .local _ .vmem, ⟨25, _⟩ => ⟨S512x768, .bf16⟩
  | .local _ .vmem, ⟨26, _⟩ => ⟨S512x512, .bf16⟩
  | .local _ .vmem, ⟨27, _⟩ => ⟨S2x1x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_v0 : Ref sig .tc := ⟨.hbm, 16, rfl⟩
abbrev main_v1 : Ref sig .tc := ⟨.hbm, 17, rfl⟩
abbrev main_c_4 : Ref sig .tc := ⟨.hbm, 18, rfl⟩
abbrev main_v2 : Ref sig .tc := ⟨.hbm, 19, rfl⟩
abbrev main_v3 : Ref sig .tc := ⟨.hbm, 20, rfl⟩
abbrev main_c_5 : Ref sig .tc := ⟨.hbm, 21, rfl⟩
abbrev main_v4 : Ref sig .tc := ⟨.hbm, 22, rfl⟩
abbrev main_v5 : Ref sig .tc := ⟨.hbm, 23, rfl⟩
abbrev main_c_6 : Ref sig .tc := ⟨.hbm, 24, rfl⟩
abbrev main_v6 : Ref sig .tc := ⟨.hbm, 25, rfl⟩
abbrev main_v7 : Ref sig .tc := ⟨.hbm, 26, rfl⟩
abbrev main_c_7 : Ref sig .tc := ⟨.hbm, 27, rfl⟩
abbrev main_v8 : Ref sig .tc := ⟨.hbm, 28, rfl⟩
abbrev main_v9 : Ref sig .tc := ⟨.hbm, 29, rfl⟩
abbrev main_c_8 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_9 : Ref sig .tc := ⟨.hbm, 49, rfl⟩
abbrev main_v28 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_v31 : Ref sig .tc := ⟨.hbm, 54, rfl⟩
abbrev main_c_11 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_c_15 : Ref sig .tc := ⟨.hbm, 121, rfl⟩
abbrev main_call1_v0 : Ref sig .tc := ⟨.hbm, 122, rfl⟩
abbrev main_call1_c : Ref sig .tc := ⟨.hbm, 123, rfl⟩
abbrev main_call1_v1 : Ref sig .tc := ⟨.hbm, 124, rfl⟩
abbrev main_call1_c_0 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_call1_c_1 : Ref sig .tc := ⟨.hbm, 129, rfl⟩
abbrev main_call1_v5 : Ref sig .tc := ⟨.hbm, 130, rfl⟩
abbrev main_call1_v6 : Ref sig .tc := ⟨.hbm, 131, rfl⟩
abbrev main_call1_c_2 : Ref sig .tc := ⟨.hbm, 132, rfl⟩
abbrev main_call1_v7 : Ref sig .tc := ⟨.hbm, 133, rfl⟩
abbrev main_call1_v8 : Ref sig .tc := ⟨.hbm, 134, rfl⟩
abbrev main_call1_c_3 : Ref sig .tc := ⟨.hbm, 135, rfl⟩
abbrev main_call1_v9 : Ref sig .tc := ⟨.hbm, 136, rfl⟩
abbrev main_call1_v10 : Ref sig .tc := ⟨.hbm, 137, rfl⟩
abbrev main_call1_v11 : Ref sig .tc := ⟨.hbm, 138, rfl⟩
abbrev main_call1_v12 : Ref sig .tc := ⟨.hbm, 139, rfl⟩
abbrev main_call1_v13 : Ref sig .tc := ⟨.hbm, 140, rfl⟩
abbrev main_call1_v14 : Ref sig .tc := ⟨.hbm, 141, rfl⟩
abbrev main_v93 : Ref sig .tc := ⟨.hbm, 142, rfl⟩
abbrev main_c_16 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_17 : Ref sig .tc := ⟨.hbm, 148, rfl⟩
abbrev main_v98 : Ref sig .tc := ⟨.hbm, 149, rfl⟩
abbrev main_v99 : Ref sig .tc := ⟨.hbm, 150, rfl⟩
abbrev main_cst_18 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116_0 : Ref sig .tc := ⟨.hbm, 168, rfl⟩
abbrev main_v116_1 : Ref sig .tc := ⟨.hbm, 169, rfl⟩
abbrev main_v116_2 : Ref sig .tc := ⟨.hbm, 170, rfl⟩
abbrev main_v116_3 : Ref sig .tc := ⟨.hbm, 171, rfl⟩
abbrev main_v116_4 : Ref sig .tc := ⟨.hbm, 172, rfl⟩
abbrev main_v116_5 : Ref sig .tc := ⟨.hbm, 173, rfl⟩
abbrev main_v116_6 : Ref sig .tc := ⟨.hbm, 174, rfl⟩
abbrev main_v116_7 : Ref sig .tc := ⟨.hbm, 175, rfl⟩
abbrev main_v116_8 : Ref sig .tc := ⟨.hbm, 176, rfl⟩
abbrev main_v116_9 : Ref sig .tc := ⟨.hbm, 177, rfl⟩
abbrev main_v116_10 : Ref sig .tc := ⟨.hbm, 178, rfl⟩
abbrev main_v116_11 : Ref sig .tc := ⟨.hbm, 179, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S512x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S512x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S512x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S512x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S512x768 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S512x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S512x32 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S512x512 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S512x768 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true]

abbrev stage0_26 : Fin 1 → Memref sig .tc .vmem S512x512 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![true]

abbrev stage0_27 : Fin 1 → Memref sig .tc .vmem S2x1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![true]
-- ==== ProjectSampleIdeal.lean ====
variable {F : FTy → Type} [FloatOps F] [Named F]
def κ : String → Option EReal := fun
  | "i96" => some ((96⁻¹ : ℝ) : EReal)
  | _ => none
-- ==== ProjectSampleRefIdeal.lean ====
abbrev S512x1024 : Shape := ⟨2, ![512, 1024]⟩
abbrev S1x1024x5536 : Shape := ⟨3, ![1, 1024, 5536]⟩
abbrev S1x64 : Shape := ⟨2, ![1, 64]⟩
abbrev S1x256 : Shape := ⟨2, ![1, 256]⟩
abbrev S1x256x768 : Shape := ⟨3, ![1, 256, 768]⟩
abbrev S1x96 : Shape := ⟨2, ![1, 96]⟩
abbrev S1x128 : Shape := ⟨2, ![1, 128]⟩
abbrev S1x128x1024 : Shape := ⟨3, ![1, 128, 1024]⟩
abbrev S1024x5536 : Shape := ⟨2, ![1024, 5536]⟩
abbrev S512x5536 : Shape := ⟨2, ![512, 5536]⟩
abbrev S512x512 : Shape := ⟨2, ![512, 512]⟩
abbrev S512x256 : Shape := ⟨2, ![512, 256]⟩
abbrev S512x128 : Shape := ⟨2, ![512, 128]⟩
abbrev S512x32 : Shape := ⟨2, ![512, 32]⟩
abbrev S512x3072 : Shape := ⟨2, ![512, 3072]⟩
abbrev S512x8x64 : Shape := ⟨3, ![512, 8, 64]⟩
abbrev S64 : Shape := ⟨1, ![64]⟩
abbrev S_ : Shape := ⟨0, ![]⟩
abbrev S512x8 : Shape := ⟨2, ![512, 8]⟩
abbrev S512x8x1 : Shape := ⟨3, ![512, 8, 1]⟩
abbrev S1x1x64 : Shape := ⟨3, ![1, 1, 64]⟩
abbrev S128 : Shape := ⟨1, ![128]⟩
abbrev S512 : Shape := ⟨1, ![512]⟩
abbrev S512x1 : Shape := ⟨2, ![512, 1]⟩

abbrev nBuf : Space → Nat
  | .hbm => 58
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1x1024x5536, .f32⟩
  | .hbm, ⟨2, _⟩ => ⟨S1x64, .f32⟩
  | .hbm, ⟨3, _⟩ => ⟨S1x64, .f32⟩
  | .hbm, ⟨4, _⟩ => ⟨S1x256, .f32⟩
  | .hbm, ⟨5, _⟩ => ⟨S1x256x768, .f32⟩
  | .hbm, ⟨6, _⟩ => ⟨S1x96, .f32⟩
  | .hbm, ⟨7, _⟩ => ⟨S1x128, .f32⟩
  | .hbm, ⟨8, _⟩ => ⟨S1x128x1024, .f32⟩
  | .hbm, ⟨9, _⟩ => ⟨S1x96, .f32⟩
  | .hbm, ⟨10, _⟩ => ⟨S1x128, .f32⟩
  | .hbm, ⟨11, _⟩ => ⟨S512x1024, .f32⟩
  | .hbm, ⟨12, _⟩ => ⟨S1024x5536, .f32⟩
  | .hbm, ⟨13, _⟩ => ⟨S512x5536, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x256, .f32⟩
  | .hbm, ⟨18, _⟩ => ⟨S512x128, .f32⟩
  | .hbm, ⟨19, _⟩ => ⟨S512x32, .f32⟩
  | .hbm, ⟨20, _⟩ => ⟨S512x512, .f32⟩
  | .hbm, ⟨21, _⟩ => ⟨S512x3072, .f32⟩
  | .hbm, ⟨22, _⟩ => ⟨S512x8x64, .f32⟩
  | .hbm, ⟨23, _⟩ => ⟨S64, .f32⟩
  | .hbm, ⟨24, _⟩ => ⟨S512x8x64, .f32⟩
  | .hbm, ⟨25, _⟩ => ⟨S_, .f32⟩
  | .hbm, ⟨26, _⟩ => ⟨S512x8, .f32⟩
  | .hbm, ⟨27, _⟩ => ⟨S512x8x1, .f32⟩
  | .hbm, ⟨28, _⟩ => ⟨S_, .f32⟩
  | .hbm, ⟨29, _⟩ => ⟨S512x8x1, .f32⟩
  | .hbm, ⟨30, _⟩ => ⟨S512x8x1, .f32⟩
  | .hbm, ⟨31, _⟩ => ⟨S_, .f32⟩
  | .hbm, ⟨32, _⟩ => ⟨S512x8x1, .f32⟩
  | .hbm, ⟨33, _⟩ => ⟨S512x8x1, .f32⟩
  | .hbm, ⟨34, _⟩ => ⟨S512x8x1, .f32⟩
  | .hbm, ⟨35, _⟩ => ⟨S512x8x64, .f32⟩
  | .hbm, ⟨36, _⟩ => ⟨S512x8x64, .f32⟩
  | .hbm, ⟨37, _⟩ => ⟨S1x1x64, .f32⟩
  | .hbm, ⟨38, _⟩ => ⟨S512x8x64, .f32⟩
  | .hbm, ⟨39, _⟩ => ⟨S512x8x64, .f32⟩
  | .hbm, ⟨40, _⟩ => ⟨S512x512, .f32⟩
  | .hbm, ⟨41, _⟩ => ⟨S128, .f32⟩
  | .hbm, ⟨42, _⟩ => ⟨S512x128, .f32⟩
  | .hbm, ⟨43, _⟩ => ⟨S_, .f32⟩
  | .hbm, ⟨44, _⟩ => ⟨S512, .f32⟩
  | .hbm, ⟨45, _⟩ => ⟨S512x1, .f32⟩
  | .hbm, ⟨46, _⟩ => ⟨S_, .f32⟩
  | .hbm, ⟨47, _⟩ => ⟨S512x1, .f32⟩
  | .hbm, ⟨48, _⟩ => ⟨S512x1, .f32⟩
  | .hbm, ⟨49, _⟩ => ⟨S_, .f32⟩
  | .hbm, ⟨50, _⟩ => ⟨S512x1, .f32⟩
  | .hbm, ⟨51, _⟩ => ⟨S512x1, .f32⟩
  | .hbm, ⟨52, _⟩ => ⟨S512x1, .f32⟩
  | .hbm, ⟨53, _⟩ => ⟨S512x128, .f32⟩
  | .hbm, ⟨54, _⟩ => ⟨S512x128, .f32⟩
  | .hbm, ⟨55, _⟩ => ⟨S1x128, .f32⟩
  | .hbm, ⟨56, _⟩ => ⟨S512x128, .f32⟩
  | .hbm, ⟨57, _⟩ => ⟨S512x128, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Mla.lean ====
abbrev S8x2048x768 : Shape := ⟨3, ![8, 2048, 768]⟩
abbrev S8x2048x512 : Shape := ⟨3, ![8, 2048, 512]⟩
abbrev S1x256x128 : Shape := ⟨3, ![1, 256, 128]⟩
abbrev S1x2048x128 : Shape := ⟨3, ![1, 2048, 128]⟩
abbrev S256x128 : Shape := ⟨2, ![256, 128]⟩
abbrev S256x256 : Shape := ⟨2, ![256, 256]⟩
abbrev S256x384 : Shape := ⟨2, ![256, 384]⟩
abbrev S256x1 : Shape := ⟨2, ![256, 1]⟩
abbrev S256 : Shape := ⟨1, ![256]⟩

abbrev nBuf : Space → Nat
  | .hbm => 4
  | .vmem => 16
  | .smem => 0
  | _ => 0

abbrev bufTy : (tb : Table) → Fin (tcTables nBuf tb) → BufTy
  | .hbm, ⟨0, _⟩ => ⟨S8x2048x768, .bf16⟩
  | .hbm, ⟨1, _⟩ => ⟨S8x2048x768, .bf16⟩
  | .hbm, ⟨2, _⟩ => ⟨S8x2048x512, .bf16⟩
  | .hbm, ⟨3, _⟩ => ⟨S8x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x256x128, .bf16⟩
  | .local _ .vmem, ⟨15, _⟩ => ⟨S1x256x128, .bf16⟩
  | _, _ => ⟨S8x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32_14 : BitVec 32 := 0#32
  let arg2 : BitVec 32 := BitVec.ofNat 32 (i 2).val
  let v36 : BitVec 32 := Scalar.subi arg2 c0_i32_14
  let c1_i32_15 : BitVec 32 := 1#32
  let v38 : BitVec 32 := Scalar.divsi v36 c1_i32_15
  let v39 : BitVec 32 := Scalar.muli v38 c1_i32_15
  let v40 : BitVec 32 := Scalar.addi c0_i32_14 v39
  let c1_i32_16 : BitVec 32 := 1#32
  ⟨c0_i32_14, v40, c1_i32_16⟩
def k0_mult1 (i : grid0.Coords) (k0_t1 : Fin (k0_t1_loop i).trips) : BitVec 32 :=
  let c0_i32_14 : BitVec 32 := 0#32
  let c1_i32_16 : BitVec 32 := 1#32
  let arg11 : BitVec 32 := Scf.iv c0_i32_14 c1_i32_16 k0_t1
  let c256_i32_69 : BitVec 32 := 256#32
  let v162 : BitVec 32 := Scalar.muli arg11 c256_i32_69
  v162
def k0_off1 (i : grid0.Coords) (k0_t1 : Fin (k0_t1_loop i).trips) : Fin 3 → Nat :=
  let c0_70 : Index := 0#32
  let c0_i32_14 : BitVec 32 := 0#32
  let c1_i32_16 : BitVec 32 := 1#32
  let arg11 : BitVec 32 := Scf.iv c0_i32_14 c1_i32_16 k0_t1
  let c256_i32_69 : BitVec 32 := 256#32
  let v162 : BitVec 32 := Scalar.muli arg11 c256_i32_69
  let v163 : BitVec 32 := v162
  let v164 : Index := Scalar.indexCast v163
  let c0_71 : Index := 0#32
  ![0, v164.toNat, 0]
@[reducible] def k0_t2_loop (i : grid0.Coords) : Scf.Loop 32 :=
  let c0_i32_14 : BitVec 32 := 0#32
  let arg2 : BitVec 32 := BitVec.ofNat 32 (i 2).val
  let v36 : BitVec 32 := Scalar.subi arg2 c0_i32_14
  let c1_i32_15 : BitVec 32 := 1#32
  let v38 : BitVec 32 := Scalar.divsi v36 c1_i32_15
  let v39 : BitVec 32 := Scalar.muli v38 c1_i32_15
  let v40 : BitVec 32 := Scalar.addi c0_i32_14 v39
  let v37 : BitVec 32 := Scalar.addi c0_i32_14 v36
  let c1_i32_17 : BitVec 32 := 1#32
  ⟨v40, v37, c1_i32_17⟩
def k0_mult2 (i : grid0.Coords) (k0_t2 : Fin (k0_t2_loop i).trips) : BitVec 32 :=
  let c0_i32_14 : BitVec 32 := 0#32
  let arg2 : BitVec 32 := BitVec.ofNat 32 (i 2).val
  let v36 : BitVec 32 := Scalar.subi arg2 c0_i32_14
  let c1_i32_15 : BitVec 32 := 1#32
  let v38 : BitVec 32 := Scalar.divsi v36 c1_i32_15
  let v39 : BitVec 32 := Scalar.muli v38 c1_i32_15
  let v40 : BitVec 32 := Scalar.addi c0_i32_14 v39
  let c1_i32_17 : BitVec 32 := 1#32
  let arg11 : BitVec 32 := Scf.iv v40 c1_i32_17 k0_t2
  let c256_i32_69 : BitVec 32 := 256#32
  let v162 : BitVec 32 := Scalar.muli arg11 c256_i32_69
  v162
def k0_off2 (i : grid0.Coords) (k0_t2 : Fin (k0_t2_loop i).trips) : Fin 3 → Nat :=
  let c0_70 : Index := 0#32
  let c0_i32_14 : BitVec 32 := 0#32
  let arg2 : BitVec 32 := BitVec.ofNat 32 (i 2).val
  let v36 : BitVec 32 := Scalar.subi arg2 c0_i32_14
  let c1_i32_15 : BitVec 32 := 1#32
  let v38 : BitVec 32 := Scalar.divsi v36 c1_i32_15
  let v39 : BitVec 32 := Scalar.muli v38 c1_i32_15
  let v40 : BitVec 32 := Scalar.addi c0_i32_14 v39
  let c1_i32_17 : BitVec 32 := 1#32
  let arg11 : BitVec 32 := Scf.iv v40 c1_i32_17 k0_t2
  let c256_i32_69 : BitVec 32 := 256#32
  let v162 : BitVec 32 := Scalar.muli arg11 c256_i32_69
  let v163 : BitVec 32 := v162
  let v164 : Index := Scalar.indexCast v163
  let c0_71 : Index := 0#32
  ![0, v164.toNat, 0]
def k0_mult3 (i : grid0.Coords) : BitVec 32 :=
  let arg2 : BitVec 32 := BitVec.ofNat 32 (i 2).val
  let c256_i32 : BitVec 32 := 256#32
  let v43 : BitVec 32 := Scalar.muli arg2 c256_i32
  v43
def k0_off3 (i : grid0.Coords) : Fin 3 → Nat :=
  let c0_18 : Index := 0#32
  let arg2 : BitVec 32 := BitVec.ofNat 32 (i 2).val
  let c256_i32 : BitVec 32 := 256#32
  let v43 : BitVec 32 := Scalar.muli arg2 c256_i32
  let v44 : BitVec 32 := v43
  let v45 : Index := Scalar.indexCast v44
  let c0_19 : Index := 0#32
  ![0, v45.toNat, 0]
@[reducible] def k0_t3_loop (i : grid0.Coords) : Scf.Loop 32 :=
  let c0_i32_45 : BitVec 32 := 0#32
  let arg2 : BitVec 32 := BitVec.ofNat 32 (i 2).val
  let v107 : BitVec 32 := Scalar.subi arg2 c0_i32_45
  let c1_i32_46 : BitVec 32 := 1#32
  let v109 : BitVec 32 := Scalar.divsi v107 c1_i32_46
  let v110 : BitVec 32 := Scalar.muli v109 c1_i32_46
  let v111 : BitVec 32 := Scalar.addi c0_i32_45 v110
  let c1_i32_47 : BitVec 32 := 1#32
  ⟨c0_i32_45, v111, c1_i32_47⟩
def k0_mult4 (i : grid0.Coords) (k0_t3 : Fin (k0_t3_loop i).trips) : BitVec 32 :=
  let c0_i32_45 : BitVec 32 := 0#32
  let c1_i32_47 : BitVec 32 := 1#32
  let arg11 : BitVec 32 := Scf.iv c0_i32_45 c1_i32_47 k0_t3
  let c256_i32_69 : BitVec 32 := 256#32
  let v162 : BitVec 32 := Scalar.muli arg11 c256_i32_69
  v162
def k0_off4 (i : grid0.Coords) (k0_t3 : Fin (k0_t3_loop i).trips) : Fin 3 → Nat :=
  let c0_70 : Index := 0#32
  let c0_i32_45 : BitVec 32 := 0#32
  let c1_i32_47 : BitVec 32 := 1#32
  let arg11 : BitVec 32 := Scf.iv c0_i32_45 c1_i32_47 k0_t3
  let c256_i32_69 : BitVec 32 := 256#32
  let v162 : BitVec 32 := Scalar.muli arg11 c256_i32_69
  let v163 : BitVec 32 := v162
  let v164 : Index := Scalar.indexCast v163
  let c0_71 : Index := 0#32
  ![0, v164.toNat, 0]
@[reducible] def k0_t4_loop (i : grid0.Coords) : Scf.Loop 32 :=
  let c0_i32_45 : BitVec 32 := 0#32
  let arg2 : BitVec 32 := BitVec.ofNat 32 (i 2).val
  let v107 : BitVec 32 := Scalar.subi arg2 c0_i32_45
  let c1_i32_46 : BitVec 32 := 1#32
  let v109 : BitVec 32 := Scalar.divsi v107 c1_i32_46
  let v110 : BitVec 32 := Scalar.muli v109 c1_i32_46
  let v111 : BitVec 32 := Scalar.addi c0_i32_45 v110
  let v108 : BitVec 32 := Scalar.addi c0_i32_45 v107
  let c1_i32_48 : BitVec 32 := 1#32
  ⟨v111, v108, c1_i32_48⟩
def k0_mult5 (i : grid0.Coords) (k0_t4 : Fin (k0_t4_loop i).trips) : BitVec 32 :=
  let c0_i32_45 : BitVec 32 := 0#32
  let arg2 : BitVec 32 := BitVec.ofNat 32 (i 2).val
  let v107 : BitVec 32 := Scalar.subi arg2 c0_i32_45
  let c1_i32_46 : BitVec 32 := 1#32
  let v109 : BitVec 32 := Scalar.divsi v107 c1_i32_46
  let v110 : BitVec 32 := Scalar.muli v109 c1_i32_46
  let v111 : BitVec 32 := Scalar.addi c0_i32_45 v110
  let c1_i32_48 : BitVec 32 := 1#32
  let arg11 : BitVec 32 := Scf.iv v111 c1_i32_48 k0_t4
  let c256_i32_69 : BitVec 32 := 256#32
  let v162 : BitVec 32 := Scalar.muli arg11 c256_i32_69
  v162
def k0_off5 (i : grid0.Coords) (k0_t4 : Fin (k0_t4_loop i).trips) : Fin 3 → Nat :=
  let c0_70 : Index := 0#32
  let c0_i32_45 : BitVec 32 := 0#32
  let arg2 : BitVec 32 := BitVec.ofNat 32 (i 2).val
  let v107 : BitVec 32 := Scalar.subi arg2 c0_i32_45
  let c1_i32_46 : BitVec 32 := 1#32
  let v109 : BitVec 32 := Scalar.divsi v107 c1_i32_46
  let v110 : BitVec 32 := Scalar.muli v109 c1_i32_46
  let v111 : BitVec 32 := Scalar.addi c0_i32_45 v110
  let c1_i32_48 : BitVec 32 := 1#32
  let arg11 : BitVec 32 := Scf.iv v111 c1_i32_48 k0_t4
  let c256_i32_69 : BitVec 32 := 256#32
  let v162 : BitVec 32 := Scalar.muli arg11 c256_i32_69
  let v163 : BitVec 32 := v162
  let v164 : Index := Scalar.indexCast v163
  let c0_71 : Index := 0#32
  ![0, v164.toNat, 0]
def k0_mult6 (i : grid0.Coords) : BitVec 32 :=
  let arg2 : BitVec 32 := BitVec.ofNat 32 (i 2).val
  let c256_i32_49 : BitVec 32 := 256#32
  let v114 : BitVec 32 := Scalar.muli arg2 c256_i32_49
  v114
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![arg0.toNat, arg2.toNat, c4_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![arg0.toNat, arg2.toNat, c5_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  ![arg0.toNat, c0_i32.toNat, c4_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== MlaRefIdeal.lean ====
abbrev S8x2048x768 : Shape := ⟨3, ![8, 2048, 768]⟩
abbrev S8x2048x512 : Shape := ⟨3, ![8, 2048, 512]⟩
abbrev S8x2048x8x64 : Shape := ⟨4, ![8, 2048, 8, 64]⟩
abbrev S8x2048x128 : Shape := ⟨3, ![8, 2048, 128]⟩
abbrev S8x2048x8x16 : Shape := ⟨4, ![8, 2048, 8, 16]⟩
abbrev S8x2048x8x96 : Shape := ⟨4, ![8, 2048, 8, 96]⟩
abbrev S2048 : Shape := ⟨1, ![2048]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x768, .bf16⟩
  | .hbm, ⟨1, _⟩ => ⟨S8x2048x768, .bf16⟩
  | .hbm, ⟨2, _⟩ => ⟨S8x2048x512, .bf16⟩
  | .hbm, ⟨3, _⟩ => ⟨S8x2048x768, .f32⟩
  | .hbm, ⟨4, _⟩ => ⟨S8x2048x512, .f32⟩
  | .hbm, ⟨5, _⟩ => ⟨S8x2048x8x64, .f32⟩
  | .hbm, ⟨6, _⟩ => ⟨S8x2048x128, .f32⟩
  | .hbm, ⟨7, _⟩ => ⟨S8x2048x8x16, .f32⟩
  | .hbm, ⟨8, _⟩ => ⟨S8x2048x128, .f32⟩
  | .hbm, ⟨9, _⟩ => ⟨S8x2048x8x16, .f32⟩
  | .hbm, ⟨10, _⟩ => ⟨S8x2048x8x96, .f32⟩
  | .hbm, ⟨11, _⟩ => ⟨S8x2048x768, .f32⟩
  | .hbm, ⟨12, _⟩ => ⟨S8x2048x512, .f32⟩
  | .hbm, ⟨13, _⟩ => ⟨S8x2048x8x64, .f32⟩
  | .hbm, ⟨14, _⟩ => ⟨S8x2048x128, .f32⟩
  | .hbm, ⟨15, _⟩ => ⟨S8x2048x8x16, .f32⟩
  | .hbm, ⟨16, _⟩ => ⟨S8x2048x128, .f32⟩
  | .hbm, ⟨17, _⟩ => ⟨S8x2048x8x16, .f32⟩
  | .hbm, ⟨18, _⟩ => ⟨S8x2048x8x96, .f32⟩
  | .hbm, ⟨19, _⟩ => ⟨S8x2048x512, .f32⟩
  | .hbm, ⟨20, _⟩ => ⟨S8x2048x8x64, .f32⟩
  | .hbm, ⟨21, _⟩ => ⟨S2048, .i32⟩
  | .hbm, ⟨22, _⟩ => ⟨S8x8x2048x2048, .f32⟩
  | .hbm, ⟨23, _⟩ => ⟨S_, .f32⟩
  | .hbm, ⟨24, _⟩ => ⟨S8x8x2048x2048, .f32⟩
  | .hbm, ⟨25, _⟩ => ⟨S8x8x2048x2048, .f32⟩
  | .hbm, ⟨26, _⟩ => ⟨S1x2048, .i32⟩
  | .hbm, ⟨27, _⟩ => ⟨S2048x1, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S8x8x2048x2048, .i1⟩
  | .hbm, ⟨34, _⟩ => ⟨S8x8x2048x2048, .f32⟩
  | .hbm, ⟨35, _⟩ => ⟨S8x8x2048x2048, .f32⟩
  | .hbm, ⟨36, _⟩ => ⟨S_, .f32⟩
  | .hbm, ⟨37, _⟩ => ⟨S8x8x2048, .f32⟩
  | .hbm, ⟨38, _⟩ => ⟨S_, .f32⟩
  | .hbm, ⟨39, _⟩ => ⟨S8x8x2048, .f32⟩
  | .hbm, ⟨40, _⟩ => ⟨S8x8x2048, .f32⟩
  | .hbm, ⟨41, _⟩ => ⟨S8x8x2048x1, .f32⟩
  | .hbm, ⟨42, _⟩ => ⟨S8x8x2048x2048, .f32⟩
  | .hbm, ⟨43, _⟩ => ⟨S8x8x2048x2048, .f32⟩
  | .hbm, ⟨44, _⟩ => ⟨S8x8x2048x2048, .f32⟩
  | .hbm, ⟨45, _⟩ => ⟨S_, .f32⟩
  | .hbm, ⟨46, _⟩ => ⟨S8x8x2048, .f32⟩
  | .hbm, ⟨47, _⟩ => ⟨S8x8x2048x1, .f32⟩
  | .hbm, ⟨48, _⟩ => ⟨S8x8x2048x2048, .f32⟩
  | .hbm, ⟨49, _⟩ => ⟨S8x8x2048x2048, .f32⟩
  | .hbm, ⟨50, _⟩ => ⟨S8x8x64x2048, .f32⟩
  | .hbm, ⟨51, _⟩ => ⟨S8x2048x8x64, .f32⟩
  | .hbm, ⟨52, _⟩ => ⟨S8x2048x512, .f32⟩
  | .hbm, ⟨53, _⟩ => ⟨S8x2048x512, .bf16⟩
  | _, _ => ⟨S8x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Proof.Top3.lean ====
module

public import Idealize.ShloMosaic.PureOps.Ideal.Laws
public import Idealize.ShloMosaic.Lib.SortFacts
public import Idealize.ShloMosaic.Lib.SortPrefix

@[expose] public section

noncomputable section

/-! The three greatest of eight scores, ties to the lower index: by three rounds of "take the first maximum and
    strike it out", and by a stable sort. Both select the positions of rank below three. -/

namespace Cert.Top3

open Idealize.ShloMosaic

/-- `k` comes before `n` in the order by score, ties to the lower index. -/
def bef (g : Fin 8 → EReal) (k n : Fin 8) : Prop := g n < g k ∨ (g k = g n ∧ k < n)

open Classical in
/-- How many positions come before `n`. -/
def rank (g : Fin 8 → EReal) (n : Fin 8) : ℕ := (Finset.univ.filter fun k => bef g k n).card

theorem bef_irrefl (g : Fin 8 → EReal) (n : Fin 8) : ¬ bef g n n := by
  rintro (h | ⟨-, h⟩) <;> exact lt_irrefl _ h

theorem bef_trans (g : Fin 8 → EReal) {a b c : Fin 8} (h : bef g a b) (h' : bef g b c) : bef g a c := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

theorem bef_total (g : Fin 8 → EReal) {a b : Fin 8} (h : a ≠ b) : bef g a b ∨ bef g b a := by
  rcases lt_trichotomy (g a) (g b) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- Coming before lowers the rank. -/
theorem rank_lt (g : Fin 8 → EReal) {a b : Fin 8} (h : bef g a b) : rank g a < rank g b := by
  classical
  unfold rank
  apply Finset.card_lt_card
  rw [Finset.ssubset_iff_of_subset]
  · exact ⟨a, by simp [h], by simp [bef_irrefl]⟩
  · intro k hk
    simp only [Finset.mem_filter, Finset.mem_univ, true_and] at hk ⊢
    exact bef_trans g hk h

/-- Two positions of one rank are one position. -/
theorem rank_inj (g : Fin 8 → EReal) {a b : Fin 8} (h : rank g a = rank g b) : a = b := by
  by_contra hne
  rcases bef_total g hne with h1 | h1
  · exact absurd (rank_lt g h1) (by omega)
  · exact absurd (rank_lt g h1) (by omega)

/-! ### The rounds -/

/-- A column's number as an extended real. -/
def col (n : Fin 8) : EReal := ((n.val : ℝ) : EReal)

/-- The greatest score. -/
def mx (g : Fin 8 → EReal) : EReal := Finset.univ.fold max ⊥ g

/-- The least column number at which the score is the greatest. -/
def first (g : Fin 8 → EReal) : EReal := Finset.univ.fold min ⊤ fun n => if g n = mx g then col n else ((8 : ℝ) : EReal)

/-- The score is struck out where it was taken. -/
def nextG (g : Fin 8 → EReal) (n : Fin 8) : EReal := if col n = first g then ⊥ else g n

open Classical in
/-- The mark is set where a score above minus infinity was taken. -/
def nextS (g s : Fin 8 → EReal) (n : Fin 8) : EReal := if col n = first g ∧ ⊥ < mx g then 1 else s n

/-- The marks after three rounds. -/
def sel (g : Fin 8 → EReal) : Fin 8 → EReal := nextS (nextG (nextG g)) (nextS (nextG g) (nextS g fun _ => 0))

theorem le_mx (g : Fin 8 → EReal) (n : Fin 8) : g n ≤ mx g := by
  unfold mx
  rw [Finset.le_fold_max]
  exact Or.inr ⟨n, Finset.mem_univ _, le_refl _⟩

theorem exists_mx (g : Fin 8 → EReal) : ∃ n, g n = mx g := by
  obtain ⟨n, -, hn⟩ := Finset.exists_max_image Finset.univ g ⟨0, Finset.mem_univ _⟩
  refine ⟨n, le_antisymm (le_mx g n) ?_⟩
  unfold mx
  rw [Finset.fold_max_le]
  exact ⟨bot_le, fun k hk => hn k hk⟩

theorem col_lt {a b : Fin 8} : col a < col b ↔ a < b := by
  unfold col
  rw [EReal.coe_lt_coe_iff, Nat.cast_lt, Fin.lt_def]

theorem col_inj {a b : Fin 8} : col a = col b ↔ a = b := by
  unfold col
  rw [EReal.coe_eq_coe_iff, Nat.cast_inj, Fin.ext_iff]

/-- There is a first maximum, and the rounds take it alone. -/
theorem exists_first (g : Fin 8 → EReal) :
    ∃ p, g p = mx g ∧ (∀ k, g k = mx g → p ≤ k) ∧ ∀ n, col n = first g ↔ n = p := by
  classical
  obtain ⟨n₀, h₀⟩ := exists_mx g
  obtain ⟨p, hp, hmin⟩ := Finset.exists_min_image (Finset.univ.filter fun n => g n = mx g) (fun n => n)
    ⟨n₀, by simp [h₀]⟩
  have hp' : g p = mx g := by simpa using hp
  have hf : first g = col p := by
    unfold first
    apply le_antisymm
    · rw [Finset.fold_min_le]
      exact Or.inr ⟨p, Finset.mem_univ _, by rw [if_pos hp']⟩
    · rw [Finset.le_fold_min]
      refine ⟨le_top, fun k _ => ?_⟩
      split
      · rename_i hk
        have := hmin k (by simpa using hk)
        exact not_lt.mp fun h => absurd (col_lt.mp h) (not_lt.mpr this)
      · unfold col
        rw [EReal.coe_le_coe_iff]
        exact_mod_cast p.isLt.le
  refine ⟨p, hp', fun k hk => hmin k (by simpa using hk), fun n => ?_⟩
  rw [hf, col_inj]

/-- What holds after `r` rounds: the marks are on the positions of rank below `r` whose score is above minus
    infinity, and there the score is struck out. -/
def Rounds (g : Fin 8 → EReal) (r : ℕ) (g' s' : Fin 8 → EReal) : Prop :=
  ∀ n, (⊥ < g n ∧ rank g n < r → g' n = ⊥ ∧ s' n = 1) ∧ (¬ (⊥ < g n ∧ rank g n < r) → g' n = g n ∧ s' n = 0)

theorem rounds_succ (g : Fin 8 → EReal) (r : ℕ) (g' s' : Fin 8 → EReal) (h : Rounds g r g' s') :
    Rounds g (r + 1) (nextG g') (nextS g' s') := by
  classical
  obtain ⟨p, hp, hmin, hfirst⟩ := exists_first g'
  by_cases hm : ⊥ < mx g'
  · have hpn : ¬ (⊥ < g p ∧ rank g p < r) := fun hc => by
      rw [((h p).1 hc).1] at hp
      exact absurd hp hm.ne
    have hgp : g' p = g p := ((h p).2 hpn).1
    have hpb : ⊥ < g p := by rw [← hgp, hp]; exact hm
    have hge : r ≤ rank g p := not_lt.mp fun hc => hpn ⟨hpb, hc⟩
    -- those before `p` are exactly the struck ones
    have hbef : ∀ k, bef g k p → ⊥ < g k ∧ rank g k < r := by
      intro k hk
      by_contra hc
      have hgk : g' k = g k := ((h k).2 hc).1
      rcases hk with hk | ⟨e, hk⟩
      · rw [← hgk, ← hgp, hp] at hk
        exact absurd (le_mx g' k) (not_le.mpr hk)
      · have : g' k = mx g' := by rw [hgk, e, ← hgp, hp]
        exact absurd (hmin k this) (not_le.mpr hk)
    have hle : rank g p ≤ r := by
      have : (Finset.univ.filter fun k => bef g k p).card ≤ (Finset.range r).card :=
        Finset.card_le_card_of_injOn (rank g) (fun k hk => by
          have hk' : bef g k p := by simpa using hk
          have := (hbef k hk').2
          simpa using this) (fun a _ b _ hab => rank_inj g hab)
      rwa [Finset.card_range] at this
    have hr : rank g p = r := le_antisymm hle hge
    intro n
    constructor
    · rintro ⟨hb, hlt⟩
      by_cases hn : n = p
      · subst hn
        exact ⟨if_pos ((hfirst n).mpr rfl), if_pos ⟨(hfirst n).mpr rfl, hm⟩⟩
      · have hne : rank g n ≠ r := fun he => hn (rank_inj g (he.trans hr.symm))
        have := (h n).1 ⟨hb, by omega⟩
        unfold nextG nextS
        rw [if_neg fun hc => hn ((hfirst n).mp hc), if_neg fun hc => hn ((hfirst n).mp hc.1)]
        exact this
    · intro hc
      have hn : n ≠ p := fun he => hc ⟨he ▸ hpb, by rw [he, hr]; omega⟩
      unfold nextG nextS
      rw [if_neg fun hc => hn ((hfirst n).mp hc), if_neg fun hc => hn ((hfirst n).mp hc.1)]
      exact (h n).2 fun h' => hc ⟨h'.1, by omega⟩
  · have hall : ∀ n, g' n = ⊥ := fun n => le_bot_iff.mp ((le_mx g' n).trans (not_lt.mp hm))
    have hG : ∀ n, nextG g' n = g' n := fun n => by
      unfold nextG
      split
      · exact (hall n).symm
      · rfl
    have hS : ∀ n, nextS g' s' n = s' n := fun n => if_neg fun hc => hm hc.2
    intro n
    rw [hG, hS]
    constructor
    · rintro ⟨hb, -⟩
      by_cases hc : ⊥ < g n ∧ rank g n < r
      · exact (h n).1 hc
      · rw [← ((h n).2 hc).1, hall n] at hb
        exact absurd hb (lt_irrefl _)
    · intro hc
      exact (h n).2 fun h' => hc ⟨h'.1, by omega⟩

/-- The marks after three rounds: one on the positions of rank below three whose score is above minus infinity. -/
theorem sel_spec (g : Fin 8 → EReal) (n : Fin 8) :
    (⊥ < g n ∧ rank g n < 3 → sel g n = 1) ∧ (¬ (⊥ < g n ∧ rank g n < 3) → sel g n = 0) := by
  have h0 : Rounds g 0 g fun _ => 0 := fun n => ⟨fun h => absurd h.2 (by omega), fun _ => ⟨rfl, rfl⟩⟩
  have h3 := rounds_succ g 2 _ _ (rounds_succ g 1 _ _ (rounds_succ g 0 _ _ h0))
  exact ⟨fun h => ((h3 n).1 h).2, fun h => ((h3 n).2 h).2⟩

/-! ### The stable sort -/

/-- Relations that agree on every two positions in order sort an increasing list alike. -/
theorem stableSort_congr_increasing {n : ℕ} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- "The greater score first", as the sort compares. -/
def gtB (g : Fin 8 → EReal) (k n : Fin 8) : Bool := decide (g n < g k)

open Classical in
/-- The same with ties to the lower index. -/
def befB (g : Fin 8 → EReal) (k n : Fin 8) : Bool := decide (bef g k n)

theorem sortedFrom_gtB (g : Fin 8 → EReal) : sortedFrom (gtB g) = sortedFrom (befB g) := by
  classical
  have hp : sortPositions 8 (gtB g) = sortPositions 8 (befB g) := by
    refine stableSort_congr_increasing _ _ _ (by decide) fun a b hab => ?_
    unfold gtB befB
    rw [Bool.eq_iff_iff, decide_eq_true_eq, decide_eq_true_eq]
    exact ⟨Or.inl, fun h => h.elim id fun h' => absurd h'.2 (not_lt.mpr hab.le)⟩
  funext k
  unfold sortedFrom
  rw [List.get_of_eq hp]
  rfl

/-- The sort leaves at place `r` the position of rank `r`. -/
theorem rank_sortedFrom (g : Fin 8 → EReal) (r : Fin 8) : rank g (sortedFrom (gtB g) r) = r.val := by
  classical
  rw [sortedFrom_gtB]
  have hno : ∀ i j : Fin 8, i < j → bef g (sortedFrom (befB g) i) (sortedFrom (befB g) j) := by
    intro i j hij
    have h := sortedFrom_noInversion (befB g) (befB g)
      (fun a b h => by
        unfold befB at h ⊢
        rw [decide_eq_true_eq] at h
        exact decide_eq_false fun h' => bef_irrefl g a (bef_trans g h h'))
      (fun _ _ h => h)
      (fun a b c h h' => by
        unfold befB at h h' ⊢
        rw [decide_eq_false_iff_not] at h h' ⊢
        intro hac
        by_cases hab : a = b
        · subst hab; exact h' hac
        · rcases bef_total g hab with h1 | h1
          · exact h h1
          · exact h' (bef_trans g h1 hac)) i j hij
    unfold befB at h
    rw [decide_eq_false_iff_not] at h
    rcases bef_total g (fun e => hij.ne (sortedFrom_injective _ e)) with h1 | h1
    · exact h1
    · exact absurd h1 h
  have himg : (Finset.univ.filter fun k => bef g k (sortedFrom (befB g) r))
      = (Finset.univ.filter fun i : Fin 8 => i < r).image (sortedFrom (befB g)) := by
    ext k
    simp only [Finset.mem_filter, Finset.mem_univ, true_and, Finset.mem_image]
    constructor
    · intro hk
      obtain ⟨i, rfl⟩ := sortedFrom_surjective (befB g) k
      refine ⟨i, ?_, rfl⟩
      rcases lt_trichotomy i r with h | h | h
      · exact h
      · subst h; exact absurd hk (bef_irrefl g _)
      · exact absurd (bef_trans g hk (hno r i h)) (bef_irrefl g _)
    · rintro ⟨i, hi, rfl⟩
      exact hno i r hi
  unfold rank
  rw [himg, Finset.card_image_of_injective _ (sortedFrom_injective _)]
  fin_cases r <;> decide

/-- A position is among the first three of the sort exactly when its rank is below three. -/
theorem mem_top3 (g : Fin 8 → EReal) (n : Fin 8) :
    (∃ r : Fin 3, sortedFrom (gtB g) (r.castLE (by decide)) = n) ↔ rank g n < 3 := by
  constructor
  · rintro ⟨r, rfl⟩
    rw [rank_sortedFrom]
    exact r.isLt
  · intro h
    refine ⟨⟨rank g n, h⟩, rank_inj g ?_⟩
    rw [rank_sortedFrom]
    rfl

end Cert.Top3

end
-- ==== Proof.Flash.lean ====
module

public import Idealize.ShloMosaic.PureOps.Ideal.Laws

@[expose] public section

noncomputable section

/-! Softmax weights over the extended reals: the running (maximum, denominator, numerator) of an attention
    kernel that walks the keys block by block, and the plain softmax quotient, both as one weighted mean. -/

namespace Cert.Flash

open Idealize.ShloMosaic

/-- The unnormalised softmax weight of a score: its exponential, and zero at minus infinity. -/
def wt (s : EReal) : ℝ := if s = ⊥ then 0 else Real.exp s.toReal

/-- A weight is never negative. -/
theorem wt_nonneg (s : EReal) : 0 ≤ wt s := by
  unfold wt
  split
  · exact le_refl _
  · exact (Real.exp_pos _).le

/-- The weight of a score above minus infinity is positive. -/
theorem wt_pos {s : EReal} (h : s ≠ ⊥) : 0 < wt s := by
  unfold wt
  rw [if_neg h]
  exact Real.exp_pos _

/-- A masked score has weight zero. -/
theorem wt_bot : wt ⊥ = 0 := if_pos rfl

/-- The exponential of a score shifted by a real number is its weight scaled. -/
theorem exp_sub (s : EReal) (hs : s ≠ ⊤) (m : ℝ) :
    Ideal.exp (s - (m : EReal)) = ((Real.exp (-m) * wt s : ℝ) : EReal) := by
  induction s with
  | bot => rw [EReal.bot_sub, wt_bot, mul_zero]; rfl
  | top => exact absurd rfl hs
  | coe r =>
    have hw : wt (r : EReal) = Real.exp r := by
      unfold wt
      rw [if_neg (EReal.coe_ne_bot r), EReal.toReal_coe]
    rw [← EReal.coe_sub, hw, ← Real.exp_add, neg_add_eq_sub]
    rfl

/-- A sum of reals, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor goes into a sum of extended reals. -/
theorem mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A running maximum that starts at a real number and meets no plus infinity stays real. -/
theorem max_fold_real {n : ℕ} (r : ℝ) (s : Fin n → EReal) (hs : ∀ k, s k ≠ ⊤) :
    ∃ r' : ℝ, max (r : EReal) (Finset.univ.fold max ⊥ s) = (r' : EReal) := by
  have h1 : Finset.univ.fold max ⊥ s ≠ ⊤ := by
    have : Finset.univ.fold max ⊥ s < ⊤ := by
      rw [Finset.fold_max_lt]
      exact ⟨bot_lt_top, fun k _ => lt_of_le_of_ne le_top (hs k)⟩
    exact this.ne
  have h2 : max (r : EReal) (Finset.univ.fold max ⊥ s) ≠ ⊤ := by
    rcases max_choice (r : EReal) (Finset.univ.fold max ⊥ s) with h | h <;> rw [h]
    · exact EReal.coe_ne_top r
    · exact h1
  have h3 : max (r : EReal) (Finset.univ.fold max ⊥ s) ≠ ⊥ := by
    have : (r : EReal) ≤ max (r : EReal) (Finset.univ.fold max ⊥ s) := le_max_left _ _
    intro h
    rw [h] at this
    exact absurd (le_bot_iff.mp this) (EReal.coe_ne_bot r)
  exact ⟨_, (EReal.coe_toReal h2 h3).symm⟩

/-- What the running triple stands for: the weights met so far sum to `W`, the weighted values to `A`, both
    scaled by the exponential of minus the running maximum. -/
def Inv (m l acc : EReal) (W : ℝ) (A : EReal) : Prop :=
  ∃ r : ℝ, m = r ∧ l = ((Real.exp (-r) * W : ℝ) : EReal) ∧ acc = ((Real.exp (-r) : ℝ) : EReal) * A

/-- Before any key the triple stands for nothing. -/
theorem inv_init (r : ℝ) : Inv r 0 0 0 0 := ⟨r, rfl, by simp, by simp⟩

/-- One block of keys: the triple is rescaled to the new maximum and the block's weights are added. -/
theorem inv_step {n : ℕ} {m l acc : EReal} {W : ℝ} {A : EReal} (h : Inv m l acc W A) (s v : Fin n → EReal)
    (hs : ∀ k, s k ≠ ⊤) {m' : EReal} (hm' : m' = max m (Finset.univ.fold max ⊥ s)) :
    Inv m' (Ideal.exp (m - m') * l + ∑ k, Ideal.exp (s k - m'))
      (Ideal.exp (m - m') * acc + ∑ k, Ideal.exp (s k - m') * v k)
      (W + ∑ k, wt (s k)) (A + ∑ k, ((wt (s k) : ℝ) : EReal) * v k) := by
  obtain ⟨r, rfl, rfl, rfl⟩ := h
  obtain ⟨r', hr'⟩ := max_fold_real r s hs
  rw [hr'] at hm'
  subst hm'
  have he : Ideal.exp ((r : EReal) - (r' : EReal)) = ((Real.exp (r - r') : ℝ) : EReal) := by
    rw [← EReal.coe_sub]; rfl
  have hx : Real.exp (r - r') * Real.exp (-r) = Real.exp (-r') := by
    rw [← Real.exp_add]; congr 1; ring
  refine ⟨r', rfl, ?_, ?_⟩
  · rw [he, Finset.sum_congr rfl fun k _ => exp_sub (s k) (hs k) r', coe_sum, ← EReal.coe_mul, ← EReal.coe_add]
    congr 1
    rw [← Finset.mul_sum, ← mul_assoc, hx]
    ring
  · rw [he, Finset.sum_congr rfl fun k _ => by rw [exp_sub (s k) (hs k) r', EReal.coe_mul, mul_assoc],
      ← mul_sum _ _ (Real.exp_pos _).le, ← mul_assoc, ← EReal.coe_mul, hx,
      ← EReal.left_distrib_of_nonneg_of_ne_top (by exact_mod_cast (Real.exp_pos _).le) (EReal.coe_ne_top _)]

/-- The final division: the weighted sum over the sum of the weights. -/
theorem inv_div {m l acc : EReal} {W : ℝ} {A : EReal} (h : Inv m l acc W A) (hW : 0 < W) :
    Ideal.div acc l = A * ((W⁻¹ : ℝ) : EReal) := by
  obtain ⟨r, rfl, rfl, rfl⟩ := h
  have hp : 0 < Real.exp (-r) * W := mul_pos (Real.exp_pos _) hW
  unfold Ideal.div
  rw [if_neg (by exact_mod_cast hp.ne'), ← EReal.coe_inv, mul_comm _ A, mul_assoc, ← EReal.coe_mul]
  congr 2
  have := (Real.exp_pos (-r)).ne'
  field_simp

/-- The plain softmax quotient of one key: its weight over the sum of the weights. -/
theorem softmax_div {n : ℕ} (s : Fin n → EReal) (hs : ∀ k, s k ≠ ⊤) (k₀ : Fin n) (h₀ : s k₀ ≠ ⊥) {M : EReal}
    (hM : M = max ⊥ (Finset.univ.fold max ⊥ s)) (k : Fin n) :
    Ideal.div (Ideal.exp (s k - M)) (∑ j, Ideal.exp (s j - M)) = ((wt (s k) * (∑ j, wt (s j))⁻¹ : ℝ) : EReal) := by
  obtain ⟨r, hr⟩ : ∃ r : ℝ, M = r := by
    have hb : s k₀ ≤ Finset.univ.fold max ⊥ s := by
      rw [Finset.le_fold_max]
      exact Or.inr ⟨k₀, Finset.mem_univ _, le_refl _⟩
    obtain ⟨r', h'⟩ := max_fold_real (s k₀).toReal s hs
    rw [EReal.coe_toReal (hs k₀) h₀, max_eq_right hb] at h'
    exact ⟨r', by rw [hM, h']; exact max_eq_right bot_le⟩
  subst hr
  have hW : 0 < ∑ j, wt (s j) :=
    Finset.sum_pos' (fun j _ => wt_nonneg _) ⟨k₀, Finset.mem_univ _, wt_pos h₀⟩
  have hp : 0 < Real.exp (-r) * ∑ j, wt (s j) := mul_pos (Real.exp_pos _) hW
  rw [exp_sub _ (hs k), Finset.sum_congr rfl fun j _ => exp_sub (s j) (hs j) r, coe_sum, ← Finset.mul_sum]
  unfold Ideal.div
  rw [if_neg (by exact_mod_cast hp.ne'), ← EReal.coe_inv, ← EReal.coe_mul]
  congr 1
  have := (Real.exp_pos (-r)).ne'
  field_simp

end Cert.Flash

end
-- ==== Proof.Tile.lean ====
module

public import proofs.«01_k».proof.Proof.Gen.MobaIdeal.Skeleton
public import proofs.«01_k».proof.Proof.Top3
public import proofs.«01_k».proof.Proof.Flash
public import Idealize.ShloMosaic.Lib.Pointwise
public import Idealize.ShloMosaic.Lib.WordArith

@[expose] public section

set_option maxRecDepth 16384

noncomputable section

/-! What one head of the block attention does to its tiles, as functions of the tiles (the two heads and every trip
    share them), and their values at a row and a column. -/

namespace Cert.MobaTile

open Idealize.ShloMosaic Idealize.ShloMosaic.Tactic
open Cert.MobaIdeal Cert.MobaIdeal.Gen

variable {F : FTy → Type} [FloatOps F]

/-- The greatest of each row. -/
def tmax (g : FVec F S256x8 .f32) : FVec F S256x1 .f32 :=
  shapeCast S256x1 (multiReduction .maximumf [1] S256 g 0xFF800000#32 reduces_S256x8_S256 (.inl rfl) rfl) shapeCasts_S256_S256x1

/-- The first column of each row that holds the greatest. -/
def tpick (g : FVec F S256x8 .f32) : IVec S256x8 1 :=
  cmpf .oeq (k0_pay32 (F := F)) (broadcastTo S256x8 (shapeCast S256x1 (multiReduction .minimumf [1] S256
    (select (cmpf .oeq g (broadcastTo S256x8 (tmax g) broadcasts_S256x1_S256x8)) (k0_pay32 (F := F))
      (broadcast S256x8 (Scalar.ofBits .f32 0x41000000#32))) 0x7F800000#32 reduces_S256x8_S256 (.inl rfl) rfl)
    shapeCasts_S256_S256x1) broadcasts_S256x1_S256x8)

/-- One round's marks. -/
def tsel (g s : FVec F S256x8 .f32) : FVec F S256x8 .f32 :=
  select (andi (tpick g) (broadcastTo S256x8 (cmpf .ogt (tmax g) (broadcast S256x1 (Scalar.ofBits .f32 0xFF800000#32)))
    broadcasts_S256x1_S256x8)) (broadcast S256x8 (Scalar.ofBits .f32 0x3F800000#32)) s

/-- One round's remaining scores. -/
def tnext (g : FVec F S256x8 .f32) : FVec F S256x8 .f32 :=
  select (tpick g) (broadcast S256x8 (Scalar.ofBits .f32 0xFF800000#32)) g

/-- The marks of three rounds. -/
def ttop (g : FVec F S256x8 .f32) : FVec F S256x8 .f32 :=
  tsel (tnext (tnext g)) (tsel (tnext g) (tsel g (k0_pay36 (F := F))))

/-- The gate of each query row on the earlier blocks. -/
def tgate (qe : FVec F S256x128 .bf16) (km : Vec F S1x8x128 .bf16) (i : F .f32) : FVec F S256x8 .f32 :=
  select (cmpf .olt (k0_pay32 (F := F)) (broadcast S256x8 i))
    (matmul dot_S256x128_S8x128_S256x8_1_1_0_0_n_n none qe (shapeCast S8x128 km shapeCasts_S1x8x128_S8x128)
      (constant S256x8 .f32 0x00000000#32))
    (broadcast S256x8 (Scalar.ofBits .f32 0xFF800000#32))

/-- The products of query rows and key rows, scaled. -/
def tdot (qe : FVec F S256x128 .bf16) (kj : Vec F S1x256x128 .bf16) : FVec F S256x256 .f32 :=
  mulf (matmul dot_S256x128_S256x128_S256x256_1_1_0_0_n_n none qe (shapeCast S256x128 kj shapeCasts_S1x256x128_S256x128)
    (constant S256x256 .f32 0x00000000#32)) (broadcast S256x256 (Scalar.ofBits .f32 0x3E000000#32))

/-- The scores on an earlier block: minus infinity on rows that have not marked it. -/
def tpast (qe : FVec F S256x128 .bf16) (kj : Vec F S1x256x128 .bf16) (srel : FVec F S256x256 .f32) (sd : F .f32)
    (sel : FVec F S256x8 .f32) (j : F .f32) : FVec F S256x256 .f32 :=
  select (broadcastTo S256x256 (shapeCast S256x1 (cmpf .ogt (shapeCast S256x1 (multiReduction .add [1] S256
      (select (cmpf .oeq (k0_pay32 (F := F)) (broadcast S256x8 j)) sel (broadcast S256x8 (Scalar.ofBits .f32 0x00000000#32)))
      0x00000000#32 reduces_S256x8_S256 (.inl rfl) rfl) shapeCasts_S256_S256x1)
      (broadcast S256x1 (Scalar.ofBits .f32 0x3F000000#32))) shapeCasts_S256x1_S256x1) broadcasts_S256x1_S256x256)
    (subf (tdot qe kj) (addf srel (broadcast S256x256 sd)))
    (broadcast S256x256 (Scalar.ofBits .f32 0xFF800000#32))

/-- The scores on the query's own block: minus infinity after the query. -/
def tdiag (qe : FVec F S256x128 .bf16) (kj : Vec F S1x256x128 .bf16) (srel : FVec F S256x256 .f32) : FVec F S256x256 .f32 :=
  select (cmpf .oge (k0_pay31 (F := F)) (broadcast S256x256 (Scalar.ofBits .f32 0x00000000#32)))
    (subf (tdot qe kj) srel) (broadcast S256x256 (Scalar.ofBits .f32 0xFF800000#32))

/-- The running maximum after a block. -/
def tM (m : FVec F S256x1 .f32) (s : FVec F S256x256 .f32) : FVec F S256x1 .f32 :=
  maximumf m (shapeCast S256x1 (multiReduction .maximumf [1] S256 s 0xFF800000#32 reduces_S256x256_S256 (.inl rfl) rfl)
    shapeCasts_S256_S256x1)

/-- The weights of a block. -/
def tP (m : FVec F S256x1 .f32) (s : FVec F S256x256 .f32) : FVec F S256x256 .f32 :=
  exp (subf s (broadcastTo S256x256 (tM m s) broadcasts_S256x1_S256x256))

/-- The running sum of weights after a block. -/
def tL (m l : FVec F S256x1 .f32) (s : FVec F S256x256 .f32) : FVec F S256x1 .f32 :=
  addf (mulf (exp (subf m (tM m s))) l)
    (shapeCast S256x1 (multiReduction .add [1] S256 (tP m s) 0x00000000#32 reduces_S256x256_S256 (.inl rfl) rfl)
      shapeCasts_S256_S256x1)

/-- The running weighted sum after a block. -/
def tA (m : FVec F S256x1 .f32) (acc : FVec F S256x128 .f32) (s : FVec F S256x256 .f32) (v : Vec F S1x256x128 .bf16) :
    FVec F S256x128 .f32 :=
  addf (mulf (broadcastTo S256x128 (exp (subf m (tM m s))) broadcasts_S256x1_S256x128) acc)
    (matmul dot_S256x256_S256x128_S256x128_1_0_0_1_n_n none (truncf .bf16 (tP m s) bitsLt_bf16_f32)
      (shapeCast S256x128 v shapeCasts_S1x256x128_S256x128) (constant S256x128 .f32 0x00000000#32))

/-- The quotient at the end. -/
def tdiv (l : FVec F S256x1 .f32) (acc : FVec F S256x128 .f32) : FVec F S256x128 .f32 :=
  divf acc (broadcastTo S256x128 l broadcasts_S256x1_S256x128)

/-! ### The printed payloads are these -/

theorem pay40_eq (i : grid0.Coords) (v0 : Vec F S1x256x128 .bf16) (km : Vec F S1x8x128 .bf16) :
    k0_pay40 k0_pay32 (k0_pay35 i v0 km) k0_pay36 (k0_pay38 i v0 km) (k0_pay39 i v0 km)
      = ttop (tgate (k0_pay34 v0) km (k0_pay33 i)) := rfl

theorem pay56_eq (v2 : FVec F S256x128 .f32) (v3 : IVec S256x128 32) (i : F .f32) (c : BitVec 32) (km : Vec F S1x8x128 .bf16) :
    k0_pay56 k0_pay32 (k0_pay52 v2 v3 k0_pay32 i c km) (k0_pay53 v2 v3 k0_pay32 i c km) (k0_pay54 v2 v3 k0_pay32 i c km)
        (k0_pay55 v2 v3 k0_pay32 i c km)
      = ttop (tgate (k0_pay48 v2 v3 c) km i) := rfl

/-! ### Their values -/

theorem ofBits_neg_inf : Ideal.ofBits .f32 0xFF800000#32 = ⊥ := by simp [Ideal.ofBits, Ideal.ieee]

theorem ofBits_inf : Ideal.ofBits .f32 0x7F800000#32 = ⊤ := by simp [Ideal.ofBits, Ideal.ieee]

theorem ofBits_eight : Ideal.ofBits .f32 0x41000000#32 = ((8 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_init : Ideal.ofBits .f32 0xF149F2CA#32 = ((-(13234890 * 2 ^ 76) : ℝ) : EReal) := by
  simp [Ideal.ofBits, Ideal.ieee, -EReal.coe_mul]

theorem sitofp_nat (n : ℕ) (h : n < 2 ^ 31) :
    (FloatOps.sitofp .f32 (BitVec.ofNat 32 n) : Ideal .f32) = ((n : ℝ) : EReal) := by
  show (((BitVec.ofNat 32 n).toInt : ℝ) : EReal) = _
  have e : (BitVec.ofNat 32 n).toInt = (n : ℤ) := WordArith.toInt_ofNat_small n (by omega)
  rw [e]
  norm_cast

theorem sitofp_sub (a b : ℕ) (ha : a < 2 ^ 30) (hb : b < 2 ^ 30) :
    (FloatOps.sitofp .f32 (IntOp.subi (BitVec.ofNat 32 a) (BitVec.ofNat 32 b)) : Ideal .f32) = ((((a : ℝ) - b : ℝ)) : EReal) := by
  show (((BitVec.ofNat 32 a - BitVec.ofNat 32 b).toInt : ℝ) : EReal) = _
  have e : (BitVec.ofNat 32 a - BitVec.ofNat 32 b).toInt = (a : ℤ) - b := by
    rw [BitVec.toInt_sub, WordArith.toInt_ofNat_small a (by omega), WordArith.toInt_ofNat_small b (by omega), Int.bmod_eq_of_le] <;> omega
  rw [e]
  push_cast
  rfl

theorem select_ofBool (p : Prop) [Decidable p] (a b : EReal) :
    Scalar.select (BitVec.ofBool (decide p)) a b = if p then a else b := by
  by_cases h : p <;> simp [h, Scalar.select]

theorem andi_ofBool (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

theorem read_col (r : Fin 256) (n : Fin 8) : k0_pay32 (F := Ideal) (ix2 r n) = Top3.col n := by
  pointwise [k0_pay32]
  exact sitofp_nat _ (by omega)

theorem read_tmax (g : FVec Ideal S256x8 .f32) (r : Fin 256) (z : Fin 1) :
    tmax g (ix2 r z) = Top3.mx fun n => g (ix2 r n) := by
  pointwise [tmax]
  rw [ofBits_neg_inf]
  rfl

theorem read_tpick (g : FVec Ideal S256x8 .f32) (r : Fin 256) (n : Fin 8) :
    tpick g (ix2 r n) = BitVec.ofBool (decide (Top3.col n = Top3.first fun n => g (ix2 r n))) := by
  pointwise [tpick]
  simp only [read_col, read_tmax, ofBits_inf, ofBits_eight]
  rfl

theorem read_tsel (g s : FVec Ideal S256x8 .f32) (r : Fin 256) (n : Fin 8) :
    tsel g s (ix2 r n) = Top3.nextS (fun n => g (ix2 r n)) (fun n => s (ix2 r n)) n := by
  pointwise [tsel]
  simp only [read_tpick, read_tmax, ofBits_neg_inf, andi_ofBool, select_ofBool, Top3.nextS]

theorem read_tnext (g : FVec Ideal S256x8 .f32) (r : Fin 256) (n : Fin 8) :
    tnext g (ix2 r n) = Top3.nextG (fun n => g (ix2 r n)) n := by
  pointwise [tnext]
  simp only [read_tpick, ofBits_neg_inf, select_ofBool]
  rfl

theorem read_ttop (g : FVec Ideal S256x8 .f32) (r : Fin 256) (n : Fin 8) :
    ttop g (ix2 r n) = Top3.sel (fun n => g (ix2 r n)) n := by
  unfold ttop Top3.sel
  simp only [read_tsel, read_tnext]
  have : ∀ n, k0_pay36 (F := Ideal) (ix2 r n) = 0 := fun n => by pointwise [k0_pay36]
  simp only [this]

theorem read_tgate (qe : FVec Ideal S256x128 .bf16) (km : Vec Ideal S1x8x128 .bf16) (i : ℕ) (hi : i < 8) (r : Fin 256) (n : Fin 8) :
    tgate qe km ((i : ℝ) : EReal) (ix2 r n)
      = if n.val < i then ∑ k : Fin 128, qe (ix2 r k) * km (ix3 0 n k) else ⊥ := by
  pointwise [tgate]
  simp only [read_col, ofBits_neg_inf]
  refine if_congr ?_ rfl rfl
  unfold Top3.col
  rw [EReal.coe_lt_coe_iff, Nat.cast_lt]

theorem read_tdot (qe : FVec Ideal S256x128 .bf16) (kj : Vec Ideal S1x256x128 .bf16) (r c : Fin 256) :
    tdot qe kj (ix2 r c) = (∑ k : Fin 128, qe (ix2 r k) * kj (ix3 0 c k)) * ((1 / 8 : ℝ) : EReal) := by
  pointwise [tdot]
  simp only [ofBits_eighth]

theorem read_tpast (qe : FVec Ideal S256x128 .bf16) (kj : Vec Ideal S1x256x128 .bf16) (srel : FVec Ideal S256x256 .f32)
    (sd : Ideal .f32) (sel : FVec Ideal S256x8 .f32) (j : Fin 8) (r c : Fin 256) (hs : sel (ix2 r j) = 0 ∨ sel (ix2 r j) = 1) :
    tpast qe kj srel sd sel (Top3.col j) (ix2 r c)
      = if sel (ix2 r j) = 1 then tdot qe kj (ix2 r c) - (srel (ix2 r c) + sd) else ⊥ := by
  pointwise [tpast]
  simp only [read_col, ofBits_neg_inf, ofBits_half]
  refine if_congr ?_ rfl rfl
  simp only [Top3.col_inj, Finset.sum_ite_eq', Finset.mem_univ, if_true]
  rcases hs with h | h <;> rw [h]
  · exact ⟨fun h' => absurd h' (not_lt.mpr (by exact_mod_cast (by norm_num : (0 : ℝ) ≤ 1 / 2))), fun h' => absurd h' zero_ne_one⟩
  · exact ⟨fun _ => rfl, fun _ => by exact_mod_cast (by norm_num : (1 / 2 : ℝ) < 1)⟩

theorem read_tdiag (qe : FVec Ideal S256x128 .bf16) (kj : Vec Ideal S1x256x128 .bf16) (srel : FVec Ideal S256x256 .f32)
    (r c : Fin 256) :
    tdiag qe kj srel (ix2 r c) = if c ≤ r then tdot qe kj (ix2 r c) - srel (ix2 r c) else ⊥ := by
  pointwise [tdiag, k0_pay31]
  simp only [ofBits_neg_inf]
  refine if_congr ?_ rfl rfl
  rw [sitofp_sub _ _ (by omega) (by omega), ← EReal.coe_zero, EReal.coe_le_coe_iff, sub_nonneg, Nat.cast_le, Fin.le_def]

/-- The slope times the row number less the column number. -/
theorem read_srel (slope : Ideal .f32) (r c : Fin 256) :
    k0_pay41 k0_pay31 slope (ix2 r c) = slope * (((r.val : ℝ) - c.val : ℝ) : EReal) := by
  pointwise [k0_pay41, k0_pay31]
  rw [sitofp_sub _ _ (by omega) (by omega)]

theorem read_tM (m : FVec Ideal S256x1 .f32) (s : FVec Ideal S256x256 .f32) (r : Fin 256) :
    tM m s (ix2 r 0) = max (m (ix2 r 0)) (Finset.univ.fold max ⊥ fun c => s (ix2 r c)) := by
  pointwise [tM]
  simp only [ofBits_neg_inf]

theorem read_tP (m : FVec Ideal S256x1 .f32) (s : FVec Ideal S256x256 .f32) (r c : Fin 256) :
    tP m s (ix2 r c) = Ideal.exp (s (ix2 r c) - tM m s (ix2 r 0)) := by
  pointwise [tP]

theorem read_tL (m l : FVec Ideal S256x1 .f32) (s : FVec Ideal S256x256 .f32) (r : Fin 256) :
    tL m l s (ix2 r 0) = Ideal.exp (m (ix2 r 0) - tM m s (ix2 r 0)) * l (ix2 r 0)
      + ∑ c : Fin 256, Ideal.exp (s (ix2 r c) - tM m s (ix2 r 0)) := by
  pointwise [tL]
  simp only [read_tP]

theorem read_tA (m : FVec Ideal S256x1 .f32) (acc : FVec Ideal S256x128 .f32) (s : FVec Ideal S256x256 .f32)
    (v : Vec Ideal S1x256x128 .bf16) (r : Fin 256) (d : Fin 128) :
    tA m acc s v (ix2 r d) = Ideal.exp (m (ix2 r 0) - tM m s (ix2 r 0)) * acc (ix2 r d)
      + ∑ c : Fin 256, Ideal.exp (s (ix2 r c) - tM m s (ix2 r 0)) * v (ix3 0 c d) := by
  pointwise [tA]
  simp only [read_tP]

theorem read_tdiv (l : FVec Ideal S256x1 .f32) (acc : FVec Ideal S256x128 .f32) (r : Fin 256) (d : Fin 128) :
    tdiv l acc (ix2 r d) = Ideal.div (acc (ix2 r d)) (l (ix2 r 0)) := by
  pointwise [tdiv]

end Cert.MobaTile

end
-- ==== Proof.Head.lean ====
module

public import proofs.«01_k».proof.Proof.Tile

@[expose] public section

set_option maxRecDepth 16384

noncomputable section

/-! One head's pass over the key blocks of a query block: the running triple stands for the sums of weights and of
    weighted values over the blocks visited, and the quotient at the end is the weighted mean. -/

namespace Cert.MobaTile

open Idealize.ShloMosaic Idealize.ShloMosaic.Tactic
open Cert.MobaIdeal Cert.MobaIdeal.Gen
open Cert.Flash (wt Inv)

/-- Row `c` of key block `j` among the rows. -/
def rowOf (j : Fin 8) (c : Fin 256) : Fin 2048 := ⟨256 * j.val + c.val, by omega⟩

/-- Block `j` of the keys (or values). -/
def kv (x : Vec Ideal S1x2048x128 .bf16) (j : Fin 8) : Vec Ideal S1x256x128 .bf16 :=
  fun y => x (ix3 (0 : Fin 1) (rowOf j (y 1)) (y 2))

theorem read_kv (x : Vec Ideal S1x2048x128 .bf16) (j : Fin 8) (c : Fin 256) (d : Fin 128) :
    kv x j (ix3 0 c d) = x (ix3 0 (rowOf j c) d) := rfl

/-- The scaled product of a query row and a key row. -/
def sdot (qe : FVec Ideal S256x128 .bf16) (x2 : Vec Ideal S1x2048x128 .bf16) (r : Fin 256) (j : Fin 8) (c : Fin 256) : EReal :=
  (∑ k : Fin 128, qe (ix2 r k) * x2 (ix3 0 (rowOf j c) k)) * ((1 / 8 : ℝ) : EReal)

/-- The score the head gives row `c` of block `j`, for query row `r` of block `i`. -/
def score (qe : FVec Ideal S256x128 .bf16) (x2 : Vec Ideal S1x2048x128 .bf16) (sel : FVec Ideal S256x8 .f32) (slope : EReal)
    (i : Fin 8) (r : Fin 256) (j : Fin 8) (c : Fin 256) : EReal :=
  if j < i then
    if sel (ix2 r j) = 1 then sdot qe x2 r j c - (slope * (((r.val : ℝ) - c.val : ℝ) : EReal)
      + slope * ((((i.val : ℝ) - j.val) * 256 : ℝ) : EReal)) else ⊥
  else if j = i then
    if c ≤ r then sdot qe x2 r j c - slope * (((r.val : ℝ) - c.val : ℝ) : EReal) else ⊥
  else ⊥

/-- The scores on an earlier block as the head computes them. -/
def pastTile (qe : FVec Ideal S256x128 .bf16) (x2 : Vec Ideal S1x2048x128 .bf16) (sel : FVec Ideal S256x8 .f32) (slope : Ideal .f32)
    (i j : Fin 8) : FVec Ideal S256x256 .f32 :=
  tpast qe (kv x2 j) (k0_pay41 k0_pay31 slope) (slope * ((((i.val : ℝ) - j.val) * 256 : ℝ) : EReal)) sel (Top3.col j)

theorem read_pastTile (qe : FVec Ideal S256x128 .bf16) (x2 : Vec Ideal S1x2048x128 .bf16) (sel : FVec Ideal S256x8 .f32)
    (slope : Ideal .f32) (i j : Fin 8) (h : j < i) (r c : Fin 256) (hs : sel (ix2 r j) = 0 ∨ sel (ix2 r j) = 1) :
    pastTile qe x2 sel slope i j (ix2 r c) = score qe x2 sel slope i r j c := by
  unfold pastTile score
  rw [read_tpast _ _ _ _ _ _ _ _ hs, if_pos h, read_tdot, read_srel]
  rfl

theorem read_diagTile (qe : FVec Ideal S256x128 .bf16) (x2 : Vec Ideal S1x2048x128 .bf16) (sel : FVec Ideal S256x8 .f32)
    (slope : Ideal .f32) (i : Fin 8) (r c : Fin 256) :
    tdiag qe (kv x2 i) (k0_pay41 k0_pay31 slope) (ix2 r c) = score qe x2 sel slope i r i c := by
  unfold score
  rw [read_tdiag, if_neg (lt_irrefl _), if_pos rfl, read_tdot, read_srel]
  rfl

/-- One block's update keeps the invariant. -/
theorem inv_tile {m l : FVec Ideal S256x1 .f32} {acc : FVec Ideal S256x128 .f32} {r : Fin 256} {d : Fin 128} {W : ℝ} {A : EReal}
    (h : Inv (m (ix2 r 0)) (l (ix2 r 0)) (acc (ix2 r d)) W A) (s : FVec Ideal S256x256 .f32) (v : Vec Ideal S1x256x128 .bf16)
    (S : Fin 256 → EReal) (hs : ∀ c, s (ix2 r c) = S c) (hS : ∀ c, S c ≠ ⊤) :
    Inv (tM m s (ix2 r 0)) (tL m l s (ix2 r 0)) (tA m acc s v (ix2 r d))
      (W + ∑ c, wt (S c)) (A + ∑ c : Fin 256, ((wt (S c) : ℝ) : EReal) * v (ix3 0 c d)) := by
  have := Flash.inv_step h (fun c => s (ix2 r c)) (fun c => v (ix3 0 c d)) (fun c => by rw [hs]; exact hS c) (read_tM m s r)
  rw [read_tL, read_tA]
  simp only [hs] at this ⊢
  exact this

/-- The sum over the blocks before `n`. -/
def upto {M : Type} [AddCommMonoid M] (n : ℕ) (f : Fin 8 → M) : M := ∑ j : Fin 8, if j.val < n then f j else 0

theorem upto_zero {M : Type} [AddCommMonoid M] (f : Fin 8 → M) : upto 0 f = 0 := by
  unfold upto
  exact Finset.sum_eq_zero fun j _ => if_neg (by omega)

theorem upto_succ {M : Type} [AddCommMonoid M] (j : Fin 8) (f : Fin 8 → M) : upto (j.val + 1) f = upto j.val f + f j := by
  unfold upto
  have : f j = ∑ j' : Fin 8, if j' = j then f j' else 0 := by rw [Finset.sum_ite_eq' Finset.univ j f, if_pos (Finset.mem_univ _)]
  rw [this, ← Finset.sum_add_distrib]
  refine Finset.sum_congr rfl fun k _ => ?_
  rcases lt_trichotomy k j with h | h | h
  · rw [if_pos (by omega), if_pos (by omega), if_neg (by omega), add_zero]
  · subst h
    rw [if_pos (by omega), if_neg (by omega), if_pos rfl, zero_add]
  · rw [if_neg (by omega), if_neg (by omega), if_neg (by omega), zero_add]

theorem upto_all {M : Type} [AddCommMonoid M] (i : Fin 8) (f : Fin 8 → M) (h : ∀ j, i < j → f j = 0) :
    upto (i.val + 1) f = ∑ j, f j := by
  unfold upto
  refine Finset.sum_congr rfl fun j _ => ?_
  by_cases hj : j.val < i.val + 1
  · rw [if_pos hj]
  · rw [if_neg hj, h j (by omega)]

/-- The three tiles a head carries over the blocks. -/
abbrev Carry : Type := FVec Ideal S256x1 .f32 × FVec Ideal S256x1 .f32 × FVec Ideal S256x128 .f32

/-- What one head gives at row `r` and lane `d`: the weighted mean of the values over the keys it may see. -/
theorem head_value (i : Fin 8) (st : ℕ → Carry) (qe : FVec Ideal S256x128 .bf16) (sel : FVec Ideal S256x8 .f32) (slope : Ideal .f32)
    (x2 x3 : Vec Ideal S1x2048x128 .bf16) (r : Fin 256) (d : Fin 128)
    (h0 : st 0 = (k0_pay42, k0_pay43, k0_pay44 (Scalar.ofBits .f32 0x00000000#32)))
    (hst : ∀ j : Fin 8, j < i → st (j.val + 1) = (tM (st j.val).1 (pastTile qe x2 sel slope i j),
      tL (st j.val).1 (st j.val).2.1 (pastTile qe x2 sel slope i j),
      tA (st j.val).1 (st j.val).2.2 (pastTile qe x2 sel slope i j) (kv x3 j)))
    (hsel : ∀ j, sel (ix2 r j) = 0 ∨ sel (ix2 r j) = 1)
    (hS : ∀ j c, score qe x2 sel slope i r j c ≠ ⊤) (hd : score qe x2 sel slope i r i r ≠ ⊥) :
    tdiv (tL (st i.val).1 (st i.val).2.1 (tdiag qe (kv x2 i) (k0_pay41 k0_pay31 slope)))
        (tA (st i.val).1 (st i.val).2.2 (tdiag qe (kv x2 i) (k0_pay41 k0_pay31 slope)) (kv x3 i)) (ix2 r d)
      = (∑ j : Fin 8, ∑ c : Fin 256, ((wt (score qe x2 sel slope i r j c) : ℝ) : EReal) * x3 (ix3 0 (rowOf j c) d))
        * (((∑ j : Fin 8, ∑ c : Fin 256, wt (score qe x2 sel slope i r j c))⁻¹ : ℝ) : EReal) := by
  set S := score qe x2 sel slope i r with hSdef
  have key : ∀ n : ℕ, n ≤ i.val → Inv ((st n).1 (ix2 r 0)) ((st n).2.1 (ix2 r 0)) ((st n).2.2 (ix2 r d))
      (upto n fun j => ∑ c, wt (S j c))
      (upto n fun j => ∑ c : Fin 256, ((wt (S j c) : ℝ) : EReal) * x3 (ix3 0 (rowOf j c) d)) := by
    intro n
    induction n with
    | zero =>
      intro _
      rw [h0, upto_zero, upto_zero]
      have e1 : k0_pay42 (F := Ideal) (ix2 r 0) = ((-(13234890 * 2 ^ 76) : ℝ) : EReal) := by
        pointwise [k0_pay42]
        exact ofBits_init
      have e2 : k0_pay43 (F := Ideal) (ix2 r 0) = 0 := by pointwise [k0_pay43]
      have e3 : k0_pay44 (F := Ideal) (Scalar.ofBits .f32 0x00000000#32) (ix2 r d) = 0 := by pointwise [k0_pay44]
      show Inv (k0_pay42 (F := Ideal) (ix2 r 0)) (k0_pay43 (F := Ideal) (ix2 r 0))
        (k0_pay44 (F := Ideal) (Scalar.ofBits .f32 0x00000000#32) (ix2 r d)) 0 0
      rw [e1, e2, e3]
      exact Flash.inv_init _
    | succ n ih =>
      intro hn
      have hj : (⟨n, by omega⟩ : Fin 8) < i := by rw [Fin.lt_def]; exact hn
      have := inv_tile (ih (by omega)) (pastTile qe x2 sel slope i ⟨n, by omega⟩) (kv x3 ⟨n, by omega⟩) (S ⟨n, by omega⟩)
        (fun c => read_pastTile qe x2 sel slope i _ hj r c (hsel _)) (fun c => hS _ c)
      rw [hst ⟨n, by omega⟩ hj, upto_succ ⟨n, by omega⟩, upto_succ ⟨n, by omega⟩]
      exact this
  have h1 := inv_tile (key i.val le_rfl) (tdiag qe (kv x2 i) (k0_pay41 k0_pay31 slope)) (kv x3 i) (S i)
    (fun c => read_diagTile qe x2 sel slope i r c) (fun c => hS _ c)
  have hzero : ∀ j, i < j → ∀ c, wt (S j c) = 0 := fun j hj c => by
    rw [hSdef]
    unfold score
    rw [if_neg (not_lt.mpr hj.le), if_neg hj.ne', Flash.wt_bot]
  rw [← upto_succ i fun j => ∑ c, wt (S j c),
    upto_all i _ fun j hj => Finset.sum_eq_zero fun c _ => hzero j hj c] at h1
  have e := upto_succ i fun j => ∑ c : Fin 256, ((wt (S j c) : ℝ) : EReal) * x3 (ix3 0 (rowOf j c) d)
  simp only [read_kv] at h1
  rw [← e, upto_all i _ fun j hj => Finset.sum_eq_zero fun c _ => by rw [hzero j hj c, EReal.coe_zero, zero_mul]] at h1
  rw [read_tdiv]
  refine Flash.inv_div h1 ?_
  have hle : wt (S i r) ≤ ∑ j, ∑ c, wt (S j c) :=
    (Finset.single_le_sum (f := fun c => wt (S i c)) (fun c _ => Flash.wt_nonneg _) (Finset.mem_univ r)).trans
      (Finset.single_le_sum (f := fun j => ∑ c, wt (S j c)) (fun j _ => Finset.sum_nonneg fun c _ => Flash.wt_nonneg _)
        (Finset.mem_univ i))
  exact lt_of_lt_of_le (Flash.wt_pos hd) hle

end Cert.MobaTile

end
-- ==== Proof.Block.lean ====
module

public import proofs.«01_k».proof.Proof.Gen.MobaIdeal.Value
public import proofs.«01_k».proof.Proof.Head

@[expose] public section

set_option maxRecDepth 16384

noncomputable section

/-! What one grid point of the block attention writes, row by row and lane by lane. -/

namespace Cert.MobaBlock

open Idealize.ShloMosaic Idealize.ShloMosaic.Tactic Idealize.ShloMosaic.TcCoe Idealize.SL.Sem
open Cert.MobaIdeal Cert.MobaIdeal.Gen Cert.MobaTile

/-- The main loops make as many trips as there are earlier blocks. -/
theorem trips_main : ∀ n : Fin 8, Scf.trips (0#32) (Scalar.addi (0#32) (Scalar.muli (Scalar.divsi
    (Scalar.subi (BitVec.ofNat 32 n.val) 0#32) 1#32) 1#32)) 1#32 = n.val := by decide +kernel

/-- The remainder loops make no trip. -/
theorem trips_rest : ∀ n : Fin 8, Scf.trips (Scalar.addi (0#32) (Scalar.muli (Scalar.divsi
    (Scalar.subi (BitVec.ofNat 32 n.val) 0#32) 1#32) 1#32)) (Scalar.addi (0#32) (Scalar.subi (BitVec.ofNat 32 n.val) 0#32)) 1#32 = 0 := by
  decide +kernel

/-- The loop variable of trip `j`. -/
theorem iv_eq : ∀ j : Fin 8, Scf.iv (0#32) (1#32) j.val = BitVec.ofNat 32 j.val := by decide +kernel

/-- The offset of block `j`. -/
theorem off_eq : ∀ j : Fin 8, (Scalar.indexCast (Scalar.muli (BitVec.ofNat 32 j.val) 256#32)).toNat = 256 * j.val := by decide +kernel

/-- The distance between two blocks, in rows. -/
theorem dist_eq : ∀ i j : Fin 8, j < i →
    Scalar.muli (Scalar.subi (BitVec.ofNat 32 i.val) (BitVec.ofNat 32 j.val)) 256#32 = BitVec.ofNat 32 ((i.val - j.val) * 256) := by
  decide +kernel

/-- A load of block `j` of the resident keys or values. -/
theorem ld_block (x : Vec Ideal S1x2048x128 .bf16) (j : Fin 8) (off : Fin 3 → Nat) (h : off = ![0, 256 * j.val, 0])
    (inb : ∀ a : Fin S1x2048x128.rank, off a + S1x256x128.size a ≤ S1x2048x128.size a) :
    View.ld x (Rect.unit (s := S1x2048x128) off S1x256x128.size inb) = kv x j := by
  subst h
  funext y
  show x ((Rect.unit (s := S1x2048x128) _ S1x256x128.size inb).idx y) = _
  unfold kv
  congr 1
  funext a
  apply Fin.ext
  fin_cases a
  · have : (y 0).val < 1 := (y 0).isLt
    show 0 + 1 * (y 0).val = 0
    omega
  · show 256 * j.val + 1 * (y 1).val = 256 * j.val + (y 1).val
    omega
  · show 0 + 1 * (y 2).val = (y 2).val
    omega

/-- One trip's scores, in the words of the loop. -/
theorem past_words (i j : Fin 8) (h : j < i) (qe : FVec Ideal S256x128 .bf16) (x2 : Vec Ideal S1x2048x128 .bf16)
    (sel : FVec Ideal S256x8 .f32) (slope : Ideal .f32) :
    tpast qe (kv x2 j) (k0_pay41 k0_pay31 slope)
        (Scalar.mulf slope (Scalar.sitofp .f32 (Scalar.muli (Scalar.subi (BitVec.ofNat 32 i.val) (BitVec.ofNat 32 j.val)) 256#32)))
        sel (Scalar.sitofp .f32 (BitVec.ofNat 32 j.val))
      = pastTile qe x2 sel slope i j := by
  have e1 : (Scalar.sitofp .f32 (BitVec.ofNat 32 j.val) : Ideal .f32) = Top3.col j := sitofp_nat _ (by omega)
  have e2 : (Scalar.sitofp .f32 (BitVec.ofNat 32 ((i.val - j.val) * 256)) : Ideal .f32)
      = ((((i.val : ℝ) - j.val) * 256 : ℝ) : EReal) := by
    refine (sitofp_nat _ (by omega)).trans ?_
    rw [Nat.cast_mul, Nat.cast_sub (Fin.lt_def.mp h).le]
    norm_cast
  rw [dist_eq i j h, e1, e2]
  rfl

/-- One trip of head 0's main loop. -/
theorem trip1 (𝒱 : Variants) (c : Dev nD) (bd : Option 𝒱.V) (i : grid0.Coords) (arg3 : Memref sig .tc .smem S8 .f32) (harg3 : arg3.IsWhole) (arg4 : Memref sig .tc .vmem S1x256x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x8x128 .bf16) (harg7 : arg7.IsWhole) (arg8 : Memref sig .tc .vmem S1x256x128 .bf16) (harg8 : arg8.IsWhole)
    (qe : FVec Ideal S256x128 .bf16) (slope : Elt Ideal .f32) (sel : FVec Ideal S256x8 .f32) (v82 v83 : FVec Ideal S256x1 .f32) (z : Ideal .f32) (x2 x3 : Vec Ideal S1x2048x128 .bf16) (j : Fin 8) (h : j < i 2) (hk : j.val < (k0_t1_loop i).trips) (acc : Carry) :
    tripR_k0_t1 (F := Ideal) 𝒱 c bd i arg3 harg3 arg4 harg4 arg5 harg5 arg6 harg6 arg7 harg7 arg8 harg8 (BitVec.ofNat 32 (i 2).val) k0_pay31 k0_pay32 qe slope sel (k0_pay41 k0_pay31 slope) v82 v83 z (harg5.unread x2) (harg6.unread x3) ⟨j.val, hk⟩ acc
      = (tM acc.1 (pastTile qe x2 sel slope (i 2) j),
        tL acc.1 acc.2.1 (pastTile qe x2 sel slope (i 2) j),
        tA acc.1 acc.2.2 (pastTile qe x2 sel slope (i 2) j) (kv x3 j)) := by
  have ho : k0_off2 i ⟨j.val, hk⟩ = ![0, 256 * j.val, 0] := by
    unfold k0_off2
    dsimp only
    rw [iv_eq, off_eq]
  have hw := past_words (i 2) j h qe x2 sel slope
  rw [← iv_eq j] at hw
  unfold tripR_k0_t1 trip_k0_t1
  dsimp only
  sl_unfold_run_names
  simp only [View.readAt_eq_ld, harg5.read_unread, harg6.read_unread]
  rw [ld_block x2 j _ ho, ld_block x3 j _ ho, ← hw]
  rfl

/-- One trip of head 1's main loop. -/
theorem trip3 (𝒱 : Variants) (c : Dev nD) (bd : Option 𝒱.V) (i : grid0.Coords) (arg3 : Memref sig .tc .smem S8 .f32) (harg3 : arg3.IsWhole) (arg4 : Memref sig .tc .vmem S1x256x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x8x128 .bf16) (harg7 : arg7.IsWhole) (arg8 : Memref sig .tc .vmem S1x256x128 .bf16) (harg8 : arg8.IsWhole)
    (qe : FVec Ideal S256x128 .bf16) (slope : Elt Ideal .f32) (v159 v161 : FVec Ideal S256x8 .f32) (v163 : FVec Ideal S256x1 .f32) (v168 : FVec Ideal S256 .f32) (x2 x3 : Vec Ideal S1x2048x128 .bf16) (j : Fin 8) (h : j < i 2) (hk : j.val < (k0_t3_loop i).trips) (acc : Carry) :
    tripR_k0_t3 (F := Ideal) 𝒱 c bd i arg3 harg3 arg4 harg4 arg5 harg5 arg6 harg6 arg7 harg7 arg8 harg8 (BitVec.ofNat 32 (i 2).val) k0_pay31 k0_pay32 qe slope v159 v161 v163 v168 (harg5.unread x2) (harg6.unread x3) ⟨j.val, hk⟩ acc
      = (tM acc.1 (pastTile qe x2 (k0_pay56 k0_pay32 v159 v161 v163 v168) slope (i 2) j),
        tL acc.1 acc.2.1 (pastTile qe x2 (k0_pay56 k0_pay32 v159 v161 v163 v168) slope (i 2) j),
        tA acc.1 acc.2.2 (pastTile qe x2 (k0_pay56 k0_pay32 v159 v161 v163 v168) slope (i 2) j) (kv x3 j)) := by
  have ho : k0_off5 i ⟨j.val, hk⟩ = ![0, 256 * j.val, 0] := by
    unfold k0_off5
    dsimp only
    rw [iv_eq, off_eq]
  have hw := past_words (i 2) j h qe x2 (k0_pay56 k0_pay32 v159 v161 v163 v168) slope
  rw [← iv_eq j] at hw
  unfold tripR_k0_t3 trip_k0_t3
  dsimp only
  sl_unfold_run_names
  simp only [View.readAt_eq_ld, harg5.read_unread, harg6.read_unread]
  rw [ld_block x2 j _ ho, ld_block x3 j _ ho, ← hw]
  rfl

/-- The queries of the lower head of a pair: zero on the upper lanes. -/
def qe0 (x1 : Vec Ideal S1x256x128 .bf16) : FVec Ideal S256x128 .bf16 := k0_pay34 x1

/-- The queries of the upper head of a pair: zero on the lower lanes. -/
def qe1 (x1 : Vec Ideal S1x256x128 .bf16) : FVec Ideal S256x128 .bf16 :=
  k0_pay48 (k0_pay30 x1) (iota .tc S256x128 32 [1] iota_S256x128_d1_w32) 64#32

/-- The marks of a head. -/
def marks (qe : FVec Ideal S256x128 .bf16) (x4 : Vec Ideal S1x8x128 .bf16) (i : Fin 8) : FVec Ideal S256x8 .f32 :=
  ttop (tgate qe x4 (((i.val : ℕ) : ℝ) : EReal))

/-- The slope of head `e` of pair `p`. -/
def slopeAt (x0 : Vec Ideal S8 .f32) (p : Fin 4) (e : Fin 2) : EReal := x0 (ix1 ⟨2 * p.val + e.val, by omega⟩)

/-- A mark is zero or one. -/
theorem marks_01 (qe : FVec Ideal S256x128 .bf16) (x4 : Vec Ideal S1x8x128 .bf16) (i : Fin 8) (r : Fin 256) (j : Fin 8) :
    marks qe x4 i (ix2 r j) = 0 ∨ marks qe x4 i (ix2 r j) = 1 := by
  unfold marks
  rw [read_ttop]
  have := Top3.sel_spec (fun n => tgate qe x4 (((i.val : ℕ) : ℝ) : EReal) (ix2 r n)) j
  by_cases h : ⊥ < tgate qe x4 (((i.val : ℕ) : ℝ) : EReal) (ix2 r j) ∧ Top3.rank (fun n => tgate qe x4 (((i.val : ℕ) : ℝ) : EReal) (ix2 r n)) j < 3
  · exact Or.inr (this.1 h)
  · exact Or.inl (this.2 h)

/-- A head's weighted mean of the values. -/
def mean (qe : FVec Ideal S256x128 .bf16) (x4 : Vec Ideal S1x8x128 .bf16) (slope : EReal) (i : Fin 8)
    (x2 x3 : Vec Ideal S1x2048x128 .bf16) (r : Fin 256) (d : Fin 128) : EReal :=
  (∑ j : Fin 8, ∑ c : Fin 256, ((Flash.wt (score qe x2 (marks qe x4 i) slope i r j c) : ℝ) : EReal) * x3 (ix3 0 (rowOf j c) d))
    * (((∑ j : Fin 8, ∑ c : Fin 256, Flash.wt (score qe x2 (marks qe x4 i) slope i r j c))⁻¹ : ℝ) : EReal)

theorem slope_off : ∀ (p : Fin 4) (e : Fin 2),
    BitVec.toNat (Scalar.indexCast (Scalar.addi (Scalar.muli (2#32) (BitVec.ofNat 32 p.val)) (BitVec.ofNat 32 e.val))) = 2 * p.val + e.val := by
  decide +kernel

/-- The scalar load of a slope. -/
theorem ld_slope (x : Vec Ideal S8 .f32) (i : grid0.Coords) (e : Fin 2) (w : BitVec 32) (hw : w = BitVec.ofNat 32 e.val)
    (inb : ∀ a : Fin S8.rank, k0_off1 i w a + S1.size a ≤ S8.size a)
    (hp : 0 < (Rect.unit (s := S8) (k0_off1 i w) S1.size inb).shape.numel) :
    View.ld x (Rect.unit (s := S8) (k0_off1 i w) S1.size inb) (Shape.Idx.first hp) = slopeAt x (i 1) e := by
  subst hw
  unfold slopeAt
  show x ((Rect.unit (s := S8) _ S1.size inb).idx _) = _
  congr 1
  funext a
  apply Fin.ext
  fin_cases a
  have h1 := ((Shape.Idx.first hp) 0).isLt
  have h2 : ((Shape.Idx.first hp) 0).val < 1 := h1
  show BitVec.toNat (Scalar.indexCast (Scalar.addi (Scalar.muli (2#32) (BitVec.ofNat 32 (i 1).val)) (BitVec.ofNat 32 e.val)))
    + 1 * ((Shape.Idx.first hp) 0).val = 2 * (i 1).val + e.val
  rw [slope_off (i 1) e]
  omega

theorem lane_lt : ∀ d : Fin 128, IntOp.cmpi .slt (BitVec.ofNat 32 d.val) 64#32 = BitVec.ofBool (decide (d.val < 64)) := by decide +kernel

/-- The store of a grid point: the lower head's quotient on the lower lanes, the upper head's above. -/
theorem read_pay1 (out0 : FVec Ideal S256x128 .f32) (qe : FVec Ideal S256x128 .bf16) (sl : Ideal .f32)
    (m l : FVec Ideal S256x1 .f32) (acc : FVec Ideal S256x128 .f32) (k v : Vec Ideal S1x256x128 .bf16) (r : Fin 256) (d : Fin 128) :
    k0_pay1 (iota .tc S256x128 32 [1] iota_S256x128_d1_w32) k0_pay31 out0 qe (k0_pay57 k0_pay31 sl) m l acc k v (ix3 0 r d)
      = if d.val < 64 then out0 (ix2 r d)
        else tdiv (tL m l (tdiag qe k (k0_pay41 k0_pay31 sl))) (tA m acc (tdiag qe k (k0_pay41 k0_pay31 sl)) v) (ix2 r d) := by
  show (shapeCast S1x256x128 (truncf .bf16 (select (cmpi .slt (iota .tc S256x128 32 [1] iota_S256x128_d1_w32) (broadcast S256x128 64#32))
    out0 (tdiv (tL m l (tdiag qe k (k0_pay41 k0_pay31 sl))) (tA m acc (tdiag qe k (k0_pay41 k0_pay31 sl)) v))) bitsLt_bf16_f32)
    shapeCasts_S256x128_S1x256x128 : FVec Ideal S1x256x128 .bf16) (ix3 0 r d) = _
  generalize tdiv (tL m l (tdiag qe k (k0_pay41 k0_pay31 sl))) (tA m acc (tdiag qe k (k0_pay41 k0_pay31 sl)) v) = o1
  pointwise
  rw [lane_lt, select_ofBool]

/-- What a grid point writes at row `r` and lane `d`: the lower head's mean on the lower lanes, the upper head's above. -/
theorem out_value (c : Dev nD) (i : grid0.Coords) (arg3 : Memref sig .tc .smem S8 .f32) (harg3 : arg3.IsWhole) (arg4 : Memref sig .tc .vmem S1x256x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x8x128 .bf16) (harg7 : arg7.IsWhole) (arg8 : Memref sig .tc .vmem S1x256x128 .bf16) (harg8 : arg8.IsWhole)
    (x0 : Vec Ideal S8 .f32) (x1 : Vec Ideal S1x256x128 .bf16) (x2 x3 : Vec Ideal S1x2048x128 .bf16) (x4 : Vec Ideal S1x8x128 .bf16)
    (r : Fin 256) (d : Fin 128)
    (hS0 : ∀ j c, score (qe0 x1) x2 (marks (qe0 x1) x4 (i 2)) (slopeAt x0 (i 1) 0) (i 2) r j c ≠ ⊤)
    (hd0 : score (qe0 x1) x2 (marks (qe0 x1) x4 (i 2)) (slopeAt x0 (i 1) 0) (i 2) r (i 2) r ≠ ⊥)
    (hS1 : ∀ j c, score (qe1 x1) x2 (marks (qe1 x1) x4 (i 2)) (slopeAt x0 (i 1) 1) (i 2) r j c ≠ ⊤)
    (hd1 : score (qe1 x1) x2 (marks (qe1 x1) x4 (i 2)) (slopeAt x0 (i 1) 1) (i 2) r (i 2) r ≠ ⊥) :
    out0_A_5 c i arg3 harg3 arg4 harg4 arg5 harg5 arg6 harg6 arg7 harg7 arg8 harg8 x0 x1 x2 x3 x4 (ix3 0 r d)
      = if d.val < 64 then mean (qe0 x1) x4 (slopeAt x0 (i 1) 0) (i 2) x2 x3 r d
        else mean (qe1 x1) x4 (slopeAt x0 (i 1) 1) (i 2) x2 x3 r d := by
  have hz : (![0, 0, 0] : Fin 3 → Nat) = fun _ => 0 := by funext z; fin_cases z <;> rfl
  have hq : ∀ inb, View.ld x1 (Rect.unit (s := S1x256x128) ![0, 0, 0] ![1, 256, 128] inb) = x1 :=
    fun inb => View.ld_unit_zero (S := S1x256x128) hz inb x1
  have hm : ∀ inb, View.ld x4 (Rect.unit (s := S1x8x128) ![0, 0, 0] ![1, 8, 128] inb) = x4 :=
    fun inb => View.ld_unit_zero (S := S1x8x128) hz inb x4
  have htr : (k0_t1_loop i).trips = (i 2).val := trips_main (i 2)
  have htr3 : (k0_t3_loop i).trips = (i 2).val := trips_main (i 2)
  unfold out0_A_5
  rw [View.read_writes_eq_canon _ _ _ (cover0_A_5 c i arg3 harg3 arg4 harg4 arg5 harg5 arg6 harg6 arg7 harg7 arg8 harg8 x0 x1 x2 x3 x4)]
  unfold kernelRun0_A
  dsimp only
  rw [View.canon_unit_zero hz]
  sl_unfold_run_names
  simp only [View.readAt_eq_ld, harg3.read_unread, harg4.read_unread, harg5.read_unread, harg6.read_unread, harg7.read_unread,
    hq, hm, trips_main (i 2), trips_rest (i 2), st_k0_t2_zero, st_k0_t4_zero]
  have hk : ∀ (x : Vec Ideal S1x2048x128 .bf16) inb, View.ld x (Rect.unit (s := S1x2048x128) (k0_off4 i) ![1, 256, 128] inb) = kv x (i 2) :=
    fun x inb => ld_block x (i 2) _ (by unfold k0_off4; dsimp only; rw [off_eq (i 2)]) inb
  have hl0 : ∀ inb hp, View.ld x0 (Rect.unit (s := S8) (k0_off1 i 0#32) ![1] inb) (Shape.Idx.first hp) = slopeAt x0 (i 1) 0 :=
    fun inb hp => ld_slope x0 i 0 0#32 rfl inb hp
  have hl1 : ∀ inb hp, View.ld x0 (Rect.unit (s := S8) (k0_off1 i 1#32) ![1] inb) (Shape.Idx.first hp) = slopeAt x0 (i 1) 1 :=
    fun inb hp => ld_slope x0 i 1 1#32 rfl inb hp
  simp only [hl0, hl1]
  simp only [hk]
  have h33 : (k0_pay33 i : Ideal .f32) = (((i 2).val : ℝ) : EReal) :=
    sitofp_nat _ (lt_trans (show (i 2).val < 8 from (i 2).isLt) (by norm_num))
  rw [read_pay1]
  refine if_congr Iff.rfl ?_ ?_
  · have hs0 : k0_pay40 k0_pay32 (k0_pay35 i x1 x4) k0_pay36 (k0_pay38 i x1 x4) (k0_pay39 i x1 x4) = marks (qe0 x1) x4 (i 2) := by
      rw [pay40_eq, h33]; rfl
    rw [hs0]
    exact head_value (i 2) (st_k0_t1 Variants.none c none i arg3 harg3 arg4 harg4 arg5 harg5 arg6 harg6 arg7 harg7 arg8 harg8 (BitVec.ofNat 32 (i 2).val) k0_pay31 k0_pay32 (qe0 x1)
      (slopeAt x0 (i 1) 0) (marks (qe0 x1) x4 (i 2)) (k0_pay41 k0_pay31 (slopeAt x0 (i 1) 0)) k0_pay42 k0_pay43
      (FloatOps.ofBits .f32 0#32) (harg5.unread x2) (harg6.unread x3) (k0_pay42, k0_pay43, k0_pay44 (FloatOps.ofBits .f32 0#32)))
      (qe0 x1) (marks (qe0 x1) x4 (i 2)) (slopeAt x0 (i 1) 0) x2 x3 r d rfl
      (fun j hj => (st_k0_t1_succ _ _ _ _ _ _ _ _ _ _ _ _ _ _ _ _ _ _ _ _ _ _ _ _ _ _ _ _ _ ⟨j.val, by rw [htr]; exact hj⟩).trans
        (trip1 _ _ _ _ _ _ _ _ _ _ _ _ _ _ _ _ _ _ _ _ _ _ _ _ j hj _ _))
      (marks_01 _ _ _ r) hS0 hd0
  · have hs1 : k0_pay56 k0_pay32 (k0_pay52 (k0_pay30 x1) (iota .tc S256x128 32 [1] iota_S256x128_d1_w32) k0_pay32 (k0_pay33 i) 64#32 x4)
        (k0_pay53 (k0_pay30 x1) (iota .tc S256x128 32 [1] iota_S256x128_d1_w32) k0_pay32 (k0_pay33 i) 64#32 x4)
        (k0_pay54 (k0_pay30 x1) (iota .tc S256x128 32 [1] iota_S256x128_d1_w32) k0_pay32 (k0_pay33 i) 64#32 x4)
        (k0_pay55 (k0_pay30 x1) (iota .tc S256x128 32 [1] iota_S256x128_d1_w32) k0_pay32 (k0_pay33 i) 64#32 x4)
          = marks (qe1 x1) x4 (i 2) := by
      rw [pay56_eq, h33]; rfl
    refine head_value (i 2) (st_k0_t3 Variants.none c none i arg3 harg3 arg4 harg4 arg5 harg5 arg6 harg6 arg7 harg7 arg8 harg8 (BitVec.ofNat 32 (i 2).val) k0_pay31 k0_pay32 (qe1 x1)
      (slopeAt x0 (i 1) 1) (k0_pay52 (k0_pay30 x1) (iota .tc S256x128 32 [1] iota_S256x128_d1_w32) k0_pay32 (k0_pay33 i) 64#32 x4)
        (k0_pay53 (k0_pay30 x1) (iota .tc S256x128 32 [1] iota_S256x128_d1_w32) k0_pay32 (k0_pay33 i) 64#32 x4)
        (k0_pay54 (k0_pay30 x1) (iota .tc S256x128 32 [1] iota_S256x128_d1_w32) k0_pay32 (k0_pay33 i) 64#32 x4)
        (k0_pay55 (k0_pay30 x1) (iota .tc S256x128 32 [1] iota_S256x128_d1_w32) k0_pay32 (k0_pay33 i) 64#32 x4)
      (harg5.unread x2) (harg6.unread x3) (k0_pay58, k0_pay59, k0_pay60))
      (qe1 x1) (marks (qe1 x1) x4 (i 2)) (slopeAt x0 (i 1) 1) x2 x3 r d rfl
      (fun j hj => ?_) (marks_01 _ _ _ r) hS1 hd1
    refine (st_k0_t3_succ _ _ _ _ _ _ _ _ _ _ _ _ _ _ _ _ _ _ _ _ _ _ _ _ _ _ _ _ ⟨j.val, by rw [htr3]; exact hj⟩).trans ?_
    refine (trip3 _ _ _ _ _ _ _ _ _ _ _ _ _ _ _ _ _ _ _ _ _ _ _ _ j hj _ _).trans ?_
    rw [hs1]

end Cert.MobaBlock

end
-- ==== Proof.Spec.lean ====
module

public import proofs.«01_k».proof.Proof.Flash
public import proofs.«01_k».proof.Proof.Top3

@[expose] public section

noncomputable section

/-! The block-sparse attention of one head as a formula of the queries, keys, values and block means. -/

namespace Cert.MobaSpec

open Idealize.ShloMosaic Cert.Flash

/-- Lane `e` of head `h`. -/
def lane (h : Fin 8) (e : Fin 64) : Fin 512 := ⟨64 * h.val + e.val, by omega⟩

/-- The block of a row. -/
def blk (t : Fin 2048) : Fin 8 := ⟨t.val / 256, by omega⟩

/-- The head of a lane. -/
def headOf (n : Fin 512) : Fin 8 := ⟨n.val / 64, by omega⟩

variable (q k v : Fin 8 → Fin 2048 → Fin 512 → EReal) (km : Fin 8 → Fin 8 → Fin 512 → EReal) (sl : Fin 8 → EReal)

/-- How well block `j` suits row `t`: only earlier blocks compete. -/
def gate (b h : Fin 8) (t : Fin 2048) (j : Fin 8) : EReal :=
  if j < blk t then ∑ e : Fin 64, q b t (lane h e) * km b j (lane h e) else ⊥

/-- Block `j` is one of the three best earlier blocks. -/
def Chosen (b h : Fin 8) (t : Fin 2048) (j : Fin 8) : Prop := ⊥ < gate q km b h t j ∧ Top3.rank (gate q km b h t) j < 3

/-- The score before the mask. -/
def raw (b h : Fin 8) (t u : Fin 2048) : EReal :=
  (∑ e : Fin 64, q b t (lane h e) * k b u (lane h e)) * ((1 / 8 : ℝ) : EReal) - sl h * (((t.val : ℝ) - u.val : ℝ) : EReal)

/-- Row `t` attends to row `u`. -/
def Keep (b h : Fin 8) (t u : Fin 2048) : Prop := Chosen q km b h t (blk u) ∨ (blk u = blk t ∧ u ≤ t)

open Classical in
/-- The score. -/
def score (b h : Fin 8) (t u : Fin 2048) : EReal := if Keep q km b h t u then raw q k sl b h t u else ⊥

/-- The result at row `t` and lane `n` of batch `b`. -/
def out (b : Fin 8) (t : Fin 2048) (n : Fin 512) : EReal :=
  (∑ u : Fin 2048, (wt (score q k km sl b (headOf n) t u) : EReal) * v b u n)
    * (((∑ u : Fin 2048, wt (score q k km sl b (headOf n) t u))⁻¹ : ℝ) : EReal)

/-- A later block is never chosen. -/
theorem lt_of_chosen {b h : Fin 8} {t : Fin 2048} {j : Fin 8} (hc : Chosen q km b h t j) : j < blk t := by
  by_contra hn
  have := hc.1
  unfold gate at this
  rw [if_neg hn] at this
  exact lt_irrefl _ this

variable {q k sl}

/-- A sum of products of reals is real. -/
theorem dot_real (f g : Fin 64 → EReal) (hf : ∀ e, ∃ x : ℝ, f e = x) (hg : ∀ e, ∃ x : ℝ, g e = x) :
    ∃ x : ℝ, ∑ e, f e * g e = x := by
  choose F hF using hf
  choose G hG using hg
  refine ⟨∑ e, F e * G e, ?_⟩
  rw [← coe_sum]
  exact Finset.sum_congr rfl fun e _ => by rw [hF, hG, EReal.coe_mul]

/-- With finite queries, keys and slopes the scores before the mask are real. -/
theorem raw_real (hq : ∀ b t n, ∃ x : ℝ, q b t n = x) (hk : ∀ b t n, ∃ x : ℝ, k b t n = x) (hs : ∀ h, ∃ x : ℝ, sl h = x)
    (b h : Fin 8) (t u : Fin 2048) : ∃ x : ℝ, raw q k sl b h t u = x := by
  obtain ⟨x, hx⟩ := dot_real (fun e => q b t (lane h e)) (fun e => k b u (lane h e)) (fun e => hq _ _ _) (fun e => hk _ _ _)
  obtain ⟨s, hs⟩ := hs h
  refine ⟨x * (1 / 8) - s * ((t.val : ℝ) - u.val), ?_⟩
  unfold raw
  rw [hx, hs]
  push_cast
  rfl

theorem score_ne_top (hq : ∀ b t n, ∃ x : ℝ, q b t n = x) (hk : ∀ b t n, ∃ x : ℝ, k b t n = x) (hs : ∀ h, ∃ x : ℝ, sl h = x)
    (b h : Fin 8) (t u : Fin 2048) : score q k km sl b h t u ≠ ⊤ := by
  unfold score
  obtain ⟨x, hx⟩ := raw_real hq hk hs b h t u
  split
  · rw [hx]; exact EReal.coe_ne_top x
  · exact bot_ne_top

theorem score_self (hq : ∀ b t n, ∃ x : ℝ, q b t n = x) (hk : ∀ b t n, ∃ x : ℝ, k b t n = x) (hs : ∀ h, ∃ x : ℝ, sl h = x)
    (b h : Fin 8) (t : Fin 2048) : score q k km sl b h t t ≠ ⊥ := by
  unfold score
  obtain ⟨x, hx⟩ := raw_real hq hk hs b h t t
  rw [if_pos (show Keep q km b h t t from Or.inr ⟨rfl, le_refl _⟩), hx]
  exact EReal.coe_ne_bot x

end Cert.MobaSpec
-- ==== Proof.Lanes.lean ====
module

public import proofs.«01_k».proof.Proof.Block
public import proofs.«01_k».proof.Proof.Spec

@[expose] public section

set_option maxRecDepth 16384

noncomputable section

/-! The value of one head of a block, from its lanes to the formula. -/

namespace Cert.MobaBlock

open Idealize.ShloMosaic Idealize.ShloMosaic.Tactic Idealize.ShloMosaic.TcCoe Idealize.SL.Sem
open Cert.MobaIdeal Cert.MobaIdeal.Gen Cert.MobaTile Cert.Flash Cert.MobaSpec

/-- A sum by rows of equal length. -/
theorem sum_split {M : Type} [AddCommMonoid M] (a n N : ℕ) (h : a * n = N) (hb : ∀ (x : Fin a) (y : Fin n), n * x.val + y.val < N)
    (f : Fin N → M) : ∑ k, f k = ∑ x : Fin a, ∑ y : Fin n, f ⟨n * x.val + y.val, hb x y⟩ := by
  subst h
  rw [← finProdFinEquiv.sum_comp, Fintype.sum_prod_type]
  refine Finset.sum_congr rfl fun x _ => Finset.sum_congr rfl fun y _ => congrArg f (Fin.ext ?_)
  exact Nat.add_comm _ _

/-- Lane `k` of pair `p`. -/
def plane (p : Fin 4) (k : Fin 128) : Fin 512 := ⟨128 * p.val + k.val, by omega⟩

/-- Head `e` of pair `p`. -/
def phead (p : Fin 4) (e : Fin 2) : Fin 8 := ⟨2 * p.val + e.val, by omega⟩

/-- A sum over the lanes of a pair, when the others are zero, is the sum over one head's lanes. -/
theorem half_sum (p : Fin 4) (e : Fin 2) (f g : Fin 512 → EReal) :
    ∑ k : Fin 128, (if k.val / 64 = e.val then f (plane p k) else 0) * g (plane p k)
      = ∑ x : Fin 64, f (lane (phead p e) x) * g (lane (phead p e) x) := by
  rw [sum_split 2 64 128 rfl (fun x y => by omega), Finset.sum_eq_single e]
  · refine Finset.sum_congr rfl fun y _ => ?_
    rw [if_pos (by show (64 * e.val + y.val) / 64 = _; omega)]
    have : plane p ⟨64 * e.val + y.val, by omega⟩ = lane (phead p e) y := Fin.ext (by simp only [plane, lane, phead]; omega)
    rw [this]
  · intro x _ hx
    refine Finset.sum_eq_zero fun y _ => ?_
    rw [if_neg (by show ¬ (64 * x.val + y.val) / 64 = _; have : x.val ≠ e.val := fun h => hx (Fin.ext h); omega), zero_mul]
  · intro h
    exact absurd (Finset.mem_univ e) h

theorem lane_ge : ∀ d : Fin 128, IntOp.cmpi .sge (BitVec.ofNat 32 d.val) 64#32 = BitVec.ofBool (decide (¬ d.val < 64)) := by decide +kernel

theorem read_qe0 (x1 : Vec Ideal S1x256x128 .bf16) (r : Fin 256) (k : Fin 128) :
    qe0 x1 (ix2 r k) = if k.val / 64 = (0 : Fin 2).val then x1 (ix3 0 r k) else 0 := by
  unfold qe0
  pointwise [k0_pay34]
  rw [lane_lt, select_ofBool]
  pointwise [k0_pay30]
  refine if_congr ?_ rfl rfl
  show _ ↔ k.val / 64 = 0
  omega

theorem read_qe1 (x1 : Vec Ideal S1x256x128 .bf16) (r : Fin 256) (k : Fin 128) :
    qe1 x1 (ix2 r k) = if k.val / 64 = (1 : Fin 2).val then x1 (ix3 0 r k) else 0 := by
  unfold qe1
  pointwise [k0_pay48, k0_pay30]
  rw [lane_ge, select_ofBool]
  refine if_congr ?_ rfl rfl
  show _ ↔ k.val / 64 = 1
  omega

section head

variable {q k v : Fin 8 → Fin 2048 → Fin 512 → EReal} {km : Fin 8 → Fin 8 → Fin 512 → EReal} {sl : Fin 8 → EReal}
variable {b i : Fin 8} {p : Fin 4} {e : Fin 2}
variable {x2 x3 : Vec Ideal S1x2048x128 .bf16} {x4 : Vec Ideal S1x8x128 .bf16} {qe : FVec Ideal S256x128 .bf16} {slope : EReal}

theorem blk_rowOf (j : Fin 8) (c : Fin 256) : blk (rowOf j c) = j := Fin.ext (by simp only [blk, rowOf]; omega)

/-- The gate of a head of a block. -/
theorem tgate_eq (hqe : ∀ r d, qe (ix2 r d) = if d.val / 64 = e.val then q b (rowOf i r) (plane p d) else 0)
    (hx4 : ∀ j d, x4 (ix3 0 j d) = km b j (plane p d)) (r : Fin 256) (j : Fin 8) :
    tgate qe x4 ((i.val : ℝ) : EReal) (ix2 r j) = gate q km b (phead p e) (rowOf i r) j := by
  rw [read_tgate _ _ _ i.isLt]
  unfold gate
  rw [blk_rowOf]
  simp only [hqe, hx4, half_sum p e (q b (rowOf i r)) (km b j)]
  rfl

/-- The marks of a head of a block. -/
theorem marks_eq (hqe : ∀ r d, qe (ix2 r d) = if d.val / 64 = e.val then q b (rowOf i r) (plane p d) else 0)
    (hx4 : ∀ j d, x4 (ix3 0 j d) = km b j (plane p d)) (r : Fin 256) (j : Fin 8) :
    marks qe x4 i (ix2 r j) = 1 ↔ Chosen q km b (phead p e) (rowOf i r) j := by
  unfold marks Chosen
  rw [read_ttop]
  have hg : (fun n => tgate qe x4 ((i.val : ℝ) : EReal) (ix2 r n)) = gate q km b (phead p e) (rowOf i r) :=
    funext fun n => tgate_eq hqe hx4 r n
  rw [hg]
  have h := Top3.sel_spec (gate q km b (phead p e) (rowOf i r)) j
  constructor
  · intro h1
    by_contra hn
    rw [h.2 hn] at h1
    exact zero_ne_one h1
  · exact h.1

/-- Two choices by equivalent conditions. -/
theorem ite_iff {P Q : Prop} {dP : Decidable P} {dQ : Decidable Q} {x y z : EReal} (h : P ↔ Q) (hx : x = y) :
    (if P then x else z) = if Q then y else z := by
  subst hx
  by_cases hP : P
  · rw [if_pos hP, if_pos (h.mp hP)]
  · rw [if_neg hP, if_neg fun hQ => hP (h.mpr hQ)]

/-- The scores of a head of a block. -/
theorem score_eq (hqe : ∀ r d, qe (ix2 r d) = if d.val / 64 = e.val then q b (rowOf i r) (plane p d) else 0)
    (hx2 : ∀ u d, x2 (ix3 0 u d) = k b u (plane p d)) (hx4 : ∀ j d, x4 (ix3 0 j d) = km b j (plane p d))
    (hsl : slope = sl (phead p e)) (hs : ∀ h, ∃ x : ℝ, sl h = x) (r : Fin 256) (j : Fin 8) (c : Fin 256) :
    MobaTile.score qe x2 (marks qe x4 i) slope i r j c = MobaSpec.score q k km sl b (phead p e) (rowOf i r) (rowOf j c) := by
  have hd : sdot qe x2 r j c = (∑ x : Fin 64, q b (rowOf i r) (lane (phead p e) x) * k b (rowOf j c) (lane (phead p e) x)) * ((1 / 8 : ℝ) : EReal) := by
    unfold sdot
    simp only [hqe, hx2, half_sum p e (q b (rowOf i r)) (k b (rowOf j c))]
  obtain ⟨s, hsv⟩ := hs (phead p e)
  unfold MobaTile.score MobaSpec.score Keep raw
  rw [hd, hsl, blk_rowOf, blk_rowOf]
  by_cases h1 : j < i
  · rw [if_pos h1]
    refine ite_iff (Iff.trans (marks_eq hqe hx4 r j) ?_) ?_
    · constructor
      · exact Or.inl
      · rintro (h | h)
        · exact h
        · exact absurd h.1 h1.ne
    · rw [hsv, ← EReal.coe_mul, ← EReal.coe_mul, ← EReal.coe_mul, ← EReal.coe_add]
      congr 2
      simp only [rowOf]
      push_cast
      ring
  · rw [if_neg h1]
    have hn : ¬ Chosen q km b (phead p e) (rowOf i r) j := fun h => h1 (by simpa only [blk_rowOf] using lt_of_chosen _ _ h)
    by_cases h2 : j = i
    · subst h2
      rw [if_pos rfl]
      refine ite_iff ?_ ?_
      · constructor
        · intro h
          exact Or.inr ⟨rfl, by simp only [rowOf, Fin.mk_le_mk, Fin.le_def] at h ⊢; omega⟩
        · rintro (h | h)
          · exact absurd h hn
          · have := h.2; simp only [rowOf, Fin.mk_le_mk, Fin.le_def] at this ⊢; omega
      · congr 3
        simp only [rowOf]
        push_cast
        ring
    · rw [if_neg h2, if_neg]
      rintro (h | h)
      · exact hn h
      · exact h2 h.1

/-- The mean of a head of a block. -/
theorem mean_eq (hqe : ∀ r d, qe (ix2 r d) = if d.val / 64 = e.val then q b (rowOf i r) (plane p d) else 0)
    (hx2 : ∀ u d, x2 (ix3 0 u d) = k b u (plane p d)) (hx3 : ∀ u d, x3 (ix3 0 u d) = v b u (plane p d))
    (hx4 : ∀ j d, x4 (ix3 0 j d) = km b j (plane p d))
    (hsl : slope = sl (phead p e)) (hs : ∀ h, ∃ x : ℝ, sl h = x) (r : Fin 256) (d : Fin 128) (hd : d.val / 64 = e.val) :
    mean qe x4 slope i x2 x3 r d = out q k v km sl b (rowOf i r) (plane p d) := by
  have hh : headOf (plane p d) = phead p e := Fin.ext (by simp only [headOf, plane, phead]; omega)
  unfold mean out
  rw [hh, sum_split 8 256 2048 rfl (fun x y => by omega), sum_split 8 256 2048 rfl (fun x y => by omega)]
  simp only [score_eq hqe hx2 hx4 hsl hs, hx3]
  rfl

end head

end Cert.MobaBlock
-- ==== Proof.Arr.lean ====
module

public import proofs.«01_k».proof.Proof.Lanes
public import Idealize.ShloMosaic.Lib.Claim
public import Idealize.ShloMosaic.Lib.Pipeline.ValueKit

@[expose] public section

set_option maxRecDepth 16384

noncomputable section

/-! The whole result array of the block attention. -/

namespace Cert.MobaBlock

open Idealize.ShloMosaic Idealize.ShloMosaic.Tactic Idealize.ShloMosaic.TcCoe Idealize.SL.Sem
open Cert.MobaIdeal Cert.MobaIdeal.Gen Cert.MobaTile Cert.Flash Cert.MobaSpec

/-- The slopes. -/
def slopeVec : FVec Ideal S8 .f32 :=
  Host.powf (broadcastInDim S8 ![] bcast_S_S8 (constant S_ .f32 0x40000000#32))
    (Host.divf (mulf (broadcastInDim S8 ![] bcast_S_S8 (constant S_ .f32 0xC1000000#32))
      (addf (broadcastInDim S8 ![] bcast_S_S8 (constant S_ .f32 0x3F800000#32)) (sitofp .f32 (iotaInDim S8 32 0))))
      (broadcastInDim S8 ![] bcast_S_S8 (constant S_ .f32 0x41000000#32)))

variable (m : (ℓ : Loc nD τ sig) → Buf (Elt Ideal) ℓ)

theorem V_slopes (c : Dev nD) : V m c main_v8 = slopeVec := by
  entry_read
  rfl

theorem idx : ∀ t : Fin cfg0.N, win0_0.index t = ![0]
    ∧ win0_1.index t = ![(grid0.coords t 0).val, (grid0.coords t 2).val, (grid0.coords t 1).val]
    ∧ win0_2.index t = ![(grid0.coords t 0).val, 0, (grid0.coords t 1).val]
    ∧ win0_3.index t = ![(grid0.coords t 0).val, 0, (grid0.coords t 1).val]
    ∧ win0_4.index t = ![(grid0.coords t 0).val, 0, (grid0.coords t 1).val]
    ∧ win0_5.index t = ![(grid0.coords t 0).val, (grid0.coords t 2).val, (grid0.coords t 1).val] :=
  (by decide +kernel : ∀ t : Fin grid0.N, _)

/-- The queries of the call. -/
def qA (c : Dev nD) (b : Fin 8) (t : Fin 2048) (n : Fin 512) : EReal := m ((c : Thread nD τ).loc main_arg0) (ix3 b t n)

/-- The keys of the call. -/
def kA (c : Dev nD) (b : Fin 8) (t : Fin 2048) (n : Fin 512) : EReal := m ((c : Thread nD τ).loc main_arg1) (ix3 b t n)

/-- The values of the call. -/
def vA (c : Dev nD) (b : Fin 8) (t : Fin 2048) (n : Fin 512) : EReal := m ((c : Thread nD τ).loc main_arg2) (ix3 b t n)

/-- The block means of the call. -/
def kmA (c : Dev nD) (b : Fin 8) (j : Fin 8) (n : Fin 512) : EReal := m ((c : Thread nD τ).loc main_arg3) (ix3 b j n)

/-- The slope of a head. -/
def slA (h : Fin 8) : EReal := slopeVec (ix1 h)

/-- The result array the formula gives. -/
def outA (c : Dev nD) : FVec Ideal S8x2048x512 .bf16 := fun y =>
  out (qA m c) (kA m c) (vA m c) (kmA m c) slA (y 0) (y 1) (y 2)

theorem blk1 (c : Dev nD) (t : Fin cfg0.N) (r : Fin 256) (d : Fin 128) :
    iblk m c 1 t (ix3 0 r d) = qA m c (grid0.coords t 0) (rowOf (grid0.coords t 2) r) (plane (grid0.coords t 1) d) := by
  unfold qA
  blk_ext [iblk, V, idx t, rowOf, plane]

theorem blk2 (c : Dev nD) (t : Fin cfg0.N) (u : Fin 2048) (d : Fin 128) :
    iblk m c 2 t (ix3 0 u d) = kA m c (grid0.coords t 0) u (plane (grid0.coords t 1) d) := by
  unfold kA
  blk_ext [iblk, V, idx t, plane]

theorem blk3 (c : Dev nD) (t : Fin cfg0.N) (u : Fin 2048) (d : Fin 128) :
    iblk m c 3 t (ix3 0 u d) = vA m c (grid0.coords t 0) u (plane (grid0.coords t 1) d) := by
  unfold vA
  blk_ext [iblk, V, idx t, plane]

theorem blk4 (c : Dev nD) (t : Fin cfg0.N) (j : Fin 8) (d : Fin 128) :
    iblk m c 4 t (ix3 0 j d) = kmA m c (grid0.coords t 0) j (plane (grid0.coords t 1) d) := by
  unfold kmA
  blk_ext [iblk, V, idx t, plane]

theorem blk0 (c : Dev nD) (t : Fin cfg0.N) (h : Fin 8) : iblk m c 0 t (ix1 h) = slA h := by
  unfold slA
  rw [← V_slopes m c]
  blk_ext [iblk, V, idx t]

theorem ofBits_two : Ideal.ofBits .f32 1073741824#32 = ((2 : ℝ) : EReal) := by
  simp [Ideal.ofBits, Ideal.ieee, -EReal.coe_mul]; norm_num

theorem ofBits_neg_eight : Ideal.ofBits .f32 3238002688#32 = ((-8 : ℝ) : EReal) := by
  simp [Ideal.ofBits, Ideal.ieee, -EReal.coe_mul]; norm_num

/-- The slopes are real numbers. -/
theorem slA_real (h : Fin 8) : ∃ x : ℝ, slA h = x := by
  unfold slA
  pointwise [slopeVec]
  rw [ofBits_two, ofBits_neg_eight, ofBits_eight, sitofp_nat _ (by omega), Ideal.div_coe (by norm_num), ← EReal.coe_one,
    ← EReal.coe_add, ← EReal.coe_mul, ← EReal.coe_mul, Ideal.pow_coe_coe]
  exact ⟨_, rfl⟩

/-- The result array, when queries and keys are finite. -/
theorem final_eq (c : Dev nD) (hq : ∀ b t n, ∃ x : ℝ, qA m c b t n = x) (hk : ∀ b t n, ∃ x : ℝ, kA m c b t n = x) :
    (dats m 0 c).arrAt 5 cfg0.N = outA m c := by
  refine (dats m 0 c).arrAt_eq_of_covers 5 _ (by decide +kernel) fun t hf y => ?_
  blk_simp
  rw [after0_5]
  obtain ⟨r, d, rfl⟩ : ∃ (r : Fin 256) (d : Fin 128), y = ix3 0 r d := by
    idx_vars y
    exact ⟨y1, y2, by rw [Subsingleton.elim y0 (0 : Fin 1)]⟩
  have hs := slA_real
  have h0 := fun r d => (read_qe0 (iblk m c 1 t) r d).trans (by rw [blk1])
  have h1 := fun r d => (read_qe1 (iblk m c 1 t) r d).trans (by rw [blk1])
  have l0 : slopeAt (iblk m c 0 t) (grid0.coords t 1) 0 = slA (phead (grid0.coords t 1) 0) := blk0 m c t _
  have l1 : slopeAt (iblk m c 0 t) (grid0.coords t 1) 1 = slA (phead (grid0.coords t 1) 1) := blk0 m c t _
  have s0 := score_eq h0 (blk2 m c t) (blk4 m c t) l0 hs
  have s1 := score_eq h1 (blk2 m c t) (blk4 m c t) l1 hs
  have m0 := mean_eq h0 (blk2 m c t) (blk3 m c t) (blk4 m c t) l0 hs r d
  have m1 := mean_eq h1 (blk2 m c t) (blk3 m c t) (blk4 m c t) l1 hs r d
  unfold outsAt0
  rw [out_value]
  · have e : outA m c ((win0_5.blk t).view.emb (ix3 0 r d))
        = out (qA m c) (kA m c) (vA m c) (kmA m c) slA (grid0.coords t 0) (rowOf (grid0.coords t 2) r) (plane (grid0.coords t 1) d) := by
      show outA m c _ = outA m c (ix3 (grid0.coords t 0) (rowOf (grid0.coords t 2) r) (plane (grid0.coords t 1) d))
      refine congrArg (outA m c) ?_
      blk_ext [idx t, rowOf, plane]
    rw [e]
    by_cases hd : d.val < 64
    · rw [if_pos hd, m0 (by show _ = 0; omega)]
    · rw [if_neg hd, m1 (by show _ = 1; omega)]
  · exact fun j cc h => score_ne_top _ hq hk hs _ _ _ _ ((s0 r j cc).symm.trans h)
  · exact fun h => score_self _ hq hk hs _ _ _ ((s0 r _ r).symm.trans h)
  · exact fun j cc h => score_ne_top _ hq hk hs _ _ _ _ ((s1 r j cc).symm.trans h)
  · exact fun h => score_self _ hq hk hs _ _ _ ((s1 r _ r).symm.trans h)

end Cert.MobaBlock
-- ==== Proof.Ref.lean ====
module

public import proofs.«01_k».proof.Proof.Gen.MobaRefIdeal.Run
public import proofs.«01_k».proof.Proof.Lanes
public import Idealize.ShloMosaic.Lib.Routing.OpsOrder
public import Idealize.ShloMosaic.Lib.Pointwise

@[expose] public section

set_option maxRecDepth 16384

noncomputable section

/-! The reference's block attention, read at a row and a lane. -/

namespace Cert.MobaRef

open Idealize.ShloMosaic Idealize.ShloMosaic.Tactic Idealize.ShloMosaic.TcCoe Idealize.SL.Sem
open Cert.MobaRefIdeal Cert.MobaRefIdeal.Gen Cert.MobaRefIdeal.Value Cert.Flash Cert.MobaSpec

/-- The block of each row. -/
def rBlk : IVec S2048 32 :=
  select (andi (cmpi .ne (signi (iotaInDim S2048 32 0)) (broadcastInDim S2048 ![] bcast_S_S2048 (signi (id (constantI S_ 32 256#32)))))
      (cmpi .ne (Host.remsi (iotaInDim S2048 32 0) (broadcastInDim S2048 ![] bcast_S_S2048 (id (constantI S_ 32 256#32))))
        (broadcastInDim S2048 ![] bcast_S_S2048 (constantI S_ 32 0#32))))
    (subi (Host.divsi (iotaInDim S2048 32 0) (broadcastInDim S2048 ![] bcast_S_S2048 (id (constantI S_ 32 256#32))))
      (broadcastInDim S2048 ![] bcast_S_S2048 (constantI S_ 32 1#32)))
    (Host.divsi (iotaInDim S2048 32 0) (broadcastInDim S2048 ![] bcast_S_S2048 (id (constantI S_ 32 256#32))))

/-- The gates. -/
def rGate (aq : FVec Ideal S8x2048x512 .bf16) (am : FVec Ideal S8x8x512 .bf16) : FVec Ideal S8x8x2048x8 .f32 :=
  select (broadcastInDim S8x8x2048x8 ![2, 3] bcast_S2048x8_S8x8x2048x8_2_3
      (cmpi .slt (broadcastInDim S2048x8 ![0, 1] bcast_S1x8_S2048x8_0_1 (broadcastInDim S1x8 ![1] bcast_S8_S1x8_1 (iotaInDim S8 32 0)))
        (broadcastInDim S2048x8 ![0, 1] bcast_S2048x1_S2048x8_0_1 (broadcastInDim S2048x1 ![0] bcast_S2048_S2048x1_0 rBlk))))
    (Host.dotGeneral dot_S8x2048x8x64_S8x8x8x64_S8x8x2048x8_3_3_1_1_02_02 none
      (shapeCast _ (extf .f32 aq bitsLt_bf16_f32) shapeCasts_S8x2048x512_S8x2048x8x64)
      (shapeCast _ (extf .f32 am bitsLt_bf16_f32) shapeCasts_S8x8x512_S8x8x8x64))
    (broadcastInDim S8x8x2048x8 ![] bcast_S_S8x8x2048x8 (id (constant S_ .f32 0xFF800000#32)))

/-- The three best. -/
def rTop (g : FVec Ideal S8x8x2048x8 .f32) : FVec Ideal S8x8x2048x3 .f32 × IVec S8x8x2048x3 32 :=
  Host.topK S8x8x2048x3 3 (FloatOps.cmpfTotal .gt) g sliceFits_S8x8x2048x8_S8x8x2048x3

/-- Whether a block is one of the best. -/
def rChosen (g : FVec Ideal S8x8x2048x8 .f32) : IVec S8x8x2048x8 1 :=
  Host.reduce IntOp.ori
    (andi (cmpi .eq (broadcastInDim S8x8x2048x3x8 ![0, 1, 2, 3, 4] bcast_S8x8x2048x3x1_S8x8x2048x3x8_0_1_2_3_4
          (broadcastInDim S8x8x2048x3x1 ![0, 1, 2, 3] bcast_S8x8x2048x3_S8x8x2048x3x1_0_1_2_3 (rTop g).2))
        (broadcastInDim S8x8x2048x3x8 ![0, 1, 2, 3, 4] bcast_S1x1x1x1x8_S8x8x2048x3x8_0_1_2_3_4
          (broadcastInDim S1x1x1x1x8 ![4] bcast_S8_S1x1x1x1x8_4 (iotaInDim S8 32 0))))
      (broadcastInDim S8x8x2048x3x8 ![0, 1, 2, 3, 4] bcast_S8x8x2048x3x1_S8x8x2048x3x8_0_1_2_3_4
        (broadcastInDim S8x8x2048x3x1 ![0, 1, 2, 3] bcast_S8x8x2048x3_S8x8x2048x3x1_0_1_2_3
          (cmpf .ogt (rTop g).1 (broadcastInDim S8x8x2048x3 ![] bcast_S_S8x8x2048x3 (constant S_ .f32 0xFF800000#32))))))
    (constantI S_ 1 0#1) reducesTo_S8x8x2048x3x8_S8x8x2048x8_d3 h_S_

/-- The distances between rows. -/
def rDist : FVec Ideal S2048x2048 .f32 :=
  sitofp .f32 (subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0))))

/-- Which rows a row attends to. -/
def rKeep (g : FVec Ideal S8x8x2048x8 .f32) : IVec S8x8x2048x2048 1 :=
  ori (shapeCast _ (broadcastInDim S8x8x2048x8x256 ![0, 1, 2, 3] bcast_S8x8x2048x8_S8x8x2048x8x256_0_1_2_3 (rChosen g)) shapeCasts_S8x8x2048x8x256_S8x8x2048x2048)
    (broadcastInDim S8x8x2048x2048 ![0, 1, 2, 3] bcast_S1x1x2048x2048_S8x8x2048x2048_0_1_2_3
      (broadcastInDim S1x1x2048x2048 ![2, 3] bcast_S2048x2048_S1x1x2048x2048_2_3
        (andi (cmpi .eq (broadcastInDim S2048x2048 ![0, 1] bcast_S2048x1_S2048x2048_0_1 (broadcastInDim S2048x1 ![0] bcast_S2048_S2048x1_0 rBlk))
            (broadcastInDim S2048x2048 ![0, 1] bcast_S1x2048_S2048x2048_0_1 (broadcastInDim S1x2048 ![1] bcast_S2048_S1x2048_1 rBlk)))
          (cmpf .oge rDist (broadcastInDim S2048x2048 ![] bcast_S_S2048x2048 (constant S_ .f32 0x00000000#32))))))

/-- The slopes. -/
def rSlope : FVec Ideal S8 .f32 :=
  Host.powf (broadcastInDim S8 ![] bcast_S_S8 (constant S_ .f32 0x40000000#32))
    (Host.divf (mulf (broadcastInDim S8 ![] bcast_S_S8 (constant S_ .f32 0xC1000000#32))
      (addf (broadcastInDim S8 ![] bcast_S_S8 (constant S_ .f32 0x3F800000#32)) (sitofp .f32 (iotaInDim S8 32 0))))
      (broadcastInDim S8 ![] bcast_S_S8 (constant S_ .f32 0x41000000#32)))

/-- The scores. -/
def rScore (aq ak : FVec Ideal S8x2048x512 .bf16) (keep : IVec S8x8x2048x2048 1) : FVec Ideal S8x8x2048x2048 .f32 :=
  select keep
    (subf (mulf (Host.dotGeneral dot_S8x2048x8x64_S8x2048x8x64_S8x8x2048x2048_3_3_1_1_02_02 none
          (shapeCast _ (extf .f32 aq bitsLt_bf16_f32) shapeCasts_S8x2048x512_S8x2048x8x64)
          (shapeCast _ (extf .f32 ak bitsLt_bf16_f32) shapeCasts_S8x2048x512_S8x2048x8x64))
        (broadcastInDim S8x8x2048x2048 ![] bcast_S_S8x8x2048x2048 (constant S_ .f32 0x3E000000#32)))
      (broadcastInDim S8x8x2048x2048 ![0, 1, 2, 3] bcast_S1x8x2048x2048_S8x8x2048x2048_0_1_2_3
        (broadcastInDim S1x8x2048x2048 ![1, 2, 3] bcast_S8x2048x2048_S1x8x2048x2048_1_2_3
          (mulf (broadcastInDim S8x2048x2048 ![0, 1, 2] bcast_S8x1x1_S8x2048x2048_0_1_2 (broadcastInDim S8x1x1 ![0] bcast_S8_S8x1x1_0 rSlope))
            (broadcastInDim S8x2048x2048 ![0, 1, 2] bcast_S1x2048x2048_S8x2048x2048_0_1_2
              (broadcastInDim S1x2048x2048 ![1, 2] bcast_S2048x2048_S1x2048x2048_1_2 rDist))))))
    (broadcastInDim S8x8x2048x2048 ![] bcast_S_S8x8x2048x2048 (id (constant S_ .f32 0xFF800000#32)))

/-- The greatest score of a row. -/
def rMax (s : FVec Ideal S8x8x2048x2048 .f32) : FVec Ideal S8x8x2048 .f32 :=
  Host.reduce FloatOps.maximumf s (constant S_ .f32 0xFF800000#32) reducesTo_S8x8x2048x2048_S8x8x2048_d3 h_S_

/-- The exponentials of the scores less their greatest. -/
def rExp (s : FVec Ideal S8x8x2048x2048 .f32) (M : FVec Ideal S8x8x2048 .f32) : FVec Ideal S8x8x2048x2048 .f32 :=
  Host.exp (subf s (broadcastInDim S8x8x2048x2048 ![0, 1, 2, 3] bcast_S8x8x2048x1_S8x8x2048x2048_0_1_2_3
    (broadcastInDim S8x8x2048x1 ![0, 1, 2] bcast_S8x8x2048_S8x8x2048x1_0_1_2
      (maximumf (broadcastInDim S8x8x2048 ![] bcast_S_S8x8x2048 (constant S_ .f32 0xFF800000#32))
        M))))

/-- The weights. -/
def rProb (x : FVec Ideal S8x8x2048x2048 .f32) : FVec Ideal S8x8x2048x2048 .f32 :=
  Host.divf x (broadcastInDim S8x8x2048x2048 ![0, 1, 2, 3] bcast_S8x8x2048x1_S8x8x2048x2048_0_1_2_3
    (broadcastInDim S8x8x2048x1 ![0, 1, 2] bcast_S8x8x2048_S8x8x2048x1_0_1_2
      (Host.reduceAdd x (constant S_ .f32 0x00000000#32) reducesTo_S8x8x2048x2048_S8x8x2048_d3 h_S_)))

/-- The result of the weights. -/
def rOut (p : FVec Ideal S8x8x2048x2048 .f32) (av : FVec Ideal S8x2048x512 .bf16) : FVec Ideal S8x2048x512 .bf16 :=
  truncf .bf16 (shapeCast _ (transpose S8x2048x8x64 [0, 3, 1, 2]
    (Host.dotGeneral dot_S8x2048x8x64_S8x8x2048x2048_S8x8x64x2048_1_3_3_2_02_01 none
      (shapeCast _ (extf .f32 av bitsLt_bf16_f32) shapeCasts_S8x2048x512_S8x2048x8x64) p)
    transposes_S8x8x64x2048_S8x2048x8x64_0_3_1_2) shapeCasts_S8x2048x8x64_S8x2048x512) bitsLt_bf16_f32

/-- The run's result in stages, from its scores. -/
def rSoft (s : FVec Ideal S8x8x2048x2048 .f32) (av : FVec Ideal S8x2048x512 .bf16) : FVec Ideal S8x2048x512 .bf16 :=
  rOut (rProb (rExp s (rMax s))) av

/-- The run's result in stages. -/
theorem res_eq (m : (ℓ : Loc nD τ sig) → Buf (Elt Ideal) ℓ) (c : Dev nD) :
    res_main_v83 m c = rSoft (rScore (m ((c.tc : Thread nD τ).loc main_arg0)) (m ((c.tc : Thread nD τ).loc main_arg1))
      (rKeep (rGate (m ((c.tc : Thread nD τ).loc main_arg0)) (m ((c.tc : Thread nD τ).loc main_arg3))))) (m ((c.tc : Thread nD τ).loc main_arg2)) := rfl

/-- The word arithmetic of a row's block. -/
theorem blk_words : ∀ t : Fin 2048, Scalar.select (IntOp.andi
        (IntOp.cmpi .ne (if BitVec.ofNat 32 t.val = 0 then (0 : BitVec 32) else if (BitVec.ofNat 32 t.val).msb = true then -1 else 1)
          (if (256#32 : BitVec 32) = 0 then 0 else if (256#32 : BitVec 32).msb = true then -1 else 1))
        (IntOp.cmpi .ne (IntOp.remsi .host (BitVec.ofNat 32 t.val) 256#32) 0#32))
      (IntOp.subi (IntOp.divsi .host (BitVec.ofNat 32 t.val) 256#32) 1#32)
      (IntOp.divsi .host (BitVec.ofNat 32 t.val) 256#32) = BitVec.ofNat 32 (blk t).val := by
  decide +kernel

theorem read_rBlk (t : Fin 2048) : rBlk (ix1 t) = BitVec.ofNat 32 (blk t).val := by
  pointwise [rBlk]
  exact blk_words t

theorem slt_fin : ∀ i j : Fin 8, IntOp.cmpi .slt (BitVec.ofNat 32 j.val) (BitVec.ofNat 32 i.val) = BitVec.ofBool (decide (j < i)) := by
  decide +kernel

theorem eq_fin : ∀ i j : Fin 8, IntOp.cmpi .eq (BitVec.ofNat 32 i.val) (BitVec.ofNat 32 j.val) = BitVec.ofBool (decide (i = j)) := by
  decide +kernel

theorem lane_eq (h : Fin 8) (e : Fin 64) (hb : h.val * 64 + e.val < 512) : (⟨h.val * 64 + e.val, hb⟩ : Fin 512) = lane h e :=
  Fin.ext (by simp only [lane]; omega)

theorem read_rGate (aq : FVec Ideal S8x2048x512 .bf16) (am : FVec Ideal S8x8x512 .bf16) (b h : Fin 8) (t : Fin 2048) (j : Fin 8) :
    rGate aq am (ix4 b h t j) = gate (fun b t n => aq (ix3 b t n)) (fun b j n => am (ix3 b j n)) b h t j := by
  pointwise [rGate]
  rw [read_rBlk, slt_fin, MobaTile.select_ofBool]
  unfold gate
  simp only [lane_eq]
  exact congrArg _ MobaTile.ofBits_neg_inf

theorem read_rDist (t u : Fin 2048) : rDist (ix2 t u) = (((t.val : ℝ) - u.val : ℝ) : EReal) := by
  pointwise [rDist]
  exact MobaTile.sitofp_sub _ _ (by omega) (by omega)

/-- A condition's word is one when it holds. -/
theorem ofBool_one (p : Prop) [Decidable p] : BitVec.ofBool (decide p) = 1#1 ↔ p := by
  by_cases h : p <;> simp [h]

/-- One of two words of one bit is one. -/
theorem ori_one : ∀ x y : BitVec 1, IntOp.ori x y = 1#1 ↔ x = 1#1 ∨ y = 1#1 := by
  decide +kernel

/-- A row of gates. -/
def grow (g : FVec Ideal S8x8x2048x8 .f32) (b h : Fin 8) (t : Fin 2048) (j : Fin 8) : EReal := g (ix4 b h t j)

/-- Moving along the last axis. -/
theorem along_last (b h : Fin 8) (t : Fin 2048) (r k : Fin 8) :
    (ix4 b h t r : (⟨4, ![8, 8, 2048, 8]⟩ : Shape).Idx).along 3 k = ix4 b h t k := by
  funext a
  match a with
  | ⟨0, _⟩ => rfl
  | ⟨1, _⟩ => rfl
  | ⟨2, _⟩ => rfl
  | ⟨3, _⟩ => rfl

/-- The order the sort uses. -/
theorem gt_word (x y : Ideal .f32) : (FloatOps.cmpfTotal .gt x y == 1#1) = decide ((y : EReal) < x) := by
  show (BitVec.ofBool (decide ((y : EReal) < x)) == 1#1) = _
  by_cases h : y < x <;> simp [h]

theorem read_rTop1 (g : FVec Ideal S8x8x2048x8 .f32) (b h : Fin 8) (t : Fin 2048) (r : Fin 3) :
    (rTop g).1 (ix4 b h t r) = grow g b h t (sortedFrom (Top3.gtB (grow g b h t)) (r.castLE (by decide))) := by
  unfold rTop Host.topK Host.sort2
  pointwise
  have e := along_last b h t (r.castLE (by decide))
  refine (congrArg g (e _)).trans ?_
  unfold grow Top3.gtB
  refine congrArg (fun f => g (ix4 b h t (sortedFrom f (r.castLE (by decide))))) ?_
  funext k k'
  refine (gt_word _ _).trans ?_
  exact congrArg₂ (fun x y => decide (g x < g y)) (e k') (e k)

theorem read_rTop2 (g : FVec Ideal S8x8x2048x8 .f32) (b h : Fin 8) (t : Fin 2048) (r : Fin 3) :
    (rTop g).2 (ix4 b h t r) = BitVec.ofNat 32 (sortedFrom (Top3.gtB (grow g b h t)) (r.castLE (by decide))).val := by
  unfold rTop Host.topK Host.sort2
  pointwise
  have e := along_last b h t (r.castLE (by decide))
  refine (congrArg (fun x : S8x8x2048x8.Idx => BitVec.ofNat 32 (x 3).val) (e _)).trans ?_
  unfold grow Top3.gtB
  refine congrArg (fun f => BitVec.ofNat 32 (sortedFrom f (r.castLE (by decide))).val) ?_
  funext k k'
  refine (gt_word _ _).trans ?_
  exact congrArg₂ (fun x y => decide (g x < g y)) (e k') (e k)

theorem read_rChosen (g : FVec Ideal S8x8x2048x8 .f32) (b h : Fin 8) (t : Fin 2048) (j : Fin 8) :
    rChosen g (ix4 b h t j) = 1#1 ↔ ⊥ < grow g b h t j ∧ Top3.rank (grow g b h t) j < 3 := by
  pointwise [rChosen]
  rw [Routing.fold_ori]
  simp only [Finset.mem_univ, true_and, read_rTop1, read_rTop2, eq_fin, MobaTile.andi_ofBool, MobaTile.ofBits_neg_inf]
  rw [← Top3.mem_top3]
  simp only [ofBool_one]
  constructor
  · rintro ⟨x, rfl, h⟩
    exact ⟨h, x, rfl⟩
  · rintro ⟨h, x, rfl⟩
    exact ⟨x, rfl, h⟩

theorem read_rScore (aq ak : FVec Ideal S8x2048x512 .bf16) (keep : IVec S8x8x2048x2048 1) (b h : Fin 8) (t u : Fin 2048) :
    rScore aq ak keep (ix4 b h t u) = Scalar.select (keep (ix4 b h t u))
      (raw (fun b t n => aq (ix3 b t n)) (fun b t n => ak (ix3 b t n)) (fun h => rSlope (ix1 h)) b h t u) ⊥ := by
  pointwise [rScore]
  rw [read_rDist]
  unfold raw
  simp only [lane_eq]
  rw [MobaTile.ofBits_eighth]
  exact congrArg _ MobaTile.ofBits_neg_inf

/-- A maximum along the last of four axes. -/
theorem max_last {n0 n1 n2 n3 : ℕ} {u : Shape} (v : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (x : Fin n0) (y : Fin n1) (z : Fin n2) :
    Host.reduce FloatOps.maximumf v init h hu (ix3 x y z)
      = Finset.univ.fold max (init (Shape.Idx.first hu)) fun k : Fin n3 => v (ix4 x y z k) := by
  simp only [pointwise]

theorem read_rMax (s : FVec Ideal S8x8x2048x2048 .f32) (b h : Fin 8) (t : Fin 2048) :
    rMax s (ix3 b h t) = Finset.univ.fold max (Ideal.ofBits .f32 0xFF800000#32) fun u => s (ix4 b h t u) :=
  max_last s _ _ _ b h t

theorem read_rExp (s : FVec Ideal S8x8x2048x2048 .f32) (M : FVec Ideal S8x8x2048 .f32) (b h : Fin 8) (t u : Fin 2048) :
    rExp s M (ix4 b h t u) = Ideal.exp (s (ix4 b h t u) - max (Ideal.ofBits .f32 0xFF800000#32) (M (ix3 b h t))) := by
  pointwise [rExp]

theorem read_rProb (s : FVec Ideal S8x8x2048x2048 .f32) (b h : Fin 8) (t u : Fin 2048) :
    rProb s (ix4 b h t u) = Ideal.div (s (ix4 b h t u)) (∑ x, s (ix4 b h t x)) := by
  pointwise [rProb]

theorem read_rOut (s : FVec Ideal S8x8x2048x2048 .f32) (av : FVec Ideal S8x2048x512 .bf16) (b : Fin 8) (t : Fin 2048) (n : Fin 512) :
    rOut s av (ix3 b t n) = ∑ u : Fin 2048, av (ix3 b u n) * s (ix4 b (headOf n) t u) := by
  pointwise [rOut]
  rfl

theorem read_rKeep (g : FVec Ideal S8x8x2048x8 .f32) (b h : Fin 8) (t u : Fin 2048) :
    rKeep g (ix4 b h t u) = IntOp.ori (rChosen g (ix4 b h t (blk u))) (BitVec.ofBool (decide (blk t = blk u ∧ u ≤ t))) := by
  pointwise [rKeep]
  rw [read_rDist, read_rBlk, read_rBlk, eq_fin, MobaTile.andi_ofBool]
  congr 4
  rw [eq_iff_iff, ← EReal.coe_zero, EReal.coe_le_coe_iff, sub_nonneg, Nat.cast_le]
  rfl

section value

variable (aq ak av : FVec Ideal S8x2048x512 .bf16) (am : FVec Ideal S8x8x512 .bf16)

/-- An array of three axes by coordinates. -/
def at3 {n0 n1 n2 : ℕ} (x : FVec Ideal ⟨3, ![n0, n1, n2]⟩ .bf16) (b : Fin n0) (t : Fin n1) (n : Fin n2) : EReal := x (ix3 b t n)

/-- The slope of a head. -/
def slR (h : Fin 8) : EReal := rSlope (ix1 h)

/-- The reference's scores are the formula's. -/
theorem score_ref (b h : Fin 8) (t u : Fin 2048) :
    rScore aq ak (rKeep (rGate aq am)) (ix4 b h t u) = score (at3 aq) (at3 ak) (at3 am) slR b h t u := by
  have hg : grow (rGate aq am) b h t = gate (at3 aq) (at3 am) b h t := funext fun j => read_rGate aq am b h t j
  rw [read_rScore]
  unfold score Scalar.select
  refine MobaBlock.ite_iff ?_ rfl
  rw [read_rKeep]
  refine (ori_one _ _).trans ?_
  rw [read_rChosen, ofBool_one, hg, eq_comm (a := blk t)]
  rfl

/-- The reference's result is the formula's, when queries and keys are finite. -/
theorem ref_value (hq : ∀ b t n, ∃ x : ℝ, at3 aq b t n = x) (hk : ∀ b t n, ∃ x : ℝ, at3 ak b t n = x) (hs : ∀ h, ∃ x : ℝ, slR h = x)
    (b : Fin 8) (t : Fin 2048) (n : Fin 512) :
    rSoft (rScore aq ak (rKeep (rGate aq am))) av (ix3 b t n) = out (at3 aq) (at3 ak) (at3 av) (at3 am) slR b t n := by
  unfold rSoft
  rw [read_rOut]
  simp only [read_rProb, read_rExp, read_rMax, score_ref, MobaTile.ofBits_neg_inf]
  have hM := softmax_div (fun u => score (at3 aq) (at3 ak) (at3 am) slR b (headOf n) t u)
    (fun u => score_ne_top _ hq hk hs _ _ _ _) t (score_self _ hq hk hs _ _ _) rfl
  unfold out
  conv_rhs => rw [mul_comm, mul_sum _ _ (inv_nonneg.mpr (Finset.sum_nonneg fun u _ => wt_nonneg _))]
  refine Finset.sum_congr rfl fun u _ => ?_
  rw [hM, EReal.coe_mul, mul_comm, mul_comm (wt _ : EReal), mul_assoc]
  rfl

end value

end Cert.MobaRef
-- ==== Proof.Join.lean ====
module

public import proofs.«01_k».proof.Defs
public import proofs.«01_k».proof.Proof.Arr
public import proofs.«01_k».proof.Proof.Ref
public import proofs.«01_k».proof.Proof.Gen.Pre_finite
public import Idealize.ShloMosaic.Lib.ReduceAll

@[expose] public section

set_option maxRecDepth 16384

noncomputable section

/-! The block attention's two programs give equal results. -/

namespace Cert.MobaJoin

open Idealize.ShloMosaic Idealize.ShloMosaic.Tactic Idealize.ShloMosaic.TcCoe Idealize.SL.Sem
open Cert.MobaBlock Cert.MobaRef Cert.MobaSpec

/-- A number whose size is below infinity is real. -/
theorem real_of_abs (x : Ideal .f32) (h : FloatOps.cmpf .olt (FloatOps.absf x) (Ideal.ofBits .f32 0x7F800000#32 : Ideal .f32) = 1#1) :
    ∃ r : ℝ, (x : EReal) = r := by
  rw [MobaTile.ofBits_inf] at h
  have h : BitVec.ofBool (decide (max (x : EReal) (-x) < ⊤)) = 1#1 := h
  rw [ofBool_one, max_lt_iff] at h
  induction x using EReal.rec with
  | bot => exact absurd h.2 (by rw [EReal.neg_bot]; exact lt_irrefl _)
  | top => exact absurd h.1 (lt_irrefl _)
  | coe r => exact ⟨r, rfl⟩

/-- The precondition says that queries and keys are real numbers. -/
theorem real_of_pre (a0 a1 a2 : FVec Ideal Cert.Pre_finite.S8x2048x512 .bf16) (a3 : FVec Ideal Cert.Pre_finite.S8x8x512 .bf16)
    (h : Cert.Pre_finite.fn a0 a1 a2 a3 = fun _ => 1#1) : (∀ i, ∃ r : ℝ, a0 i = r) ∧ ∀ i, ∃ r : ℝ, a1 i = r := by
  have h := congrFun h ix0
  dsimp only [Cert.Pre_finite.fn] at h
  obtain ⟨h0, h1⟩ := IntOp.andi_eq_one.mp h
  exact ⟨fun i => real_of_abs (a0 i) (Host.reduce_andi_all _ _ _ _ _ h0 i), fun i => real_of_abs (a1 i) (Host.reduce_andi_all _ _ _ _ _ h1 i)⟩

/-- The reference's frame: its run read at the arguments, and the program has no semaphore. -/
theorem frame_ref (m : (ℓ : Loc Cert.MobaRefIdeal.nD Cert.MobaRefIdeal.τ Cert.MobaRefIdeal.sig) → Buf (Elt Ideal) ℓ)
    (ρ : Dev Cert.MobaRefIdeal.nD → PrngReg) :
    θ_run (Cert.MobaRefIdeal.defs (F := Ideal)) (onTc (τ := Cert.MobaRefIdeal.τ) (Cert.MobaRefIdeal.main (F := Ideal))) ⟨m, fun _ => 0, ρ⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3))
      ∧ r.2.sem = fun _ => 0) :=
  (θ_run Cert.MobaRefIdeal.defs _ _).mono (fun r h => ⟨fun c => (h c).2, Idealize.ShloMosaic.sem_eq_zero_of_no_sems (by decide) r.2⟩)
    (Cert.MobaRefIdeal.Value.run m ρ)

/-- The kernel and the reference give equal results. -/
theorem algebraic : Cert.algebraic_MobaIdeal_MobaRefIdeal_pre_finite := by
  intro m g m' g' hpre hagree
  have hq : ∀ c b t n, ∃ x : ℝ, qA m c b t n = x := fun c b t n => (real_of_pre _ _ _ _ (hpre c)).1 _
  have hk : ∀ c b t n, ∃ x : ℝ, kA m c b t n = x := fun c b t n => (real_of_pre _ _ _ _ (hpre c)).2 _
  refine ⟨fun c => outA m c, ?_, ?_⟩
  · refine (θ_run _ _ _).mono (fun r h c => ?_) (Cert.MobaIdeal.Value.run_blocks m g)
    obtain ⟨h0, h1⟩ := h c
    exact ⟨h0.trans (final_eq m c (hq c) (hk c)), h1⟩
  · refine (θ_run _ _ _).mono (fun r h c => ?_) (Cert.MobaRefIdeal.Value.run m' g')
    obtain ⟨h0, h1⟩ := h c
    refine ⟨h0.trans ?_, h1⟩
    obtain ⟨e0, e1, e2, e3⟩ := hagree c
    rw [res_eq, e0, e1, e2, e3]
    funext y
    obtain ⟨b, t, n, rfl⟩ : ∃ (b : Fin 8) (t : Fin 2048) (n : Fin 512), y = ix3 b t n := by
      idx_vars y
      exact ⟨_, _, _, rfl⟩
    exact ref_value _ _ _ _ (hq c) (hk c) slA_real b t n

end Cert.MobaJoin
-- ==== Proof.MlaTile.lean ====
module

public import proofs.«01_k».proof.Proof.Gen.MlaIdeal.Skeleton
public import proofs.«01_k».proof.Proof.Lanes

@[expose] public section

set_option maxRecDepth 16384

noncomputable section

/-! The latent attention over the prompt: the formula of one head, the tiles the kernel computes and the pass over the
    key blocks. -/

namespace Cert.MlaSpec

open Idealize.ShloMosaic Cert.Flash
open Cert.MobaSpec (headOf)

/-- Plain lane `e` of head `h`. -/
def laneN (h : Fin 8) (e : Fin 64) : Fin 768 := ⟨64 * h.val + e.val, by omega⟩

/-- Lane `e` of the first half of head `h`'s turned lanes. -/
def lane1 (h : Fin 8) (e : Fin 16) : Fin 768 := ⟨512 + (16 * h.val + e.val), by omega⟩

/-- Lane `e` of the second half of head `h`'s turned lanes. -/
def lane2 (h : Fin 8) (e : Fin 16) : Fin 768 := ⟨640 + (16 * h.val + e.val), by omega⟩

/-- The scale of the scores. -/
def scale : EReal := Ideal.ofBits .f32 0x3DD105EC#32

/-- The scale is a real number. -/
theorem scale_real : ∃ x : ℝ, scale = x := ⟨_, by unfold scale; simp [Ideal.ofBits, Ideal.ieee, -EReal.coe_mul]; rfl⟩

variable (q k : Fin 8 → Fin 2048 → Fin 768 → EReal) (v : Fin 8 → Fin 2048 → Fin 512 → EReal)

/-- The score before the mask. -/
def raw (b h : Fin 8) (t u : Fin 2048) : EReal :=
  ((∑ e : Fin 64, q b t (laneN h e) * k b u (laneN h e)) + (∑ e : Fin 16, q b t (lane1 h e) * k b u (lane1 h e))
    + (∑ e : Fin 16, q b t (lane2 h e) * k b u (lane2 h e))) * scale

/-- The score: minus infinity on later rows. -/
def score (b h : Fin 8) (t u : Fin 2048) : EReal := if u ≤ t then raw q k b h t u else ⊥

/-- The result at row `t` and lane `n` of batch `b`. -/
def out (b : Fin 8) (t : Fin 2048) (n : Fin 512) : EReal :=
  (∑ u : Fin 2048, (wt (score q k b (headOf n) t u) : EReal) * v b u n)
    * (((∑ u : Fin 2048, wt (score q k b (headOf n) t u))⁻¹ : ℝ) : EReal)

variable {q k}

/-- A sum of products of reals is real. -/
theorem dots_real {n : ℕ} (f g : Fin n → EReal) (hf : ∀ e, ∃ x : ℝ, f e = x) (hg : ∀ e, ∃ x : ℝ, g e = x) :
    ∃ x : ℝ, ∑ e, f e * g e = x := by
  choose F hF using hf
  choose G hG using hg
  refine ⟨∑ e, F e * G e, ?_⟩
  rw [← coe_sum]
  exact Finset.sum_congr rfl fun e _ => by rw [hF, hG, EReal.coe_mul]

/-- With finite queries and keys the scores before the mask are real. -/
theorem raw_real (hq : ∀ b t n, ∃ x : ℝ, q b t n = x) (hk : ∀ b t n, ∃ x : ℝ, k b t n = x)
    (b h : Fin 8) (t u : Fin 2048) : ∃ x : ℝ, raw q k b h t u = x := by
  obtain ⟨x, hx⟩ := dots_real (fun e => q b t (laneN h e)) (fun e => k b u (laneN h e)) (fun e => hq _ _ _) (fun e => hk _ _ _)
  obtain ⟨y, hy⟩ := dots_real (fun e => q b t (lane1 h e)) (fun e => k b u (lane1 h e)) (fun e => hq _ _ _) (fun e => hk _ _ _)
  obtain ⟨z, hz⟩ := dots_real (fun e => q b t (lane2 h e)) (fun e => k b u (lane2 h e)) (fun e => hq _ _ _) (fun e => hk _ _ _)
  obtain ⟨s, hs⟩ := scale_real
  refine ⟨(x + y + z) * s, ?_⟩
  unfold raw
  rw [hx, hy, hz, hs]
  push_cast
  rfl

/-- With real queries and keys no score is plus infinity. -/
theorem score_ne_top (hq : ∀ b t n, ∃ x : ℝ, q b t n = x) (hk : ∀ b t n, ∃ x : ℝ, k b t n = x)
    (b h : Fin 8) (t u : Fin 2048) : score q k b h t u ≠ ⊤ := by
  unfold score
  obtain ⟨x, hx⟩ := raw_real hq hk b h t u
  split
  · rw [hx]; exact EReal.coe_ne_top x
  · exact bot_ne_top

/-- A token's score with itself is not minus infinity. -/
theorem score_self (hq : ∀ b t n, ∃ x : ℝ, q b t n = x) (hk : ∀ b t n, ∃ x : ℝ, k b t n = x)
    (b h : Fin 8) (t : Fin 2048) : score q k b h t t ≠ ⊥ := by
  unfold score
  obtain ⟨x, hx⟩ := raw_real hq hk b h t t
  rw [if_pos le_rfl, hx]
  exact EReal.coe_ne_bot x

end Cert.MlaSpec

namespace Cert.MlaBlock

open Idealize.ShloMosaic Idealize.ShloMosaic.Tactic
open Cert.MlaIdeal Cert.MlaIdeal.Gen Cert.MobaTile
open Cert.Flash (wt Inv)
open Cert.MobaBlock (sum_split plane phead lane_lt lane_ge)

/-- The place of a lane within the third group of lanes. -/
theorem off2 (n : ℕ) : 256 + n - 128 - 128 = n := by omega

/-- Three key blocks side by side. -/
def mcat (kn k1 k2 : Vec Ideal S1x256x128 .bf16) : FVec Ideal S256x384 .bf16 :=
  concatenate S256x384 1 [⟨S256x128, shapeCast S256x128 kn shapeCasts_S1x256x128_S256x128⟩,
    ⟨S256x128, shapeCast S256x128 k1 shapeCasts_S1x256x128_S256x128⟩,
    ⟨S256x128, shapeCast S256x128 k2 shapeCasts_S1x256x128_S256x128⟩] concatenates_S256x128_S256x128_S256x128_S256x384_d1

/-- The keys of a tile, read lane by lane: three groups of 128 lanes side by side. -/
theorem read_mcat (kn k1 k2 : Vec Ideal S1x256x128 .bf16) (r : Fin 256) (k : Fin 128) :
    mcat kn k1 k2 (ix2 r ⟨k.val, by omega⟩) = kn (ix3 0 r k)
    ∧ mcat kn k1 k2 (ix2 r ⟨128 + k.val, by omega⟩) = k1 (ix3 0 r k)
    ∧ mcat kn k1 k2 (ix2 r ⟨256 + k.val, by omega⟩) = k2 (ix3 0 r k) := by
  refine ⟨?_, ?_, ?_⟩
  · pointwise [mcat]
  · pointwise [mcat]
  · pointwise [mcat]
    rw [dif_neg (by omega), dif_neg (by omega)]
    simp only [off2]

/-- The scores of a block before the mask. -/
def mdot (qe : FVec Ideal S256x384 .bf16) (kn k1 k2 : Vec Ideal S1x256x128 .bf16) : FVec Ideal S256x256 .f32 :=
  mulf (matmul dot_S256x384_S256x384_S256x256_1_1_0_0_n_n none qe (mcat kn k1 k2) (constant S256x256 .f32 0x00000000#32))
    (broadcast S256x256 (Scalar.ofBits .f32 0x3DD105EC#32))

/-- The scores of the query's own block: minus infinity after the query. -/
def mdiag (qe : FVec Ideal S256x384 .bf16) (kn k1 k2 : Vec Ideal S1x256x128 .bf16) : FVec Ideal S256x256 .f32 :=
  select (cmpi .sge k0_pay5 (broadcast S256x256 0#32)) (mdot qe kn k1 k2) (broadcast S256x256 (Scalar.ofBits .f32 0xFF800000#32))

/-- The scaled products of the queries and the keys of a tile, read entry by entry. -/
theorem read_mdot (qe : FVec Ideal S256x384 .bf16) (kn k1 k2 : Vec Ideal S1x256x128 .bf16) (r c : Fin 256) :
    mdot qe kn k1 k2 (ix2 r c) = (∑ k : Fin 384, qe (ix2 r k) * mcat kn k1 k2 (ix2 c k)) * MlaSpec.scale := by
  pointwise [mdot]
  rfl

/-- The comparison of row and column numbers as machine words is that of the numbers. -/
theorem ge_words : ∀ a : Fin 256, ∀ b : Fin 256, IntOp.cmpi .sge (IntOp.subi (BitVec.ofNat 32 a.val) (BitVec.ofNat 32 b.val)) 0#32
    = BitVec.ofBool (decide (b ≤ a)) := by decide +kernel

/-- The scores of the diagonal tile: later keys get minus infinity. -/
theorem read_mdiag (qe : FVec Ideal S256x384 .bf16) (kn k1 k2 : Vec Ideal S1x256x128 .bf16) (r c : Fin 256) :
    mdiag qe kn k1 k2 (ix2 r c) = if c ≤ r then mdot qe kn k1 k2 (ix2 r c) else ⊥ := by
  pointwise [mdiag, k0_pay5]
  rw [ge_words, select_ofBool]
  simp only [ofBits_neg_inf]

/-- A sum over 384 lanes in three parts. -/
theorem sum384 (f : Fin 384 → EReal) : ∑ k, f k = (∑ k : Fin 128, f ⟨k.val, by omega⟩) + (∑ k : Fin 128, f ⟨128 + k.val, by omega⟩)
    + (∑ k : Fin 128, f ⟨256 + k.val, by omega⟩) := by
  rw [sum_split 3 128 384 rfl (fun x y => by omega), Fin.sum_univ_three]
  refine congrArg₂ (· + ·) (congrArg₂ (· + ·) ?_ ?_) ?_ <;>
    exact Finset.sum_congr rfl fun y _ => congrArg f (Fin.ext (by simp))

/-- A sum of products when one factor is zero outside one run of lanes. -/
theorem pick_sum (a n : ℕ) (h : a * n = 128) (e : Fin a) (hb : ∀ (x : Fin a) (y : Fin n), n * x.val + y.val < 128)
    (f g : Fin 128 → EReal) :
    ∑ k : Fin 128, (if k.val / n = e.val then f k else 0) * g k
      = ∑ y : Fin n, f ⟨n * e.val + y.val, hb e y⟩ * g ⟨n * e.val + y.val, hb e y⟩ := by
  have hd : ∀ (x : Fin a) (y : Fin n), (n * x.val + y.val) / n = x.val := fun x y => by
    rw [Nat.mul_add_div (Nat.lt_of_le_of_lt (Nat.zero_le _) y.isLt), Nat.div_eq_of_lt y.isLt, add_zero]
  rw [sum_split a n 128 h hb, Finset.sum_eq_single e]
  · refine Finset.sum_congr rfl fun y _ => ?_
    rw [if_pos (hd e y)]
  · intro x _ hx
    refine Finset.sum_eq_zero fun y _ => ?_
    rw [if_neg (by rw [hd x y]; exact fun h => hx (Fin.ext h)), zero_mul]
  · intro h
    exact absurd (Finset.mem_univ e) h

/-- The queries of head `e` of pair `p` of a block, zero on the other heads' lanes. -/
structure IsQ (qe : FVec Ideal S256x384 .bf16) (p : Fin 4) (e : Fin 2) (x0 x1 x2 : Vec Ideal S1x256x128 .bf16) : Prop where
  plain : ∀ (r : Fin 256) (k : Fin 128), qe (ix2 r ⟨k.val, by omega⟩) = if k.val / 64 = e.val then x0 (ix3 0 r k) else 0
  first : ∀ (r : Fin 256) (k : Fin 128), qe (ix2 r ⟨128 + k.val, by omega⟩) = if k.val / 16 = (phead p e).val then x1 (ix3 0 r k) else 0
  second : ∀ (r : Fin 256) (k : Fin 128), qe (ix2 r ⟨256 + k.val, by omega⟩) = if k.val / 16 = (phead p e).val then x2 (ix3 0 r k) else 0

/-- The lanes of a head among the turned lanes. -/
theorem turn_words : ∀ (p : Fin 4) (e : Fin 2) (d : Fin 128), IntOp.andi
    (IntOp.cmpi .sge (BitVec.ofNat 32 d.val) (Scalar.muli (Scalar.addi (Scalar.muli 2#32 (BitVec.ofNat 32 p.val)) (BitVec.ofNat 32 e.val)) 16#32))
    (IntOp.cmpi .slt (BitVec.ofNat 32 d.val)
      (Scalar.muli (Scalar.addi (Scalar.addi (Scalar.muli 2#32 (BitVec.ofNat 32 p.val)) (BitVec.ofNat 32 e.val)) 1#32) 16#32))
    = BitVec.ofBool (decide (d.val / 16 = 2 * p.val + e.val)) := by decide +kernel

/-- The lower head's queries. -/
theorem isQ0 (i : grid0.Coords) (x0 x1 x2 : Vec Ideal S1x256x128 .bf16) : IsQ (k0_pay6 i x0 x1 x2) (i 1) 0 x0 x1 x2 := by
  refine ⟨fun r k => ?_, fun r k => ?_, fun r k => ?_⟩
  · pointwise [k0_pay6, k0_pay2]
    rw [lane_lt, select_ofBool]
    refine if_congr ?_ rfl rfl
    show _ ↔ k.val / 64 = 0
    omega
  · pointwise [k0_pay6, k0_pay3]
    exact (congrArg (fun w => Scalar.select w (x1 (ix3 0 r k)) (0 : EReal)) (turn_words (i 1) 0 k)).trans (select_ofBool _ _ _)
  · pointwise [k0_pay6, k0_pay4]
    rw [dif_neg (by omega), dif_neg (by omega)]
    simp only [off2]
    exact (congrArg (fun w => Scalar.select w (x2 (ix3 0 r k)) (0 : EReal)) (turn_words (i 1) 0 k)).trans (select_ofBool _ _ _)

/-- The upper head's queries. -/
theorem isQ1 (p : Fin 4) (x0 x1 x2 : Vec Ideal S1x256x128 .bf16) :
    IsQ (k0_pay29 (BitVec.ofNat 32 p.val) (k0_pay2 x0) (k0_pay3 x1) (k0_pay4 x2) (iota .tc S256x128 32 [1] iota_S256x128_d1_w32))
      p 1 x0 x1 x2 := by
  refine ⟨fun r k => ?_, fun r k => ?_, fun r k => ?_⟩
  · pointwise [k0_pay29, k0_pay2]
    rw [lane_ge, select_ofBool]
    refine if_congr ?_ rfl rfl
    show _ ↔ k.val / 64 = 1
    omega
  · pointwise [k0_pay29, k0_pay3]
    exact (congrArg (fun w => Scalar.select w (x1 (ix3 0 r k)) (0 : EReal)) (turn_words p 1 k)).trans (select_ofBool _ _ _)
  · pointwise [k0_pay29, k0_pay4]
    rw [dif_neg (by omega), dif_neg (by omega)]
    simp only [off2]
    exact (congrArg (fun w => Scalar.select w (x2 (ix3 0 r k)) (0 : EReal)) (turn_words p 1 k)).trans (select_ofBool _ _ _)

/-- Lane `k` of the pair's plain lanes. -/
def planeN (p : Fin 4) (k : Fin 128) : Fin 768 := ⟨128 * p.val + k.val, by omega⟩

/-- The scores of a head on a block, when queries and keys are those of the call. -/
theorem mdot_eq {q k : Fin 8 → Fin 2048 → Fin 768 → EReal} {b i j : Fin 8} {p : Fin 4} {e : Fin 2}
    {qe : FVec Ideal S256x384 .bf16} {x0 x1 x2 : Vec Ideal S1x256x128 .bf16} {x3 x4 x5 : Vec Ideal S1x2048x128 .bf16}
    (hqe : IsQ qe p e x0 x1 x2)
    (h0 : ∀ r d, x0 (ix3 0 r d) = q b (rowOf i r) (planeN p d)) (h1 : ∀ r d, x1 (ix3 0 r d) = q b (rowOf i r) ⟨512 + d.val, by omega⟩)
    (h2 : ∀ r d, x2 (ix3 0 r d) = q b (rowOf i r) ⟨640 + d.val, by omega⟩)
    (h3 : ∀ u d, x3 (ix3 0 u d) = k b u (planeN p d)) (h4 : ∀ u d, x4 (ix3 0 u d) = k b u ⟨512 + d.val, by omega⟩)
    (h5 : ∀ u d, x5 (ix3 0 u d) = k b u ⟨640 + d.val, by omega⟩) (r c : Fin 256) :
    mdot qe (kv x3 j) (kv x4 j) (kv x5 j) (ix2 r c) = MlaSpec.raw q k b (phead p e) (rowOf i r) (rowOf j c) := by
  rw [read_mdot, sum384]
  simp only [hqe.plain, hqe.first, hqe.second, (read_mcat _ _ _ c _).1, (read_mcat _ _ _ c _).2.1, (read_mcat _ _ _ c _).2.2, read_kv,
    h0, h1, h2, h3, h4, h5]
  rw [pick_sum 2 64 rfl e (fun x y => by omega) (fun d => q b (rowOf i r) (planeN p d)) (fun d => k b (rowOf j c) (planeN p d)),
    pick_sum 8 16 rfl (phead p e) (fun x y => by omega) (fun d => q b (rowOf i r) ⟨512 + d.val, by omega⟩) (fun d => k b (rowOf j c) ⟨512 + d.val, by omega⟩),
    pick_sum 8 16 rfl (phead p e) (fun x y => by omega) (fun d => q b (rowOf i r) ⟨640 + d.val, by omega⟩) (fun d => k b (rowOf j c) ⟨640 + d.val, by omega⟩)]
  unfold MlaSpec.raw
  have hl : ∀ y : Fin 64, planeN p ⟨64 * e.val + y.val, by omega⟩ = MlaSpec.laneN (phead p e) y :=
    fun y => Fin.ext (by simp only [planeN, MlaSpec.laneN, phead]; omega)
  simp only [hl]
  rfl

/-- What one head gives at a row and a lane: the weighted mean of the values over the keys it may see. -/
theorem head_value (i : Fin 8) (st : ℕ → Carry) (T : Fin 8 → FVec Ideal S256x256 .f32) (S : Fin 8 → Fin 256 → EReal)
    (x : Vec Ideal S1x2048x128 .bf16) (r : Fin 256) (d : Fin 128)
    (h0 : st 0 = (k0_pay7, k0_pay8, k0_pay9))
    (hst : ∀ j : Fin 8, j < i → st (j.val + 1) = (tM (st j.val).1 (T j), tL (st j.val).1 (st j.val).2.1 (T j),
      tA (st j.val).1 (st j.val).2.2 (T j) (kv x j)))
    (hT : ∀ j, j ≤ i → ∀ c, T j (ix2 r c) = S j c) (hlate : ∀ j, i < j → ∀ c, S j c = ⊥)
    (hS : ∀ j c, S j c ≠ ⊤) (hd : S i r ≠ ⊥) :
    tdiv (tL (st i.val).1 (st i.val).2.1 (T i)) (tA (st i.val).1 (st i.val).2.2 (T i) (kv x i)) (ix2 r d)
      = (∑ j : Fin 8, ∑ c : Fin 256, ((wt (S j c) : ℝ) : EReal) * x (ix3 0 (rowOf j c) d))
        * (((∑ j : Fin 8, ∑ c : Fin 256, wt (S j c))⁻¹ : ℝ) : EReal) := by
  have key : ∀ n : ℕ, n ≤ i.val → Inv ((st n).1 (ix2 r 0)) ((st n).2.1 (ix2 r 0)) ((st n).2.2 (ix2 r d))
      (upto n fun j => ∑ c, wt (S j c))
      (upto n fun j => ∑ c : Fin 256, ((wt (S j c) : ℝ) : EReal) * x (ix3 0 (rowOf j c) d)) := by
    intro n
    induction n with
    | zero =>
      intro _
      rw [h0, upto_zero, upto_zero]
      have e1 : k0_pay7 (F := Ideal) (ix2 r 0) = ((-(13234890 * 2 ^ 76) : ℝ) : EReal) := by
        pointwise [k0_pay7]
        exact ofBits_init
      have e2 : k0_pay8 (F := Ideal) (ix2 r 0) = 0 := by pointwise [k0_pay8]
      have e3 : k0_pay9 (F := Ideal) (ix2 r d) = 0 := by pointwise [k0_pay9]
      show Inv (k0_pay7 (F := Ideal) (ix2 r 0)) (k0_pay8 (F := Ideal) (ix2 r 0)) (k0_pay9 (F := Ideal) (ix2 r d)) 0 0
      rw [e1, e2, e3]
      exact Flash.inv_init _
    | succ n ih =>
      intro hn
      have hj : (⟨n, by omega⟩ : Fin 8) < i := by rw [Fin.lt_def]; exact hn
      have := inv_tile (ih (by omega)) (T ⟨n, by omega⟩) (kv x ⟨n, by omega⟩) (S ⟨n, by omega⟩)
        (fun c => hT _ hj.le c) (fun c => hS _ c)
      rw [hst ⟨n, by omega⟩ hj, upto_succ ⟨n, by omega⟩, upto_succ ⟨n, by omega⟩]
      exact this
  have h1 := inv_tile (key i.val le_rfl) (T i) (kv x i) (S i) (fun c => hT i le_rfl c) (fun c => hS _ c)
  have hzero : ∀ j, i < j → ∀ c, wt (S j c) = 0 := fun j hj c => by rw [hlate j hj c, Flash.wt_bot]
  rw [← upto_succ i fun j => ∑ c, wt (S j c),
    upto_all i _ fun j hj => Finset.sum_eq_zero fun c _ => hzero j hj c] at h1
  have e := upto_succ i fun j => ∑ c : Fin 256, ((wt (S j c) : ℝ) : EReal) * x (ix3 0 (rowOf j c) d)
  simp only [read_kv] at h1
  rw [← e, upto_all i _ fun j hj => Finset.sum_eq_zero fun c _ => by rw [hzero j hj c, EReal.coe_zero, zero_mul]] at h1
  rw [read_tdiv]
  refine Flash.inv_div h1 ?_
  have hle : wt (S i r) ≤ ∑ j, ∑ c, wt (S j c) :=
    (Finset.single_le_sum (f := fun c => wt (S i c)) (fun c _ => Flash.wt_nonneg _) (Finset.mem_univ r)).trans
      (Finset.single_le_sum (f := fun j => ∑ c, wt (S j c)) (fun j _ => Finset.sum_nonneg fun c _ => Flash.wt_nonneg _)
        (Finset.mem_univ i))
  exact lt_of_lt_of_le (Flash.wt_pos hd) hle

end Cert.MlaBlock

end
-- ==== Proof.MlaBlock.lean ====
module

public import proofs.«01_k».proof.Proof.Gen.MlaIdeal.Value
public import proofs.«01_k».proof.Proof.MlaTile

@[expose] public section

set_option maxRecDepth 16384

noncomputable section

/-! What one grid point of the latent attention over the prompt writes, row by row and lane by lane. -/

namespace Cert.MlaBlock

open Idealize.ShloMosaic Idealize.ShloMosaic.Tactic Idealize.ShloMosaic.TcCoe Idealize.SL.Sem
open Cert.MlaIdeal Cert.MlaIdeal.Gen Cert.MobaTile
open Cert.MobaBlock (trips_main trips_rest iv_eq off_eq ld_block phead lane_lt)

/-- One trip of head 0's main loop. -/
theorem trip1 (𝒱 : Variants) (c : Dev nD) (bd : Option 𝒱.V) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x256x128 .bf16) (harg10 : arg10.IsWhole)
    (v12 : IVec S256x256 32) (qe : FVec Ideal S256x384 .bf16) (v33 v34 : FVec Ideal S256x1 .f32) (v35 : FVec Ideal S256x128 .f32)
    (x3 x4 x5 x6 : Vec Ideal S1x2048x128 .bf16) (j : Fin 8) (hk : j.val < (k0_t1_loop i).trips) (acc : Carry) :
    tripR_k0_t1 (F := Ideal) 𝒱 c bd i arg3 harg3 arg4 harg4 arg5 harg5 arg6 harg6 arg7 harg7 arg8 harg8 arg9 harg9 arg10 harg10 (BitVec.ofNat 32 (i 2).val) v12 qe v33 v34 v35 (harg6.unread x3) (harg7.unread x4) (harg8.unread x5) (harg9.unread x6) ⟨j.val, hk⟩ acc
      = (tM acc.1 (mdot qe (kv x3 j) (kv x4 j) (kv x5 j)), tL acc.1 acc.2.1 (mdot qe (kv x3 j) (kv x4 j) (kv x5 j)),
        tA acc.1 acc.2.2 (mdot qe (kv x3 j) (kv x4 j) (kv x5 j)) (kv x6 j)) := by
  have ho : k0_off1 i ⟨j.val, hk⟩ = ![0, 256 * j.val, 0] := by
    unfold k0_off1
    dsimp only
    rw [iv_eq, off_eq]
  unfold tripR_k0_t1 trip_k0_t1
  dsimp only
  sl_unfold_run_names
  simp only [View.readAt_eq_ld, harg6.read_unread, harg7.read_unread, harg8.read_unread, harg9.read_unread]
  rw [ld_block x3 j _ ho, ld_block x4 j _ ho, ld_block x5 j _ ho, ld_block x6 j _ ho]
  rfl

/-- One trip of head 1's main loop. -/
theorem trip3 (𝒱 : Variants) (c : Dev nD) (bd : Option 𝒱.V) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x256x128 .bf16) (harg10 : arg10.IsWhole)
    (w : BitVec 32) (v2 v5 v8 : FVec Ideal S256x128 .f32) (v9 : IVec S256x128 32) (v42 : FVec Ideal S256x128 .f32) (v57 : FVec Ideal S256x128 .bf16)
    (v69 : FVec Ideal S256x1 .f32) (v72 : FVec Ideal S256x256 .f32) (v76 : FVec Ideal S256x1 .f32)
    (x3 x4 x5 x6 : Vec Ideal S1x2048x128 .bf16) (j : Fin 8) (hk : j.val < (k0_t3_loop i).trips) (acc : Carry) :
    tripR_k0_t3 (F := Ideal) 𝒱 c bd i arg3 harg3 arg4 harg4 arg5 harg5 arg6 harg6 arg7 harg7 arg8 harg8 arg9 harg9 arg10 harg10 w (BitVec.ofNat 32 (i 2).val) v2 v5 v8 v9 v42 v57 v69 v72 v76 (harg6.unread x3) (harg7.unread x4) (harg8.unread x5) (harg9.unread x6) ⟨j.val, hk⟩ acc
      = (tM acc.1 (mdot (k0_pay29 w v2 v5 v8 v9) (kv x3 j) (kv x4 j) (kv x5 j)),
        tL acc.1 acc.2.1 (mdot (k0_pay29 w v2 v5 v8 v9) (kv x3 j) (kv x4 j) (kv x5 j)),
        tA acc.1 acc.2.2 (mdot (k0_pay29 w v2 v5 v8 v9) (kv x3 j) (kv x4 j) (kv x5 j)) (kv x6 j)) := by
  have ho : k0_off4 i ⟨j.val, hk⟩ = ![0, 256 * j.val, 0] := by
    unfold k0_off4
    dsimp only
    rw [iv_eq, off_eq]
  unfold tripR_k0_t3 trip_k0_t3
  dsimp only
  sl_unfold_run_names
  simp only [View.readAt_eq_ld, harg6.read_unread, harg7.read_unread, harg8.read_unread, harg9.read_unread]
  rw [ld_block x3 j _ ho, ld_block x4 j _ ho, ld_block x5 j _ ho, ld_block x6 j _ ho]
  rfl

/-- The lower head's quotient. -/
theorem pay28_eq (qe : FVec Ideal S256x384 .bf16) (m l : FVec Ideal S256x1 .f32) (acc : FVec Ideal S256x128 .f32) (kn k1 k2 v : Vec Ideal S1x256x128 .bf16) :
    k0_pay28 acc (k0_pay22 v) (k0_pay25 k0_pay5 qe m kn k1 k2) (k0_pay26 k0_pay5 qe m kn k1 k2) (k0_pay27 k0_pay5 qe m l kn k1 k2)
      = tdiv (tL m l (mdiag qe kn k1 k2)) (tA m acc (mdiag qe kn k1 k2) v) := rfl

/-- The store of a grid point: the lower head's quotient on the lower lanes, the upper head's above. -/
theorem read_pay1 (out0 : FVec Ideal S256x128 .f32) (qe : FVec Ideal S256x384 .bf16)
    (m l : FVec Ideal S256x1 .f32) (acc : FVec Ideal S256x128 .f32) (kn k1 k2 v : Vec Ideal S1x256x128 .bf16) (r : Fin 256) (d : Fin 128) :
    k0_pay1 (k0_pay45 (iota .tc S256x128 32 [1] iota_S256x128_d1_w32) k0_pay5 out0 qe m l acc kn k1 k2 v) (ix3 0 r d)
      = if d.val < 64 then out0 (ix2 r d)
        else tdiv (tL m l (mdiag qe kn k1 k2)) (tA m acc (mdiag qe kn k1 k2) v) (ix2 r d) := by
  show (shapeCast S1x256x128 (truncf .bf16 (select (cmpi .slt (iota .tc S256x128 32 [1] iota_S256x128_d1_w32) (broadcast S256x128 64#32))
    out0 (tdiv (tL m l (mdiag qe kn k1 k2)) (tA m acc (mdiag qe kn k1 k2) v))) bitsLt_bf16_f32)
    shapeCasts_S256x128_S1x256x128 : FVec Ideal S1x256x128 .bf16) (ix3 0 r d) = _
  generalize tdiv (tL m l (mdiag qe kn k1 k2)) (tA m acc (mdiag qe kn k1 k2) v) = o1
  pointwise
  rw [lane_lt, select_ofBool]

/-- The tiles of scores a head computes: masked on the query's own block. -/
def tile (qe : FVec Ideal S256x384 .bf16) (x3 x4 x5 : Vec Ideal S1x2048x128 .bf16) (i j : Fin 8) : FVec Ideal S256x256 .f32 :=
  if j = i then mdiag qe (kv x3 j) (kv x4 j) (kv x5 j) else mdot qe (kv x3 j) (kv x4 j) (kv x5 j)

/-- A head's weighted mean of the values, from its scores. -/
def mean (S : Fin 8 → Fin 256 → EReal) (x : Vec Ideal S1x2048x128 .bf16) (d : Fin 128) : EReal :=
  (∑ j : Fin 8, ∑ c : Fin 256, ((Flash.wt (S j c) : ℝ) : EReal) * x (ix3 0 (rowOf j c) d))
    * (((∑ j : Fin 8, ∑ c : Fin 256, Flash.wt (S j c))⁻¹ : ℝ) : EReal)

/-- The queries of the lower head. -/
def qe0 (i : grid0.Coords) (x0 x1 x2 : Vec Ideal S1x256x128 .bf16) : FVec Ideal S256x384 .bf16 := k0_pay6 i x0 x1 x2

/-- The queries of the upper head. -/
def qe1 (i : grid0.Coords) (x0 x1 x2 : Vec Ideal S1x256x128 .bf16) : FVec Ideal S256x384 .bf16 :=
  k0_pay29 (BitVec.ofNat 32 (i 1).val) (k0_pay2 x0) (k0_pay3 x1) (k0_pay4 x2) (iota .tc S256x128 32 [1] iota_S256x128_d1_w32)

/-- What a grid point writes at row `r` and lane `d`: the lower head's mean on the lower lanes, the upper head's above. -/
theorem out_value (c : Dev nD) (i : grid0.Coords) (arg3 : Memref sig .tc .vmem S1x256x128 .bf16) (harg3 : arg3.IsWhole) (arg4 : Memref sig .tc .vmem S1x256x128 .bf16) (harg4 : arg4.IsWhole) (arg5 : Memref sig .tc .vmem S1x256x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x256x128 .bf16) (harg10 : arg10.IsWhole)
    (x0 x1 x2 : Vec Ideal S1x256x128 .bf16) (x3 x4 x5 x6 : Vec Ideal S1x2048x128 .bf16)
    (r : Fin 256) (d : Fin 128) (S0 S1 : Fin 8 → Fin 256 → EReal)
    (hT0 : ∀ j, j ≤ i 2 → ∀ c, tile (qe0 i x0 x1 x2) x3 x4 x5 (i 2) j (ix2 r c) = S0 j c) (hb0 : ∀ j, i 2 < j → ∀ c, S0 j c = ⊥)
    (hS0 : ∀ j c, S0 j c ≠ ⊤) (hd0 : S0 (i 2) r ≠ ⊥)
    (hT1 : ∀ j, j ≤ i 2 → ∀ c, tile (qe1 i x0 x1 x2) x3 x4 x5 (i 2) j (ix2 r c) = S1 j c) (hb1 : ∀ j, i 2 < j → ∀ c, S1 j c = ⊥)
    (hS1 : ∀ j c, S1 j c ≠ ⊤) (hd1 : S1 (i 2) r ≠ ⊥) :
    out0_A_7 c i arg3 harg3 arg4 harg4 arg5 harg5 arg6 harg6 arg7 harg7 arg8 harg8 arg9 harg9 arg10 harg10 x0 x1 x2 x3 x4 x5 x6 (ix3 0 r d)
      = if d.val < 64 then mean S0 x6 d else mean S1 x6 d := by
  have hz : (![0, 0, 0] : Fin 3 → Nat) = fun _ => 0 := by funext z; fin_cases z <;> rfl
  have hq : ∀ (x : Vec Ideal S1x256x128 .bf16) inb, View.ld x (Rect.unit (s := S1x256x128) ![0, 0, 0] ![1, 256, 128] inb) = x :=
    fun x inb => View.ld_unit_zero (S := S1x256x128) hz inb x
  have htr : (k0_t1_loop i).trips = (i 2).val := trips_main (i 2)
  have htr3 : (k0_t3_loop i).trips = (i 2).val := trips_main (i 2)
  unfold out0_A_7
  rw [View.read_writes_eq_canon _ _ _ (cover0_A_7 c i arg3 harg3 arg4 harg4 arg5 harg5 arg6 harg6 arg7 harg7 arg8 harg8 arg9 harg9 arg10 harg10 x0 x1 x2 x3 x4 x5 x6)]
  unfold kernelRun0_A
  dsimp only
  rw [View.canon_unit_zero hz]
  sl_unfold_run_names
  simp only [View.readAt_eq_ld, harg3.read_unread, harg4.read_unread, harg5.read_unread, harg6.read_unread, harg7.read_unread,
    harg8.read_unread, harg9.read_unread, hq, trips_main (i 2), trips_rest (i 2), st_k0_t2_zero, st_k0_t4_zero]
  have hk : ∀ (x : Vec Ideal S1x2048x128 .bf16) inb, View.ld x (Rect.unit (s := S1x2048x128) (k0_off3 i) ![1, 256, 128] inb) = kv x (i 2) :=
    fun x inb => ld_block x (i 2) _ (by unfold k0_off3; dsimp only; rw [off_eq (i 2)]) inb
  simp only [hk]
  rw [read_pay1]
  refine if_congr Iff.rfl ?_ ?_
  · rw [pay28_eq]
    refine Eq.trans ?_ (head_value (i 2) (st_k0_t1 Variants.none c none i arg3 harg3 arg4 harg4 arg5 harg5 arg6 harg6 arg7 harg7 arg8 harg8 arg9 harg9 arg10 harg10 (BitVec.ofNat 32 (i 2).val) k0_pay5 (qe0 i x0 x1 x2)
      k0_pay7 k0_pay8 k0_pay9 (harg6.unread x3) (harg7.unread x4) (harg8.unread x5) (harg9.unread x6) (k0_pay7, k0_pay8, k0_pay9))
      (tile (qe0 i x0 x1 x2) x3 x4 x5 (i 2)) S0 x6 r d rfl
      (fun j hj => ?_) hT0 hb0 hS0 hd0)
    · rw [show tile (qe0 i x0 x1 x2) x3 x4 x5 (i 2) (i 2) = mdiag (qe0 i x0 x1 x2) (kv x3 (i 2)) (kv x4 (i 2)) (kv x5 (i 2)) from if_pos rfl]
      rfl
    · rw [show tile (qe0 i x0 x1 x2) x3 x4 x5 (i 2) j = mdot (qe0 i x0 x1 x2) (kv x3 j) (kv x4 j) (kv x5 j) from if_neg hj.ne]
      exact (st_k0_t1_succ _ _ _ _ _ _ _ _ _ _ _ _ _ _ _ _ _ _ _ _ _ _ _ _ _ _ _ _ _ _ _ ⟨j.val, by rw [htr]; exact hj⟩).trans
        (trip1 _ _ _ _ _ _ _ _ _ _ _ _ _ _ _ _ _ _ _ _ _ _ _ _ _ _ _ _ _ j _ _)
  · let z : Carry := st_k0_t1 Variants.none c none i arg3 harg3 arg4 harg4 arg5 harg5 arg6 harg6 arg7 harg7 arg8 harg8 arg9 harg9 arg10 harg10 (BitVec.ofNat 32 (i 2).val) k0_pay5 (k0_pay6 i x0 x1 x2) k0_pay7 k0_pay8 k0_pay9 (harg6.unread x3) (harg7.unread x4) (harg8.unread x5) (harg9.unread x6) (k0_pay7, k0_pay8, k0_pay9) (i 2).val
    refine Eq.trans ?_ (head_value (i 2) (st_k0_t3 Variants.none c none i arg3 harg3 arg4 harg4 arg5 harg5 arg6 harg6 arg7 harg7 arg8 harg8 arg9 harg9 arg10 harg10 (BitVec.ofNat 32 (i 1).val) (BitVec.ofNat 32 (i 2).val) (k0_pay2 x0) (k0_pay3 x1) (k0_pay4 x2)
      (iota .tc S256x128 32 [1] iota_S256x128_d1_w32) z.2.2 (k0_pay22 (kv x6 (i 2))) (k0_pay25 k0_pay5 (k0_pay6 i x0 x1 x2) z.1 (kv x3 (i 2)) (kv x4 (i 2)) (kv x5 (i 2)))
      (k0_pay26 k0_pay5 (k0_pay6 i x0 x1 x2) z.1 (kv x3 (i 2)) (kv x4 (i 2)) (kv x5 (i 2))) (k0_pay27 k0_pay5 (k0_pay6 i x0 x1 x2) z.1 z.2.1 (kv x3 (i 2)) (kv x4 (i 2)) (kv x5 (i 2)))
      (harg6.unread x3) (harg7.unread x4) (harg8.unread x5) (harg9.unread x6) (k0_pay30, k0_pay31, k0_pay32))
      (tile (qe1 i x0 x1 x2) x3 x4 x5 (i 2)) S1 x6 r d rfl
      (fun j hj => ?_) hT1 hb1 hS1 hd1)
    · rw [show tile (qe1 i x0 x1 x2) x3 x4 x5 (i 2) (i 2) = mdiag (qe1 i x0 x1 x2) (kv x3 (i 2)) (kv x4 (i 2)) (kv x5 (i 2)) from if_pos rfl]
      rfl
    · rw [show tile (qe1 i x0 x1 x2) x3 x4 x5 (i 2) j = mdot (qe1 i x0 x1 x2) (kv x3 j) (kv x4 j) (kv x5 j) from if_neg hj.ne]
      exact (st_k0_t3_succ _ _ _ _ _ _ _ _ _ _ _ _ _ _ _ _ _ _ _ _ _ _ _ _ _ _ _ _ _ _ _ _ _ _ _ _ ⟨j.val, by rw [htr3]; exact hj⟩).trans
        (trip3 _ _ _ _ _ _ _ _ _ _ _ _ _ _ _ _ _ _ _ _ _ _ _ _ _ _ _ _ _ _ _ _ _ _ j _ _)

end Cert.MlaBlock

end
-- ==== Proof.MlaArr.lean ====
module

public import proofs.«01_k».proof.Proof.MlaBlock
public import Idealize.ShloMosaic.Lib.Claim
public import Idealize.ShloMosaic.Lib.Pipeline.ValueKit

@[expose] public section

set_option maxRecDepth 16384

noncomputable section

/-! The whole result array of the latent attention over the prompt. -/

namespace Cert.MlaBlock

open Idealize.ShloMosaic Idealize.ShloMosaic.Tactic Idealize.ShloMosaic.TcCoe Idealize.SL.Sem
open Cert.MlaIdeal Cert.MlaIdeal.Gen Cert.MobaTile Cert.Flash Cert.MlaSpec
open Cert.MobaBlock (plane phead sum_split)
open Cert.MobaSpec (headOf)

variable (m : (ℓ : Loc nD τ sig) → Buf (Elt Ideal) ℓ)

/-- Which block of each array a grid point sees. -/
theorem idx : ∀ t : Fin cfg0.N, win0_0.index t = ![(grid0.coords t 0).val, (grid0.coords t 2).val, (grid0.coords t 1).val]
    ∧ win0_1.index t = ![(grid0.coords t 0).val, (grid0.coords t 2).val, 4]
    ∧ win0_2.index t = ![(grid0.coords t 0).val, (grid0.coords t 2).val, 5]
    ∧ win0_3.index t = ![(grid0.coords t 0).val, 0, (grid0.coords t 1).val]
    ∧ win0_4.index t = ![(grid0.coords t 0).val, 0, 4]
    ∧ win0_5.index t = ![(grid0.coords t 0).val, 0, 5]
    ∧ win0_6.index t = ![(grid0.coords t 0).val, 0, (grid0.coords t 1).val]
    ∧ win0_7.index t = ![(grid0.coords t 0).val, (grid0.coords t 2).val, (grid0.coords t 1).val] :=
  (by decide +kernel : ∀ t : Fin grid0.N, _)

/-- The queries of the call. -/
def qA (c : Dev nD) (b : Fin 8) (t : Fin 2048) (n : Fin 768) : EReal := m ((c : Thread nD τ).loc main_arg0) (ix3 b t n)

/-- The keys of the call. -/
def kA (c : Dev nD) (b : Fin 8) (t : Fin 2048) (n : Fin 768) : EReal := m ((c : Thread nD τ).loc main_arg1) (ix3 b t n)

/-- The values of the call. -/
def vA (c : Dev nD) (b : Fin 8) (t : Fin 2048) (n : Fin 512) : EReal := m ((c : Thread nD τ).loc main_arg2) (ix3 b t n)

/-- The result array the formula gives. -/
def outA (c : Dev nD) : FVec Ideal S8x2048x512 .bf16 := fun y => out (qA m c) (kA m c) (vA m c) (y 0) (y 1) (y 2)

/-- The queries' plain lanes that a grid point sees. -/
theorem blk0 (c : Dev nD) (t : Fin cfg0.N) (r : Fin 256) (d : Fin 128) :
    iblk m c 0 t (ix3 0 r d) = qA m c (grid0.coords t 0) (rowOf (grid0.coords t 2) r) (planeN (grid0.coords t 1) d) := by
  unfold qA
  blk_ext [iblk, V, idx t, rowOf, planeN]

/-- The queries' first rotated lanes that a grid point sees. -/
theorem blk1 (c : Dev nD) (t : Fin cfg0.N) (r : Fin 256) (d : Fin 128) :
    iblk m c 1 t (ix3 0 r d) = qA m c (grid0.coords t 0) (rowOf (grid0.coords t 2) r) ⟨512 + d.val, by omega⟩ := by
  unfold qA
  blk_ext [iblk, V, idx t, rowOf]

/-- The queries' second rotated lanes that a grid point sees. -/
theorem blk2 (c : Dev nD) (t : Fin cfg0.N) (r : Fin 256) (d : Fin 128) :
    iblk m c 2 t (ix3 0 r d) = qA m c (grid0.coords t 0) (rowOf (grid0.coords t 2) r) ⟨640 + d.val, by omega⟩ := by
  unfold qA
  blk_ext [iblk, V, idx t, rowOf]

/-- The keys' plain lanes that a grid point sees. -/
theorem blk3 (c : Dev nD) (t : Fin cfg0.N) (u : Fin 2048) (d : Fin 128) :
    iblk m c 3 t (ix3 0 u d) = kA m c (grid0.coords t 0) u (planeN (grid0.coords t 1) d) := by
  unfold kA
  blk_ext [iblk, V, idx t, planeN]

/-- The keys' first rotated lanes that a grid point sees. -/
theorem blk4 (c : Dev nD) (t : Fin cfg0.N) (u : Fin 2048) (d : Fin 128) :
    iblk m c 4 t (ix3 0 u d) = kA m c (grid0.coords t 0) u ⟨512 + d.val, by omega⟩ := by
  unfold kA
  blk_ext [iblk, V, idx t]

/-- The keys' second rotated lanes that a grid point sees. -/
theorem blk5 (c : Dev nD) (t : Fin cfg0.N) (u : Fin 2048) (d : Fin 128) :
    iblk m c 5 t (ix3 0 u d) = kA m c (grid0.coords t 0) u ⟨640 + d.val, by omega⟩ := by
  unfold kA
  blk_ext [iblk, V, idx t]

/-- The values that a grid point sees. -/
theorem blk6 (c : Dev nD) (t : Fin cfg0.N) (u : Fin 2048) (d : Fin 128) :
    iblk m c 6 t (ix3 0 u d) = vA m c (grid0.coords t 0) u (plane (grid0.coords t 1) d) := by
  unfold vA
  blk_ext [iblk, V, idx t, plane]

/-- The scores of head `e` of a grid point's pair, for query row `r`. -/
def sA (c : Dev nD) (t : Fin cfg0.N) (e : Fin 2) (r : Fin 256) (j : Fin 8) (x : Fin 256) : EReal :=
  MlaSpec.score (qA m c) (kA m c) (grid0.coords t 0) (phead (grid0.coords t 1) e) (rowOf (grid0.coords t 2) r) (rowOf j x)

/-- The tiles hold the formula's scores. -/
theorem tile_eq (c : Dev nD) (t : Fin cfg0.N) (e : Fin 2) (qe : FVec Ideal S256x384 .bf16)
    (hqe : IsQ qe (grid0.coords t 1) e (iblk m c 0 t) (iblk m c 1 t) (iblk m c 2 t)) (r : Fin 256) (j : Fin 8) (hj : j ≤ grid0.coords t 2)
    (x : Fin 256) :
    tile qe (iblk m c 3 t) (iblk m c 4 t) (iblk m c 5 t) (grid0.coords t 2) j (ix2 r x) = sA m c t e r j x := by
  have h := mdot_eq (j := j) hqe (blk0 m c t) (blk1 m c t) (blk2 m c t) (blk3 m c t) (blk4 m c t) (blk5 m c t) r x
  unfold tile sA MlaSpec.score
  by_cases hi : j = grid0.coords t 2
  · rw [if_pos hi, read_mdiag, h]
    refine if_congr ?_ rfl rfl
    rw [hi]
    simp only [rowOf, Fin.mk_le_mk, Fin.le_def]
    omega
  · have hlt : j.val < (grid0.coords t 2).val := lt_of_le_of_ne hj fun h => hi (Fin.ext h)
    rw [if_neg hi, h, if_pos]
    simp only [rowOf, Fin.mk_le_mk]
    omega

/-- Later blocks are masked. -/
theorem late (c : Dev nD) (t : Fin cfg0.N) (e : Fin 2) (r : Fin 256) (j : Fin 8) (hj : grid0.coords t 2 < j) (x : Fin 256) :
    sA m c t e r j x = ⊥ := by
  have hlt : (grid0.coords t 2).val < j.val := hj
  unfold sA MlaSpec.score
  rw [if_neg]
  simp only [rowOf, Fin.mk_le_mk]
  omega

/-- A head's mean is the formula's result. -/
theorem mean_eq (c : Dev nD) (t : Fin cfg0.N) (e : Fin 2) (r : Fin 256) (d : Fin 128) (hd : d.val / 64 = e.val) :
    mean (sA m c t e r) (iblk m c 6 t) d
      = out (qA m c) (kA m c) (vA m c) (grid0.coords t 0) (rowOf (grid0.coords t 2) r) (plane (grid0.coords t 1) d) := by
  have hh : headOf (plane (grid0.coords t 1) d) = phead (grid0.coords t 1) e := Fin.ext (by simp only [headOf, plane, phead]; omega)
  unfold mean out
  rw [hh, sum_split 8 256 2048 rfl (fun x y => by omega), sum_split 8 256 2048 rfl (fun x y => by omega)]
  simp only [blk6]
  rfl

/-- The result array, when queries and keys are finite. -/
theorem final_eq (c : Dev nD) (hq : ∀ b t n, ∃ x : ℝ, qA m c b t n = x) (hk : ∀ b t n, ∃ x : ℝ, kA m c b t n = x) :
    (dats m 0 c).arrAt 7 cfg0.N = outA m c := by
  refine (dats m 0 c).arrAt_eq_of_covers 7 _ (by decide +kernel) fun t hf y => ?_
  blk_simp
  rw [after0_7]
  obtain ⟨r, d, rfl⟩ : ∃ (r : Fin 256) (d : Fin 128), y = ix3 0 r d := by
    idx_vars y
    exact ⟨y1, y2, by rw [Subsingleton.elim y0 (0 : Fin 1)]⟩
  unfold outsAt0
  rw [out_value (S0 := sA m c t 0 r) (S1 := sA m c t 1 r)]
  · have e : outA m c ((win0_7.blk t).view.emb (ix3 0 r d))
        = out (qA m c) (kA m c) (vA m c) (grid0.coords t 0) (rowOf (grid0.coords t 2) r) (plane (grid0.coords t 1) d) := by
      show outA m c _ = outA m c (ix3 (grid0.coords t 0) (rowOf (grid0.coords t 2) r) (plane (grid0.coords t 1) d))
      refine congrArg (outA m c) ?_
      blk_ext [idx t, rowOf, plane]
    rw [e]
    by_cases hd : d.val < 64
    · rw [if_pos hd, mean_eq m c t 0 r d (by show _ = 0; omega)]
    · rw [if_neg hd, mean_eq m c t 1 r d (by show _ = 1; omega)]
  · exact fun j hj x => tile_eq m c t 0 _ (isQ0 _ _ _ _) r j hj x
  · exact fun j hj x => late m c t 0 r j hj x
  · exact fun j x => score_ne_top hq hk _ _ _ _
  · exact score_self hq hk _ _ _
  · exact fun j hj x => tile_eq m c t 1 _ (isQ1 _ _ _ _) r j hj x
  · exact fun j hj x => late m c t 1 r j hj x
  · exact fun j x => score_ne_top hq hk _ _ _ _
  · exact score_self hq hk _ _ _

end Cert.MlaBlock

end
-- ==== Proof.MlaRef.lean ====
module

public import proofs.«01_k».proof.Proof.Gen.MlaRefIdeal.Run
public import proofs.«01_k».proof.Proof.MlaTile
public import proofs.«01_k».proof.Proof.Ref

@[expose] public section

set_option maxRecDepth 16384

noncomputable section

/-! The reference's latent attention over the prompt, read at a row and a lane. -/

namespace Cert.MlaRef

open Idealize.ShloMosaic Idealize.ShloMosaic.Tactic Idealize.ShloMosaic.TcCoe Idealize.SL.Sem
open Cert.MlaRefIdeal Cert.MlaRefIdeal.Gen Cert.MlaRefIdeal.Value Cert.Flash Cert.MlaSpec
open Cert.MobaSpec (headOf)
open Cert.MobaRef (rSoft read_rOut read_rProb read_rExp read_rMax at3)

/-- The lanes of each head put together. -/
def rHeads (x : FVec Ideal S8x2048x768 .bf16) : FVec Ideal S8x2048x8x96 .f32 :=
  concatenate S8x2048x8x96 3 [
    ⟨S8x2048x8x64, shapeCast S8x2048x8x64 (extractStridedSlice S8x2048x512 ![0, 0, 0] (extf .f32 x bitsLt_bf16_f32 : FVec Ideal S8x2048x768 .f32) slices_S8x2048x768_S8x2048x512_0_0_0) shapeCasts_S8x2048x512_S8x2048x8x64⟩,
    ⟨S8x2048x8x16, shapeCast S8x2048x8x16 (extractStridedSlice S8x2048x128 ![0, 0, 512] (extf .f32 x bitsLt_bf16_f32 : FVec Ideal S8x2048x768 .f32) slices_S8x2048x768_S8x2048x128_0_0_512) shapeCasts_S8x2048x128_S8x2048x8x16⟩,
    ⟨S8x2048x8x16, shapeCast S8x2048x8x16 (extractStridedSlice S8x2048x128 ![0, 0, 640] (extf .f32 x bitsLt_bf16_f32 : FVec Ideal S8x2048x768 .f32) slices_S8x2048x768_S8x2048x128_0_0_640) shapeCasts_S8x2048x128_S8x2048x8x16⟩]
    concatenates_S8x2048x8x64_S8x2048x8x16_S8x2048x8x16_S8x2048x8x96_d3

/-- The scores. -/
def rScore (q k : FVec Ideal S8x2048x8x96 .f32) : FVec Ideal S8x8x2048x2048 .f32 :=
  select (broadcastInDim S8x8x2048x2048 ![2, 3] bcast_S2048x2048_S8x8x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (mulf (Host.dotGeneral dot_S8x2048x8x96_S8x2048x8x96_S8x8x2048x2048_3_3_1_1_02_02 none q k)
      (broadcastInDim S8x8x2048x2048 ![] bcast_S_S8x8x2048x2048 (constant S_ .f32 0x3DD105EC#32)))
    (broadcastInDim S8x8x2048x2048 ![] bcast_S_S8x8x2048x2048 (id (constant S_ .f32 0xFF800000#32)))

/-- The run's result in stages. -/
theorem res_eq (m : (ℓ : Loc nD τ sig) → Buf (Elt Ideal) ℓ) (c : Dev nD) :
    res_main_v42 m c = rSoft (rScore (rHeads (m ((c.tc : Thread nD τ).loc main_arg0))) (rHeads (m ((c.tc : Thread nD τ).loc main_arg1))))
      (m ((c.tc : Thread nD τ).loc main_arg2)) := rfl

/-- The comparison of two token numbers as machine words is that of the numbers. -/
theorem sle_words (a b : ℕ) (ha : a < 2 ^ 30) (hb : b < 2 ^ 30) :
    IntOp.cmpi .sle (BitVec.ofNat 32 a) (BitVec.ofNat 32 b) = BitVec.ofBool (decide (a ≤ b)) := by
  show BitVec.ofBool ((BitVec.ofNat 32 a).sle (BitVec.ofNat 32 b)) = _
  rw [BitVec.sle_eq_decide, WordArith.toInt_ofNat_small a (by omega), WordArith.toInt_ofNat_small b (by omega)]
  congr 2
  exact propext Int.ofNat_le

/-- A head's plain lanes, read from the array. -/
theorem read_rHeads0 (x : FVec Ideal S8x2048x768 .bf16) (b : Fin 8) (t : Fin 2048) (h : Fin 8) (e : Fin 64) :
    rHeads x (ix4 b t h ⟨e.val, by omega⟩) = x (ix3 b t (laneN h e)) := by
  have hl : laneN h e = ⟨h.val * 64 + e.val, by omega⟩ := Fin.ext (by simp only [laneN]; omega)
  rw [hl]
  pointwise [rHeads]

/-- A head's first rotated lanes, read from the array. -/
theorem read_rHeads1 (x : FVec Ideal S8x2048x768 .bf16) (b : Fin 8) (t : Fin 2048) (h : Fin 8) (e : Fin 16) :
    rHeads x (ix4 b t h ⟨64 + e.val, by omega⟩) = x (ix3 b t (lane1 h e)) := by
  have hl : lane1 h e = ⟨512 + (h.val * 16 + e.val), by omega⟩ := Fin.ext (by simp only [lane1]; omega)
  rw [hl]
  pointwise [rHeads]

/-- A head's second rotated lanes, read from the array. -/
theorem read_rHeads2 (x : FVec Ideal S8x2048x768 .bf16) (b : Fin 8) (t : Fin 2048) (h : Fin 8) (e : Fin 16) :
    rHeads x (ix4 b t h ⟨80 + e.val, by omega⟩) = x (ix3 b t (lane2 h e)) := by
  have hl : lane2 h e = ⟨640 + (h.val * 16 + e.val), by omega⟩ := Fin.ext (by simp only [lane2]; omega)
  have he : 80 + e.val - 64 - 16 = e.val := by omega
  rw [hl]
  pointwise [rHeads]
  rw [dif_neg (by omega), dif_neg (by omega)]
  simp only [he]

/-- The reference's masked scores, read entry by entry. -/
theorem read_rScore (q k : FVec Ideal S8x2048x8x96 .f32) (b h : Fin 8) (t u : Fin 2048) :
    rScore q k (ix4 b h t u) = if u ≤ t then (∑ e : Fin 96, q (ix4 b t h e) * k (ix4 b u h e)) * scale else ⊥ := by
  pointwise [rScore]
  rw [sle_words _ _ (by omega) (by omega), MobaTile.select_ofBool]
  exact if_congr Iff.rfl rfl MobaTile.ofBits_neg_inf

/-- A sum over a head's 96 lanes in three parts. -/
theorem sum96 (f : Fin 96 → EReal) : ∑ e, f e = (∑ e : Fin 64, f ⟨e.val, by omega⟩) + (∑ e : Fin 16, f ⟨64 + e.val, by omega⟩)
    + (∑ e : Fin 16, f ⟨80 + e.val, by omega⟩) :=
  (Fin.sum_univ_add (a := 80) (b := 16) f).trans
    (congrArg (· + _) (Fin.sum_univ_add (a := 64) (b := 16) fun e => f (Fin.castAdd 16 e)))

/-- The reference's scores are the formula's. -/
theorem score_ref (aq ak : FVec Ideal S8x2048x768 .bf16) (b h : Fin 8) (t u : Fin 2048) :
    rScore (rHeads aq) (rHeads ak) (ix4 b h t u) = score (at3 aq) (at3 ak) b h t u := by
  rw [read_rScore, sum96]
  simp only [read_rHeads0, read_rHeads1, read_rHeads2]
  rfl

/-- The reference's result is the formula's, when queries and keys are finite. -/
theorem ref_value (aq ak : FVec Ideal S8x2048x768 .bf16) (av : FVec Ideal S8x2048x512 .bf16)
    (hq : ∀ b t n, ∃ x : ℝ, at3 aq b t n = x) (hk : ∀ b t n, ∃ x : ℝ, at3 ak b t n = x)
    (b : Fin 8) (t : Fin 2048) (n : Fin 512) :
    rSoft (rScore (rHeads aq) (rHeads ak)) av (ix3 b t n) = out (at3 aq) (at3 ak) (at3 av) b t n := by
  unfold rSoft
  rw [read_rOut]
  simp only [read_rProb, read_rExp, read_rMax, score_ref, MobaTile.ofBits_neg_inf]
  have hM := softmax_div (fun u => score (at3 aq) (at3 ak) b (headOf n) t u)
    (fun u => score_ne_top hq hk _ _ _ _) t (score_self hq hk _ _ _) rfl
  unfold out
  conv_rhs => rw [mul_comm, mul_sum _ _ (inv_nonneg.mpr (Finset.sum_nonneg fun u _ => wt_nonneg _))]
  refine Finset.sum_congr rfl fun u _ => ?_
  rw [hM, EReal.coe_mul, mul_comm, mul_comm (wt _ : EReal), mul_assoc]
  rfl

end Cert.MlaRef

end
-- ==== Proof.MlaJoin.lean ====
module

public import proofs.«01_k».proof.Defs
public import proofs.«01_k».proof.Proof.MlaArr
public import proofs.«01_k».proof.Proof.MlaRef
public import proofs.«01_k».proof.Proof.Join
public import proofs.«01_k».proof.Proof.Gen.Pre_finite_mla
public import Idealize.ShloMosaic.Lib.ReduceAll

@[expose] public section

set_option maxRecDepth 16384

noncomputable section

/-! The latent attention's two programs give equal results. -/

namespace Cert.MlaJoin

open Idealize.ShloMosaic Idealize.ShloMosaic.Tactic Idealize.ShloMosaic.TcCoe Idealize.SL.Sem
open Cert.MlaBlock Cert.MlaRef Cert.MlaSpec
open Cert.MobaJoin (real_of_abs)

/-- The precondition says that queries and keys are real numbers. -/
theorem real_of_pre (a0 a1 : FVec Ideal Cert.Pre_finite_mla.S8x2048x768 .bf16) (a2 : FVec Ideal Cert.Pre_finite_mla.S8x2048x512 .bf16)
    (h : Cert.Pre_finite_mla.fn a0 a1 a2 = fun _ => 1#1) : (∀ i, ∃ r : ℝ, a0 i = r) ∧ ∀ i, ∃ r : ℝ, a1 i = r := by
  have h := congrFun h ix0
  dsimp only [Cert.Pre_finite_mla.fn] at h
  obtain ⟨h0, h1⟩ := IntOp.andi_eq_one.mp h
  exact ⟨fun i => real_of_abs (a0 i) (Host.reduce_andi_all _ _ _ _ _ h0 i), fun i => real_of_abs (a1 i) (Host.reduce_andi_all _ _ _ _ _ h1 i)⟩

/-- The reference's frame: its run read at the arguments, and the program has no semaphore. -/
theorem frame_ref (m : (ℓ : Loc Cert.MlaRefIdeal.nD Cert.MlaRefIdeal.τ Cert.MlaRefIdeal.sig) → Buf (Elt Ideal) ℓ)
    (ρ : Dev Cert.MlaRefIdeal.nD → PrngReg) :
    θ_run (Cert.MlaRefIdeal.defs (F := Ideal)) (onTc (τ := Cert.MlaRefIdeal.τ) (Cert.MlaRefIdeal.main (F := Ideal))) ⟨m, fun _ => 0, ρ⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0) :=
  (θ_run Cert.MlaRefIdeal.defs _ _).mono (fun r h => ⟨fun c => (h c).2, Idealize.ShloMosaic.sem_eq_zero_of_no_sems (by decide) r.2⟩)
    (Cert.MlaRefIdeal.Value.run m ρ)

/-- The kernel and the reference give equal results. -/
theorem algebraic : Cert.algebraic_MlaIdeal_MlaRefIdeal_pre_finite_mla := by
  intro m g m' g' hpre hagree
  have hq : ∀ c b t n, ∃ x : ℝ, qA m c b t n = x := fun c b t n => (real_of_pre _ _ _ (hpre c)).1 _
  have hk : ∀ c b t n, ∃ x : ℝ, kA m c b t n = x := fun c b t n => (real_of_pre _ _ _ (hpre c)).2 _
  refine ⟨fun c => outA m c, ?_, ?_⟩
  · refine (θ_run _ _ _).mono (fun r h c => ?_) (Cert.MlaIdeal.Value.run_blocks m g)
    obtain ⟨h0, h1⟩ := h c
    exact ⟨h0.trans (final_eq m c (hq c) (hk c)), h1⟩
  · refine (θ_run _ _ _).mono (fun r h c => ?_) (Cert.MlaRefIdeal.Value.run m' g')
    obtain ⟨h0, h1⟩ := h c
    refine ⟨h0.trans ?_, h1⟩
    obtain ⟨e0, e1, e2⟩ := hagree c
    rw [res_eq, e0, e1, e2]
    funext y
    obtain ⟨b, t, n, rfl⟩ : ∃ (b : Fin 8) (t : Fin 2048) (n : Fin 512), y = ix3 b t n := by
      idx_vars y
      exact ⟨_, _, _, rfl⟩
    exact ref_value _ _ _ (hq c) (hk c) b t n

end Cert.MlaJoin
-- ==== Proof.Rows.lean ====
module

public import Idealize.ShloMosaic.Lib.Claim
public import Idealize.ShloMosaic.Lib.Pipeline.ValueKit

@[expose] public section

noncomputable section

/-! Formulas of a row that several calls share. -/

namespace Cert.Rows

open Idealize.ShloMosaic

/-- A row over its root mean square, times the gain: `D` is the row's length as a number. -/
def rms {n : Nat} (D : EReal) (x g : Fin n → EReal) (i : Fin n) : EReal :=
  x i * Ideal.rsqrt (Ideal.div (∑ j, x j * x j) D + Ideal.ofBits .f32 897988541#32) * g i

/-- Equal rows and gains give equal normed rows. -/
theorem rms_congr {n : Nat} (D : EReal) {x x' g g' : Fin n → EReal} (hx : ∀ i, x i = x' i) (hg : ∀ i, g i = g' i) (i : Fin n) :
    rms D x g i = rms D x' g' i := by
  rw [funext hx, funext hg]

end Cert.Rows
-- ==== Proof.FfnBlock.lean ====
module

public import proofs.«01_k».proof.Proof.Rows
public import proofs.«01_k».proof.Proof.Gen.FfnIdeal.Value
public import Idealize.ShloMosaic.Lib.Pointwise
public import Idealize.ShloMosaic.Lib.Pipeline.ReadBack

@[expose] public section

set_option maxRecDepth 16384

noncomputable section

/-! The feed-forward part, as the kernel computes it. -/

namespace Cert.FfnBlock

open Idealize.ShloMosaic Idealize.ShloMosaic.Tactic Idealize.ShloMosaic.TcCoe Idealize.SL.Sem
open Cert.FfnIdeal Cert.FfnIdeal.Gen Cert.FfnIdeal.Value Cert.Rows

/-- The number 1024, as both programs write it. -/
abbrev D : EReal := Ideal.ofBits .f32 1149239296#32

/-- A gated lane: the gate's product with its own sigmoid and with the up lane. -/
def gate (xn wg wu : Fin 1024 → EReal) : EReal :=
  (∑ j, xn j * wg j) * Ideal.logistic (∑ j, xn j * wg j) * ∑ j, xn j * wu j

/-- A row after the half step of the feed-forward part. -/
def ff (x g : Fin 1024 → EReal) (Wg Wu : Fin 1024 → Fin 2816 → EReal) (Wd : Fin 2816 → Fin 1024 → EReal) (n : Fin 1024) : EReal :=
  x n + Ideal.ofBits .f32 1056964608#32 * ∑ k, gate (rms D x g) (fun j => Wg j k) (fun j => Wu j k) * Wd k n

/-- A sum over all hidden lanes is the sum over the first half plus the sum over the second. -/
theorem sum_halves (f : Fin 2816 → EReal) :
    ∑ k, f k = (∑ k : Fin 1408, f ⟨0 * 1408 + k.val, by omega⟩) + ∑ k : Fin 1408, f ⟨1 * 1408 + k.val, by omega⟩ := by
  refine (Fin.sum_univ_add (a := 1408) (b := 1408) f).trans (congrArg₂ (· + ·) ?_ ?_)
  · exact Finset.sum_congr rfl fun k _ => congrArg f (Fin.ext (show k.val = 0 * 1408 + k.val by omega))
  · exact Finset.sum_congr rfl fun k _ => congrArg f (Fin.ext (show 1408 + k.val = 1 * 1408 + k.val by omega))

/-- The normed rows, read. -/
theorem read_pay1 (x : Vec Ideal S512x1024 .f32) (g : Vec Ideal S1x1024 .f32) (r : Fin 512) (n : Fin 1024) :
    k0_pay1 x g (ix2 r n) = rms D (fun j => x (ix2 r j)) (fun j => g (ix2 0 j)) n := by
  pointwise [k0_pay1]
  rfl

/-- The empty sum, read. -/
theorem read_pay2 (r : Fin 512) (n : Fin 1024) : k0_pay2 (F := Ideal) (ix2 r n) = (0 : EReal) := by
  pointwise [k0_pay2]

/-- A half's contribution, read. -/
theorem read_pay3 (x : Vec Ideal S512x1024 .bf16) (wg wu : Vec Ideal S1024x1408 .bf16) (a : Vec Ideal S512x1024 .f32) (wd : Vec Ideal S1408x1024 .bf16) (r : Fin 512) (n : Fin 1024) :
    k0_pay3 x wg wu a wd (ix2 r n)
      = a (ix2 r n) + ∑ k, gate (fun j => x (ix2 r j)) (fun j => wg (ix2 j k)) (fun j => wu (ix2 j k)) * wd (ix2 k n) := by
  pointwise [k0_pay3]
  rfl

/-- The half step, read. -/
theorem read_pay4 (x y : Vec Ideal S512x1024 .f32) (r : Fin 512) (n : Fin 1024) :
    k0_pay4 x y (ix2 r n) = x (ix2 r n) + Ideal.ofBits .f32 1056964608#32 * y (ix2 r n) := by
  pointwise [k0_pay4]

/-- The second norm, read. -/
theorem read_pay5 (x y : Vec Ideal S512x1024 .f32) (g : Vec Ideal S1x1024 .f32) (r : Fin 512) (n : Fin 1024) :
    k0_pay5 x y g (ix2 r n) = rms D (fun j => k0_pay4 x y (ix2 r j)) (fun j => g (ix2 0 j)) n := by
  generalize e : k0_pay4 x y = z
  unfold k0_pay5
  rw [e]
  pointwise []
  rfl

variable (m : (ℓ : Loc nD τ sig) → Buf (Elt Ideal) ℓ)

/-- The point before. -/
def prev (t : Fin cfg0.N) : Fin cfg0.N := ⟨t.val - 1, Nat.lt_of_le_of_lt (Nat.sub_le _ _) t.isLt⟩

/-- After a tile's first point the normed rows are kept. -/
theorem kept_xn (c : Dev nD) (t : Fin cfg0.N) (h0 : t.val % 2 = 0) :
    (outsAt0 m c t.val t.isLt).2.2.1 = k0_pay1 (iblk m c 0 t) (iblk m c 1 t) := by
  rw [outsAt0_A m c t h0 (by omega)]
  frame_out

/-- After a tile's first point the sum holds the first half. -/
theorem kept_acc (c : Dev nD) (t : Fin cfg0.N) (h0 : t.val % 2 = 0) :
    (outsAt0 m c t.val t.isLt).2.2.2
      = k0_pay3 (k0_pay1 (iblk m c 0 t) (iblk m c 1 t)) (iblk m c 2 t) (iblk m c 3 t) (k0_pay2 (F := Ideal)) (iblk m c 4 t) := by
  rw [outsAt0_A m c t h0 (by omega)]
  frame_out

/-- The whole sum at a tile's second point. -/
def total (c : Dev nD) (t : Fin cfg0.N) : Vec Ideal S512x1024 .f32 :=
  k0_pay3 (k0_pay1 (iblk m c 0 (prev t)) (iblk m c 1 (prev t))) (iblk m c 2 t) (iblk m c 3 t)
    (k0_pay3 (k0_pay1 (iblk m c 0 (prev t)) (iblk m c 1 (prev t))) (iblk m c 2 (prev t)) (iblk m c 3 (prev t)) (k0_pay2 (F := Ideal)) (iblk m c 4 (prev t)))
    (iblk m c 4 t)

/-- The sum over what the point before left is the whole sum. -/
theorem total_eq (c : Dev nD) (t : Fin cfg0.N) (h1 : t.val % 2 = 1) :
    k0_pay3 (outsAt0 m c (t.val - 1) (Nat.lt_of_le_of_lt (Nat.sub_le _ _) t.isLt)).2.2.1 (iblk m c 2 t) (iblk m c 3 t)
      (outsAt0 m c (t.val - 1) (Nat.lt_of_le_of_lt (Nat.sub_le _ _) t.isLt)).2.2.2 (iblk m c 4 t) = total m c t := by
  have h : (prev t).val % 2 = 0 := by show (t.val - 1) % 2 = 0; omega
  have e0 := kept_xn m c (prev t) h
  have e1 := kept_acc m c (prev t) h
  unfold total
  rw [← e1, ← e0]
  rfl

/-- What a tile's second point leaves in the first result. -/
theorem out_h (c : Dev nD) (t : Fin cfg0.N) (h1 : t.val % 2 = 1) : (outsAt0 m c t.val t.isLt).1 = k0_pay4 (iblk m c 0 t) (total m c t) := by
  rw [outsAt0_B m c t (by omega) h1]
  frame_out
  simp only [read_unread_whole]
  rw [total_eq m c t h1]

/-- What a tile's second point leaves in the second result. -/
theorem out_u (c : Dev nD) (t : Fin cfg0.N) (h1 : t.val % 2 = 1) :
    (outsAt0 m c t.val t.isLt).2.1 = k0_pay5 (iblk m c 0 t) (total m c t) (iblk m c 5 t) := by
  rw [outsAt0_B m c t (by omega) h1]
  frame_out
  simp only [read_unread_whole]
  rw [total_eq m c t h1]

theorem V_rows (c : Dev nD) : V m c main_v10 = shapeCast _ (m ((c : Thread nD τ).loc main_arg0)) shapeCasts_S8x2048x1024_S16384x1024 := by
  entry_read
  rfl

theorem V_gain (c : Dev nD) : V m c main_v1 = shapeCast _ (shapeCast _ (m ((c : Thread nD τ).loc main_arg1)) shapeCasts_S1x1024_S1024) shapeCasts_S1024_S1x1024 := by
  entry_read
  rfl

theorem V_gain2 (c : Dev nD) : V m c main_v9 = shapeCast _ (shapeCast _ (m ((c : Thread nD τ).loc main_arg5)) shapeCasts_S1x1024_S1024) shapeCasts_S1024_S1x1024 := by
  entry_read
  rfl

/-- A gate's or up matrix as the host hands it over. -/
def inV (a : FVec Ideal S1x1024x2816 .f32) : FVec Ideal S1024x2816 .bf16 :=
  truncf .bf16 (shapeCast S1024x2816 a shapeCasts_S1x1024x2816_S1024x2816) bitsLt_bf16_f32

/-- The down matrix as the host hands it over. -/
def downV (a : FVec Ideal S1x2816x1024 .f32) : FVec Ideal S2816x1024 .bf16 :=
  truncf .bf16 (shapeCast S2816x1024 a shapeCasts_S1x2816x1024_S2816x1024) bitsLt_bf16_f32

theorem V_wg (c : Dev nD) : V m c main_v3 = inV (m ((c : Thread nD τ).loc main_arg2)) := by
  entry_read
  rfl

theorem V_wu (c : Dev nD) : V m c main_v5 = inV (m ((c : Thread nD τ).loc main_arg3)) := by
  entry_read
  rfl

theorem V_wd (c : Dev nD) : V m c main_v7 = downV (m ((c : Thread nD τ).loc main_arg4)) := by
  entry_read
  rfl

/-- They are the matrices, read. -/
theorem read_inV (a : FVec Ideal S1x1024x2816 .f32) (j : Fin 1024) (k : Fin 2816) : inV a (ix2 j k) = a (ix3 0 j k) := by
  pointwise [inV]

theorem read_downV (a : FVec Ideal S1x2816x1024 .f32) (k : Fin 2816) (n : Fin 1024) : downV a (ix2 k n) = a (ix3 0 k n) := by
  pointwise [downV]

/-- The rows one after the other, read. -/
theorem read_rows (a : FVec Ideal S8x2048x1024 .f32) (R : Fin 16384) (j : Fin 1024) :
    shapeCast S16384x1024 a shapeCasts_S8x2048x1024_S16384x1024 (ix2 R j) = a (ix3 ⟨R.val / 2048, by omega⟩ ⟨R.val % 2048, by omega⟩ j) := by
  pointwise []

/-- The gain, read. -/
theorem read_gain (a : FVec Ideal S1x1024 .f32) (j : Fin 1024) :
    shapeCast S1x1024 (shapeCast S1024 a shapeCasts_S1x1024_S1024) shapeCasts_S1024_S1x1024 (ix2 0 j) = a (ix2 0 j) := by
  pointwise []

theorem idx : ∀ t : Fin cfg0.N, win0_0.index t = ![t.val / 2, 0]
    ∧ win0_1.index t = ![0, 0] ∧ win0_2.index t = ![0, t.val % 2] ∧ win0_3.index t = ![0, t.val % 2]
    ∧ win0_4.index t = ![t.val % 2, 0] ∧ win0_5.index t = ![0, 0]
    ∧ win0_6.index t = ![t.val / 2, 0] ∧ win0_7.index t = ![t.val / 2, 0] :=
  (by decide +kernel : ∀ t : Fin grid0.N, _)

/-- A row of the input. -/
def xA (c : Dev nD) (R : Fin 16384) (j : Fin 1024) : EReal := m ((c : Thread nD τ).loc main_arg0) (ix3 ⟨R.val / 2048, by omega⟩ ⟨R.val % 2048, by omega⟩ j)

/-- The first norm's gain. -/
def gA (c : Dev nD) (j : Fin 1024) : EReal := m ((c : Thread nD τ).loc main_arg1) (ix2 0 j)

/-- The gate's matrix. -/
def wgA (c : Dev nD) (j : Fin 1024) (k : Fin 2816) : EReal := m ((c : Thread nD τ).loc main_arg2) (ix3 0 j k)

/-- The up matrix. -/
def wuA (c : Dev nD) (j : Fin 1024) (k : Fin 2816) : EReal := m ((c : Thread nD τ).loc main_arg3) (ix3 0 j k)

/-- The down matrix. -/
def wdA (c : Dev nD) (k : Fin 2816) (n : Fin 1024) : EReal := m ((c : Thread nD τ).loc main_arg4) (ix3 0 k n)

/-- The second norm's gain. -/
def g2A (c : Dev nD) (j : Fin 1024) : EReal := m ((c : Thread nD τ).loc main_arg5) (ix2 0 j)

/-- Row `r` of the tile at point `t`. -/
def rowOf (t : Fin cfg0.N) (r : Fin 512) : Fin 16384 := ⟨t.val / 2 * 512 + r.val, by have h : t.val < 64 := t.isLt; omega⟩

/-- Hidden lane `k` of the half at point `t`. -/
def lane (t : Fin cfg0.N) (k : Fin 1408) : Fin 2816 := ⟨t.val % 2 * 1408 + k.val, by omega⟩

theorem blk0 (c : Dev nD) (t : Fin cfg0.N) (r : Fin 512) (j : Fin 1024) : iblk m c 0 t (ix2 r j) = xA m c (rowOf t r) j := by
  have e : V m c main_v10 (ix2 (rowOf t r) j) = xA m c (rowOf t r) j := by
    rw [V_rows]
    exact read_rows _ _ _
  rw [← e]
  blk_ext [iblk, V, idx t, rowOf]

theorem blk1 (c : Dev nD) (t : Fin cfg0.N) (j : Fin 1024) : iblk m c 1 t (ix2 0 j) = gA m c j := by
  have e : V m c main_v1 (ix2 0 j) = gA m c j := by
    rw [V_gain]
    exact read_gain _ _
  rw [← e]
  blk_ext [iblk, V, idx t]

theorem blk2 (c : Dev nD) (t : Fin cfg0.N) (j : Fin 1024) (k : Fin 1408) : iblk m c 2 t (ix2 j k) = wgA m c j (lane t k) := by
  have e : V m c main_v3 (ix2 j (lane t k)) = wgA m c j (lane t k) := by
    rw [V_wg]
    exact read_inV _ _ _
  rw [← e]
  blk_ext [iblk, V, idx t, lane]

theorem blk3 (c : Dev nD) (t : Fin cfg0.N) (j : Fin 1024) (k : Fin 1408) : iblk m c 3 t (ix2 j k) = wuA m c j (lane t k) := by
  have e : V m c main_v5 (ix2 j (lane t k)) = wuA m c j (lane t k) := by
    rw [V_wu]
    exact read_inV _ _ _
  rw [← e]
  blk_ext [iblk, V, idx t, lane]

theorem blk4 (c : Dev nD) (t : Fin cfg0.N) (k : Fin 1408) (n : Fin 1024) : iblk m c 4 t (ix2 k n) = wdA m c (lane t k) n := by
  have e : V m c main_v7 (ix2 (lane t k) n) = wdA m c (lane t k) n := by
    rw [V_wd]
    exact read_downV _ _ _
  rw [← e]
  blk_ext [iblk, V, idx t, lane]

theorem blk5 (c : Dev nD) (t : Fin cfg0.N) (j : Fin 1024) : iblk m c 5 t (ix2 0 j) = g2A m c j := by
  have e : V m c main_v9 (ix2 0 j) = g2A m c j := by
    rw [V_gain2]
    exact read_gain _ _
  rw [← e]
  blk_ext [iblk, V, idx t]

/-- A row of the first result. -/
def hA (c : Dev nD) (R : Fin 16384) (n : Fin 1024) : EReal := ff (xA m c R) (gA m c) (wgA m c) (wuA m c) (wdA m c) n

/-- The first result array the formula gives. -/
def outH (c : Dev nD) : FVec Ideal S16384x1024 .f32 := fun y => hA m c (y 0) (y 1)

/-- The second result array the formula gives. -/
def outU (c : Dev nD) : FVec Ideal S16384x1024 .bf16 := fun y => rms D (hA m c (y 0)) (g2A m c) (y 1)

/-- The half step at a tile's second point is the formula. -/
theorem tile_h (c : Dev nD) (t : Fin cfg0.N) (h1 : t.val % 2 = 1) (r : Fin 512) (n : Fin 1024) :
    k0_pay4 (iblk m c 0 t) (total m c t) (ix2 r n) = hA m c (rowOf t r) n := by
  have er : rowOf (prev t) r = rowOf t r := Fin.ext (by show (t.val - 1) / 2 * 512 + r.val = t.val / 2 * 512 + r.val; omega)
  have l0 : ∀ k, lane (prev t) k = ⟨0 * 1408 + k.val, by omega⟩ := fun k => Fin.ext (by show (t.val - 1) % 2 * 1408 + k.val = 0 * 1408 + k.val; omega)
  have l1 : ∀ k, lane t k = ⟨1 * 1408 + k.val, by omega⟩ := fun k => Fin.ext (by show t.val % 2 * 1408 + k.val = 1 * 1408 + k.val; omega)
  rw [read_pay4, blk0]
  unfold total
  simp only [read_pay3, read_pay1, read_pay2, blk0, blk1, blk2, blk3, blk4, er, l0, l1, zero_add]
  unfold hA ff
  rw [sum_halves]

/-- The first result array after the kernel. -/
theorem final6 (c : Dev nD) : (dats m 0 c).arrAt 6 cfg0.N = outH m c := by
  refine (dats m 0 c).arrAt_eq_of_covers 6 _ (by decide +kernel) fun t hf y => ?_
  have h1 : t.val % 2 = 1 := (flush0_6 t).mp hf
  blk_simp
  rw [after0_6]
  obtain ⟨r, d, rfl⟩ : ∃ (r : Fin 512) (d : Fin 1024), y = ix2 r d := by
    idx_vars y
    exact ⟨_, _, rfl⟩
  have e : outH m c ((win0_6.blk t).view.emb (ix2 r d)) = hA m c (rowOf t r) d := by
    show outH m c _ = outH m c (ix2 (rowOf t r) d)
    refine congrArg (outH m c) ?_
    blk_ext [idx t, rowOf]
  rw [out_h m c t h1, tile_h m c t h1]
  exact e.symm

/-- The second result array after the kernel. -/
theorem final7 (c : Dev nD) : (dats m 0 c).arrAt 7 cfg0.N = outU m c := by
  refine (dats m 0 c).arrAt_eq_of_covers 7 _ (by decide +kernel) fun t hf y => ?_
  have h1 : t.val % 2 = 1 := (flush0_7 t).mp hf
  blk_simp
  rw [after0_7]
  obtain ⟨r, d, rfl⟩ : ∃ (r : Fin 512) (d : Fin 1024), y = ix2 r d := by
    idx_vars y
    exact ⟨_, _, rfl⟩
  have e : outU m c ((win0_7.blk t).view.emb (ix2 r d)) = rms D (hA m c (rowOf t r)) (g2A m c) d := by
    show outU m c _ = outU m c (ix2 (rowOf t r) d)
    refine congrArg (outU m c) ?_
    blk_ext [idx t, rowOf]
  rw [out_u m c t h1, read_pay5, funext (tile_h m c t h1 r), funext (blk5 m c t)]
  exact e.symm

end Cert.FfnBlock
-- ==== Proof.PostBlock.lean ====
module

public import proofs.«01_k».proof.Proof.FfnBlock
public import proofs.«01_k».proof.Proof.Gen.PostIdeal.Value
public import Idealize.ShloMosaic.Lib.Pointwise
public import Idealize.ShloMosaic.Lib.Pipeline.ReadBack

@[expose] public section

set_option maxRecDepth 16384

noncomputable section

/-! The layer's last part, as the kernel computes it: the feed-forward call without the second norm. -/

namespace Cert.PostBlock

open Idealize.ShloMosaic Idealize.ShloMosaic.Tactic Idealize.ShloMosaic.TcCoe Idealize.SL.Sem
open Cert.PostIdeal Cert.PostIdeal.Gen Cert.PostIdeal.Value Cert.Rows
open Cert.FfnBlock (D gate ff sum_halves read_inV read_downV read_gain)

/-- The normed rows, read. -/
theorem read_pay1 (x : Vec Ideal S512x1024 .f32) (g : Vec Ideal S1x1024 .f32) (r : Fin 512) (n : Fin 1024) :
    k0_pay1 x g (ix2 r n) = rms D (fun j => x (ix2 r j)) (fun j => g (ix2 0 j)) n := by
  pointwise [k0_pay1]
  rfl

/-- The empty sum, read. -/
theorem read_pay2 (r : Fin 512) (n : Fin 1024) : k0_pay2 (F := Ideal) (ix2 r n) = (0 : EReal) := by
  pointwise [k0_pay2]

/-- A half's contribution, read. -/
theorem read_pay3 (x : Vec Ideal S512x1024 .bf16) (wg wu : Vec Ideal S1024x1408 .bf16) (a : Vec Ideal S512x1024 .f32) (wd : Vec Ideal S1408x1024 .bf16) (r : Fin 512) (n : Fin 1024) :
    k0_pay3 x wg wu a wd (ix2 r n)
      = a (ix2 r n) + ∑ k, gate (fun j => x (ix2 r j)) (fun j => wg (ix2 j k)) (fun j => wu (ix2 j k)) * wd (ix2 k n) := by
  pointwise [k0_pay3]
  rfl

/-- The half step, read. -/
theorem read_pay4 (x y : Vec Ideal S512x1024 .f32) (r : Fin 512) (n : Fin 1024) :
    k0_pay4 x y (ix2 r n) = x (ix2 r n) + Ideal.ofBits .f32 1056964608#32 * y (ix2 r n) := by
  pointwise [k0_pay4]

variable (m : (ℓ : Loc nD τ sig) → Buf (Elt Ideal) ℓ)

/-- The point before. -/
def prev (t : Fin cfg0.N) : Fin cfg0.N := ⟨t.val - 1, Nat.lt_of_le_of_lt (Nat.sub_le _ _) t.isLt⟩

/-- After a tile's first point the normed rows are kept. -/
theorem kept_xn (c : Dev nD) (t : Fin cfg0.N) (h0 : t.val % 2 = 0) :
    (outsAt0 m c t.val t.isLt).2.1 = k0_pay1 (iblk m c 0 t) (iblk m c 1 t) := by
  rw [outsAt0_A m c t h0 (by omega)]
  frame_out

/-- After a tile's first point the sum holds the first half. -/
theorem kept_acc (c : Dev nD) (t : Fin cfg0.N) (h0 : t.val % 2 = 0) :
    (outsAt0 m c t.val t.isLt).2.2
      = k0_pay3 (k0_pay1 (iblk m c 0 t) (iblk m c 1 t)) (iblk m c 2 t) (iblk m c 3 t) (k0_pay2 (F := Ideal)) (iblk m c 4 t) := by
  rw [outsAt0_A m c t h0 (by omega)]
  frame_out

/-- The whole sum at a tile's second point. -/
def total (c : Dev nD) (t : Fin cfg0.N) : Vec Ideal S512x1024 .f32 :=
  k0_pay3 (k0_pay1 (iblk m c 0 (prev t)) (iblk m c 1 (prev t))) (iblk m c 2 t) (iblk m c 3 t)
    (k0_pay3 (k0_pay1 (iblk m c 0 (prev t)) (iblk m c 1 (prev t))) (iblk m c 2 (prev t)) (iblk m c 3 (prev t)) (k0_pay2 (F := Ideal)) (iblk m c 4 (prev t)))
    (iblk m c 4 t)

/-- The sum over what the point before left is the whole sum. -/
theorem total_eq (c : Dev nD) (t : Fin cfg0.N) (h1 : t.val % 2 = 1) :
    k0_pay3 (outsAt0 m c (t.val - 1) (Nat.lt_of_le_of_lt (Nat.sub_le _ _) t.isLt)).2.1 (iblk m c 2 t) (iblk m c 3 t)
      (outsAt0 m c (t.val - 1) (Nat.lt_of_le_of_lt (Nat.sub_le _ _) t.isLt)).2.2 (iblk m c 4 t) = total m c t := by
  have h : (prev t).val % 2 = 0 := by show (t.val - 1) % 2 = 0; omega
  have e0 := kept_xn m c (prev t) h
  have e1 := kept_acc m c (prev t) h
  unfold total
  rw [← e1, ← e0]
  rfl

/-- What a tile's second point leaves in the result. -/
theorem out_h (c : Dev nD) (t : Fin cfg0.N) (h1 : t.val % 2 = 1) : (outsAt0 m c t.val t.isLt).1 = k0_pay4 (iblk m c 0 t) (total m c t) := by
  rw [outsAt0_B m c t (by omega) h1]
  frame_out
  simp only [read_unread_whole]
  rw [total_eq m c t h1]

theorem V_gain (c : Dev nD) : V m c main_v1 = shapeCast _ (shapeCast _ (m ((c : Thread nD τ).loc main_arg1)) shapeCasts_S1x1024_S1024) shapeCasts_S1024_S1x1024 := by
  entry_read
  rfl

theorem V_wg (c : Dev nD) : V m c main_v3 = FfnBlock.inV (m ((c : Thread nD τ).loc main_arg2)) := by
  entry_read
  rfl

theorem V_wu (c : Dev nD) : V m c main_v5 = FfnBlock.inV (m ((c : Thread nD τ).loc main_arg3)) := by
  entry_read
  rfl

theorem V_wd (c : Dev nD) : V m c main_v7 = FfnBlock.downV (m ((c : Thread nD τ).loc main_arg4)) := by
  entry_read
  rfl

theorem idx : ∀ t : Fin cfg0.N, win0_0.index t = ![t.val / 2, 0]
    ∧ win0_1.index t = ![0, 0] ∧ win0_2.index t = ![0, t.val % 2] ∧ win0_3.index t = ![0, t.val % 2]
    ∧ win0_4.index t = ![t.val % 2, 0] ∧ win0_5.index t = ![0, 0]
    ∧ win0_6.index t = ![t.val / 2, 0] :=
  (by decide +kernel : ∀ t : Fin grid0.N, _)

/-- A row of the input. -/
def xA (c : Dev nD) (R : Fin 16384) (j : Fin 1024) : EReal := m ((c : Thread nD τ).loc main_arg0) (ix2 R j)

/-- The first norm's gain. -/
def gA (c : Dev nD) (j : Fin 1024) : EReal := m ((c : Thread nD τ).loc main_arg1) (ix2 0 j)

/-- The gate's matrix. -/
def wgA (c : Dev nD) (j : Fin 1024) (k : Fin 2816) : EReal := m ((c : Thread nD τ).loc main_arg2) (ix3 0 j k)

/-- The up matrix. -/
def wuA (c : Dev nD) (j : Fin 1024) (k : Fin 2816) : EReal := m ((c : Thread nD τ).loc main_arg3) (ix3 0 j k)

/-- The down matrix. -/
def wdA (c : Dev nD) (k : Fin 2816) (n : Fin 1024) : EReal := m ((c : Thread nD τ).loc main_arg4) (ix3 0 k n)

/-- Row `r` of the tile at point `t`. -/
def rowOf (t : Fin cfg0.N) (r : Fin 512) : Fin 16384 := ⟨t.val / 2 * 512 + r.val, by have h : t.val < 64 := t.isLt; omega⟩

/-- Hidden lane `k` of the half at point `t`. -/
def lane (t : Fin cfg0.N) (k : Fin 1408) : Fin 2816 := ⟨t.val % 2 * 1408 + k.val, by omega⟩

theorem blk0 (c : Dev nD) (t : Fin cfg0.N) (r : Fin 512) (j : Fin 1024) : iblk m c 0 t (ix2 r j) = xA m c (rowOf t r) j := by
  unfold xA
  blk_ext [iblk, V, idx t, rowOf]

theorem blk1 (c : Dev nD) (t : Fin cfg0.N) (j : Fin 1024) : iblk m c 1 t (ix2 0 j) = gA m c j := by
  have e : V m c main_v1 (ix2 0 j) = gA m c j := by
    rw [V_gain]
    exact read_gain _ _
  rw [← e]
  blk_ext [iblk, V, idx t]

theorem blk2 (c : Dev nD) (t : Fin cfg0.N) (j : Fin 1024) (k : Fin 1408) : iblk m c 2 t (ix2 j k) = wgA m c j (lane t k) := by
  have e : V m c main_v3 (ix2 j (lane t k)) = wgA m c j (lane t k) := by
    rw [V_wg]
    exact read_inV _ _ _
  rw [← e]
  blk_ext [iblk, V, idx t, lane]

theorem blk3 (c : Dev nD) (t : Fin cfg0.N) (j : Fin 1024) (k : Fin 1408) : iblk m c 3 t (ix2 j k) = wuA m c j (lane t k) := by
  have e : V m c main_v5 (ix2 j (lane t k)) = wuA m c j (lane t k) := by
    rw [V_wu]
    exact read_inV _ _ _
  rw [← e]
  blk_ext [iblk, V, idx t, lane]

theorem blk4 (c : Dev nD) (t : Fin cfg0.N) (k : Fin 1408) (n : Fin 1024) : iblk m c 4 t (ix2 k n) = wdA m c (lane t k) n := by
  have e : V m c main_v7 (ix2 (lane t k) n) = wdA m c (lane t k) n := by
    rw [V_wd]
    exact read_downV _ _ _
  rw [← e]
  blk_ext [iblk, V, idx t, lane]

/-- A row of the result. -/
def hA (c : Dev nD) (R : Fin 16384) (n : Fin 1024) : EReal := ff (xA m c R) (gA m c) (wgA m c) (wuA m c) (wdA m c) n

/-- The result array the formula gives. -/
def outH (c : Dev nD) : FVec Ideal S16384x1024 .f32 := fun y => hA m c (y 0) (y 1)

/-- The half step at a tile's second point is the formula. -/
theorem tile_h (c : Dev nD) (t : Fin cfg0.N) (h1 : t.val % 2 = 1) (r : Fin 512) (n : Fin 1024) :
    k0_pay4 (iblk m c 0 t) (total m c t) (ix2 r n) = hA m c (rowOf t r) n := by
  have er : rowOf (prev t) r = rowOf t r := Fin.ext (by show (t.val - 1) / 2 * 512 + r.val = t.val / 2 * 512 + r.val; omega)
  have l0 : ∀ k, lane (prev t) k = ⟨0 * 1408 + k.val, by omega⟩ := fun k => Fin.ext (by show (t.val - 1) % 2 * 1408 + k.val = 0 * 1408 + k.val; omega)
  have l1 : ∀ k, lane t k = ⟨1 * 1408 + k.val, by omega⟩ := fun k => Fin.ext (by show t.val % 2 * 1408 + k.val = 1 * 1408 + k.val; omega)
  rw [read_pay4, blk0]
  unfold total
  simp only [read_pay3, read_pay1, read_pay2, blk0, blk1, blk2, blk3, blk4, er, l0, l1, zero_add]
  unfold hA ff
  rw [sum_halves]

/-- The result array after the kernel. -/
theorem final6 (c : Dev nD) : (dats m 0 c).arrAt 6 cfg0.N = outH m c := by
  refine (dats m 0 c).arrAt_eq_of_covers 6 _ (by decide +kernel) fun t hf y => ?_
  have h1 : t.val % 2 = 1 := (flush0_6 t).mp hf
  blk_simp
  rw [after0_6]
  obtain ⟨r, d, rfl⟩ : ∃ (r : Fin 512) (d : Fin 1024), y = ix2 r d := by
    idx_vars y
    exact ⟨_, _, rfl⟩
  have e : outH m c ((win0_6.blk t).view.emb (ix2 r d)) = hA m c (rowOf t r) d := by
    show outH m c _ = outH m c (ix2 (rowOf t r) d)
    refine congrArg (outH m c) ?_
    blk_ext [idx t, rowOf]
  rw [out_h m c t h1, tile_h m c t h1]
  exact e.symm

end Cert.PostBlock
-- ==== Proof.PostRef.lean ====
module

public import proofs.«01_k».proof.Defs
public import proofs.«01_k».proof.Proof.PostBlock
public import proofs.«01_k».proof.Proof.Gen.PostRefIdeal.Run
public import Idealize.ShloMosaic.Lib.Pointwise

@[expose] public section

set_option maxRecDepth 16384

noncomputable section

/-! The layer's last part, as the reference computes it, and the two programs together. -/

namespace Cert.PostRef

open Idealize.ShloMosaic Idealize.ShloMosaic.Tactic Idealize.ShloMosaic.TcCoe Idealize.SL.Sem
open Cert.PostRefIdeal Cert.PostRefIdeal.Gen Cert.PostRefIdeal.Value Cert.PostBlock Cert.Rows
open Cert.FfnBlock (D gate ff)

/-- The reference's norm of a row. -/
def rNorm (x : FVec Ideal S16384x1024 .f32) (g : FVec Ideal S1x1024 .f32) : FVec Ideal S16384x1024 .f32 :=
  mulf (mulf x (broadcastInDim S16384x1024 ![0, 1] bcast_S16384x1_S16384x1024_0_1 (Host.rsqrt (addf (Host.divf
      (broadcastInDim S16384x1 ![0] bcast_S16384_S16384x1_0 (Host.reduceAdd (mulf x x) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast _ g shapeCasts_S1x1024_S1024)))

/-- The reference's product with a gate's or up matrix. -/
def rIn (xn : FVec Ideal S16384x1024 .f32) (w : FVec Ideal S1x1024x2816 .f32) : FVec Ideal S16384x2816 .f32 :=
  Host.dotGeneral dot_S16384x1024_S1024x2816_S16384x2816_1_0_0_1_n_n none xn (shapeCast _ w shapeCasts_S1x1024x2816_S1024x2816)

/-- The reference's gated lanes. -/
def rGate (a b : FVec Ideal S16384x2816 .f32) : FVec Ideal S16384x2816 .f32 :=
  mulf (mulf a (Host.divf (broadcastInDim S16384x2816 ![] bcast_S_S16384x2816 (constant S_ .f32 0x3F800000#32))
    (addf (broadcastInDim S16384x2816 ![] bcast_S_S16384x2816 (constant S_ .f32 0x3F800000#32)) (Host.exp (Host.negf a))))) b

/-- The reference's half step. -/
def rStep (x : FVec Ideal S16384x1024 .f32) (h : FVec Ideal S16384x2816 .f32) (w : FVec Ideal S1x2816x1024 .f32) : FVec Ideal S16384x1024 .f32 :=
  addf x (mulf (broadcastInDim S16384x1024 ![] bcast_S_S16384x1024 (constant S_ .f32 0x3F000000#32))
    (Host.dotGeneral dot_S16384x2816_S2816x1024_S16384x1024_1_0_0_1_n_n none h (shapeCast _ w shapeCasts_S1x2816x1024_S2816x1024)))

/-- The reference's rows after the half step. -/
def rFf (x : FVec Ideal S16384x1024 .f32) (g : FVec Ideal S1x1024 .f32) (wg wu : FVec Ideal S1x1024x2816 .f32) (wd : FVec Ideal S1x2816x1024 .f32) :
    FVec Ideal S16384x1024 .f32 :=
  rStep x (rGate (rIn (rNorm x g) wg) (rIn (rNorm x g) wu)) wd

/-- The norm, read. -/
theorem read_norm (x : FVec Ideal S16384x1024 .f32) (g : FVec Ideal S1x1024 .f32) (R : Fin 16384) (n : Fin 1024) :
    rNorm x g (ix2 R n) = rms D (fun j => x (ix2 R j)) (fun j => g (ix2 0 j)) n := by
  pointwise [rNorm]
  rfl

/-- The product, read. -/
theorem read_in (xn : FVec Ideal S16384x1024 .f32) (w : FVec Ideal S1x1024x2816 .f32) (R : Fin 16384) (k : Fin 2816) :
    rIn xn w (ix2 R k) = ∑ j, xn (ix2 R j) * w (ix3 0 j k) := by
  pointwise [rIn]

/-- The gated lane, read. -/
theorem read_gate (a c : FVec Ideal S16384x2816 .f32) (R : Fin 16384) (k : Fin 2816) :
    rGate a c (ix2 R k) = a (ix2 R k) * Ideal.logistic (a (ix2 R k)) * c (ix2 R k) := by
  pointwise [rGate]
  rfl

/-- The half step, read. -/
theorem read_step (x : FVec Ideal S16384x1024 .f32) (h : FVec Ideal S16384x2816 .f32) (w : FVec Ideal S1x2816x1024 .f32) (R : Fin 16384) (n : Fin 1024) :
    rStep x h w (ix2 R n) = x (ix2 R n) + Ideal.ofBits .f32 1056964608#32 * ∑ k, h (ix2 R k) * w (ix3 0 k n) := by
  pointwise [rStep]

/-- The rows after the half step are the formula. -/
theorem read_ff (x : FVec Ideal S16384x1024 .f32) (g : FVec Ideal S1x1024 .f32) (wg wu : FVec Ideal S1x1024x2816 .f32) (wd : FVec Ideal S1x2816x1024 .f32)
    (R : Fin 16384) (n : Fin 1024) :
    rFf x g wg wu wd (ix2 R n) = ff (fun j => x (ix2 R j)) (fun j => g (ix2 0 j)) (fun j k => wg (ix3 0 j k)) (fun j k => wu (ix3 0 j k))
      (fun k n => wd (ix3 0 k n)) n := by
  unfold rFf ff gate
  simp only [read_step, read_gate, read_in, read_norm]

/-- The reference's frame: its run read at the arguments, and the program has no semaphore. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, Idealize.ShloMosaic.sem_eq_zero_of_no_sems (by decide) r.2⟩)
    (Value.run m ρ)

/-- The kernel and the reference give equal rows. -/
theorem algebraic : Cert.algebraic_PostIdeal_PostRefIdeal := by
  intro m g m' g' _ hagree
  refine ⟨fun c => outH m c, ?_, ?_⟩
  · refine (θ_run _ _ _).mono (fun r h c => ?_) (Cert.PostIdeal.Value.run_blocks m g)
    obtain ⟨h0, h1⟩ := h c
    exact ⟨h0.trans (final6 m c), h1⟩
  · refine (θ_run _ _ _).mono (fun r h c => ?_) (Cert.PostRefIdeal.Value.run m' g')
    obtain ⟨h0, h1⟩ := h c
    obtain ⟨e0, e1, e2, e3, e4, e5⟩ := hagree c
    refine ⟨h0.trans ?_, h1⟩
    rw [e0, e1, e2, e3, e4]
    funext y
    obtain ⟨R, n, rfl⟩ : ∃ (R : Fin 16384) (n : Fin 1024), y = ix2 R n := by
      idx_vars y
      exact ⟨_, _, rfl⟩
    exact read_ff _ _ _ _ _ R n

end Cert.PostRef
-- ==== Proof.ProjSpec.lean ====
module

public import proofs.«01_k».proof.Proof.Rows

@[expose] public section

set_option maxRecDepth 16384

noncomputable section

/-! The lanes of the projected rows: heads inside a row, and the sum of squares of a head taken by a product with zeros and ones. -/

namespace Cert.ProjSpec

open Idealize.ShloMosaic Cert.Rows

/-- The number 64 as the program writes it. -/
def D64 : EReal := Ideal.ofBits .f32 0x42800000#32

/-- The number 96 as the program writes it. -/
def D96 : EReal := Ideal.ofBits .f32 0x42C00000#32

/-- The number 128 as the program writes it. -/
def D128 : EReal := Ideal.ofBits .f32 0x43000000#32

/-- The number 256 as the program writes it. -/
def D256 : EReal := Ideal.ofBits .f32 0x43800000#32

theorem D64_eq : D64 = ((64 : ℝ) : EReal) := by
  unfold D64
  simp [Ideal.ofBits, Ideal.ieee, -EReal.coe_mul]
  norm_num

theorem D96_eq : D96 = ((96 : ℝ) : EReal) := by
  unfold D96
  simp [Ideal.ofBits, Ideal.ieee, -EReal.coe_mul]
  norm_num

theorem sixty_fourth : Ideal.ofBits .f32 0x3C800000#32 = ((64⁻¹ : ℝ) : EReal) := by
  simp [Ideal.ofBits, Ideal.ieee, -EReal.coe_mul]
  norm_num

/-- A product with the inverse of a positive real is the quotient. -/
theorem mul_inv_real (x : EReal) (r : ℝ) (hr : r ≠ 0) : x * ((r⁻¹ : ℝ) : EReal) = Ideal.div x ((r : ℝ) : EReal) := by
  unfold Ideal.div
  rw [if_neg (by exact_mod_cast hr), EReal.coe_inv]

theorem mul_64 (x : EReal) : x * Ideal.ofBits .f32 0x3C800000#32 = Ideal.div x D64 := by
  rw [sixty_fourth, D64_eq]
  exact mul_inv_real x 64 (by norm_num)

theorem mul_96 (x : EReal) : x * ((96⁻¹ : ℝ) : EReal) = Ideal.div x D96 := by
  rw [D96_eq]
  exact mul_inv_real x 96 (by norm_num)

/-- A sum against zeros and ones that mark one head is the sum over the head's lanes. -/
theorem head_sum {N H D : Nat} (hd : Fin N → Fin H) (dd : Fin N → Fin D) (lane : Fin H → Fin D → Fin N)
    (h1 : ∀ n, lane (hd n) (dd n) = n) (h2 : ∀ h d, hd (lane h d) = h) (h3 : ∀ h d, dd (lane h d) = d) (f : Fin N → EReal) (h : Fin H) :
    ∑ j, f j * (if hd j = h then 1 else 0) = ∑ d, f (lane h d) := by
  have e : ∀ j, f j * (if hd j = h then (1 : EReal) else 0) = if hd j = h then f j else 0 := fun j => by
    split <;> simp
  simp only [e]
  rw [← Finset.sum_filter]
  refine Finset.sum_nbij' dd (lane h) ?_ ?_ ?_ ?_ ?_
  · exact fun _ _ => Finset.mem_univ _
  · exact fun d _ => Finset.mem_filter.mpr ⟨Finset.mem_univ _, h2 h d⟩
  · intro j hj
    have := (Finset.mem_filter.mp hj).2
    subst this
    exact h1 j
  · exact fun d _ => h3 h d
  · intro j hj
    have := (Finset.mem_filter.mp hj).2
    subst this
    rw [h1]

/-- Lane `n`'s head, of 64 lanes each. -/
def hd5 (n : Fin 512) : Fin 8 := ⟨n.val / 64, by omega⟩

/-- Lane `n`'s place in its head. -/
def dd5 (n : Fin 512) : Fin 64 := ⟨n.val % 64, by omega⟩

/-- Lane `d` of head `h`. -/
def lane5 (h : Fin 8) (d : Fin 64) : Fin 512 := ⟨64 * h.val + d.val, by omega⟩

theorem lane5_hd (n : Fin 512) : lane5 (hd5 n) (dd5 n) = n := Fin.ext (by simp only [lane5, hd5, dd5]; omega)
theorem hd5_lane (h : Fin 8) (d : Fin 64) : hd5 (lane5 h d) = h := Fin.ext (by simp only [lane5, hd5]; omega)
theorem dd5_lane (h : Fin 8) (d : Fin 64) : dd5 (lane5 h d) = d := Fin.ext (by simp only [lane5, dd5]; omega)

/-- Lane `n`'s head when the heads' first 64 lanes come first, then sixteen lanes of each, then sixteen more. -/
def hd7 (n : Fin 768) : Fin 8 := if h : n.val < 512 then ⟨n.val / 64, by omega⟩ else ⟨n.val % 128 / 16, by omega⟩

/-- Lane `n`'s place in its head of 96 lanes. -/
def dd7 (n : Fin 768) : Fin 96 :=
  if n.val < 512 then ⟨n.val % 64, by omega⟩ else if n.val < 640 then ⟨64 + n.val % 16, by omega⟩ else ⟨80 + n.val % 16, by omega⟩

/-- Lane `d` of head `h` in that order. -/
def lane7 (h : Fin 8) (d : Fin 96) : Fin 768 :=
  if h1 : d.val < 64 then ⟨64 * h.val + d.val, by omega⟩ else if h2 : d.val < 80 then ⟨512 + 16 * h.val + (d.val - 64), by omega⟩
  else ⟨640 + 16 * h.val + (d.val - 80), by omega⟩

theorem lane7_hd : ∀ n : Fin 768, lane7 (hd7 n) (dd7 n) = n := by decide +kernel
theorem hd7_lane : ∀ (h : Fin 8) (d : Fin 96), hd7 (lane7 h d) = h := by decide +kernel
theorem dd7_lane : ∀ (h : Fin 8) (d : Fin 96), dd7 (lane7 h d) = d := by decide +kernel

/-- A head's norm, its squares summed by the product with zeros and ones. -/
theorem group5 (x g : Fin 512 → EReal) (g' : Fin 64 → EReal) (e : Fin 512 → Fin 512 → EReal)
    (he : ∀ j n, e j n = if hd5 j = hd5 n then 1 else 0) (hg : ∀ n, g n = g' (dd5 n)) (n : Fin 512) :
    x n * Ideal.rsqrt ((∑ j, x j * x j * e j n) * Ideal.ofBits .f32 0x3C800000#32 + Ideal.ofBits .f32 897988541#32) * g n
      = rms D64 (fun d => x (lane5 (hd5 n) d)) g' (dd5 n) := by
  unfold rms
  simp only [he]
  rw [head_sum hd5 dd5 lane5 lane5_hd hd5_lane dd5_lane (fun j => x j * x j), mul_64, hg, lane5_hd]

/-- The same for heads of 96 lanes in three parts. -/
theorem group7 (x g : Fin 768 → EReal) (g' : Fin 96 → EReal) (e : Fin 768 → Fin 768 → EReal)
    (he : ∀ j n, e j n = if hd7 j = hd7 n then 1 else 0) (hg : ∀ n, g n = g' (dd7 n)) (n : Fin 768) :
    x n * Ideal.rsqrt ((∑ j, x j * x j * e j n) * ((96⁻¹ : ℝ) : EReal) + Ideal.ofBits .f32 897988541#32) * g n
      = rms D96 (fun d => x (lane7 (hd7 n) d)) g' (dd7 n) := by
  unfold rms
  simp only [he]
  rw [head_sum hd7 dd7 lane7 lane7_hd hd7_lane dd7_lane (fun j => x j * x j), mul_96, hg, lane7_hd]

section row

variable (u : Fin 1024 → EReal) (w : Fin 1024 → Fin 5536 → EReal)

/-- Entry `n` of a projected row. -/
def zrow (n : Fin 5536) : EReal := ∑ j, u j * w j n

/-- Lane `d` of head `h` of the projected row, the heads starting at column 0. -/
def aqF (g : Fin 64 → EReal) (h : Fin 8) (d : Fin 64) : EReal := rms D64 (fun d => zrow u w ⟨64 * h.val + d.val, by omega⟩) g d

/-- The same for the keys, starting at column 512. -/
def akF (g : Fin 64 → EReal) (h : Fin 8) (d : Fin 64) : EReal := rms D64 (fun d => zrow u w ⟨512 + 64 * h.val + d.val, by omega⟩) g d

/-- The values. -/
def avF (n : Fin 512) : EReal := zrow u w ⟨1024 + n.val, by omega⟩

/-- The normed latent query. -/
def mqaF (g : Fin 256 → EReal) (i : Fin 256) : EReal := rms D256 (fun i => zrow u w ⟨1536 + i.val, by omega⟩) g i

/-- The normed latent. -/
def ckvF (g : Fin 128 → EReal) (i : Fin 128) : EReal := rms D128 (fun i => zrow u w ⟨1792 + i.val, by omega⟩) g i

/-- The shared key lanes. -/
def krF (d : Fin 32) : EReal := zrow u w ⟨1920 + d.val, by omega⟩

/-- The memory queries. -/
def xqF (g : Fin 128 → EReal) (h : Fin 4) (d : Fin 128) : EReal := rms D128 (fun d => zrow u w ⟨1952 + 128 * h.val + d.val, by omega⟩) g d

/-- The latent queries of a head. -/
def mqF (ga : Fin 256 → EReal) (wq : Fin 256 → Fin 768 → EReal) (g : Fin 96 → EReal) (h : Fin 8) (d : Fin 96) : EReal :=
  rms D96 (fun d => ∑ i, mqaF u w ga i * wq i ⟨96 * h.val + d.val, by omega⟩) g d

/-- The product of the latent with its matrix, a head's 64 key lanes before its 64 value lanes. -/
def kvF (g : Fin 128 → EReal) (wk : Fin 128 → Fin 1024 → EReal) (h : Fin 8) (e : Fin 128) : EReal :=
  ∑ i, ckvF u w g i * wk i ⟨128 * h.val + e.val, by omega⟩

/-- The latent values of a head. -/
def vmF (g : Fin 128 → EReal) (wk : Fin 128 → Fin 1024 → EReal) (h : Fin 8) (d : Fin 64) : EReal := kvF u w g wk h ⟨64 + d.val, by omega⟩

/-- The latent keys of a head before their norm. -/
def kpF (g : Fin 128 → EReal) (wk : Fin 128 → Fin 1024 → EReal) (h : Fin 8) (d : Fin 96) : EReal :=
  if hd : d.val < 64 then kvF u w g wk h ⟨d.val, by omega⟩ else krF u w ⟨d.val - 64, by omega⟩

/-- The latent keys of a head. -/
def kmF (g : Fin 128 → EReal) (wk : Fin 128 → Fin 1024 → EReal) (gk : Fin 96 → EReal) (h : Fin 8) (d : Fin 96) : EReal :=
  rms D96 (kpF u w g wk h) gk d

end row

/-- A head's lanes with the last 32 turned by the position's angles: lane `n` of the order by parts. -/
def turn (c s : Fin 16 → EReal) (x : Fin 8 → Fin 96 → EReal) (n : Fin 768) : EReal :=
  if n.val < 512 then x (hd7 n) (dd7 n)
  else if n.val < 640 then
    x (hd7 n) ⟨64 + n.val % 16, by omega⟩ * c ⟨n.val % 16, by omega⟩ - x (hd7 n) ⟨80 + n.val % 16, by omega⟩ * s ⟨n.val % 16, by omega⟩
  else x (hd7 n) ⟨64 + n.val % 16, by omega⟩ * s ⟨n.val % 16, by omega⟩ + x (hd7 n) ⟨80 + n.val % 16, by omega⟩ * c ⟨n.val % 16, by omega⟩

/-- A block's mean of the keys. -/
def meanF (U : Fin 16384 → Fin 1024 → EReal) (w : Fin 1024 → Fin 5536 → EReal) (g : Fin 64 → EReal) (b : Fin 64) (n : Fin 512) : EReal :=
  Ideal.div (∑ r : Fin 256, akF (U ⟨256 * b.val + r.val, by omega⟩) w g (hd5 n) (dd5 n)) D256

end Cert.ProjSpec
-- ==== Proof.ProjBlock.lean ====
module

public import proofs.«01_k».proof.Proof.ProjSpec
public import proofs.«01_k».proof.Proof.Gen.ProjectIdeal.Value
public import Idealize.ShloMosaic.Lib.Pointwise
public import Idealize.ShloMosaic.Lib.Pipeline.ReadBack

@[expose] public section

set_option maxRecDepth 16384

noncomputable section

/-! The input projection as the kernel computes it: the operands, the product, and the results that need no rotation. -/

namespace Cert.ProjBlock

open Idealize.ShloMosaic Idealize.ShloMosaic.Tactic Idealize.ShloMosaic.TcCoe Idealize.SL.Sem
open Cert.ProjectIdeal Cert.ProjectIdeal.Gen Cert.ProjectIdeal.Value Cert.Rows Cert.ProjSpec

/-- The columns in the kernel's order, as the host hands them over. -/
def wpV (a : FVec Ideal S1x1024x5536 .f32) : FVec Ideal S1024x2560 .bf16 :=
  truncf .bf16 (concatenate S1024x2560 1
    [⟨S1024x1920, extractStridedSlice S1024x1920 ![0, 0] (shapeCast S1024x5536 a shapeCasts_S1x1024x5536_S1024x5536) slices_S1024x5536_S1024x1920_0_0⟩,
     ⟨S1024x512, extractStridedSlice S1024x512 ![0, 1952] (shapeCast S1024x5536 a shapeCasts_S1x1024x5536_S1024x5536) slices_S1024x5536_S1024x512_0_1952⟩,
     ⟨S1024x32, extractStridedSlice S1024x32 ![0, 1920] (shapeCast S1024x5536 a shapeCasts_S1x1024x5536_S1024x5536) slices_S1024x5536_S1024x32_0_1920⟩,
     ⟨S1024x96, broadcastInDim S1024x96 ![] bcast_S_S1024x96 (constant S_ .f32 0x00000000#32)⟩]
    concatenates_S1024x1920_S1024x512_S1024x32_S1024x96_S1024x2560_d1) bitsLt_bf16_f32

/-- The zeros and ones that mark a head's lanes. -/
def e64V : FVec Ideal S512x512 .bf16 :=
  uitofp .bf16 (cmpi .eq
    (broadcastInDim S512x512 ![0, 1] bcast_S512x1_S512x512_0_1 (broadcastInDim S512x1 ![0] bcast_S512_S512x1_0
      (Host.shrsi (iotaInDim S512 32 0) (broadcastInDim S512 ![] bcast_S_S512 (constantI S_ 32 6#32)))))
    (broadcastInDim S512x512 ![0, 1] bcast_S1x512_S512x512_0_1 (broadcastInDim S1x512 ![1] bcast_S512_S1x512_1
      (Host.shrsi (iotaInDim S512 32 0) (broadcastInDim S512 ![] bcast_S_S512 (constantI S_ 32 6#32))))))

/-- A head's gain, once per head. -/
def tileV (a : FVec Ideal S1x64 .f32) : FVec Ideal S1x512 .f32 :=
  shapeCast S1x512 (shapeCast S512 (broadcastInDim S8x64 ![0, 1] bcast_S1x64_S8x64_0_1
    (shapeCast S1x64 (shapeCast S64 a shapeCasts_S1x64_S64) shapeCasts_S64_S1x64)) shapeCasts_S8x64_S512) shapeCasts_S512_S1x512

/-- A gain of 128 lanes. -/
def g128V (a : FVec Ideal S1x128 .f32) : FVec Ideal S1x128 .f32 := shapeCast S1x128 (shapeCast S128 a shapeCasts_S1x128_S128) shapeCasts_S128_S1x128

theorem read_wpV_lo (a : FVec Ideal S1x1024x5536 .f32) (j : Fin 1024) (n : Fin 1920) :
    wpV a (ix2 j ⟨n.val, by omega⟩) = a (ix3 0 j ⟨n.val, by omega⟩) := by
  pointwise [wpV]

theorem read_wpV_xq (a : FVec Ideal S1x1024x5536 .f32) (j : Fin 1024) (n : Fin 512) :
    wpV a (ix2 j ⟨1920 + n.val, by omega⟩) = a (ix3 0 j ⟨1952 + n.val, by omega⟩) := by
  pointwise [wpV]

theorem read_wpV_kr (a : FVec Ideal S1x1024x5536 .f32) (j : Fin 1024) (n : Fin 32) :
    wpV a (ix2 j ⟨2432 + n.val, by omega⟩) = a (ix3 0 j ⟨1920 + n.val, by omega⟩) := by
  pointwise [wpV]
  rw [dif_neg (by omega), dif_neg (by omega), dif_pos (by omega)]
  refine congrArg a (congrArg (ix3 0 j) (Fin.ext ?_))
  show 1920 + (2432 + n.val - 1920 - 512) = 1920 + n.val
  omega

theorem shift6 : ∀ a : Fin 512, IntOp.shrsi ArithUnit.host (BitVec.ofNat 32 a.val) 6#32 = BitVec.ofNat 32 (a.val / 64) := by decide +kernel

/-- Comparing two small numbers gives one or zero. -/
theorem eq_bit : ∀ a b : Fin 8, IntOp.cmpi .eq (BitVec.ofNat 32 a.val) (BitVec.ofNat 32 b.val) = if a = b then 1#1 else 0#1 := by decide +kernel

/-- The comparison as a number. -/
theorem eq_num (a b : Fin 8) : (FloatOps.uitofp (F := Ideal) FTy.bf16 (IntOp.cmpi .eq (BitVec.ofNat 32 a.val) (BitVec.ofNat 32 b.val)) : EReal) = if a = b then 1 else 0 := by
  rw [eq_bit]
  split <;> simp [FloatOps.uitofp]

theorem read_e64V (j n : Fin 512) : e64V (ix2 j n) = if hd5 j = hd5 n then 1 else 0 := by
  pointwise [e64V]
  rw [shift6, shift6]
  exact eq_num (hd5 j) (hd5 n)

theorem read_tileV (a : FVec Ideal S1x64 .f32) (n : Fin 512) : tileV a (ix2 0 n) = a (ix2 0 (dd5 n)) := by
  pointwise [tileV]
  rfl

theorem read_g128V (a : FVec Ideal S1x128 .f32) (n : Fin 128) : g128V a (ix2 0 n) = a (ix2 0 n) := by
  pointwise [g128V]

theorem read_pay3 (u : Vec Ideal S512x1024 .bf16) (w : Vec Ideal S1024x2560 .bf16) (r : Fin 512) (n : Fin 2560) :
    k0_pay3 u w (ix2 r n) = ∑ j, u (ix2 r j) * w (ix2 j n) := by
  pointwise [k0_pay3]

/-- The queries, read over the product. -/
theorem read_pay6 (u : Vec Ideal S512x1024 .bf16) (w : Vec Ideal S1024x2560 .bf16) (e6 : Vec Ideal S512x512 .bf16) (g : Vec Ideal S1x512 .f32)
    (z : Fin 512 → EReal) (r n : Fin 512) (hz : ∀ j : Fin 512, k0_pay3 u w (ix2 r ⟨j.val, by omega⟩) = z j) :
    k0_pay6 u w e6 g (ix2 r n) = z n * Ideal.rsqrt ((∑ j, z j * z j * e6 (ix2 j n)) * Ideal.ofBits .f32 0x3C800000#32 + Ideal.ofBits .f32 897988541#32) * g (ix2 0 n) := by
  simp only [← hz]
  generalize e : k0_pay3 u w = y
  unfold k0_pay6
  rw [e]
  pointwise []

/-- The keys' columns, read over the product. -/
theorem read_pay7 (u : Vec Ideal S512x1024 .bf16) (w : Vec Ideal S1024x2560 .bf16) (r n : Fin 512) :
    k0_pay7 u w (ix2 r n) = k0_pay3 u w (ix2 r ⟨512 + n.val, by omega⟩) := by
  generalize e : k0_pay3 u w = y
  unfold k0_pay7
  rw [e]
  pointwise []

theorem read_pay8 (u : Vec Ideal S512x1024 .bf16) (w : Vec Ideal S1024x2560 .bf16) (e6 : Vec Ideal S512x512 .bf16) (r n : Fin 512) :
    k0_pay8 u w e6 (ix2 r n) = (∑ j, k0_pay7 u w (ix2 r j) * k0_pay7 u w (ix2 r j) * e6 (ix2 j n)) * Ideal.ofBits .f32 0x3C800000#32 := by
  generalize e : k0_pay7 u w = y
  unfold k0_pay8
  rw [e]
  pointwise []

theorem read_pay9 (r n : Fin 512) : k0_pay9 (F := Ideal) (ix2 r n) = Ideal.ofBits .f32 897988541#32 := by
  pointwise [k0_pay9]

theorem read_pay10 (a b d : FVec Ideal S512x512 .f32) (g : Vec Ideal S1x512 .f32) (r n : Fin 512) :
    k0_pay10 a b d g (ix2 r n) = a (ix2 r n) * Ideal.rsqrt (b (ix2 r n) + d (ix2 r n)) * g (ix2 0 n) := by
  pointwise [k0_pay10]

theorem read_pay11 (a b d : FVec Ideal S512x512 .f32) (g : Vec Ideal S1x512 .f32) (n r : Fin 512) :
    k0_pay11 a b d g (ix3 0 n r) = k0_pay10 a b d g (ix2 r n) := by
  generalize e : k0_pay10 a b d g = y
  unfold k0_pay11
  rw [e]
  pointwise []

theorem read_pay12 (a b d : FVec Ideal S512x512 .f32) (g : Vec Ideal S1x512 .f32) (r n : Fin 512) :
    k0_pay12 a b d g (ix2 r n) = k0_pay10 a b d g (ix2 r n) := by
  generalize e : k0_pay10 a b d g = y
  unfold k0_pay12
  rw [e]
  pointwise []

theorem read_pay13 (a b d : FVec Ideal S512x512 .f32) (g : Vec Ideal S1x512 .f32) (n : Fin 512) :
    k0_pay13 a b d g (ix3 0 0 n) = Ideal.div (∑ r : Fin 256, k0_pay10 a b d g (ix2 ⟨r.val, by omega⟩ n)) D256 := by
  generalize e : k0_pay10 a b d g = y
  unfold k0_pay13
  rw [e]
  pointwise []
  rfl

theorem read_pay14 (a b d : FVec Ideal S512x512 .f32) (g : Vec Ideal S1x512 .f32) (n : Fin 512) :
    k0_pay14 a b d g (ix3 0 0 n) = Ideal.div (∑ r : Fin 256, k0_pay10 a b d g (ix2 ⟨256 + r.val, by omega⟩ n)) D256 := by
  generalize e : k0_pay10 a b d g = y
  unfold k0_pay14
  rw [e]
  pointwise []
  rfl

theorem read_pay16 (z : FVec Ideal S512x2560 .f32) (n r : Fin 512) : k0_pay16 z (ix3 0 n r) = z (ix2 r ⟨1024 + n.val, by omega⟩) := by
  pointwise [k0_pay16, k0_pay15]

theorem read_pay17 (z : FVec Ideal S512x2560 .f32) (r n : Fin 512) : k0_pay17 z (ix2 r n) = z (ix2 r ⟨1024 + n.val, by omega⟩) := by
  pointwise [k0_pay17, k0_pay15]

theorem read_pay24 (z : FVec Ideal S512x2560 .f32) (g : Vec Ideal S1x128 .f32) (r : Fin 512) (n : Fin 128) :
    k0_pay24 z g (ix2 r n) = rms D128 (fun i : Fin 128 => z (ix2 r ⟨1792 + i.val, by omega⟩)) (fun i => g (ix2 0 i)) n := by
  pointwise [k0_pay24]
  rfl

theorem read_pay27 (z : FVec Ideal S512x2560 .f32) (n : Fin 32) (r : Fin 512) : k0_pay27 z (ix3 0 n r) = z (ix2 r ⟨2432 + n.val, by omega⟩) := by
  pointwise [k0_pay27]

theorem read_pay25 (z : FVec Ideal S512x2560 .f32) (r n : Fin 512) : k0_pay25 z (ix2 r n) = z (ix2 r ⟨1920 + n.val, by omega⟩) := by
  pointwise [k0_pay25]

theorem read_pay36 (z : FVec Ideal S512x512 .f32) (g : Vec Ideal S1x128 .f32) (r : Fin 512) (n : Fin 128) :
    k0_pay36 z g (ix2 r n) = rms D128 (fun i : Fin 128 => z (ix2 r ⟨i.val, by omega⟩)) (fun i => g (ix2 0 i)) n := by
  pointwise [k0_pay36]
  rfl

theorem read_pay37 (z : FVec Ideal S512x512 .f32) (g : Vec Ideal S1x128 .f32) (r : Fin 512) (n : Fin 128) :
    k0_pay37 z g (ix2 r n) = rms D128 (fun i : Fin 128 => z (ix2 r ⟨128 + i.val, by omega⟩)) (fun i => g (ix2 0 i)) n := by
  pointwise [k0_pay37]
  rfl

theorem read_pay1 (z : FVec Ideal S512x512 .f32) (g : Vec Ideal S1x128 .f32) (r : Fin 512) (n : Fin 128) :
    k0_pay1 z g (ix2 r n) = rms D128 (fun i : Fin 128 => z (ix2 r ⟨256 + i.val, by omega⟩)) (fun i => g (ix2 0 i)) n := by
  pointwise [k0_pay1]
  rfl

theorem read_pay2 (z : FVec Ideal S512x512 .f32) (g : Vec Ideal S1x128 .f32) (r : Fin 512) (n : Fin 128) :
    k0_pay2 z g (ix2 r n) = rms D128 (fun i : Fin 128 => z (ix2 r ⟨384 + i.val, by omega⟩)) (fun i => g (ix2 0 i)) n := by
  pointwise [k0_pay2]
  rfl

variable (m : (ℓ : Loc nD τ sig) → Buf (Elt Ideal) ℓ)

theorem V_wp (c : Dev nD) : V m c main_v46 = wpV (m ((c : Thread nD τ).loc main_arg1)) := by entry_read; rfl
theorem V_e64 (c : Dev nD) : V m c main_v18 = e64V := by entry_read; rfl
theorem V_gaq (c : Dev nD) : V m c main_v66 = tileV (m ((c : Thread nD τ).loc main_arg2)) := by entry_read; rfl
theorem V_gak (c : Dev nD) : V m c main_v71 = tileV (m ((c : Thread nD τ).loc main_arg3)) := by entry_read; rfl
theorem V_gmkv (c : Dev nD) : V m c main_v82 = g128V (m ((c : Thread nD τ).loc main_arg7)) := by entry_read; rfl
theorem V_gxq (c : Dev nD) : V m c main_v91 = g128V (m ((c : Thread nD τ).loc main_arg10)) := by entry_read; rfl

theorem idx : ∀ t : Fin cfg0.N, win0_0.index t = ![t.val, 0] ∧ win0_1.index t = ![t.val % 4, 0] ∧ win0_2.index t = ![t.val % 4, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] :=
  (by decide +kernel : ∀ t : Fin grid0.N, _)

theorem idxo : ∀ t : Fin cfg0.N, win0_16.index t = ![t.val, 0] ∧ win0_17.index t = ![t.val / 4, 0, t.val % 4] ∧ win0_18.index t = ![t.val, 0]
    ∧ win0_19.index t = ![t.val / 4, 0, t.val % 4] ∧ win0_20.index t = ![t.val, 0] ∧ win0_21.index t = ![t.val, 0]
    ∧ win0_22.index t = ![t.val, 0] ∧ win0_23.index t = ![t.val / 4, 0, t.val % 4] ∧ win0_24.index t = ![t.val, 0]
    ∧ win0_25.index t = ![t.val, 0] ∧ win0_26.index t = ![t.val, 0] ∧ win0_27.index t = ![t.val, 0, 0] :=
  (by decide +kernel : ∀ t : Fin grid0.N, _)

/-- A row of the input. -/
def uA (c : Dev nD) (R : Fin 16384) (j : Fin 1024) : EReal := m ((c : Thread nD τ).loc main_arg0) (ix2 R j)

/-- The projection's matrix. -/
def wA (c : Dev nD) (j : Fin 1024) (n : Fin 5536) : EReal := m ((c : Thread nD τ).loc main_arg1) (ix3 0 j n)

/-- The queries' gain. -/
def gaqA (c : Dev nD) (d : Fin 64) : EReal := m ((c : Thread nD τ).loc main_arg2) (ix2 0 d)

/-- The keys' gain. -/
def gakA (c : Dev nD) (d : Fin 64) : EReal := m ((c : Thread nD τ).loc main_arg3) (ix2 0 d)

/-- The latent's gain. -/
def gmkvA (c : Dev nD) (d : Fin 128) : EReal := m ((c : Thread nD τ).loc main_arg7) (ix2 0 d)

/-- The memory queries' gain. -/
def gxqA (c : Dev nD) (d : Fin 128) : EReal := m ((c : Thread nD τ).loc main_arg10) (ix2 0 d)

/-- Row `r` of the tile at point `t`. -/
def rowOf (t : Fin cfg0.N) (r : Fin 512) : Fin 16384 := ⟨t.val * 512 + r.val, by have h : t.val < 32 := t.isLt; omega⟩

/-- The sequence of the tile at point `t`. -/
def seqOf (t : Fin cfg0.N) : Fin 8 := ⟨t.val / 4, by have h : t.val < 32 := t.isLt; omega⟩

/-- Row `r`'s position in that sequence. -/
def posOf (t : Fin cfg0.N) (r : Fin 512) : Fin 2048 := ⟨t.val % 4 * 512 + r.val, by omega⟩

/-- The row of a position of a sequence. -/
def rowAt (b : Fin 8) (s : Fin 2048) : Fin 16384 := ⟨2048 * b.val + s.val, by omega⟩

theorem rowAt_of (t : Fin cfg0.N) (r : Fin 512) : rowAt (seqOf t) (posOf t r) = rowOf t r :=
  Fin.ext (by simp only [rowAt, seqOf, posOf, rowOf]; omega)

theorem blk_u (c : Dev nD) (t : Fin cfg0.N) (r : Fin 512) (j : Fin 1024) : iblk m c 0 t (ix2 r j) = uA m c (rowOf t r) j := by
  unfold uA
  blk_ext [iblk, V, idx t, rowOf]

theorem blk_wp (c : Dev nD) (t : Fin cfg0.N) (j : Fin 1024) (n : Fin 2560) : iblk m c 3 t (ix2 j n) = wpV (m ((c : Thread nD τ).loc main_arg1)) (ix2 j n) := by
  refine Eq.trans ?_ (congrFun (V_wp m c) (ix2 j n))
  blk_ext [iblk, V, idx t]

theorem blk_e64 (c : Dev nD) (t : Fin cfg0.N) (j n : Fin 512) : iblk m c 4 t (ix2 j n) = (if hd5 j = hd5 n then 1 else 0 : EReal) := by
  refine Eq.trans ?_ ((congrFun (V_e64 m c) (ix2 j n)).trans (read_e64V j n))
  blk_ext [iblk, V, idx t]

theorem blk_gaq (c : Dev nD) (t : Fin cfg0.N) (n : Fin 512) : iblk m c 9 t (ix2 0 n) = gaqA m c (dd5 n) := by
  refine Eq.trans ?_ ((congrFun (V_gaq m c) (ix2 0 n)).trans (read_tileV _ n))
  blk_ext [iblk, V, idx t]

theorem blk_gak (c : Dev nD) (t : Fin cfg0.N) (n : Fin 512) : iblk m c 10 t (ix2 0 n) = gakA m c (dd5 n) := by
  refine Eq.trans ?_ ((congrFun (V_gak m c) (ix2 0 n)).trans (read_tileV _ n))
  blk_ext [iblk, V, idx t]

theorem blk_gmkv (c : Dev nD) (t : Fin cfg0.N) (n : Fin 128) : iblk m c 13 t (ix2 0 n) = gmkvA m c n := by
  refine Eq.trans ?_ ((congrFun (V_gmkv m c) (ix2 0 n)).trans (read_g128V _ n))
  blk_ext [iblk, V, idx t]

theorem blk_gxq (c : Dev nD) (t : Fin cfg0.N) (n : Fin 128) : iblk m c 15 t (ix2 0 n) = gxqA m c n := by
  refine Eq.trans ?_ ((congrFun (V_gxq m c) (ix2 0 n)).trans (read_g128V _ n))
  blk_ext [iblk, V, idx t]

/-- The tile of the product. -/
def zT (c : Dev nD) (t : Fin cfg0.N) : FVec Ideal S512x2560 .f32 := k0_pay3 (iblk m c 0 t) (iblk m c 3 t)

theorem z_lo (c : Dev nD) (t : Fin cfg0.N) (r : Fin 512) (n : Fin 1920) :
    zT m c t (ix2 r ⟨n.val, by omega⟩) = zrow (uA m c (rowOf t r)) (wA m c) ⟨n.val, by omega⟩ := by
  unfold zT zrow
  rw [read_pay3]
  refine Finset.sum_congr rfl fun j _ => ?_
  rw [blk_u, blk_wp, read_wpV_lo]
  rfl

theorem z_xq (c : Dev nD) (t : Fin cfg0.N) (r n : Fin 512) :
    zT m c t (ix2 r ⟨1920 + n.val, by omega⟩) = zrow (uA m c (rowOf t r)) (wA m c) ⟨1952 + n.val, by omega⟩ := by
  unfold zT zrow
  rw [read_pay3]
  refine Finset.sum_congr rfl fun j _ => ?_
  rw [blk_u, blk_wp, read_wpV_xq]
  rfl

theorem z_kr (c : Dev nD) (t : Fin cfg0.N) (r : Fin 512) (n : Fin 32) :
    zT m c t (ix2 r ⟨2432 + n.val, by omega⟩) = zrow (uA m c (rowOf t r)) (wA m c) ⟨1920 + n.val, by omega⟩ := by
  unfold zT zrow
  rw [read_pay3]
  refine Finset.sum_congr rfl fun j _ => ?_
  rw [blk_u, blk_wp, read_wpV_kr]
  rfl

end Cert.ProjBlock
-- ==== Proof.ProjOut.lean ====
module

public import proofs.«01_k».proof.Proof.ProjBlock

@[expose] public section

set_option maxRecDepth 16384

noncomputable section

/-! What the input projection's kernel leaves in the arrays that need no rotation. -/

namespace Cert.ProjBlock

open Idealize.ShloMosaic Idealize.ShloMosaic.Tactic Idealize.ShloMosaic.TcCoe Idealize.SL.Sem
open Cert.ProjectIdeal Cert.ProjectIdeal.Gen Cert.ProjectIdeal.Value Cert.Rows Cert.ProjSpec

variable (m : (ℓ : Loc nD τ sig) → Buf (Elt Ideal) ℓ)

/-- Lane `n`'s head among four of 128 lanes. -/
def hd4 (n : Fin 512) : Fin 4 := ⟨n.val / 128, by omega⟩

/-- Lane `n`'s place in that head. -/
def dd4 (n : Fin 512) : Fin 128 := ⟨n.val % 128, by omega⟩

/-- A query's lane in the tile. -/
theorem aq_tile (c : Dev nD) (t : Fin cfg0.N) (r n : Fin 512) :
    k0_pay6 (iblk m c 0 t) (iblk m c 3 t) (iblk m c 4 t) (iblk m c 9 t) (ix2 r n) = aqF (uA m c (rowOf t r)) (wA m c) (gaqA m c) (hd5 n) (dd5 n) := by
  refine (read_pay6 _ _ _ _ (fun j => zrow (uA m c (rowOf t r)) (wA m c) ⟨j.val, by omega⟩) r n fun j => z_lo m c t r ⟨j.val, by omega⟩).trans ?_
  exact group5 (fun j => zrow (uA m c (rowOf t r)) (wA m c) ⟨j.val, by omega⟩) (fun n => iblk m c 9 t (ix2 0 n)) (gaqA m c)
    (fun j n => iblk m c 4 t (ix2 j n)) (blk_e64 m c t) (blk_gaq m c t) n

/-- A key's column of the product. -/
theorem ak_col (c : Dev nD) (t : Fin cfg0.N) (r n : Fin 512) :
    k0_pay7 (iblk m c 0 t) (iblk m c 3 t) (ix2 r n) = zrow (uA m c (rowOf t r)) (wA m c) ⟨512 + n.val, by omega⟩ :=
  (read_pay7 _ _ r n).trans (z_lo m c t r ⟨512 + n.val, by omega⟩)

/-- The tile of the keys. -/
def akT (c : Dev nD) (t : Fin cfg0.N) : FVec Ideal S512x512 .f32 :=
  k0_pay10 (k0_pay7 (iblk m c 0 t) (iblk m c 3 t)) (k0_pay8 (iblk m c 0 t) (iblk m c 3 t) (iblk m c 4 t)) k0_pay9 (iblk m c 10 t)

/-- A key's lane in the tile. -/
theorem ak_tile (c : Dev nD) (t : Fin cfg0.N) (r n : Fin 512) :
    akT m c t (ix2 r n) = akF (uA m c (rowOf t r)) (wA m c) (gakA m c) (hd5 n) (dd5 n) := by
  unfold akT
  rw [read_pay10, read_pay8, read_pay9]
  simp only [ak_col]
  refine (group5 (fun j => zrow (uA m c (rowOf t r)) (wA m c) ⟨512 + j.val, by omega⟩) (fun n => iblk m c 10 t (ix2 0 n)) (gakA m c)
    (fun j n => iblk m c 4 t (ix2 j n)) (blk_e64 m c t) (blk_gak m c t) n).trans ?_
  unfold akF
  refine congrArg (fun f => rms D64 f (gakA m c) (dd5 n)) (funext fun d => ?_)
  exact congrArg (zrow (uA m c (rowOf t r)) (wA m c)) (Fin.ext (by simp only [lane5]; omega))

/-- A memory query's lane in the tile. -/
theorem xq_tile (c : Dev nD) (t : Fin cfg0.N) (r : Fin 512) (h : Fin 4) (d : Fin 128) (f : Fin 128 → Fin 512) (hf : ∀ i, (f i).val = 128 * h.val + i.val) :
    rms D128 (fun i => k0_pay25 (zT m c t) (ix2 r (f i))) (fun i => iblk m c 15 t (ix2 0 i)) d = xqF (uA m c (rowOf t r)) (wA m c) (gxqA m c) h d := by
  unfold xqF
  simp only [read_pay25, z_xq, blk_gxq]
  refine congrArg (fun f => rms D128 f (fun i => gxqA m c i) d) (funext fun i => ?_)
  exact congrArg (zrow (uA m c (rowOf t r)) (wA m c)) (Fin.ext (by have := hf i; simp only; omega))

/-- The latent's lane in the tile. -/
theorem ckv_tile (c : Dev nD) (t : Fin cfg0.N) (r : Fin 512) (n : Fin 128) :
    k0_pay24 (zT m c t) (iblk m c 13 t) (ix2 r n) = ckvF (uA m c (rowOf t r)) (wA m c) (gmkvA m c) n := by
  rw [read_pay24]
  unfold ckvF
  simp only [blk_gmkv]
  exact congrArg (fun f => rms D128 f (fun i => gmkvA m c i) n) (funext fun i => z_lo m c t r ⟨1792 + i.val, by omega⟩)

/-- An index of a head's tile by its coordinates. -/
theorem split_512_128 (x : S512x128.Idx) : ∃ (r : Fin 512) (d : Fin 128), x = ix2 r d := by
  idx_vars x
  exact ⟨_, _, rfl⟩

/-- An index of a row of means by its coordinate. -/
theorem split_1_1_512 (x : S1x1x512.Idx) : ∃ n : Fin 512, x = ix3 0 0 n := by
  idx_vars x
  exact ⟨x2, by rw [show x0 = (0 : Fin 1) from Subsingleton.elim _ _, show x1 = (0 : Fin 1) from Subsingleton.elim _ _]⟩

theorem head4 (h : Fin 4) (d : Fin 128) (n : Fin 512) (hn : n.val = 128 * h.val + d.val) : hd4 n = h ∧ dd4 n = d :=
  ⟨Fin.ext (by simp only [hd4]; omega), Fin.ext (by simp only [dd4]; omega)⟩

/-- The queries. -/
def outAq (c : Dev nD) : FVec Ideal S16384x512 .bf16 := fun y => aqF (uA m c (y 0)) (wA m c) (gaqA m c) (hd5 (y 1)) (dd5 (y 1))

/-- The keys, a sequence's positions last. -/
def outAkf (c : Dev nD) : FVec Ideal S8x512x2048 .f32 := fun y => akF (uA m c (rowAt (y 0) (y 2))) (wA m c) (gakA m c) (hd5 (y 1)) (dd5 (y 1))

/-- The keys, row by row. -/
def outAkb (c : Dev nD) : FVec Ideal S16384x512 .bf16 := fun y => akF (uA m c (y 0)) (wA m c) (gakA m c) (hd5 (y 1)) (dd5 (y 1))

/-- The values, a sequence's positions last. -/
def outAvf (c : Dev nD) : FVec Ideal S8x512x2048 .f32 := fun y => avF (uA m c (rowAt (y 0) (y 2))) (wA m c) (y 1)

/-- The values, row by row. -/
def outAvb (c : Dev nD) : FVec Ideal S16384x512 .bf16 := fun y => avF (uA m c (y 0)) (wA m c) (y 1)

/-- The latents. -/
def outCkv (c : Dev nD) : FVec Ideal S16384x128 .f32 := fun y => ckvF (uA m c (y 0)) (wA m c) (gmkvA m c) (y 1)

/-- The shared key lanes, a sequence's positions last. -/
def outKr (c : Dev nD) : FVec Ideal S8x32x2048 .f32 := fun y => krF (uA m c (rowAt (y 0) (y 2))) (wA m c) (y 1)

/-- The memory queries. -/
def outXq (c : Dev nD) : FVec Ideal S16384x512 .bf16 := fun y => xqF (uA m c (y 0)) (wA m c) (gxqA m c) (hd4 (y 1)) (dd4 (y 1))

/-- The keys' means over blocks of 256 positions. -/
def outMean (c : Dev nD) : FVec Ideal S64x1x512 .f32 := fun y => meanF (uA m c) (wA m c) (gakA m c) (y 0) (y 2)

theorem final16 (c : Dev nD) : (dats m 0 c).arrAt 16 cfg0.N = outAq m c := by
  refine (dats m 0 c).arrAt_eq_of_covers 16 _ (by decide +kernel) fun t hf y => ?_
  blk_simp
  rw [after0_16]
  obtain ⟨r, n, rfl⟩ : ∃ (r : Fin 512) (n : Fin 512), y = ix2 r n := by
    idx_vars y
    exact ⟨_, _, rfl⟩
  have e : outAq m c ((win0_16.blk t).view.emb (ix2 r n)) = aqF (uA m c (rowOf t r)) (wA m c) (gaqA m c) (hd5 n) (dd5 n) := by
    show outAq m c _ = outAq m c (ix2 (rowOf t r) n)
    refine congrArg (outAq m c) ?_
    blk_ext [idxo t, rowOf]
  refine Eq.trans ?_ e.symm
  unfold outsAt0
  frame_out
  exact aq_tile m c t r n
theorem final18 (c : Dev nD) : (dats m 0 c).arrAt 18 cfg0.N = outAkb m c := by
  refine (dats m 0 c).arrAt_eq_of_covers 18 _ (by decide +kernel) fun t hf y => ?_
  blk_simp
  rw [after0_18]
  obtain ⟨r, n, rfl⟩ : ∃ (r : Fin 512) (n : Fin 512), y = ix2 r n := by
    idx_vars y
    exact ⟨_, _, rfl⟩
  have e : outAkb m c ((win0_18.blk t).view.emb (ix2 r n)) = akF (uA m c (rowOf t r)) (wA m c) (gakA m c) (hd5 n) (dd5 n) := by
    show outAkb m c _ = outAkb m c (ix2 (rowOf t r) n)
    refine congrArg (outAkb m c) ?_
    blk_ext [idxo t, rowOf]
  refine Eq.trans ?_ e.symm
  unfold outsAt0
  frame_out
  exact (read_pay12 _ _ _ _ r n).trans (ak_tile m c t r n)
theorem final20 (c : Dev nD) : (dats m 0 c).arrAt 20 cfg0.N = outAvb m c := by
  refine (dats m 0 c).arrAt_eq_of_covers 20 _ (by decide +kernel) fun t hf y => ?_
  blk_simp
  rw [after0_20]
  obtain ⟨r, n, rfl⟩ : ∃ (r : Fin 512) (n : Fin 512), y = ix2 r n := by
    idx_vars y
    exact ⟨_, _, rfl⟩
  have e : outAvb m c ((win0_20.blk t).view.emb (ix2 r n)) = avF (uA m c (rowOf t r)) (wA m c) n := by
    show outAvb m c _ = outAvb m c (ix2 (rowOf t r) n)
    refine congrArg (outAvb m c) ?_
    blk_ext [idxo t, rowOf]
  refine Eq.trans ?_ e.symm
  unfold outsAt0
  frame_out
  exact (read_pay17 _ r n).trans (z_lo m c t r ⟨1024 + n.val, by omega⟩)
theorem final22 (c : Dev nD) : (dats m 0 c).arrAt 22 cfg0.N = outCkv m c := by
  refine (dats m 0 c).arrAt_eq_of_covers 22 _ (by decide +kernel) fun t hf y => ?_
  blk_simp
  rw [after0_22]
  obtain ⟨r, n, rfl⟩ : ∃ (r : Fin 512) (n : Fin 128), y = ix2 r n := by
    idx_vars y
    exact ⟨_, _, rfl⟩
  have e : outCkv m c ((win0_22.blk t).view.emb (ix2 r n)) = ckvF (uA m c (rowOf t r)) (wA m c) (gmkvA m c) n := by
    show outCkv m c _ = outCkv m c (ix2 (rowOf t r) n)
    refine congrArg (outCkv m c) ?_
    blk_ext [idxo t, rowOf]
  refine Eq.trans ?_ e.symm
  unfold outsAt0
  frame_out
  exact ckv_tile m c t r n
theorem final17 (c : Dev nD) : (dats m 0 c).arrAt 17 cfg0.N = outAkf m c := by
  refine (dats m 0 c).arrAt_eq_of_covers 17 _ (by decide +kernel) fun t hf y => ?_
  blk_simp
  rw [after0_17]
  obtain ⟨r, n, rfl⟩ : ∃ (r : Fin 512) (n : Fin 512), y = ix3 0 n r := by
    idx_vars y
    exact ⟨y2, y1, by rw [show y0 = (0 : Fin 1) from Subsingleton.elim _ _]⟩
  have e : outAkf m c ((win0_17.blk t).view.emb (ix3 0 n r)) = akF (uA m c (rowOf t r)) (wA m c) (gakA m c) (hd5 n) (dd5 n) := by
    refine Eq.trans ?_ (show outAkf m c (ix3 (seqOf t) n (posOf t r)) = _ by rw [← rowAt_of]; rfl)
    refine congrArg (outAkf m c) ?_
    blk_ext [idxo t, seqOf, posOf]
  refine Eq.trans ?_ e.symm
  unfold outsAt0
  frame_out
  exact (read_pay11 _ _ _ _ n r).trans (ak_tile m c t r n)
theorem final19 (c : Dev nD) : (dats m 0 c).arrAt 19 cfg0.N = outAvf m c := by
  refine (dats m 0 c).arrAt_eq_of_covers 19 _ (by decide +kernel) fun t hf y => ?_
  blk_simp
  rw [after0_19]
  obtain ⟨r, n, rfl⟩ : ∃ (r : Fin 512) (n : Fin 512), y = ix3 0 n r := by
    idx_vars y
    exact ⟨y2, y1, by rw [show y0 = (0 : Fin 1) from Subsingleton.elim _ _]⟩
  have e : outAvf m c ((win0_19.blk t).view.emb (ix3 0 n r)) = avF (uA m c (rowOf t r)) (wA m c) n := by
    refine Eq.trans ?_ (show outAvf m c (ix3 (seqOf t) n (posOf t r)) = _ by rw [← rowAt_of]; rfl)
    refine congrArg (outAvf m c) ?_
    blk_ext [idxo t, seqOf, posOf]
  refine Eq.trans ?_ e.symm
  unfold outsAt0
  frame_out
  exact (read_pay16 _ n r).trans (z_lo m c t r ⟨1024 + n.val, by omega⟩)
theorem final23 (c : Dev nD) : (dats m 0 c).arrAt 23 cfg0.N = outKr m c := by
  refine (dats m 0 c).arrAt_eq_of_covers 23 _ (by decide +kernel) fun t hf y => ?_
  blk_simp
  rw [after0_23]
  obtain ⟨r, n, rfl⟩ : ∃ (r : Fin 512) (n : Fin 32), y = ix3 0 n r := by
    idx_vars y
    exact ⟨y2, y1, by rw [show y0 = (0 : Fin 1) from Subsingleton.elim _ _]⟩
  have e : outKr m c ((win0_23.blk t).view.emb (ix3 0 n r)) = krF (uA m c (rowOf t r)) (wA m c) n := by
    refine Eq.trans ?_ (show outKr m c (ix3 (seqOf t) n (posOf t r)) = _ by rw [← rowAt_of]; rfl)
    refine congrArg (outKr m c) ?_
    blk_ext [idxo t, seqOf, posOf]
  refine Eq.trans ?_ e.symm
  unfold outsAt0
  frame_out
  exact (read_pay27 _ n r).trans (z_kr m c t r n)
theorem final24 (c : Dev nD) : (dats m 0 c).arrAt 24 cfg0.N = outXq m c := by
  refine (dats m 0 c).arrAt_eq_of_covers 24 _ (by decide +kernel) fun t hf y => ?_
  blk_simp
  rw [after0_24]
  obtain ⟨r, n, rfl⟩ : ∃ (r : Fin 512) (n : Fin 512), y = ix2 r n := by
    idx_vars y
    exact ⟨_, _, rfl⟩
  have e : outXq m c ((win0_24.blk t).view.emb (ix2 r n)) = xqF (uA m c (rowOf t r)) (wA m c) (gxqA m c) (hd4 n) (dd4 n) := by
    show outXq m c _ = outXq m c (ix2 (rowOf t r) n)
    refine congrArg (outXq m c) ?_
    blk_ext [idxo t, rowOf]
  refine Eq.trans ?_ e.symm
  unfold outsAt0
  frame_out
  canon_tiles x h
  case piece0 =>
    obtain ⟨r', d, rfl⟩ := split_512_128 x
    obtain rfl : r = r' := Fin.ext h0
    obtain ⟨e1, e2⟩ := head4 3 d n (h1.trans (by simp))
    rw [e1, e2]
    exact (read_pay2 _ _ r d).trans (xq_tile m c t r 3 d (fun i => ⟨384 + i.val, by omega⟩) fun i => by simp)
  case piece1 =>
    obtain ⟨r', d, rfl⟩ := split_512_128 x
    obtain rfl : r = r' := Fin.ext h0
    obtain ⟨e1, e2⟩ := head4 2 d n (h1.trans (by simp))
    rw [e1, e2]
    exact (read_pay1 _ _ r d).trans (xq_tile m c t r 2 d (fun i => ⟨256 + i.val, by omega⟩) fun i => by simp)
  case piece2 =>
    obtain ⟨r', d, rfl⟩ := split_512_128 x
    obtain rfl : r = r' := Fin.ext h0
    obtain ⟨e1, e2⟩ := head4 1 d n (h1.trans (by simp))
    rw [e1, e2]
    exact (read_pay37 _ _ r d).trans (xq_tile m c t r 1 d (fun i => ⟨128 + i.val, by omega⟩) fun i => by simp)
  case piece3 =>
    obtain ⟨r', d, rfl⟩ := split_512_128 x
    obtain rfl : r = r' := Fin.ext h0
    obtain ⟨e1, e2⟩ := head4 0 d n (h1.trans (by simp))
    rw [e1, e2]
    exact (read_pay36 _ _ r d).trans (xq_tile m c t r 0 d (fun i => ⟨i.val, by omega⟩) fun i => by simp)
theorem final27 (c : Dev nD) : (dats m 0 c).arrAt 27 cfg0.N = outMean m c := by
  refine (dats m 0 c).arrAt_eq_of_covers 27 _ (by decide +kernel) fun t hf y => ?_
  blk_simp
  rw [after0_27]
  obtain ⟨b, n, rfl⟩ : ∃ (b : Fin 2) (n : Fin 512), y = ix3 b 0 n := by
    idx_vars y
    exact ⟨y0, y2, by rw [show y1 = (0 : Fin 1) from Subsingleton.elim _ _]⟩
  have ht : t.val < 32 := t.isLt
  have e : outMean m c ((win0_27.blk t).view.emb (ix3 b 0 n)) = meanF (uA m c) (wA m c) (gakA m c) ⟨2 * t.val + b.val, by omega⟩ n := by
    show outMean m c _ = outMean m c (ix3 ⟨2 * t.val + b.val, by omega⟩ 0 n)
    refine congrArg (outMean m c) ?_
    blk_ext [idxo t]
  refine Eq.trans ?_ e.symm
  unfold outsAt0
  frame_out
  canon_tiles x h
  case piece0 =>
    obtain ⟨n', rfl⟩ := split_1_1_512 x
    obtain rfl : n = n' := Fin.ext h2
    have hb : b.val = 1 := h0.trans (by simp)
    refine (read_pay14 _ _ _ _ n).trans (congrArg (fun s => Ideal.div s D256) (Finset.sum_congr rfl fun i _ => (ak_tile m c t ⟨256 + i.val, by omega⟩ n).trans ?_))
    exact congrArg (fun R => akF (uA m c R) (wA m c) (gakA m c) (hd5 n) (dd5 n)) (Fin.ext (by simp only [rowOf]; omega))
  case piece1 =>
    obtain ⟨n', rfl⟩ := split_1_1_512 x
    obtain rfl : n = n' := Fin.ext h2
    have hb : b.val = 0 := h0.trans (by simp)
    refine (read_pay13 _ _ _ _ n).trans (congrArg (fun s => Ideal.div s D256) (Finset.sum_congr rfl fun i _ => (ak_tile m c t ⟨i.val, by omega⟩ n).trans ?_))
    exact congrArg (fun R => akF (uA m c R) (wA m c) (gakA m c) (hd5 n) (dd5 n)) (Fin.ext (by simp only [rowOf]; omega))

end Cert.ProjBlock
-- ==== Proof.ProjOps.lean ====
module

public import proofs.«01_k».proof.Proof.ProjOut
public import Idealize.ShloMosaic.Lib.Routing.OpsSet

@[expose] public section

set_option maxRecDepth 16384

noncomputable section

/-! The operands of the latent queries and keys: the heads' marks, the permuted columns and gains, the angles. -/

namespace Cert.ProjBlock

open Idealize.ShloMosaic Idealize.ShloMosaic.Tactic Idealize.ShloMosaic.TcCoe Idealize.SL.Sem
open Cert.ProjectIdeal Cert.ProjectIdeal.Gen Cert.ProjectIdeal.Value Cert.Rows Cert.ProjSpec

/-- The angle of position `p` at frequency `k`. -/
def ang (p : Fin 2048) (k : Fin 16) : EReal :=
  FloatOps.sitofp (F := Ideal) .f32 (BitVec.ofNat 32 p.val) * Ideal.pow (Ideal.ofBits .f32 0x461C4000#32)
    (Ideal.div (-FloatOps.sitofp (F := Ideal) .f32 (BitVec.ofNat 32 k.val)) (Ideal.ofBits .f32 0x41800000#32))

/-- The lane of the shared key that goes to lane `n` of the 256. -/
def tk (n : Fin 256) : Fin 32 := ⟨16 * (n.val / 128) + n.val % 16, by omega⟩

/-- The head of each lane, in the order by parts. -/
def h7V : IVec S768 32 :=
  select (cmpi .slt (iotaInDim S768 32 0) (broadcastInDim S768 ![] bcast_S_S768 (constantI S_ 32 512#32)))
    (Host.shrsi (iotaInDim S768 32 0) (broadcastInDim S768 ![] bcast_S_S768 (constantI S_ 32 6#32)))
    (Host.shrsi (andi (iotaInDim S768 32 0) (broadcastInDim S768 ![] bcast_S_S768 (constantI S_ 32 127#32))) (broadcastInDim S768 ![] bcast_S_S768 (constantI S_ 32 4#32)))

/-- The zeros and ones that mark a head's lanes in that order. -/
def e96V : FVec Ideal S768x768 .bf16 :=
  uitofp .bf16 (cmpi .eq
    (broadcastInDim S768x768 ![0, 1] bcast_S768x1_S768x768_0_1 (broadcastInDim S768x1 ![0] bcast_S768_S768x1_0 h7V))
    (broadcastInDim S768x768 ![0, 1] bcast_S1x768_S768x768_0_1 (broadcastInDim S1x768 ![1] bcast_S768_S1x768_1 h7V)))

/-- The zeros and ones that put the shared key lanes at every head's place. -/
def tkrV : FVec Ideal S32x256 .bf16 :=
  uitofp .bf16 (cmpi .eq
    (broadcastInDim S32x256 ![0, 1] bcast_S32x1_S32x256_0_1 (broadcastInDim S32x1 ![0] bcast_S32_S32x1_0 (iotaInDim S32 32 0)))
    (broadcastInDim S32x256 ![0, 1] bcast_S1x256_S32x256_0_1 (broadcastInDim S1x256 ![1] bcast_S256_S1x256_1
      (ori (andi (iotaInDim S256 32 0) (broadcastInDim S256 ![] bcast_S_S256 (constantI S_ 32 15#32)))
        (Host.shli (Host.shrsi (iotaInDim S256 32 0) (broadcastInDim S256 ![] bcast_S_S256 (constantI S_ 32 7#32)))
          (broadcastInDim S256 ![] bcast_S_S256 (constantI S_ 32 4#32)))))))

/-- The columns of the query matrix in the order by parts, as numbers. -/
def permV : IVec S768x1 32 :=
  broadcastInDim S768x1 ![0] bcast_S768_S768x1_0 (select (constantI S768 1 0#1)
    (addi (fun i => lit0 (S768.rowMajor i)) (broadcastInDim S768 ![] bcast_S_S768 (constantI S_ 32 768#32))) (fun i => lit0 (S768.rowMajor i)))

/-- The places in a head in that order, as numbers. -/
def dimV : IVec S768x1 32 :=
  broadcastInDim S768x1 ![0] bcast_S768_S768x1_0 (select (constantI S768 1 0#1)
    (addi (fun i => lit1 (S768.rowMajor i)) (broadcastInDim S768 ![] bcast_S_S768 (constantI S_ 32 96#32))) (fun i => lit1 (S768.rowMajor i)))

/-- The query matrix, its columns by parts. -/
def wuqV (a : FVec Ideal S1x256x768 .f32) : FVec Ideal S256x768 .bf16 :=
  truncf .bf16 (Host.gather gather_S256x768_S768x1_S256x768_0_1_n_n_1_1_2561 (shapeCast S256x768 a shapeCasts_S1x256x768_S256x768) permV) bitsLt_bf16_f32

/-- A gain of 96 lanes, by parts. -/
def g96V (a : FVec Ideal S1x96 .f32) : FVec Ideal S1x768 .f32 :=
  shapeCast S1x768 (Host.gather gather_S96_S768x1_S768_n_0_n_n_0_1_1 (shapeCast S96 a shapeCasts_S1x96_S96) dimV) shapeCasts_S768_S1x768

/-- The latent's matrix, key lanes before value lanes. -/
def wukvV (a : FVec Ideal S1x128x1024 .f32) : FVec Ideal S128x1024 .bf16 :=
  truncf .bf16 (concatenate S128x1024 1
    [⟨S128x512, shapeCast S128x512 (extractStridedSlice S128x8x64 ![0, 0, 0]
        (shapeCast S128x8x128 (shapeCast S128x1024 a shapeCasts_S1x128x1024_S128x1024) shapeCasts_S128x1024_S128x8x128) slices_S128x8x128_S128x8x64_0_0_0) shapeCasts_S128x8x64_S128x512⟩,
     ⟨S128x512, shapeCast S128x512 (extractStridedSlice S128x8x64 ![0, 0, 64]
        (shapeCast S128x8x128 (shapeCast S128x1024 a shapeCasts_S1x128x1024_S128x1024) shapeCasts_S128x1024_S128x8x128) slices_S128x8x128_S128x8x64_0_0_64) shapeCasts_S128x8x64_S128x512⟩]
    concatenates_S128x512_S128x512_S128x1024_d1) bitsLt_bf16_f32

/-- A gain of 256 lanes. -/
def g256V (a : FVec Ideal S1x256 .f32) : FVec Ideal S1x256 .f32 := shapeCast S1x256 (shapeCast S256 a shapeCasts_S1x256_S256) shapeCasts_S256_S1x256

/-- The positions' angles. -/
def angV : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- A table over the angles, once per head. -/
def tableV (a : FVec Ideal S2048x16 .f32) : FVec Ideal S2048x128 .f32 :=
  shapeCast S2048x128 (broadcastInDim S1x2048x8x16 ![0, 1, 2, 3] bcast_S1x2048x1x16_S1x2048x8x16_0_1_2_3
    (shapeCast S1x2048x1x16 a shapeCasts_S2048x16_S1x2048x1x16)) shapeCasts_S1x2048x8x16_S2048x128

theorem h7_bits : ∀ n : Fin 768, Scalar.select (IntOp.cmpi CmpIPredicate.slt (BitVec.ofNat 32 n.val) 512#32)
    (IntOp.shrsi ArithUnit.host (BitVec.ofNat 32 n.val) 6#32)
    (IntOp.shrsi ArithUnit.host (IntOp.andi (BitVec.ofNat 32 n.val) 127#32) 4#32) = BitVec.ofNat 32 (hd7 n).val := by decide +kernel

theorem tk_bits : ∀ n : Fin 256, IntOp.ori (IntOp.andi (BitVec.ofNat 32 n.val) 15#32)
    (IntOp.shli ArithUnit.host (IntOp.shrsi ArithUnit.host (BitVec.ofNat 32 n.val) 7#32) 4#32) = BitVec.ofNat 32 (tk n).val := by decide +kernel

theorem perm_bits : ∀ n : Fin 768, lit0 (S768.rowMajor (ix1 n)) = BitVec.ofNat 32 (96 * (hd7 n).val + (dd7 n).val) := by decide +kernel

theorem dim_bits : ∀ n : Fin 768, lit1 (S768.rowMajor (ix1 n)) = BitVec.ofNat 32 (dd7 n).val := by decide +kernel

theorem eq_bit32 : ∀ a b : Fin 32, IntOp.cmpi .eq (BitVec.ofNat 32 a.val) (BitVec.ofNat 32 b.val) = if a = b then 1#1 else 0#1 := by decide +kernel

theorem eq_num32 (a b : Fin 32) : (FloatOps.uitofp (F := Ideal) FTy.bf16 (IntOp.cmpi .eq (BitVec.ofNat 32 a.val) (BitVec.ofNat 32 b.val)) : EReal) = if a = b then 1 else 0 := by
  rw [eq_bit32]
  split <;> simp [FloatOps.uitofp]

theorem read_h7V (n : Fin 768) : h7V (ix1 n) = BitVec.ofNat 32 (hd7 n).val := by
  pointwise [h7V]
  exact h7_bits n

theorem read_e96V (j n : Fin 768) : e96V (ix2 j n) = if hd7 j = hd7 n then 1 else 0 := by
  pointwise [e96V]
  rw [read_h7V, read_h7V]
  exact eq_num (hd7 j) (hd7 n)

theorem read_tkrV (j : Fin 32) (n : Fin 256) : tkrV (ix2 j n) = if j = tk n then 1 else 0 := by
  pointwise [tkrV]
  rw [tk_bits]
  exact eq_num32 j (tk n)

theorem read_permV (n : Fin 768) : permV (ix2 n 0) = BitVec.ofNat 32 (96 * (hd7 n).val + (dd7 n).val) := by
  pointwise [permV]
  exact perm_bits n

theorem read_dimV (n : Fin 768) : dimV (ix2 n 0) = BitVec.ofNat 32 (dd7 n).val := by
  pointwise [dimV]
  exact dim_bits n

theorem read_wukvV_lo (a : FVec Ideal S1x128x1024 .f32) (i : Fin 128) (n : Fin 512) :
    wukvV a (ix2 i ⟨n.val, by omega⟩) = a (ix3 0 i ⟨128 * (n.val / 64) + n.val % 64, by omega⟩) := by
  pointwise [wukvV]
  exact congrArg a (congrArg (ix3 0 i) (Fin.ext (by simp only; omega)))

theorem read_wukvV_hi (a : FVec Ideal S1x128x1024 .f32) (i : Fin 128) (n : Fin 512) :
    wukvV a (ix2 i ⟨512 + n.val, by omega⟩) = a (ix3 0 i ⟨128 * (n.val / 64) + (64 + n.val % 64), by omega⟩) := by
  pointwise [wukvV]
  exact congrArg a (congrArg (ix3 0 i) (Fin.ext (by simp only; omega)))

theorem read_g256V (a : FVec Ideal S1x256 .f32) (n : Fin 256) : g256V a (ix2 0 n) = a (ix2 0 n) := by
  pointwise [g256V]

theorem read_cosV (p : Fin 2048) (n : Fin 128) : tableV (Host.cos angV) (ix2 p n) = Ideal.cos (ang p ⟨n.val % 16, by omega⟩) := by
  pointwise [tableV, angV]
  rfl

theorem read_sinV (p : Fin 2048) (n : Fin 128) : tableV (Host.sin angV) (ix2 p n) = Ideal.sin (ang p ⟨n.val % 16, by omega⟩) := by
  pointwise [tableV, angV]
  rfl

/-- A gather of columns, read: the column the number names. -/
theorem gather_cols (x : FVec Ideal S256x768 .f32) (idx : IVec S768x1 32) (i : Fin 256) (n b : Fin 768) (hb : idx (ix2 n 0) = BitVec.ofNat 32 b.val) :
    Host.gather gather_S256x768_S768x1_S256x768_0_1_n_n_1_1_2561 x idx (ix2 i n) = x (ix2 i b) := by
  unfold Host.gather
  refine congrArg x (funext fun a => Fin.ext ?_)
  match a with
  | ⟨0, _⟩ =>
    show GatherDims.start _ (ix2 i n) idx 0 + GatherDims.batchCoord _ (ix2 i n) 0 + GatherDims.offCoord _ (ix2 i n) 0 = i.val
    rw [GatherDims.batchCoord_eq_zero _ _ _ List.not_mem_nil]
    unfold GatherDims.start
    rw [dif_neg (by decide)]
    unfold GatherDims.offCoord
    rw [dif_pos (by decide)]
    simp only [Nat.zero_add]
    rfl
  | ⟨1, _⟩ =>
    show GatherDims.start _ (ix2 i n) idx 1 + GatherDims.batchCoord _ (ix2 i n) 1 + GatherDims.offCoord _ (ix2 i n) 1 = b.val
    rw [GatherDims.batchCoord_eq_zero _ _ _ List.not_mem_nil, GatherDims.offCoord_eq_zero _ _ _ (by decide)]
    simp only [Nat.add_zero]
    unfold GatherDims.start
    rw [dif_pos (by decide)]
    have hsi : GatherDims.siIdx gather_S256x768_S768x1_S256x768_0_1_n_n_1_1_2561 (ix2 i n)
        ⟨List.idxOf (1 : Fin 2) gather_S256x768_S768x1_S256x768_0_1_n_n_1_1_2561.startIndexMap, List.idxOf_lt_length_iff.2 (by decide)⟩ = ix2 n (0 : Fin 1) := by
      funext b'
      refine Fin.ext ?_
      match b' with
      | ⟨0, _⟩ => rfl
      | ⟨1, _⟩ => rfl
    have hbl := b.isLt
    have h2 := StableHlo.Predicate.toInt_ofNat_small b.val (by omega)
    refine (congrArg (fun k => min (idx k).toInt.toNat (768 - 1)) hsi).trans ?_
    simp only [hb, h2]
    omega

theorem read_wuqV (a : FVec Ideal S1x256x768 .f32) (i : Fin 256) (n : Fin 768) :
    wuqV a (ix2 i n) = a (ix3 0 i ⟨96 * (hd7 n).val + (dd7 n).val, by omega⟩) := by
  unfold wuqV
  have h := gather_cols (shapeCast S256x768 a shapeCasts_S1x256x768_S256x768) permV i n ⟨96 * (hd7 n).val + (dd7 n).val, by omega⟩ (read_permV n)
  generalize Host.gather gather_S256x768_S768x1_S256x768_0_1_n_n_1_1_2561 (shapeCast S256x768 a shapeCasts_S1x256x768_S256x768) permV = y at h ⊢
  pointwise []
  refine h.trans ?_
  pointwise []

theorem read_g96V (a : FVec Ideal S1x96 .f32) (n : Fin 768) : g96V a (ix2 0 n) = a (ix2 0 (dd7 n)) := by
  unfold g96V
  have h := Routing.gather_take1 gather_S96_S768x1_S768_n_0_n_n_0_1_1 rfl rfl rfl rfl (shapeCast S96 a shapeCasts_S1x96_S96) dimV n (dd7 n) (read_dimV n) (by decide)
  generalize Host.gather gather_S96_S768x1_S768_n_0_n_n_0_1_1 (shapeCast S96 a shapeCasts_S1x96_S96) dimV = y at h ⊢
  pointwise []
  refine h.trans ?_
  pointwise []

variable (m : (ℓ : Loc nD τ sig) → Buf (Elt Ideal) ℓ)

theorem V_e96 (c : Dev nD) : V m c main_v24 = e96V := by entry_read; rfl
theorem V_tkr (c : Dev nD) : V m c main_v39 = tkrV := by entry_read; rfl
theorem V_wuq (c : Dev nD) : V m c main_v59 = wuqV (m ((c : Thread nD τ).loc main_arg5)) := by entry_read; rfl
theorem V_wukv (c : Dev nD) : V m c main_v61 = wukvV (m ((c : Thread nD τ).loc main_arg8)) := by entry_read; rfl
theorem V_gmqa (c : Dev nD) : V m c main_v73 = g256V (m ((c : Thread nD τ).loc main_arg4)) := by entry_read; rfl
theorem V_gmq (c : Dev nD) : V m c main_v80 = g96V (m ((c : Thread nD τ).loc main_arg6)) := by entry_read; rfl
theorem V_gmk (c : Dev nD) : V m c main_v89 = g96V (m ((c : Thread nD τ).loc main_arg9)) := by entry_read; rfl
theorem V_cos (c : Dev nD) : V m c main_v109 = tableV (Host.cos angV) := by entry_read; rfl
theorem V_sin (c : Dev nD) : V m c main_v112 = tableV (Host.sin angV) := by entry_read; rfl

/-- The latent queries' first gain. -/
def gmqaA (c : Dev nD) (d : Fin 256) : EReal := m ((c : Thread nD τ).loc main_arg4) (ix2 0 d)

/-- The latent queries' matrix. -/
def wuqA (c : Dev nD) (i : Fin 256) (n : Fin 768) : EReal := m ((c : Thread nD τ).loc main_arg5) (ix3 0 i n)

/-- The latent queries' second gain. -/
def gmqA (c : Dev nD) (d : Fin 96) : EReal := m ((c : Thread nD τ).loc main_arg6) (ix2 0 d)

/-- The latent's matrix. -/
def wukvA (c : Dev nD) (i : Fin 128) (n : Fin 1024) : EReal := m ((c : Thread nD τ).loc main_arg8) (ix3 0 i n)

/-- The latent keys' gain. -/
def gmkA (c : Dev nD) (d : Fin 96) : EReal := m ((c : Thread nD τ).loc main_arg9) (ix2 0 d)

theorem blk_cos (c : Dev nD) (t : Fin cfg0.N) (r : Fin 512) (n : Fin 128) : iblk m c 1 t (ix2 r n) = Ideal.cos (ang (posOf t r) ⟨n.val % 16, by omega⟩) := by
  refine Eq.trans ?_ ((congrFun (V_cos m c) (ix2 (posOf t r) n)).trans (read_cosV _ n))
  blk_ext [iblk, V, idx t, posOf]

theorem blk_sin (c : Dev nD) (t : Fin cfg0.N) (r : Fin 512) (n : Fin 128) : iblk m c 2 t (ix2 r n) = Ideal.sin (ang (posOf t r) ⟨n.val % 16, by omega⟩) := by
  refine Eq.trans ?_ ((congrFun (V_sin m c) (ix2 (posOf t r) n)).trans (read_sinV _ n))
  blk_ext [iblk, V, idx t, posOf]

theorem blk_e96 (c : Dev nD) (t : Fin cfg0.N) (j n : Fin 768) : iblk m c 5 t (ix2 j n) = (if hd7 j = hd7 n then 1 else 0 : EReal) := by
  refine Eq.trans ?_ ((congrFun (V_e96 m c) (ix2 j n)).trans (read_e96V j n))
  blk_ext [iblk, V, idx t]

theorem blk_wuq (c : Dev nD) (t : Fin cfg0.N) (i : Fin 256) (n : Fin 768) :
    iblk m c 6 t (ix2 i n) = wuqA m c i ⟨96 * (hd7 n).val + (dd7 n).val, by omega⟩ := by
  refine Eq.trans ?_ ((congrFun (V_wuq m c) (ix2 i n)).trans (read_wuqV _ i n))
  blk_ext [iblk, V, idx t]

theorem blk_wukv_lo (c : Dev nD) (t : Fin cfg0.N) (i : Fin 128) (n : Fin 512) :
    iblk m c 7 t (ix2 i ⟨n.val, by omega⟩) = wukvA m c i ⟨128 * (n.val / 64) + n.val % 64, by omega⟩ := by
  refine Eq.trans ?_ ((congrFun (V_wukv m c) (ix2 i ⟨n.val, by omega⟩)).trans (read_wukvV_lo _ i n))
  blk_ext [iblk, V, idx t]

theorem blk_wukv_hi (c : Dev nD) (t : Fin cfg0.N) (i : Fin 128) (n : Fin 512) :
    iblk m c 7 t (ix2 i ⟨512 + n.val, by omega⟩) = wukvA m c i ⟨128 * (n.val / 64) + (64 + n.val % 64), by omega⟩ := by
  refine Eq.trans ?_ ((congrFun (V_wukv m c) (ix2 i ⟨512 + n.val, by omega⟩)).trans (read_wukvV_hi _ i n))
  blk_ext [iblk, V, idx t]

theorem blk_tkr (c : Dev nD) (t : Fin cfg0.N) (j : Fin 32) (n : Fin 256) : iblk m c 8 t (ix2 j n) = (if j = tk n then 1 else 0 : EReal) := by
  refine Eq.trans ?_ ((congrFun (V_tkr m c) (ix2 j n)).trans (read_tkrV j n))
  blk_ext [iblk, V, idx t]

theorem blk_gmqa (c : Dev nD) (t : Fin cfg0.N) (n : Fin 256) : iblk m c 11 t (ix2 0 n) = gmqaA m c n := by
  refine Eq.trans ?_ ((congrFun (V_gmqa m c) (ix2 0 n)).trans (read_g256V _ n))
  blk_ext [iblk, V, idx t]

theorem blk_gmq (c : Dev nD) (t : Fin cfg0.N) (n : Fin 768) : iblk m c 12 t (ix2 0 n) = gmqA m c (dd7 n) := by
  refine Eq.trans ?_ ((congrFun (V_gmq m c) (ix2 0 n)).trans (read_g96V _ n))
  blk_ext [iblk, V, idx t]

theorem blk_gmk (c : Dev nD) (t : Fin cfg0.N) (n : Fin 768) : iblk m c 14 t (ix2 0 n) = gmkA m c (dd7 n) := by
  refine Eq.trans ?_ ((congrFun (V_gmk m c) (ix2 0 n)).trans (read_g96V _ n))
  blk_ext [iblk, V, idx t]

end Cert.ProjBlock
-- ==== Proof.ProjRot.lean ====
module

public import proofs.«01_k».proof.Proof.ProjOps

@[expose] public section

set_option maxRecDepth 16384

noncomputable section

/-! What the input projection's kernel leaves in the latent queries, keys and values. -/

namespace Cert.ProjBlock

open Idealize.ShloMosaic Idealize.ShloMosaic.Tactic Idealize.ShloMosaic.TcCoe Idealize.SL.Sem
open Cert.ProjectIdeal Cert.ProjectIdeal.Gen Cert.ProjectIdeal.Value Cert.Rows Cert.ProjSpec

/-- The named constant is the inverse of 96. -/
theorem i96 : Named.named (F := Ideal) Cert.ProjectIdeal.κ "i96" (φ := .f32) 0x3C2AAAAB#32 = ((96⁻¹ : ℝ) : EReal) :=
  IdealRules.named_const.ideal_named_scalar _ _ _ _ rfl

/-- A part and what is left of the number after it: the number, or both have an infinite square. -/
theorem split_lane (z : EReal) : z + (z - z) = z ∨ (z * z = ⊤ ∧ (z + (z - z)) * (z + (z - z)) = ⊤) := by
  induction z using EReal.rec with
  | bot => right; constructor <;> simp
  | top => right; constructor <;> simp
  | coe r => left; rw [← EReal.coe_sub, sub_self]; simp

/-- The small number under the root, as a real. -/
theorem eps_real : Ideal.ofBits .f32 897988541#32 = ((8796093 / 8796093022208 : ℝ) : EReal) := by
  simp [Ideal.ofBits, Ideal.ieee, -EReal.coe_mul]
  norm_num

/-- Rows whose lanes agree, or both have infinite squares, have one norm. -/
theorem rms_split (x x' g : Fin 96 → EReal) (h : ∀ d, x' d = x d ∨ (x d * x d = ⊤ ∧ x' d * x' d = ⊤)) (d : Fin 96) : rms D96 x' g d = rms D96 x g d := by
  have hs : ∀ i, x' i * x' i = x i * x i := fun i => by
    rcases h i with e | ⟨e1, e2⟩
    · rw [e]
    · rw [e1, e2]
  unfold rms
  simp only [hs]
  rcases h d with e | ⟨e1, _⟩
  · rw [e]
  · have hnn : ∀ i, 0 ≤ x i * x i := fun i => by
      rcases le_total 0 (x i) with h0 | h0
      · exact mul_nonneg h0 h0
      · exact EReal.mul_nonneg_iff.mpr (Or.inr ⟨h0, h0⟩)
    have htop : ∑ j, x j * x j = ⊤ := by
      refine top_le_iff.mp ?_
      rw [← e1]
      exact Finset.single_le_sum (f := fun j => x j * x j) (fun i _ => hnn i) (Finset.mem_univ d)
    rw [htop, ← mul_96, EReal.top_mul_coe_of_pos (by norm_num), eps_real, EReal.top_add_coe, Ideal.rsqrt_top, mul_zero, mul_zero]

/-- A sum over 768 lanes in two parts. -/
theorem sum768 (f : Fin 768 → EReal) : ∑ j, f j = (∑ j : Fin 512, f ⟨j.val, by omega⟩) + ∑ j : Fin 256, f ⟨512 + j.val, by omega⟩ :=
  Fin.sum_univ_add (a := 512) (b := 256) f

/-- A latent query's lane before its norm. -/
def qpre (z : FVec Ideal S512x2560 .f32) (ga : Vec Ideal S1x256 .f32) (wq : Vec Ideal S256x768 .bf16) (r : Fin 512) (n : Fin 768) : EReal :=
  ∑ i, rms D256 (fun i : Fin 256 => z (ix2 r ⟨1536 + i.val, by omega⟩)) (fun i => ga (ix2 0 i)) i * wq (ix2 i n)

theorem read_pay18 (z : FVec Ideal S512x2560 .f32) (ga : Vec Ideal S1x256 .f32) (wq : Vec Ideal S256x768 .bf16) (e6 : Vec Ideal S768x768 .bf16) (g : Vec Ideal S1x768 .f32)
    (r : Fin 512) (n : Fin 768) : k0_pay18 z ga wq e6 g (ix2 r n) = qpre z ga wq r n *
      Ideal.rsqrt ((∑ j, qpre z ga wq r j * qpre z ga wq r j * e6 (ix2 j n)) * ((96⁻¹ : ℝ) : EReal) + Ideal.ofBits .f32 897988541#32) * g (ix2 0 n) := by
  pointwise [k0_pay18]
  rw [i96]
  rfl

theorem read_pay28 (z : FVec Ideal S512x2560 .f32) (g : Vec Ideal S1x128 .f32) (w : Vec Ideal S128x1024 .bf16) (r : Fin 512) (n : Fin 1024) :
    k0_pay28 z g w (ix2 r n) = ∑ i, k0_pay24 z g (ix2 r i) * w (ix2 i n) := by
  generalize h : k0_pay24 z g = y
  unfold k0_pay28
  rw [h]
  pointwise []

theorem read_pay29 (kv : FVec Ideal S512x1024 .f32) (r n : Fin 512) : k0_pay29 kv (ix2 r n) = kv (ix2 r ⟨512 + n.val, by omega⟩) := by
  pointwise [k0_pay29]

theorem read_pay26 (z : FVec Ideal S512x2560 .f32) (r : Fin 512) (n : Fin 32) : k0_pay26 z (ix2 r n) = z (ix2 r ⟨2432 + n.val, by omega⟩) := by
  pointwise [k0_pay26]

/-- A latent key's lane before its norm. -/
def kpre (k : FVec Ideal S512x32 .f32) (kv : FVec Ideal S512x1024 .f32) (t1 t2 : Vec Ideal S32x256 .bf16) (r : Fin 512) (n : Fin 768) : EReal :=
  if h : n.val < 512 then kv (ix2 r ⟨n.val, by omega⟩)
  else ∑ x, k (ix2 r x) * t1 (ix2 x ⟨n.val - 512, by omega⟩) + ∑ x, (k (ix2 r x) - k (ix2 r x)) * t2 (ix2 x ⟨n.val - 512, by omega⟩)

theorem kpre_lo (k : FVec Ideal S512x32 .f32) (kv : FVec Ideal S512x1024 .f32) (t1 t2 : Vec Ideal S32x256 .bf16) (r j : Fin 512) :
    kpre k kv t1 t2 r ⟨j.val, by omega⟩ = kv (ix2 r ⟨j.val, by omega⟩) := dif_pos j.isLt

theorem kpre_hi (k : FVec Ideal S512x32 .f32) (kv : FVec Ideal S512x1024 .f32) (t1 t2 : Vec Ideal S32x256 .bf16) (r : Fin 512) (j : Fin 256) :
    kpre k kv t1 t2 r ⟨512 + j.val, by omega⟩ = ∑ x, k (ix2 r x) * t1 (ix2 x j) + ∑ x, (k (ix2 r x) - k (ix2 r x)) * t2 (ix2 x j) := by
  unfold kpre
  rw [dif_neg (by simp only; omega)]
  have e : (⟨(⟨512 + j.val, by omega⟩ : Fin 768).val - 512, by simp only; omega⟩ : Fin 256) = j := Fin.ext (by simp only; omega)
  rw [e]

theorem read_pay30 (k : FVec Ideal S512x32 .f32) (kv : FVec Ideal S512x1024 .f32) (t1 t2 : Vec Ideal S32x256 .bf16) (e6 : Vec Ideal S768x768 .bf16) (g : Vec Ideal S1x768 .f32)
    (r : Fin 512) (n : Fin 768) : k0_pay30 k kv t1 t2 e6 g (ix2 r n) = kpre k kv t1 t2 r n *
      Ideal.rsqrt ((∑ j, kpre k kv t1 t2 r j * kpre k kv t1 t2 r j * e6 (ix2 j n)) * ((96⁻¹ : ℝ) : EReal) + Ideal.ofBits .f32 897988541#32) * g (ix2 0 n) := by
  pointwise [k0_pay30]
  rw [i96, sum768]
  simp only [kpre_lo, kpre_hi]
  rfl

theorem read_pay22 (C S X1 X2 : FVec Ideal S512x128 .f32) (r : Fin 512) (d : Fin 128) :
    k0_pay22 C S X1 X2 (ix2 r d) = X1 (ix2 r d) * C (ix2 r d) - X2 (ix2 r d) * S (ix2 r d) := by
  pointwise [k0_pay22]

theorem read_pay23 (C S X1 X2 : FVec Ideal S512x128 .f32) (r : Fin 512) (d : Fin 128) :
    k0_pay23 C S X1 X2 (ix2 r d) = X1 (ix2 r d) * S (ix2 r d) + X2 (ix2 r d) * C (ix2 r d) := by
  pointwise [k0_pay23]

theorem read_pay35 (C S X1 X2 : FVec Ideal S512x128 .f32) (r : Fin 512) (d : Fin 128) :
    k0_pay35 C S X1 X2 (ix2 r d) = X1 (ix2 r d) * S (ix2 r d) + X2 (ix2 r d) * C (ix2 r d) := by
  pointwise [k0_pay35]

theorem read_pay4 (x : Vec Ideal S512x128 .f32) (r : Fin 512) (d : Fin 128) : k0_pay4 x (ix2 r d) = x (ix2 r d) := by
  pointwise [k0_pay4]

theorem read_pay5 (x : Vec Ideal S512x128 .f32) (r : Fin 512) (d : Fin 128) : k0_pay5 x (ix2 r d) = x (ix2 r d) := by
  pointwise [k0_pay5]

section queries

variable (z : FVec Ideal S512x2560 .f32) (ga : Vec Ideal S1x256 .f32) (wq : Vec Ideal S256x768 .bf16) (e6 : Vec Ideal S768x768 .bf16) (g : Vec Ideal S1x768 .f32)

theorem read_pay19 (r : Fin 512) (d : Fin 128) : k0_pay19 z ga wq e6 g (ix2 r d) = k0_pay18 z ga wq e6 g (ix2 r ⟨512 + d.val, by omega⟩) := by
  generalize h : k0_pay18 z ga wq e6 g = y
  unfold k0_pay19
  rw [h]
  pointwise []

theorem read_pay20 (r : Fin 512) (d : Fin 128) : k0_pay20 z ga wq e6 g (ix2 r d) = k0_pay18 z ga wq e6 g (ix2 r ⟨640 + d.val, by omega⟩) := by
  generalize h : k0_pay18 z ga wq e6 g = y
  unfold k0_pay20
  rw [h]
  pointwise []

theorem read_pay21 (r d : Fin 512) : k0_pay21 z ga wq e6 g (ix2 r d) = k0_pay18 z ga wq e6 g (ix2 r ⟨d.val, by omega⟩) := by
  generalize h : k0_pay18 z ga wq e6 g = y
  unfold k0_pay21
  rw [h]
  pointwise []

end queries

section keys

variable (k : FVec Ideal S512x32 .f32) (kv : FVec Ideal S512x1024 .f32) (t1 t2 : Vec Ideal S32x256 .bf16) (e6 : Vec Ideal S768x768 .bf16) (g : Vec Ideal S1x768 .f32)

theorem read_pay31 (r : Fin 512) (d : Fin 128) : k0_pay31 k kv t1 t2 e6 g (ix2 r d) = k0_pay30 k kv t1 t2 e6 g (ix2 r ⟨512 + d.val, by omega⟩) := by
  generalize h : k0_pay30 k kv t1 t2 e6 g = y
  unfold k0_pay31
  rw [h]
  pointwise []

theorem read_pay32 (r : Fin 512) (d : Fin 128) : k0_pay32 k kv t1 t2 e6 g (ix2 r d) = k0_pay30 k kv t1 t2 e6 g (ix2 r ⟨640 + d.val, by omega⟩) := by
  generalize h : k0_pay30 k kv t1 t2 e6 g = y
  unfold k0_pay32
  rw [h]
  pointwise []

theorem read_pay33 (r d : Fin 512) : k0_pay33 k kv t1 t2 e6 g (ix2 r d) = k0_pay30 k kv t1 t2 e6 g (ix2 r ⟨d.val, by omega⟩) := by
  generalize h : k0_pay30 k kv t1 t2 e6 g = y
  unfold k0_pay33
  rw [h]
  pointwise []

theorem read_pay34 (C S : FVec Ideal S512x128 .f32) (r : Fin 512) (d : Fin 128) : k0_pay34 C S k kv t1 t2 e6 g (ix2 r d)
    = k0_pay31 k kv t1 t2 e6 g (ix2 r d) * C (ix2 r d) - k0_pay32 k kv t1 t2 e6 g (ix2 r d) * S (ix2 r d) := by
  generalize h1 : k0_pay31 k kv t1 t2 e6 g = y1
  generalize h2 : k0_pay32 k kv t1 t2 e6 g = y2
  unfold k0_pay34
  rw [h1, h2]
  pointwise []

end keys

/-- The heads and places of the turned lanes. -/
theorem mid : ∀ d : Fin 128, hd7 ⟨512 + d.val, by omega⟩ = ⟨d.val / 16, by omega⟩ ∧ dd7 ⟨512 + d.val, by omega⟩ = ⟨64 + d.val % 16, by omega⟩
    ∧ hd7 ⟨640 + d.val, by omega⟩ = ⟨d.val / 16, by omega⟩ ∧ dd7 ⟨640 + d.val, by omega⟩ = ⟨80 + d.val % 16, by omega⟩ := by decide +kernel

theorem turn_lo (c s : Fin 16 → EReal) (x : Fin 8 → Fin 96 → EReal) (d : Fin 512) :
    turn c s x ⟨d.val, by omega⟩ = x (hd7 ⟨d.val, by omega⟩) (dd7 ⟨d.val, by omega⟩) := if_pos d.isLt

theorem turn_mid (c s : Fin 16 → EReal) (x : Fin 8 → Fin 96 → EReal) (d : Fin 128) : turn c s x ⟨512 + d.val, by omega⟩
    = x ⟨d.val / 16, by omega⟩ ⟨64 + d.val % 16, by omega⟩ * c ⟨d.val % 16, by omega⟩ - x ⟨d.val / 16, by omega⟩ ⟨80 + d.val % 16, by omega⟩ * s ⟨d.val % 16, by omega⟩ := by
  unfold turn
  rw [if_neg (by simp only; omega), if_pos (by simp only; omega), (mid d).1]
  have e : (512 + d.val) % 16 = d.val % 16 := by omega
  simp only [e]

theorem turn_hi (c s : Fin 16 → EReal) (x : Fin 8 → Fin 96 → EReal) (d : Fin 128) : turn c s x ⟨640 + d.val, by omega⟩
    = x ⟨d.val / 16, by omega⟩ ⟨64 + d.val % 16, by omega⟩ * s ⟨d.val % 16, by omega⟩ + x ⟨d.val / 16, by omega⟩ ⟨80 + d.val % 16, by omega⟩ * c ⟨d.val % 16, by omega⟩ := by
  unfold turn
  rw [if_neg (by simp only; omega), if_neg (by simp only; omega), (mid d).2.2.1]
  have e : (640 + d.val) % 16 = d.val % 16 := by omega
  simp only [e]

variable (m : (ℓ : Loc nD τ sig) → Buf (Elt Ideal) ℓ)

/-- The cosines of a position. -/
def cosF (p : Fin 2048) (k : Fin 16) : EReal := Ideal.cos (ang p k)

/-- The sines of a position. -/
def sinF (p : Fin 2048) (k : Fin 16) : EReal := Ideal.sin (ang p k)

/-- The tile of the normed latent queries. -/
def mqT (c : Dev nD) (t : Fin cfg0.N) : FVec Ideal S512x768 .f32 := k0_pay18 (zT m c t) (iblk m c 11 t) (iblk m c 6 t) (iblk m c 5 t) (iblk m c 12 t)

/-- A normed latent query's lane in the tile. -/
theorem mq_tile (c : Dev nD) (t : Fin cfg0.N) (r : Fin 512) (n : Fin 768) :
    mqT m c t (ix2 r n) = mqF (uA m c (rowOf t r)) (wA m c) (gmqaA m c) (wuqA m c) (gmqA m c) (hd7 n) (dd7 n) := by
  unfold mqT
  rw [read_pay18]
  refine (group7 (fun j => qpre (zT m c t) (iblk m c 11 t) (iblk m c 6 t) r j) (fun n => iblk m c 12 t (ix2 0 n)) (gmqA m c)
    (fun j n => iblk m c 5 t (ix2 j n)) (blk_e96 m c t) (blk_gmq m c t) n).trans ?_
  unfold mqF
  refine rms_congr D96 (fun d => ?_) (fun _ => rfl) (dd7 n)
  unfold qpre mqaF
  refine Finset.sum_congr rfl fun i _ => ?_
  refine congrArg₂ (· * ·) (rms_congr D256 (fun i => z_lo m c t r ⟨1536 + i.val, by omega⟩) (blk_gmqa m c t) i) ?_
  refine (blk_wuq m c t i _).trans (congrArg (wuqA m c i) (Fin.ext ?_))
  simp only [hd7_lane, dd7_lane]

/-- The latent's product in the tile. -/
theorem kv_tile_lo (c : Dev nD) (t : Fin cfg0.N) (r n : Fin 512) : k0_pay28 (zT m c t) (iblk m c 13 t) (iblk m c 7 t) (ix2 r ⟨n.val, by omega⟩)
    = kvF (uA m c (rowOf t r)) (wA m c) (gmkvA m c) (wukvA m c) ⟨n.val / 64, by omega⟩ ⟨n.val % 64, by omega⟩ := by
  rw [read_pay28]
  exact Finset.sum_congr rfl fun i _ => congrArg₂ (· * ·) (ckv_tile m c t r i) (blk_wukv_lo m c t i n)

theorem kv_tile_hi (c : Dev nD) (t : Fin cfg0.N) (r n : Fin 512) : k0_pay28 (zT m c t) (iblk m c 13 t) (iblk m c 7 t) (ix2 r ⟨512 + n.val, by omega⟩)
    = kvF (uA m c (rowOf t r)) (wA m c) (gmkvA m c) (wukvA m c) ⟨n.val / 64, by omega⟩ ⟨64 + n.val % 64, by omega⟩ := by
  rw [read_pay28]
  exact Finset.sum_congr rfl fun i _ => congrArg₂ (· * ·) (ckv_tile m c t r i) (blk_wukv_hi m c t i n)

/-- A latent key's lane before its norm, shared lanes taken in two parts. -/
def kpreT (c : Dev nD) (t : Fin cfg0.N) (r : Fin 512) (n : Fin 768) : EReal :=
  kpre (k0_pay26 (zT m c t)) (k0_pay28 (zT m c t) (iblk m c 13 t) (iblk m c 7 t)) (iblk m c 8 t) (iblk m c 8 t) r n

theorem kpre_shared (c : Dev nD) (t : Fin cfg0.N) (r : Fin 512) (j : Fin 256) : kpreT m c t r ⟨512 + j.val, by omega⟩
    = krF (uA m c (rowOf t r)) (wA m c) (tk j) + (krF (uA m c (rowOf t r)) (wA m c) (tk j) - krF (uA m c (rowOf t r)) (wA m c) (tk j)) := by
  unfold kpreT
  rw [kpre_hi]
  have hk : ∀ x, k0_pay26 (zT m c t) (ix2 r x) = krF (uA m c (rowOf t r)) (wA m c) x := fun x => (read_pay26 _ r x).trans (z_kr m c t r x)
  simp only [hk, blk_tkr, mul_ite, mul_one, mul_zero, Finset.sum_ite_eq', Finset.mem_univ, if_true]

theorem kpre_lane (c : Dev nD) (t : Fin cfg0.N) (r : Fin 512) (h : Fin 8) (d : Fin 96) :
    kpreT m c t r (lane7 h d) = kpF (uA m c (rowOf t r)) (wA m c) (gmkvA m c) (wukvA m c) h d
    ∨ (kpF (uA m c (rowOf t r)) (wA m c) (gmkvA m c) (wukvA m c) h d * kpF (uA m c (rowOf t r)) (wA m c) (gmkvA m c) (wukvA m c) h d = ⊤
      ∧ kpreT m c t r (lane7 h d) * kpreT m c t r (lane7 h d) = ⊤) := by
  by_cases hd : d.val < 64
  · left
    have e : lane7 h d = ⟨(⟨64 * h.val + d.val, by omega⟩ : Fin 512).val, by simp only; omega⟩ := by
      unfold lane7
      rw [dif_pos hd]
    rw [e]
    refine (kpre_lo _ _ _ _ r _).trans ((kv_tile_lo m c t r _).trans ?_)
    unfold kpF
    rw [dif_pos hd]
    exact congrArg₂ (kvF _ _ _ _) (Fin.ext (by simp only; omega)) (Fin.ext (by simp only; omega))
  · have e : ∃ j : Fin 256, lane7 h d = ⟨512 + j.val, by omega⟩ ∧ tk j = ⟨d.val - 64, by omega⟩ := by
      by_cases h2 : d.val < 80
      · refine ⟨⟨16 * h.val + (d.val - 64), by omega⟩, ?_, Fin.ext (by simp only [tk]; omega)⟩
        unfold lane7
        rw [dif_neg hd, dif_pos h2]
        exact Fin.ext (by simp only; omega)
      · refine ⟨⟨128 + 16 * h.val + (d.val - 80), by omega⟩, ?_, Fin.ext (by simp only [tk]; omega)⟩
        unfold lane7
        rw [dif_neg hd, dif_neg h2]
        exact Fin.ext (by simp only; omega)
    obtain ⟨j, e1, e2⟩ := e
    rw [e1, kpre_shared, e2]
    unfold kpF
    rw [dif_neg hd]
    exact split_lane _

/-- The tile of the normed latent keys. -/
def kmT (c : Dev nD) (t : Fin cfg0.N) : FVec Ideal S512x768 .f32 :=
  k0_pay30 (k0_pay26 (zT m c t)) (k0_pay28 (zT m c t) (iblk m c 13 t) (iblk m c 7 t)) (iblk m c 8 t) (iblk m c 8 t) (iblk m c 5 t) (iblk m c 14 t)

/-- A normed latent key's lane in the tile. -/
theorem km_tile (c : Dev nD) (t : Fin cfg0.N) (r : Fin 512) (n : Fin 768) :
    kmT m c t (ix2 r n) = kmF (uA m c (rowOf t r)) (wA m c) (gmkvA m c) (wukvA m c) (gmkA m c) (hd7 n) (dd7 n) := by
  unfold kmT
  rw [read_pay30]
  refine (group7 (fun j => kpreT m c t r j) (fun n => iblk m c 14 t (ix2 0 n)) (gmkA m c)
    (fun j n => iblk m c 5 t (ix2 j n)) (blk_e96 m c t) (blk_gmk m c t) n).trans ?_
  exact rms_split _ _ _ (kpre_lane m c t r (hd7 n)) (dd7 n)

/-- The latent queries, turned. -/
def outMq (c : Dev nD) : FVec Ideal S16384x768 .bf16 := fun y => turn (cosF ⟨(y 0).val % 2048, by omega⟩) (sinF ⟨(y 0).val % 2048, by omega⟩)
  (mqF (uA m c (y 0)) (wA m c) (gmqaA m c) (wuqA m c) (gmqA m c)) (y 1)

/-- The latent keys, turned. -/
def outKm (c : Dev nD) : FVec Ideal S16384x768 .bf16 := fun y => turn (cosF ⟨(y 0).val % 2048, by omega⟩) (sinF ⟨(y 0).val % 2048, by omega⟩)
  (kmF (uA m c (y 0)) (wA m c) (gmkvA m c) (wukvA m c) (gmkA m c)) (y 1)

/-- The latent values. -/
def outVm (c : Dev nD) : FVec Ideal S16384x512 .bf16 := fun y => vmF (uA m c (y 0)) (wA m c) (gmkvA m c) (wukvA m c) (hd5 (y 1)) (dd5 (y 1))

theorem pos_row (t : Fin cfg0.N) (r : Fin 512) : (⟨(rowOf t r).val % 2048, by omega⟩ : Fin 2048) = posOf t r :=
  Fin.ext (by simp only [rowOf, posOf]; omega)

/-- An index of the turned lanes' tile by its coordinates. -/
theorem split_512_512 (x : S512x512.Idx) : ∃ r d : Fin 512, x = ix2 r d := by
  idx_vars x
  exact ⟨_, _, rfl⟩

theorem final26 (c : Dev nD) : (dats m 0 c).arrAt 26 cfg0.N = outVm m c := by
  refine (dats m 0 c).arrAt_eq_of_covers 26 _ (by decide +kernel) fun t hf y => ?_
  blk_simp
  rw [after0_26]
  obtain ⟨r, n, rfl⟩ : ∃ (r : Fin 512) (n : Fin 512), y = ix2 r n := by
    idx_vars y
    exact ⟨_, _, rfl⟩
  have e : outVm m c ((win0_26.blk t).view.emb (ix2 r n)) = vmF (uA m c (rowOf t r)) (wA m c) (gmkvA m c) (wukvA m c) (hd5 n) (dd5 n) := by
    show outVm m c _ = outVm m c (ix2 (rowOf t r) n)
    refine congrArg (outVm m c) ?_
    blk_ext [idxo t, rowOf]
  refine Eq.trans ?_ e.symm
  unfold outsAt0
  frame_out
  exact (read_pay29 _ r n).trans (kv_tile_hi m c t r n)

/-- A place in a group of 128 lanes is a lane. -/
theorem lane_lt (o : Nat) (h : o + 128 ≤ 768) (d : Fin 128) : o + d.val < 768 := by omega

theorem lane_lt0 (d : Fin 512) : d.val < 768 := by omega

/-- The three stored pieces of a turned tile cover it. -/
theorem cover_turn (p1 p2 : FVec Ideal S512x128 .bf16) (p3 : FVec Ideal S512x512 .bf16) (r : Fin 512) (n : Fin 768) :
    ∃ p ∈ [(⟨Rect.unit ![0, 640] ![512, 128] inb_S512x768_S512x128_0_640, p1⟩ : View.Piece (Elt Ideal) S512x768 .bf16),
      ⟨Rect.unit ![0, 512] ![512, 128] inb_S512x768_S512x128_0_512, p2⟩,
      ⟨Rect.unit ![0, 0] ![512, 512] inb_S512x768_S512x512_0_0, p3⟩], (ix2 r n : S512x768.Idx) ∈ p.fst.set := by
  by_cases h1 : 640 ≤ n.val
  · refine ⟨_, List.mem_cons_self, ?_⟩
    refine (Rect.mem_set_unit (inb := inb_S512x768_S512x128_0_640)).mpr fun a => ?_
    match a with
    | 0 => exact ⟨Nat.zero_le _, by show r.val < 0 + 512; omega⟩
    | 1 => exact ⟨h1, by show n.val < 640 + 128; omega⟩
  · by_cases h2 : 512 ≤ n.val
    · refine ⟨_, List.mem_cons_of_mem _ List.mem_cons_self, ?_⟩
      refine (Rect.mem_set_unit (inb := inb_S512x768_S512x128_0_512)).mpr fun a => ?_
      match a with
      | 0 => exact ⟨Nat.zero_le _, by show r.val < 0 + 512; omega⟩
      | 1 => exact ⟨h2, by show n.val < 512 + 128; omega⟩
    · refine ⟨_, List.mem_cons_of_mem _ (List.mem_cons_of_mem _ List.mem_cons_self), ?_⟩
      refine (Rect.mem_set_unit (inb := inb_S512x768_S512x512_0_0)).mpr fun a => ?_
      match a with
      | 0 => exact ⟨Nat.zero_le _, by show r.val < 0 + 512; omega⟩
      | 1 => exact ⟨Nat.zero_le _, by show n.val < 0 + 512; omega⟩

theorem final21 (c : Dev nD) : (dats m 0 c).arrAt 21 cfg0.N = outMq m c := by
  refine (dats m 0 c).arrAt_eq_of_covers 21 _ (by decide +kernel) fun t hf y => ?_
  blk_simp
  rw [after0_21]
  obtain ⟨r, n, rfl⟩ : ∃ (r : Fin 512) (n : Fin 768), y = ix2 r n := by
    idx_vars y
    exact ⟨_, _, rfl⟩
  have e : outMq m c ((win0_21.blk t).view.emb (ix2 r n)) = turn (cosF (posOf t r)) (sinF (posOf t r)) (mqF (uA m c (rowOf t r)) (wA m c) (gmqaA m c) (wuqA m c) (gmqA m c)) n := by
    rw [← pos_row]
    show outMq m c _ = outMq m c (ix2 (rowOf t r) n)
    refine congrArg (outMq m c) ?_
    blk_ext [idxo t, rowOf]
  refine Eq.trans ?_ e.symm
  unfold outsAt0
  frame_out
  canon_tiles x h using cover_turn _ _ _ r n
  case piece0 =>
    obtain ⟨r', d, rfl⟩ := split_512_128 x
    obtain rfl : r = r' := Fin.ext h0
    obtain rfl : n = ⟨640 + d.val, lane_lt 640 (by decide) d⟩ := Fin.ext h1
    rw [turn_hi]
    refine (read_pay23 _ _ _ _ r d).trans (congrArg₂ (· + ·) (congrArg₂ (· * ·) ?_ ((read_pay5 _ r d).trans (blk_sin m c t r d))) (congrArg₂ (· * ·) ?_ ((read_pay4 _ r d).trans (blk_cos m c t r d))))
    · exact ((read_pay19 _ _ _ _ _ r d).trans ((mq_tile m c t r ⟨512 + d.val, by omega⟩).trans (by rw [(mid d).1, (mid d).2.1])))
    · exact ((read_pay20 _ _ _ _ _ r d).trans ((mq_tile m c t r ⟨640 + d.val, by omega⟩).trans (by rw [(mid d).2.2.1, (mid d).2.2.2])))
  case piece1 =>
    obtain ⟨r', d, rfl⟩ := split_512_128 x
    obtain rfl : r = r' := Fin.ext h0
    obtain rfl : n = ⟨512 + d.val, lane_lt 512 (by decide) d⟩ := Fin.ext h1
    rw [turn_mid]
    refine (read_pay22 _ _ _ _ r d).trans (congrArg₂ (· - ·) (congrArg₂ (· * ·) ?_ ((read_pay4 _ r d).trans (blk_cos m c t r d))) (congrArg₂ (· * ·) ?_ ((read_pay5 _ r d).trans (blk_sin m c t r d))))
    · exact ((read_pay19 _ _ _ _ _ r d).trans ((mq_tile m c t r ⟨512 + d.val, by omega⟩).trans (by rw [(mid d).1, (mid d).2.1])))
    · exact ((read_pay20 _ _ _ _ _ r d).trans ((mq_tile m c t r ⟨640 + d.val, by omega⟩).trans (by rw [(mid d).2.2.1, (mid d).2.2.2])))
  case piece2 =>
    obtain ⟨r', d, rfl⟩ := split_512_512 x
    obtain rfl : r = r' := Fin.ext h0
    obtain rfl : n = ⟨d.val, lane_lt0 d⟩ := Fin.ext h1
    rw [turn_lo]
    exact (read_pay21 _ _ _ _ _ r d).trans (mq_tile m c t r ⟨d.val, by omega⟩)

theorem final25 (c : Dev nD) : (dats m 0 c).arrAt 25 cfg0.N = outKm m c := by
  refine (dats m 0 c).arrAt_eq_of_covers 25 _ (by decide +kernel) fun t hf y => ?_
  blk_simp
  rw [after0_25]
  obtain ⟨r, n, rfl⟩ : ∃ (r : Fin 512) (n : Fin 768), y = ix2 r n := by
    idx_vars y
    exact ⟨_, _, rfl⟩
  have e : outKm m c ((win0_25.blk t).view.emb (ix2 r n)) = turn (cosF (posOf t r)) (sinF (posOf t r)) (kmF (uA m c (rowOf t r)) (wA m c) (gmkvA m c) (wukvA m c) (gmkA m c)) n := by
    rw [← pos_row]
    show outKm m c _ = outKm m c (ix2 (rowOf t r) n)
    refine congrArg (outKm m c) ?_
    blk_ext [idxo t, rowOf]
  refine Eq.trans ?_ e.symm
  unfold outsAt0
  frame_out
  canon_tiles x h using cover_turn _ _ _ r n
  case piece0 =>
    obtain ⟨r', d, rfl⟩ := split_512_128 x
    obtain rfl : r = r' := Fin.ext h0
    obtain rfl : n = ⟨640 + d.val, lane_lt 640 (by decide) d⟩ := Fin.ext h1
    rw [turn_hi]
    refine (read_pay35 _ _ _ _ r d).trans (congrArg₂ (· + ·) (congrArg₂ (· * ·) ?_ ((read_pay5 _ r d).trans (blk_sin m c t r d))) (congrArg₂ (· * ·) ?_ ((read_pay4 _ r d).trans (blk_cos m c t r d))))
    · exact ((read_pay31 _ _ _ _ _ _ r d).trans ((km_tile m c t r ⟨512 + d.val, by omega⟩).trans (by rw [(mid d).1, (mid d).2.1])))
    · exact ((read_pay32 _ _ _ _ _ _ r d).trans ((km_tile m c t r ⟨640 + d.val, by omega⟩).trans (by rw [(mid d).2.2.1, (mid d).2.2.2])))
  case piece1 =>
    obtain ⟨r', d, rfl⟩ := split_512_128 x
    obtain rfl : r = r' := Fin.ext h0
    obtain rfl : n = ⟨512 + d.val, lane_lt 512 (by decide) d⟩ := Fin.ext h1
    rw [turn_mid]
    refine (read_pay34 _ _ _ _ _ _ _ _ r d).trans (congrArg₂ (· - ·) (congrArg₂ (· * ·) ?_ ((read_pay4 _ r d).trans (blk_cos m c t r d))) (congrArg₂ (· * ·) ?_ ((read_pay5 _ r d).trans (blk_sin m c t r d))))
    · exact ((read_pay31 _ _ _ _ _ _ r d).trans ((km_tile m c t r ⟨512 + d.val, by omega⟩).trans (by rw [(mid d).1, (mid d).2.1])))
    · exact ((read_pay32 _ _ _ _ _ _ r d).trans ((km_tile m c t r ⟨640 + d.val, by omega⟩).trans (by rw [(mid d).2.2.1, (mid d).2.2.2])))
  case piece2 =>
    obtain ⟨r', d, rfl⟩ := split_512_512 x
    obtain rfl : r = r' := Fin.ext h0
    obtain rfl : n = ⟨d.val, lane_lt0 d⟩ := Fin.ext h1
    rw [turn_lo]
    exact (read_pay33 _ _ _ _ _ _ r d).trans (km_tile m c t r ⟨d.val, by omega⟩)

end Cert.ProjBlock
-- ==== Proof.ProjRef.lean ====
module

public import proofs.«01_k».proof.Defs
public import proofs.«01_k».proof.Proof.ProjRot
public import proofs.«01_k».proof.Proof.Gen.ProjectRefIdeal.Run
public import Idealize.ShloMosaic.Lib.Pointwise

@[expose] public section

set_option maxRecDepth 16384

noncomputable section

/-! The projections, as the reference computes it, and the two programs together. -/

namespace Cert.ProjRef

open Idealize.ShloMosaic Idealize.ShloMosaic.Tactic Idealize.ShloMosaic.TcCoe Idealize.SL.Sem
open Cert.ProjectRefIdeal Cert.ProjectRefIdeal.Gen Cert.ProjectRefIdeal.Value Cert.ProjBlock Cert.ProjSpec Cert.Rows

/-- The reference's product of the normed rows with their matrix. -/
def rZ (u : FVec Ideal S16384x1024 .bf16) (w : FVec Ideal S1x1024x5536 .f32) : FVec Ideal S8x2048x5536 .f32 :=
  Host.dotGeneral dot_S8x2048x1024_S1024x5536_S8x2048x5536_2_0_01_1_n_n none (shapeCast _ (extf .f32 u bitsLt_bf16_f32) shapeCasts_S16384x1024_S8x2048x1024) (shapeCast _ w shapeCasts_S1x1024x5536_S1024x5536)

/-- The norm of the heads of 64 lanes. -/
def rN64 (x : FVec Ideal S8x2048x8x64 .f32) (g : FVec Ideal S1x64 .f32) : FVec Ideal S8x2048x8x64 .f32 :=
  mulf (mulf x (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf x x) (constant S_ .f32 0x00000000#32) reducesTo_S8x2048x8x64_S8x2048x8_d3 h_S_)) (broadcastInDim S8x2048x8x1 ![] bcast_S_S8x2048x8x1 (constant S_ .f32 0x42800000#32))) (broadcastInDim S8x2048x8x1 ![] bcast_S_S8x2048x8x1 (constant S_ .f32 0x358637BD#32)))))) (broadcastInDim S8x2048x8x64 ![0, 1, 2, 3] bcast_S1x1x1x64_S8x2048x8x64_0_1_2_3 (broadcastInDim S1x1x1x64 ![3] bcast_S64_S1x1x1x64_3 (shapeCast _ g shapeCasts_S1x64_S64)))

/-- The norm of the heads of 128 lanes. -/
def rN128 (x : FVec Ideal S8x2048x4x128 .f32) (g : FVec Ideal S1x128 .f32) : FVec Ideal S8x2048x4x128 .f32 :=
  mulf (mulf x (broadcastInDim S8x2048x4x128 ![0, 1, 2, 3] bcast_S8x2048x4x1_S8x2048x4x128_0_1_2_3 (Host.rsqrt (addf (Host.divf (broadcastInDim S8x2048x4x1 ![0, 1, 2] bcast_S8x2048x4_S8x2048x4x1_0_1_2 (Host.reduceAdd (mulf x x) (constant S_ .f32 0x00000000#32) reducesTo_S8x2048x4x128_S8x2048x4_d3 h_S_)) (broadcastInDim S8x2048x4x1 ![] bcast_S_S8x2048x4x1 (constant S_ .f32 0x43000000#32))) (broadcastInDim S8x2048x4x1 ![] bcast_S_S8x2048x4x1 (constant S_ .f32 0x358637BD#32)))))) (broadcastInDim S8x2048x4x128 ![0, 1, 2, 3] bcast_S1x1x1x128_S8x2048x4x128_0_1_2_3 (broadcastInDim S1x1x1x128 ![3] bcast_S128_S1x1x1x128_3 (shapeCast _ g shapeCasts_S1x128_S128)))

/-- The norm of the heads of 96 lanes. -/
def rN96 (x : FVec Ideal S8x2048x8x96 .f32) (g : FVec Ideal S1x96 .f32) : FVec Ideal S8x2048x8x96 .f32 :=
  mulf (mulf x (broadcastInDim S8x2048x8x96 ![0, 1, 2, 3] bcast_S8x2048x8x1_S8x2048x8x96_0_1_2_3 (Host.rsqrt (addf (Host.divf (broadcastInDim S8x2048x8x1 ![0, 1, 2] bcast_S8x2048x8_S8x2048x8x1_0_1_2 (Host.reduceAdd (mulf x x) (constant S_ .f32 0x00000000#32) reducesTo_S8x2048x8x96_S8x2048x8_d3 h_S_)) (broadcastInDim S8x2048x8x1 ![] bcast_S_S8x2048x8x1 (constant S_ .f32 0x42C00000#32))) (broadcastInDim S8x2048x8x1 ![] bcast_S_S8x2048x8x1 (constant S_ .f32 0x358637BD#32)))))) (broadcastInDim S8x2048x8x96 ![0, 1, 2, 3] bcast_S1x1x1x96_S8x2048x8x96_0_1_2_3 (broadcastInDim S1x1x1x96 ![3] bcast_S96_S1x1x1x96_3 (shapeCast _ g shapeCasts_S1x96_S96)))

/-- The norm of the latent. -/
def rNl (x : FVec Ideal S8x2048x128 .f32) (g : FVec Ideal S1x128 .f32) : FVec Ideal S8x2048x128 .f32 :=
  mulf (mulf x (broadcastInDim S8x2048x128 ![0, 1, 2] bcast_S8x2048x1_S8x2048x128_0_1_2 (Host.rsqrt (addf (Host.divf (broadcastInDim S8x2048x1 ![0, 1] bcast_S8x2048_S8x2048x1_0_1 (Host.reduceAdd (mulf x x) (constant S_ .f32 0x00000000#32) reducesTo_S8x2048x128_S8x2048_d2 h_S_)) (broadcastInDim S8x2048x1 ![] bcast_S_S8x2048x1 (constant S_ .f32 0x43000000#32))) (broadcastInDim S8x2048x1 ![] bcast_S_S8x2048x1 (constant S_ .f32 0x358637BD#32)))))) (broadcastInDim S8x2048x128 ![0, 1, 2] bcast_S1x1x128_S8x2048x128_0_1_2 (broadcastInDim S1x1x128 ![2] bcast_S128_S1x1x128_2 (shapeCast _ g shapeCasts_S1x128_S128)))

/-- The norm of the latent query. -/
def rNq (x : FVec Ideal S8x2048x256 .f32) (g : FVec Ideal S1x256 .f32) : FVec Ideal S8x2048x256 .f32 :=
  mulf (mulf x (broadcastInDim S8x2048x256 ![0, 1, 2] bcast_S8x2048x1_S8x2048x256_0_1_2 (Host.rsqrt (addf (Host.divf (broadcastInDim S8x2048x1 ![0, 1] bcast_S8x2048_S8x2048x1_0_1 (Host.reduceAdd (mulf x x) (constant S_ .f32 0x00000000#32) reducesTo_S8x2048x256_S8x2048_d2 h_S_)) (broadcastInDim S8x2048x1 ![] bcast_S_S8x2048x1 (constant S_ .f32 0x43800000#32))) (broadcastInDim S8x2048x1 ![] bcast_S_S8x2048x1 (constant S_ .f32 0x358637BD#32)))))) (broadcastInDim S8x2048x256 ![0, 1, 2] bcast_S1x1x256_S8x2048x256_0_1_2 (broadcastInDim S1x1x256 ![2] bcast_S256_S1x1x256_2 (shapeCast _ g shapeCasts_S1x256_S256)))

/-- The latent queries' heads. -/
def rUq (x : FVec Ideal S8x2048x256 .f32) (w : FVec Ideal S1x256x768 .f32) : FVec Ideal S8x2048x8x96 .f32 :=
  shapeCast _ (Host.dotGeneral dot_S8x2048x256_S256x768_S8x2048x768_2_0_01_1_n_n none x (shapeCast _ w shapeCasts_S1x256x768_S256x768)) shapeCasts_S8x2048x768_S8x2048x8x96

/-- The latent keys' and values' heads. -/
def rUkv (x : FVec Ideal S8x2048x128 .f32) (w : FVec Ideal S1x128x1024 .f32) : FVec Ideal S8x2048x8x128 .f32 :=
  shapeCast _ (Host.dotGeneral dot_S8x2048x128_S128x1024_S8x2048x1024_2_0_01_1_n_n none x (shapeCast _ w shapeCasts_S1x128x1024_S128x1024)) shapeCasts_S8x2048x1024_S8x2048x8x128

/-- The latent keys before their norm. -/
def rKp (x : FVec Ideal S8x2048x8x128 .f32) (y : FVec Ideal S8x2048x32 .f32) : FVec Ideal S8x2048x8x96 .f32 :=
  concatenate S8x2048x8x96 3 [⟨S8x2048x8x64, (extractStridedSlice S8x2048x8x64 ![0, 0, 0, 0] x slices_S8x2048x8x128_S8x2048x8x64_0_0_0_0)⟩, ⟨S8x2048x8x32, (broadcastInDim S8x2048x8x32 ![0, 1, 2, 3] bcast_S8x2048x1x32_S8x2048x8x32_0_1_2_3 (broadcastInDim S8x2048x1x32 ![0, 1, 3] bcast_S8x2048x32_S8x2048x1x32_0_1_3 y))⟩] concatenates_S8x2048x8x64_S8x2048x8x32_S8x2048x8x96_d3

/-- The angles. -/
def rAng  : FVec Ideal S2048x1x16 .f32 :=
  mulf (broadcastInDim S2048x1x16 ![0, 1, 2] bcast_S2048x1x1_S2048x1x16_0_1_2 (broadcastInDim S2048x1x1 ![0] bcast_S2048_S2048x1x1_0 (sitofp .f32 (iotaInDim S2048 32 0)))) (broadcastInDim S2048x1x16 ![0, 1, 2] bcast_S1x1x16_S2048x1x16_0_1_2 (broadcastInDim S1x1x16 ![2] bcast_S16_S1x1x16_2 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- The turned lanes. -/
def rTurn (c s : FVec Ideal S2048x1x16 .f32) (x : FVec Ideal S8x2048x8x32 .f32) : FVec Ideal S8x2048x8x32 .f32 :=
  concatenate S8x2048x8x32 3 [⟨S8x2048x8x16, (subf (mulf (extractStridedSlice S8x2048x8x16 ![0, 0, 0, 0] x slices_S8x2048x8x32_S8x2048x8x16_0_0_0_0) (broadcastInDim S8x2048x8x16 ![0, 1, 2, 3] bcast_S1x2048x1x16_S8x2048x8x16_0_1_2_3 (broadcastInDim S1x2048x1x16 ![1, 2, 3] bcast_S2048x1x16_S1x2048x1x16_1_2_3 c))) (mulf (extractStridedSlice S8x2048x8x16 ![0, 0, 0, 16] x slices_S8x2048x8x32_S8x2048x8x16_0_0_0_16) (broadcastInDim S8x2048x8x16 ![0, 1, 2, 3] bcast_S1x2048x1x16_S8x2048x8x16_0_1_2_3 (broadcastInDim S1x2048x1x16 ![1, 2, 3] bcast_S2048x1x16_S1x2048x1x16_1_2_3 s))))⟩, ⟨S8x2048x8x16, (addf (mulf (extractStridedSlice S8x2048x8x16 ![0, 0, 0, 0] x slices_S8x2048x8x32_S8x2048x8x16_0_0_0_0) (broadcastInDim S8x2048x8x16 ![0, 1, 2, 3] bcast_S1x2048x1x16_S8x2048x8x16_0_1_2_3 (broadcastInDim S1x2048x1x16 ![1, 2, 3] bcast_S2048x1x16_S1x2048x1x16_1_2_3 s))) (mulf (extractStridedSlice S8x2048x8x16 ![0, 0, 0, 16] x slices_S8x2048x8x32_S8x2048x8x16_0_0_0_16) (broadcastInDim S8x2048x8x16 ![0, 1, 2, 3] bcast_S1x2048x1x16_S8x2048x8x16_0_1_2_3 (broadcastInDim S1x2048x1x16 ![1, 2, 3] bcast_S2048x1x16_S1x2048x1x16_1_2_3 c))))⟩] concatenates_S8x2048x8x16_S8x2048x8x16_S8x2048x8x32_d3

/-- The lanes to turn. -/
def rTail (x : FVec Ideal S8x2048x8x96 .f32) : FVec Ideal S8x2048x8x32 .f32 :=
  extractStridedSlice S8x2048x8x32 ![0, 0, 0, 64] x slices_S8x2048x8x96_S8x2048x8x32_0_0_0_64

/-- The heads put in the order of the kernel. -/
def rJoin (x : FVec Ideal S8x2048x8x96 .f32) (y : FVec Ideal S8x2048x8x32 .f32) : FVec Ideal S16384x768 .bf16 :=
  truncf .bf16 ((concatenate S16384x768 1 [⟨S16384x512, (shapeCast _ (extractStridedSlice S8x2048x8x64 ![0, 0, 0, 0] x slices_S8x2048x8x96_S8x2048x8x64_0_0_0_0) shapeCasts_S8x2048x8x64_S16384x512)⟩, ⟨S16384x128, (shapeCast _ (extractStridedSlice S8x2048x8x16 ![0, 0, 0, 0] y slices_S8x2048x8x32_S8x2048x8x16_0_0_0_0) shapeCasts_S8x2048x8x16_S16384x128)⟩, ⟨S16384x128, (shapeCast _ (extractStridedSlice S8x2048x8x16 ![0, 0, 0, 16] y slices_S8x2048x8x32_S8x2048x8x16_0_0_0_16) shapeCasts_S8x2048x8x16_S16384x128)⟩] concatenates_S16384x512_S16384x128_S16384x128_S16384x768_d1 : FVec Ideal S16384x768 .f32)) bitsLt_bf16_f32

/-- The means of the keys over the blocks of 256 rows. -/
def rMean (x : FVec Ideal S8x2048x8x64 .f32) : FVec Ideal S64x1x512 .f32 :=
  shapeCast _ (Host.divf (Host.reduceAdd (shapeCast _ x shapeCasts_S8x2048x8x64_S8x8x256x512) (constant S_ .f32 0x00000000#32) reducesTo_S8x8x256x512_S8x8x512_d2 h_S_) (broadcastInDim S8x8x512 ![] bcast_S_S8x8x512 (constant S_ .f32 0x43800000#32))) shapeCasts_S8x8x512_S64x1x512

/-- The queries' lanes. -/
def rQ (z : FVec Ideal S8x2048x5536 .f32) : FVec Ideal S8x2048x8x64 .f32 :=
  shapeCast _ (extractStridedSlice S8x2048x512 ![0, 0, 0] z slices_S8x2048x5536_S8x2048x512_0_0_0) shapeCasts_S8x2048x512_S8x2048x8x64

theorem read_rQ (z : FVec Ideal S8x2048x5536 .f32) (b : Fin 8) (s : Fin 2048) (h : Fin 8) (d : Fin 64) :
    rQ z (ix4 b s h d) = z (ix3 b s ⟨64 * h.val + d.val, by omega⟩) := by
  refine Eq.trans (b := z (ix3 b s ⟨(h.val * 64 + d.val), by omega⟩)) (by pointwise [rQ]) (congrArg (fun n => z (ix3 b s n)) (Fin.ext (by simp only; omega)))

/-- The keys' lanes. -/
def rK (z : FVec Ideal S8x2048x5536 .f32) : FVec Ideal S8x2048x8x64 .f32 :=
  shapeCast _ (extractStridedSlice S8x2048x512 ![0, 0, 512] z slices_S8x2048x5536_S8x2048x512_0_0_512) shapeCasts_S8x2048x512_S8x2048x8x64

theorem read_rK (z : FVec Ideal S8x2048x5536 .f32) (b : Fin 8) (s : Fin 2048) (h : Fin 8) (d : Fin 64) :
    rK z (ix4 b s h d) = z (ix3 b s ⟨512 + 64 * h.val + d.val, by omega⟩) := by
  refine Eq.trans (b := z (ix3 b s ⟨512 + (h.val * 64 + d.val), by omega⟩)) (by pointwise [rK]) (congrArg (fun n => z (ix3 b s n)) (Fin.ext (by simp only; omega)))

/-- The values' lanes. -/
def rV (z : FVec Ideal S8x2048x5536 .f32) : FVec Ideal S8x2048x512 .f32 :=
  extractStridedSlice S8x2048x512 ![0, 0, 1024] z slices_S8x2048x5536_S8x2048x512_0_0_1024

theorem read_rV (z : FVec Ideal S8x2048x5536 .f32) (b : Fin 8) (s : Fin 2048) (n : Fin 512) :
    rV z (ix3 b s n) = z (ix3 b s ⟨1024 + n.val, by omega⟩) := by
  pointwise [rV]

/-- The latent query's lanes. -/
def rLq (z : FVec Ideal S8x2048x5536 .f32) : FVec Ideal S8x2048x256 .f32 :=
  extractStridedSlice S8x2048x256 ![0, 0, 1536] z slices_S8x2048x5536_S8x2048x256_0_0_1536

theorem read_rLq (z : FVec Ideal S8x2048x5536 .f32) (b : Fin 8) (s : Fin 2048) (n : Fin 256) :
    rLq z (ix3 b s n) = z (ix3 b s ⟨1536 + n.val, by omega⟩) := by
  pointwise [rLq]

/-- The latent's lanes. -/
def rLk (z : FVec Ideal S8x2048x5536 .f32) : FVec Ideal S8x2048x128 .f32 :=
  extractStridedSlice S8x2048x128 ![0, 0, 1792] z slices_S8x2048x5536_S8x2048x128_0_0_1792

theorem read_rLk (z : FVec Ideal S8x2048x5536 .f32) (b : Fin 8) (s : Fin 2048) (n : Fin 128) :
    rLk z (ix3 b s n) = z (ix3 b s ⟨1792 + n.val, by omega⟩) := by
  pointwise [rLk]

/-- The shared key's lanes. -/
def rS (z : FVec Ideal S8x2048x5536 .f32) : FVec Ideal S8x2048x32 .f32 :=
  extractStridedSlice S8x2048x32 ![0, 0, 1920] z slices_S8x2048x5536_S8x2048x32_0_0_1920

theorem read_rS (z : FVec Ideal S8x2048x5536 .f32) (b : Fin 8) (s : Fin 2048) (n : Fin 32) :
    rS z (ix3 b s n) = z (ix3 b s ⟨1920 + n.val, by omega⟩) := by
  pointwise [rS]

/-- The memory queries' lanes. -/
def rX (z : FVec Ideal S8x2048x5536 .f32) : FVec Ideal S8x2048x4x128 .f32 :=
  shapeCast _ (extractStridedSlice S8x2048x512 ![0, 0, 1952] z slices_S8x2048x5536_S8x2048x512_0_0_1952) shapeCasts_S8x2048x512_S8x2048x4x128

theorem read_rX (z : FVec Ideal S8x2048x5536 .f32) (b : Fin 8) (s : Fin 2048) (h : Fin 4) (d : Fin 128) :
    rX z (ix4 b s h d) = z (ix3 b s ⟨1952 + 128 * h.val + d.val, by omega⟩) := by
  refine Eq.trans (b := z (ix3 b s ⟨1952 + (h.val * 128 + d.val), by omega⟩)) (by pointwise [rX]) (congrArg (fun n => z (ix3 b s n)) (Fin.ext (by simp only; omega)))

theorem read_rN64 (x : FVec Ideal S8x2048x8x64 .f32) (g : FVec Ideal S1x64 .f32) (b : Fin 8) (s : Fin 2048) (h : Fin 8) (d : Fin 64) :
    rN64 x g (ix4 b s h d) = rms D64 (fun d => x (ix4 b s h d)) (fun d => g (ix2 0 d)) d := by
  pointwise [rN64]
  rfl

theorem read_rN128 (x : FVec Ideal S8x2048x4x128 .f32) (g : FVec Ideal S1x128 .f32) (b : Fin 8) (s : Fin 2048) (h : Fin 4) (d : Fin 128) :
    rN128 x g (ix4 b s h d) = rms D128 (fun d => x (ix4 b s h d)) (fun d => g (ix2 0 d)) d := by
  pointwise [rN128]
  rfl

theorem read_rN96 (x : FVec Ideal S8x2048x8x96 .f32) (g : FVec Ideal S1x96 .f32) (b : Fin 8) (s : Fin 2048) (h : Fin 8) (d : Fin 96) :
    rN96 x g (ix4 b s h d) = rms D96 (fun d => x (ix4 b s h d)) (fun d => g (ix2 0 d)) d := by
  pointwise [rN96]
  rfl

theorem read_rNl (x : FVec Ideal S8x2048x128 .f32) (g : FVec Ideal S1x128 .f32) (b : Fin 8) (s : Fin 2048) (d : Fin 128) :
    rNl x g (ix3 b s d) = rms D128 (fun d => x (ix3 b s d)) (fun d => g (ix2 0 d)) d := by
  pointwise [rNl]
  rfl

theorem read_rNq (x : FVec Ideal S8x2048x256 .f32) (g : FVec Ideal S1x256 .f32) (b : Fin 8) (s : Fin 2048) (d : Fin 256) :
    rNq x g (ix3 b s d) = rms D256 (fun d => x (ix3 b s d)) (fun d => g (ix2 0 d)) d := by
  pointwise [rNq]
  rfl

/-- The product with the rows' matrix, read. -/
theorem read_z (u : FVec Ideal S16384x1024 .bf16) (w : FVec Ideal S1x1024x5536 .f32) (b : Fin 8) (s : Fin 2048) (n : Fin 5536) :
    rZ u w (ix3 b s n) = zrow (fun j => u (ix2 (rowAt b s) j)) (fun j n => w (ix3 0 j n)) n := by
  have e : rowAt b s = ⟨b.val * 2048 + s.val, by omega⟩ := Fin.ext (by simp only [rowAt]; omega)
  rw [e]
  pointwise [rZ]
  rfl

theorem read_rUq (x : FVec Ideal S8x2048x256 .f32) (w : FVec Ideal S1x256x768 .f32) (b : Fin 8) (s : Fin 2048) (h : Fin 8) (d : Fin 96) :
    rUq x w (ix4 b s h d) = ∑ i, x (ix3 b s i) * w (ix3 0 i ⟨96 * h.val + d.val, by omega⟩) := by
  have e : (⟨96 * h.val + d.val, by omega⟩ : Fin 768) = ⟨h.val * 96 + d.val, by omega⟩ := Fin.ext (by simp only; omega)
  rw [e]
  pointwise [rUq]

theorem read_rUkv (x : FVec Ideal S8x2048x128 .f32) (w : FVec Ideal S1x128x1024 .f32) (b : Fin 8) (s : Fin 2048) (h : Fin 8) (d : Fin 128) :
    rUkv x w (ix4 b s h d) = ∑ i, x (ix3 b s i) * w (ix3 0 i ⟨128 * h.val + d.val, by omega⟩) := by
  have e : (⟨128 * h.val + d.val, by omega⟩ : Fin 1024) = ⟨h.val * 128 + d.val, by omega⟩ := Fin.ext (by simp only; omega)
  rw [e]
  pointwise [rUkv]

theorem read_rKp (x : FVec Ideal S8x2048x8x128 .f32) (y : FVec Ideal S8x2048x32 .f32) (b : Fin 8) (s : Fin 2048) (h : Fin 8) (d : Fin 96) :
    rKp x y (ix4 b s h d) = if hd : d.val < 64 then x (ix4 b s h ⟨d.val, by omega⟩) else y (ix3 b s ⟨d.val - 64, by omega⟩) := by
  pointwise [rKp]

theorem read_cos (s : Fin 2048) (k : Fin 16) : (Host.cos rAng : FVec Ideal S2048x1x16 .f32) (ix3 s 0 k) = cosF s k := by
  pointwise [rAng]
  rfl

theorem read_sin (s : Fin 2048) (k : Fin 16) : (Host.sin rAng : FVec Ideal S2048x1x16 .f32) (ix3 s 0 k) = sinF s k := by
  pointwise [rAng]
  rfl

theorem rowAt_split (R : Fin 16384) : rowAt ⟨R.val / 2048, by omega⟩ ⟨R.val % 2048, by omega⟩ = R := Fin.ext (by simp only [rowAt]; omega)

/-- The turned lanes before they are put in the kernel's order. -/
def turnAt (c s : Fin 16 → EReal) (f : Fin 8 → Fin 96 → EReal) (h : Fin 8) (d : Fin 32) : EReal :=
  if hd : d.val < 16 then f h ⟨64 + d.val, by omega⟩ * c ⟨d.val, hd⟩ - f h ⟨80 + d.val, by omega⟩ * s ⟨d.val, hd⟩
  else f h ⟨48 + d.val, by omega⟩ * s ⟨d.val - 16, by omega⟩ + f h ⟨64 + d.val, by omega⟩ * c ⟨d.val - 16, by omega⟩

theorem read_turn (C S : FVec Ideal S2048x1x16 .f32) (x : FVec Ideal S8x2048x8x96 .f32) (b : Fin 8) (s : Fin 2048) (h : Fin 8) (d : Fin 32) :
    rTurn C S (rTail x) (ix4 b s h d) = turnAt (fun k => C (ix3 s 0 k)) (fun k => S (ix3 s 0 k)) (fun h d => x (ix4 b s h d)) h d := by
  pointwise [rTurn, rTail]
  unfold turnAt
  split
  · have e : 64 + (16 + d.val) = 80 + d.val := by omega
    simp only [e]
  · have e1 : 64 + (d.val - 16) = 48 + d.val := by omega
    have e2 : 64 + (16 + (d.val - 16)) = 64 + d.val := by omega
    simp only [e1, e2]

theorem read_rJoin (x : FVec Ideal S8x2048x8x96 .f32) (y : FVec Ideal S8x2048x8x32 .f32) (R : Fin 16384) (n : Fin 768) :
    rJoin x y (ix2 R n) = if h1 : n.val < 512 then x (ix4 ⟨R.val / 2048, by omega⟩ ⟨R.val % 2048, by omega⟩ ⟨n.val / 64, by omega⟩ ⟨n.val % 64, by omega⟩)
      else if h2 : n.val - 512 < 128 then y (ix4 ⟨R.val / 2048, by omega⟩ ⟨R.val % 2048, by omega⟩ ⟨(n.val - 512) / 16, by omega⟩ ⟨(n.val - 512) % 16, by omega⟩)
      else y (ix4 ⟨R.val / 2048, by omega⟩ ⟨R.val % 2048, by omega⟩ ⟨(n.val - 512 - 128) / 16, by omega⟩ ⟨16 + (n.val - 512 - 128) % 16, by omega⟩) := by
  pointwise [rJoin]

theorem turn_a (c s : Fin 16 → EReal) (f : Fin 8 → Fin 96 → EReal) (n : Fin 768) (h1 : n.val < 512) :
    turn c s f n = f ⟨n.val / 64, by omega⟩ ⟨n.val % 64, by omega⟩ := by
  have e1 : hd7 n = ⟨n.val / 64, by omega⟩ := dif_pos h1
  have e2 : dd7 n = ⟨n.val % 64, by omega⟩ := if_pos h1
  unfold turn
  rw [if_pos h1, e1, e2]

theorem turn_b (c s : Fin 16 → EReal) (f : Fin 8 → Fin 96 → EReal) (n : Fin 768) (h1 : ¬ n.val < 512) (h2 : n.val < 640) :
    turn c s f n = turnAt c s f ⟨n.val % 128 / 16, by omega⟩ ⟨n.val % 16, by omega⟩ := by
  have e1 : hd7 n = ⟨n.val % 128 / 16, by omega⟩ := dif_neg h1
  have e2 : n.val % 16 < 16 := by omega
  unfold turn turnAt
  rw [if_neg h1, if_pos h2, e1, dif_pos e2]

theorem turn_c (c s : Fin 16 → EReal) (f : Fin 8 → Fin 96 → EReal) (n : Fin 768) (h1 : ¬ n.val < 512) (h2 : ¬ n.val < 640) :
    turn c s f n = turnAt c s f ⟨n.val % 128 / 16, by omega⟩ ⟨16 + n.val % 16, by omega⟩ := by
  have e1 : hd7 n = ⟨n.val % 128 / 16, by omega⟩ := dif_neg h1
  have e2 : ¬ 16 + n.val % 16 < 16 := by omega
  have e3 : 16 + n.val % 16 - 16 = n.val % 16 := by omega
  have e4 : 48 + (16 + n.val % 16) = 64 + n.val % 16 := by omega
  have e5 : 64 + (16 + n.val % 16) = 80 + n.val % 16 := by omega
  unfold turn turnAt
  rw [if_neg h1, if_neg h2, e1, dif_neg e2]
  simp only [e3, e4, e5]

/-- The turned heads in the kernel's order. -/
theorem read_join (x : FVec Ideal S8x2048x8x96 .f32) (f : Fin 8 → Fin 96 → EReal) (R : Fin 16384)
    (hx : ∀ h d, x (ix4 ⟨R.val / 2048, by omega⟩ ⟨R.val % 2048, by omega⟩ h d) = f h d) (n : Fin 768) :
    rJoin x (rTurn (Host.cos rAng) (Host.sin rAng) (rTail x)) (ix2 R n)
      = turn (cosF ⟨R.val % 2048, by omega⟩) (sinF ⟨R.val % 2048, by omega⟩) f n := by
  have hc : (fun k => (Host.cos rAng : FVec Ideal S2048x1x16 .f32) (ix3 ⟨R.val % 2048, by omega⟩ 0 k)) = cosF ⟨R.val % 2048, by omega⟩ :=
    funext fun k => read_cos _ k
  have hs : (fun k => (Host.sin rAng : FVec Ideal S2048x1x16 .f32) (ix3 ⟨R.val % 2048, by omega⟩ 0 k)) = sinF ⟨R.val % 2048, by omega⟩ :=
    funext fun k => read_sin _ k
  have hf : (fun h d => x (ix4 ⟨R.val / 2048, by omega⟩ ⟨R.val % 2048, by omega⟩ h d)) = f := funext fun h => funext fun d => hx h d
  rw [read_rJoin]
  by_cases h1 : n.val < 512
  · rw [turn_a _ _ _ n h1, dif_pos h1, hx]
  · rw [dif_neg h1]
    by_cases h2 : n.val < 640
    · have e3 : n.val - 512 < 128 := by omega
      have a1 : (n.val - 512) / 16 = n.val % 128 / 16 := by omega
      have a2 : (n.val - 512) % 16 = n.val % 16 := by omega
      rw [turn_b _ _ _ n h1 h2, dif_pos e3, read_turn, hc, hs, hf]
      simp only [a1, a2]
    · have e3 : ¬ n.val - 512 < 128 := by omega
      have a1 : (n.val - 512 - 128) / 16 = n.val % 128 / 16 := by omega
      have a2 : (n.val - 512 - 128) % 16 = n.val % 16 := by omega
      rw [turn_c _ _ _ n h1 h2, dif_neg e3, read_turn, hc, hs, hf]
      simp only [a1, a2]

section rows

variable {z : FVec Ideal S8x2048x5536 .f32} {U : Fin 16384 → Fin 1024 → EReal} {W : Fin 1024 → Fin 5536 → EReal}
variable (hz : ∀ b s n, z (ix3 b s n) = zrow (U (rowAt b s)) W n)
include hz

theorem r_aq (g : FVec Ideal S1x64 .f32) (b : Fin 8) (s : Fin 2048) (h : Fin 8) (d : Fin 64) :
    rN64 (rQ z) g (ix4 b s h d) = aqF (U (rowAt b s)) W (fun d => g (ix2 0 d)) h d :=
  (read_rN64 _ _ b s h d).trans (rms_congr D64 (fun d => (read_rQ z b s h d).trans (hz b s _)) (fun _ => rfl) d)

theorem r_ak (g : FVec Ideal S1x64 .f32) (b : Fin 8) (s : Fin 2048) (h : Fin 8) (d : Fin 64) :
    rN64 (rK z) g (ix4 b s h d) = akF (U (rowAt b s)) W (fun d => g (ix2 0 d)) h d :=
  (read_rN64 _ _ b s h d).trans (rms_congr D64 (fun d => (read_rK z b s h d).trans (hz b s _)) (fun _ => rfl) d)

theorem r_av (b : Fin 8) (s : Fin 2048) (n : Fin 512) : rV z (ix3 b s n) = avF (U (rowAt b s)) W n := (read_rV z b s n).trans (hz b s _)

theorem r_kr (b : Fin 8) (s : Fin 2048) (n : Fin 32) : rS z (ix3 b s n) = krF (U (rowAt b s)) W n := (read_rS z b s n).trans (hz b s _)

theorem r_xq (g : FVec Ideal S1x128 .f32) (b : Fin 8) (s : Fin 2048) (h : Fin 4) (d : Fin 128) :
    rN128 (rX z) g (ix4 b s h d) = xqF (U (rowAt b s)) W (fun d => g (ix2 0 d)) h d :=
  (read_rN128 _ _ b s h d).trans (rms_congr D128 (fun d => (read_rX z b s h d).trans (hz b s _)) (fun _ => rfl) d)

theorem r_lq (g : FVec Ideal S1x256 .f32) (b : Fin 8) (s : Fin 2048) (i : Fin 256) :
    rNq (rLq z) g (ix3 b s i) = mqaF (U (rowAt b s)) W (fun d => g (ix2 0 d)) i :=
  (read_rNq _ _ b s i).trans (rms_congr D256 (fun d => (read_rLq z b s d).trans (hz b s _)) (fun _ => rfl) i)

theorem r_lk (g : FVec Ideal S1x128 .f32) (b : Fin 8) (s : Fin 2048) (i : Fin 128) :
    rNl (rLk z) g (ix3 b s i) = ckvF (U (rowAt b s)) W (fun d => g (ix2 0 d)) i :=
  (read_rNl _ _ b s i).trans (rms_congr D128 (fun d => (read_rLk z b s d).trans (hz b s _)) (fun _ => rfl) i)

theorem r_mq (ga : FVec Ideal S1x256 .f32) (wq : FVec Ideal S1x256x768 .f32) (g : FVec Ideal S1x96 .f32) (b : Fin 8) (s : Fin 2048) (h : Fin 8) (d : Fin 96) :
    rN96 (rUq (rNq (rLq z) ga) wq) g (ix4 b s h d)
      = mqF (U (rowAt b s)) W (fun d => ga (ix2 0 d)) (fun i n => wq (ix3 0 i n)) (fun d => g (ix2 0 d)) h d :=
  (read_rN96 _ _ b s h d).trans (rms_congr D96 (fun d => (read_rUq _ _ b s h d).trans
    (Finset.sum_congr rfl fun i _ => congrArg (· * _) (r_lq hz ga b s i))) (fun _ => rfl) d)

theorem r_kv (g : FVec Ideal S1x128 .f32) (wk : FVec Ideal S1x128x1024 .f32) (b : Fin 8) (s : Fin 2048) (h : Fin 8) (e : Fin 128) :
    rUkv (rNl (rLk z) g) wk (ix4 b s h e) = kvF (U (rowAt b s)) W (fun d => g (ix2 0 d)) (fun i n => wk (ix3 0 i n)) h e :=
  (read_rUkv _ _ b s h e).trans (Finset.sum_congr rfl fun i _ => congrArg (· * _) (r_lk hz g b s i))

theorem r_km (g : FVec Ideal S1x128 .f32) (wk : FVec Ideal S1x128x1024 .f32) (gk : FVec Ideal S1x96 .f32) (b : Fin 8) (s : Fin 2048) (h : Fin 8) (d : Fin 96) :
    rN96 (rKp (rUkv (rNl (rLk z) g) wk) (rS z)) gk (ix4 b s h d)
      = kmF (U (rowAt b s)) W (fun d => g (ix2 0 d)) (fun i n => wk (ix3 0 i n)) (fun d => gk (ix2 0 d)) h d := by
  refine (read_rN96 _ _ b s h d).trans (rms_congr D96 (fun d => (read_rKp _ _ b s h d).trans ?_) (fun _ => rfl) d)
  unfold kpF
  split
  · exact r_kv hz g wk b s h _
  · exact r_kr hz b s _

theorem out_aq (g : FVec Ideal S1x64 .f32) : (truncf .bf16 (shapeCast _ (rN64 (rQ z) g) shapeCasts_S8x2048x8x64_S16384x512) bitsLt_bf16_f32 : FVec Ideal S16384x512 .bf16)
    = fun y => aqF (U (y 0)) W (fun d => g (ix2 0 d)) (hd5 (y 1)) (dd5 (y 1)) := by
  funext y
  obtain ⟨R, n, rfl⟩ : ∃ (R : Fin 16384) (n : Fin 512), y = ix2 R n := by
    idx_vars y
    exact ⟨_, _, rfl⟩
  generalize hx : rN64 (rQ z) g = x
  pointwise []
  rw [← hx, r_aq hz, rowAt_split]
  rfl

theorem out_akb (g : FVec Ideal S1x64 .f32) : (truncf .bf16 (shapeCast _ (rN64 (rK z) g) shapeCasts_S8x2048x8x64_S16384x512) bitsLt_bf16_f32 : FVec Ideal S16384x512 .bf16)
    = fun y => akF (U (y 0)) W (fun d => g (ix2 0 d)) (hd5 (y 1)) (dd5 (y 1)) := by
  funext y
  obtain ⟨R, n, rfl⟩ : ∃ (R : Fin 16384) (n : Fin 512), y = ix2 R n := by
    idx_vars y
    exact ⟨_, _, rfl⟩
  generalize hx : rN64 (rK z) g = x
  pointwise []
  rw [← hx, r_ak hz, rowAt_split]
  rfl

theorem out_akf (g : FVec Ideal S1x64 .f32) : (transpose S8x512x2048 [0, 2, 1] (shapeCast _ (rN64 (rK z) g) shapeCasts_S8x2048x8x64_S8x2048x512)
      transposes_S8x2048x512_S8x512x2048_0_2_1 : FVec Ideal S8x512x2048 .f32)
    = fun y => akF (U (rowAt (y 0) (y 2))) W (fun d => g (ix2 0 d)) (hd5 (y 1)) (dd5 (y 1)) := by
  funext y
  obtain ⟨b, n, s, rfl⟩ : ∃ (b : Fin 8) (n : Fin 512) (s : Fin 2048), y = ix3 b n s := by
    idx_vars y
    exact ⟨_, _, _, rfl⟩
  generalize hx : rN64 (rK z) g = x
  pointwise []
  rw [← hx, r_ak hz]
  rfl

theorem out_avf : (transpose S8x512x2048 [0, 2, 1] (rV z) transposes_S8x2048x512_S8x512x2048_0_2_1 : FVec Ideal S8x512x2048 .f32)
    = fun y => avF (U (rowAt (y 0) (y 2))) W (y 1) := by
  funext y
  obtain ⟨b, n, s, rfl⟩ : ∃ (b : Fin 8) (n : Fin 512) (s : Fin 2048), y = ix3 b n s := by
    idx_vars y
    exact ⟨_, _, _, rfl⟩
  generalize hx : rV z = x
  pointwise []
  rw [← hx, r_av hz]

theorem out_avb : (truncf .bf16 (shapeCast _ (rV z) shapeCasts_S8x2048x512_S16384x512) bitsLt_bf16_f32 : FVec Ideal S16384x512 .bf16)
    = fun y => avF (U (y 0)) W (y 1) := by
  funext y
  obtain ⟨R, n, rfl⟩ : ∃ (R : Fin 16384) (n : Fin 512), y = ix2 R n := by
    idx_vars y
    exact ⟨_, _, rfl⟩
  generalize hx : rV z = x
  pointwise []
  rw [← hx, r_av hz, rowAt_split]

theorem out_mq (ga : FVec Ideal S1x256 .f32) (wq : FVec Ideal S1x256x768 .f32) (g : FVec Ideal S1x96 .f32) :
    rJoin (rN96 (rUq (rNq (rLq z) ga) wq) g) (rTurn (Host.cos rAng) (Host.sin rAng) (rTail (rN96 (rUq (rNq (rLq z) ga) wq) g)))
    = fun y => turn (cosF ⟨(y 0).val % 2048, by omega⟩) (sinF ⟨(y 0).val % 2048, by omega⟩)
        (mqF (U (y 0)) W (fun d => ga (ix2 0 d)) (fun i n => wq (ix3 0 i n)) (fun d => g (ix2 0 d))) (y 1) := by
  funext y
  obtain ⟨R, n, rfl⟩ : ∃ (R : Fin 16384) (n : Fin 768), y = ix2 R n := by
    idx_vars y
    exact ⟨_, _, rfl⟩
  exact read_join _ (mqF (U R) W (fun d => ga (ix2 0 d)) (fun i n => wq (ix3 0 i n)) (fun d => g (ix2 0 d))) R
    (fun h d => by rw [r_mq hz, rowAt_split]) n

theorem out_km (g : FVec Ideal S1x128 .f32) (wk : FVec Ideal S1x128x1024 .f32) (gk : FVec Ideal S1x96 .f32) :
    rJoin (rN96 (rKp (rUkv (rNl (rLk z) g) wk) (rS z)) gk)
      (rTurn (Host.cos rAng) (Host.sin rAng) (rTail (rN96 (rKp (rUkv (rNl (rLk z) g) wk) (rS z)) gk)))
    = fun y => turn (cosF ⟨(y 0).val % 2048, by omega⟩) (sinF ⟨(y 0).val % 2048, by omega⟩)
        (kmF (U (y 0)) W (fun d => g (ix2 0 d)) (fun i n => wk (ix3 0 i n)) (fun d => gk (ix2 0 d))) (y 1) := by
  funext y
  obtain ⟨R, n, rfl⟩ : ∃ (R : Fin 16384) (n : Fin 768), y = ix2 R n := by
    idx_vars y
    exact ⟨_, _, rfl⟩
  exact read_join _ (kmF (U R) W (fun d => g (ix2 0 d)) (fun i n => wk (ix3 0 i n)) (fun d => gk (ix2 0 d))) R
    (fun h d => by rw [r_km hz, rowAt_split]) n

theorem out_ckv (g : FVec Ideal S1x128 .f32) : (shapeCast _ (rNl (rLk z) g) shapeCasts_S8x2048x128_S16384x128 : FVec Ideal S16384x128 .f32)
    = fun y => ckvF (U (y 0)) W (fun d => g (ix2 0 d)) (y 1) := by
  funext y
  obtain ⟨R, n, rfl⟩ : ∃ (R : Fin 16384) (n : Fin 128), y = ix2 R n := by
    idx_vars y
    exact ⟨_, _, rfl⟩
  generalize hx : rNl (rLk z) g = x
  pointwise []
  rw [← hx, r_lk hz, rowAt_split]

theorem out_kr : (transpose S8x32x2048 [0, 2, 1] (rS z) transposes_S8x2048x32_S8x32x2048_0_2_1 : FVec Ideal S8x32x2048 .f32)
    = fun y => krF (U (rowAt (y 0) (y 2))) W (y 1) := by
  funext y
  obtain ⟨b, n, s, rfl⟩ : ∃ (b : Fin 8) (n : Fin 32) (s : Fin 2048), y = ix3 b n s := by
    idx_vars y
    exact ⟨_, _, _, rfl⟩
  generalize hx : rS z = x
  pointwise []
  rw [← hx, r_kr hz]

theorem out_xq (g : FVec Ideal S1x128 .f32) : (truncf .bf16 (shapeCast _ (rN128 (rX z) g) shapeCasts_S8x2048x4x128_S16384x512) bitsLt_bf16_f32 : FVec Ideal S16384x512 .bf16)
    = fun y => xqF (U (y 0)) W (fun d => g (ix2 0 d)) (hd4 (y 1)) (dd4 (y 1)) := by
  funext y
  obtain ⟨R, n, rfl⟩ : ∃ (R : Fin 16384) (n : Fin 512), y = ix2 R n := by
    idx_vars y
    exact ⟨_, _, rfl⟩
  generalize hx : rN128 (rX z) g = x
  pointwise []
  rw [← hx, r_xq hz, rowAt_split]
  rfl

theorem out_vm (g : FVec Ideal S1x128 .f32) (wk : FVec Ideal S1x128x1024 .f32) :
    (truncf .bf16 (shapeCast _ (extractStridedSlice S8x2048x8x64 ![0, 0, 0, 64] (rUkv (rNl (rLk z) g) wk) slices_S8x2048x8x128_S8x2048x8x64_0_0_0_64)
      shapeCasts_S8x2048x8x64_S16384x512) bitsLt_bf16_f32 : FVec Ideal S16384x512 .bf16)
    = fun y => vmF (U (y 0)) W (fun d => g (ix2 0 d)) (fun i n => wk (ix3 0 i n)) (hd5 (y 1)) (dd5 (y 1)) := by
  funext y
  obtain ⟨R, n, rfl⟩ : ∃ (R : Fin 16384) (n : Fin 512), y = ix2 R n := by
    idx_vars y
    exact ⟨_, _, rfl⟩
  generalize hx : rUkv (rNl (rLk z) g) wk = x
  pointwise []
  rw [← hx, r_kv hz, rowAt_split]
  rfl

theorem out_mean (g : FVec Ideal S1x64 .f32) : rMean (rN64 (rK z) g) = fun y => meanF U W (fun d => g (ix2 0 d)) (y 0) (y 2) := by
  funext y
  obtain ⟨b, n, rfl⟩ : ∃ (b : Fin 64) (n : Fin 512), y = ix3 b 0 n := by
    idx_vars y
    exact ⟨y0, y2, by rw [show y1 = (0 : Fin 1) from Subsingleton.elim _ _]⟩
  generalize hx : rN64 (rK z) g = x
  pointwise [rMean]
  subst hx
  simp only [r_ak hz]
  refine congrArg (Ideal.div · D256) (Finset.sum_congr rfl fun r _ => ?_)
  have e : rowAt ⟨b.val / 8, by omega⟩ ⟨b.val % 8 * 256 + r.val, by omega⟩ = ⟨256 * b.val + r.val, by omega⟩ := Fin.ext (by simp only [rowAt]; omega)
  rw [e]
  rfl

end rows

/-- The reference's frame: its run read at the arguments, and the program has no semaphore. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => (h c).2.2.2.2.2.2.2.2.2.2.2.2, Idealize.ShloMosaic.sem_eq_zero_of_no_sems (by decide) r.2⟩)
    (Value.run m ρ)

/-- The kernel and the reference give equal projections. -/
theorem algebraic : Cert.algebraic_ProjectIdeal_ProjectRefIdeal := by
  intro m g m' g' _ hagree
  refine ⟨fun c => outAq m c, fun c => outAkf m c, fun c => outAkb m c, fun c => outAvf m c, fun c => outAvb m c, fun c => outMq m c, fun c => outCkv m c, fun c => outKr m c, fun c => outXq m c, fun c => outKm m c, fun c => outVm m c, fun c => outMean m c, ?_, ?_⟩
  · refine (θ_run _ _ _).mono (fun r h c => ?_) (Cert.ProjectIdeal.Value.run_blocks m g)
    obtain ⟨h0, h1, h2, h3, h4, h5, h6, h7, h8, h9, h10, h11, h12⟩ := h c
    exact ⟨h0.trans (final16 m c), h1.trans (final17 m c), h2.trans (final18 m c), h3.trans (final19 m c), h4.trans (final20 m c), h5.trans (final21 m c), h6.trans (final22 m c), h7.trans (final23 m c), h8.trans (final24 m c), h9.trans (final25 m c), h10.trans (final26 m c), h11.trans (final27 m c), h12⟩
  · refine (θ_run _ _ _).mono (fun r h c => ?_) (Cert.ProjectRefIdeal.Value.run m' g')
    obtain ⟨h0, h1, h2, h3, h4, h5, h6, h7, h8, h9, h10, h11, h12⟩ := h c
    obtain ⟨e0, e1, e2, e3, e4, e5, e6, e7, e8, e9, e10⟩ := hagree c
    have hz : ∀ b s n, res_main_v4 (StableHlo.launchContents m' c) (ix3 b s n)
        = zrow ((fun R j => (m' ((c.tc : Thread nD τ).loc main_arg0)) (ix2 R j)) (rowAt b s)) (fun j n => (m' ((c.tc : Thread nD τ).loc main_arg1)) (ix3 0 j n)) n := read_z (m' ((c.tc : Thread nD τ).loc main_arg0)) (m' ((c.tc : Thread nD τ).loc main_arg1))
    refine ⟨h0.trans ?_, h1.trans ?_, h2.trans ?_, h3.trans ?_, h4.trans ?_, h5.trans ?_, h6.trans ?_, h7.trans ?_, h8.trans ?_, h9.trans ?_, h10.trans ?_, h11.trans ?_, h12⟩
    · refine (out_aq (U := fun R j => (m' ((c.tc : Thread nD τ).loc main_arg0)) (ix2 R j)) hz (m' ((c.tc : Thread nD τ).loc main_arg2))).trans ?_
      rw [e0, e1, e2]
      rfl
    · refine (out_akf (U := fun R j => (m' ((c.tc : Thread nD τ).loc main_arg0)) (ix2 R j)) hz (m' ((c.tc : Thread nD τ).loc main_arg3))).trans ?_
      rw [e0, e1, e3]
      rfl
    · refine (out_akb (U := fun R j => (m' ((c.tc : Thread nD τ).loc main_arg0)) (ix2 R j)) hz (m' ((c.tc : Thread nD τ).loc main_arg3))).trans ?_
      rw [e0, e1, e3]
      rfl
    · refine (out_avf (U := fun R j => (m' ((c.tc : Thread nD τ).loc main_arg0)) (ix2 R j)) hz).trans ?_
      rw [e0, e1]
      rfl
    · refine (out_avb (U := fun R j => (m' ((c.tc : Thread nD τ).loc main_arg0)) (ix2 R j)) hz).trans ?_
      rw [e0, e1]
      rfl
    · refine (out_mq (U := fun R j => (m' ((c.tc : Thread nD τ).loc main_arg0)) (ix2 R j)) hz (m' ((c.tc : Thread nD τ).loc main_arg4)) (m' ((c.tc : Thread nD τ).loc main_arg5)) (m' ((c.tc : Thread nD τ).loc main_arg6))).trans ?_
      rw [e0, e1, e4, e5, e6]
      rfl
    · refine (out_ckv (U := fun R j => (m' ((c.tc : Thread nD τ).loc main_arg0)) (ix2 R j)) hz (m' ((c.tc : Thread nD τ).loc main_arg7))).trans ?_
      rw [e0, e1, e7]
      rfl
    · refine (out_kr (U := fun R j => (m' ((c.tc : Thread nD τ).loc main_arg0)) (ix2 R j)) hz).trans ?_
      rw [e0, e1]
      rfl
    · refine (out_xq (U := fun R j => (m' ((c.tc : Thread nD τ).loc main_arg0)) (ix2 R j)) hz (m' ((c.tc : Thread nD τ).loc main_arg10))).trans ?_
      rw [e0, e1, e10]
      rfl
    · refine (out_km (U := fun R j => (m' ((c.tc : Thread nD τ).loc main_arg0)) (ix2 R j)) hz (m' ((c.tc : Thread nD τ).loc main_arg7)) (m' ((c.tc : Thread nD τ).loc main_arg8)) (m' ((c.tc : Thread nD τ).loc main_arg9))).trans ?_
      rw [e0, e1, e7, e8, e9]
      rfl
    · refine (out_vm (U := fun R j => (m' ((c.tc : Thread nD τ).loc main_arg0)) (ix2 R j)) hz (m' ((c.tc : Thread nD τ).loc main_arg7)) (m' ((c.tc : Thread nD τ).loc main_arg8))).trans ?_
      rw [e0, e1, e7, e8]
      rfl
    · refine (out_mean (U := fun R j => (m' ((c.tc : Thread nD τ).loc main_arg0)) (ix2 R j)) hz (m' ((c.tc : Thread nD τ).loc main_arg3))).trans ?_
      rw [e0, e1, e3]
      rfl

end Cert.ProjRef
-- ==== Proof.PostSampleBlock.lean ====
module

public import proofs.«01_k».proof.Proof.FfnBlock
public import proofs.«01_k».proof.Proof.Gen.PostSampleIdeal.Value
public import Idealize.ShloMosaic.Lib.Pointwise
public import Idealize.ShloMosaic.Lib.Pipeline.ReadBack

@[expose] public section

set_option maxRecDepth 16384

noncomputable section

/-! The layer's last part, as the kernel computes it: the feed-forward call without the second norm. -/

namespace Cert.PostSampleBlock

open Idealize.ShloMosaic Idealize.ShloMosaic.Tactic Idealize.ShloMosaic.TcCoe Idealize.SL.Sem
open Cert.PostSampleIdeal Cert.PostSampleIdeal.Gen Cert.PostSampleIdeal.Value Cert.Rows
open Cert.FfnBlock (D gate ff sum_halves read_inV read_downV read_gain)

/-- The normed rows, read. -/
theorem read_pay1 (x : Vec Ideal S512x1024 .f32) (g : Vec Ideal S1x1024 .f32) (r : Fin 512) (n : Fin 1024) :
    k0_pay1 x g (ix2 r n) = rms D (fun j => x (ix2 r j)) (fun j => g (ix2 0 j)) n := by
  pointwise [k0_pay1]
  rfl

/-- The empty sum, read. -/
theorem read_pay2 (r : Fin 512) (n : Fin 1024) : k0_pay2 (F := Ideal) (ix2 r n) = (0 : EReal) := by
  pointwise [k0_pay2]

/-- A half's contribution, read. -/
theorem read_pay3 (x : Vec Ideal S512x1024 .bf16) (wg wu : Vec Ideal S1024x1408 .bf16) (a : Vec Ideal S512x1024 .f32) (wd : Vec Ideal S1408x1024 .bf16) (r : Fin 512) (n : Fin 1024) :
    k0_pay3 x wg wu a wd (ix2 r n)
      = a (ix2 r n) + ∑ k, gate (fun j => x (ix2 r j)) (fun j => wg (ix2 j k)) (fun j => wu (ix2 j k)) * wd (ix2 k n) := by
  pointwise [k0_pay3]
  rfl

/-- The half step, read. -/
theorem read_pay4 (x y : Vec Ideal S512x1024 .f32) (r : Fin 512) (n : Fin 1024) :
    k0_pay4 x y (ix2 r n) = x (ix2 r n) + Ideal.ofBits .f32 1056964608#32 * y (ix2 r n) := by
  pointwise [k0_pay4]

variable (m : (ℓ : Loc nD τ sig) → Buf (Elt Ideal) ℓ)

/-- The point before. -/
def prev (t : Fin cfg0.N) : Fin cfg0.N := ⟨t.val - 1, Nat.lt_of_le_of_lt (Nat.sub_le _ _) t.isLt⟩

/-- After a tile's first point the normed rows are kept. -/
theorem kept_xn (c : Dev nD) (t : Fin cfg0.N) (h0 : t.val % 2 = 0) :
    (outsAt0 m c t.val t.isLt).2.1 = k0_pay1 (iblk m c 0 t) (iblk m c 1 t) := by
  rw [outsAt0_A m c t h0 (by omega)]
  frame_out

/-- After a tile's first point the sum holds the first half. -/
theorem kept_acc (c : Dev nD) (t : Fin cfg0.N) (h0 : t.val % 2 = 0) :
    (outsAt0 m c t.val t.isLt).2.2
      = k0_pay3 (k0_pay1 (iblk m c 0 t) (iblk m c 1 t)) (iblk m c 2 t) (iblk m c 3 t) (k0_pay2 (F := Ideal)) (iblk m c 4 t) := by
  rw [outsAt0_A m c t h0 (by omega)]
  frame_out

/-- The whole sum at a tile's second point. -/
def total (c : Dev nD) (t : Fin cfg0.N) : Vec Ideal S512x1024 .f32 :=
  k0_pay3 (k0_pay1 (iblk m c 0 (prev t)) (iblk m c 1 (prev t))) (iblk m c 2 t) (iblk m c 3 t)
    (k0_pay3 (k0_pay1 (iblk m c 0 (prev t)) (iblk m c 1 (prev t))) (iblk m c 2 (prev t)) (iblk m c 3 (prev t)) (k0_pay2 (F := Ideal)) (iblk m c 4 (prev t)))
    (iblk m c 4 t)

/-- The sum over what the point before left is the whole sum. -/
theorem total_eq (c : Dev nD) (t : Fin cfg0.N) (h1 : t.val % 2 = 1) :
    k0_pay3 (outsAt0 m c (t.val - 1) (Nat.lt_of_le_of_lt (Nat.sub_le _ _) t.isLt)).2.1 (iblk m c 2 t) (iblk m c 3 t)
      (outsAt0 m c (t.val - 1) (Nat.lt_of_le_of_lt (Nat.sub_le _ _) t.isLt)).2.2 (iblk m c 4 t) = total m c t := by
  have h : (prev t).val % 2 = 0 := by show (t.val - 1) % 2 = 0; omega
  have e0 := kept_xn m c (prev t) h
  have e1 := kept_acc m c (prev t) h
  unfold total
  rw [← e1, ← e0]
  rfl

/-- What a tile's second point leaves in the result. -/
theorem out_h (c : Dev nD) (t : Fin cfg0.N) (h1 : t.val % 2 = 1) : (outsAt0 m c t.val t.isLt).1 = k0_pay4 (iblk m c 0 t) (total m c t) := by
  rw [outsAt0_B m c t (by omega) h1]
  frame_out
  simp only [read_unread_whole]
  rw [total_eq m c t h1]

theorem V_gain (c : Dev nD) : V m c main_v1 = shapeCast _ (shapeCast _ (m ((c : Thread nD τ).loc main_arg1)) shapeCasts_S1x1024_S1024) shapeCasts_S1024_S1x1024 := by
  entry_read
  rfl

theorem V_wg (c : Dev nD) : V m c main_v3 = FfnBlock.inV (m ((c : Thread nD τ).loc main_arg2)) := by
  entry_read
  rfl

theorem V_wu (c : Dev nD) : V m c main_v5 = FfnBlock.inV (m ((c : Thread nD τ).loc main_arg3)) := by
  entry_read
  rfl

theorem V_wd (c : Dev nD) : V m c main_v7 = FfnBlock.downV (m ((c : Thread nD τ).loc main_arg4)) := by
  entry_read
  rfl

theorem idx : ∀ t : Fin cfg0.N, win0_0.index t = ![t.val / 2, 0]
    ∧ win0_1.index t = ![0, 0] ∧ win0_2.index t = ![0, t.val % 2] ∧ win0_3.index t = ![0, t.val % 2]
    ∧ win0_4.index t = ![t.val % 2, 0] ∧ win0_5.index t = ![0, 0]
    ∧ win0_6.index t = ![t.val / 2, 0] :=
  (by decide +kernel : ∀ t : Fin grid0.N, _)

/-- A row of the input. -/
def xA (c : Dev nD) (R : Fin 512) (j : Fin 1024) : EReal := m ((c : Thread nD τ).loc main_arg0) (ix2 R j)

/-- The first norm's gain. -/
def gA (c : Dev nD) (j : Fin 1024) : EReal := m ((c : Thread nD τ).loc main_arg1) (ix2 0 j)

/-- The gate's matrix. -/
def wgA (c : Dev nD) (j : Fin 1024) (k : Fin 2816) : EReal := m ((c : Thread nD τ).loc main_arg2) (ix3 0 j k)

/-- The up matrix. -/
def wuA (c : Dev nD) (j : Fin 1024) (k : Fin 2816) : EReal := m ((c : Thread nD τ).loc main_arg3) (ix3 0 j k)

/-- The down matrix. -/
def wdA (c : Dev nD) (k : Fin 2816) (n : Fin 1024) : EReal := m ((c : Thread nD τ).loc main_arg4) (ix3 0 k n)

/-- Row `r` of the tile at point `t`. -/
def rowOf (t : Fin cfg0.N) (r : Fin 512) : Fin 512 := ⟨t.val / 2 * 512 + r.val, by have h : t.val < 2 := t.isLt; omega⟩

/-- Hidden lane `k` of the half at point `t`. -/
def lane (t : Fin cfg0.N) (k : Fin 1408) : Fin 2816 := ⟨t.val % 2 * 1408 + k.val, by omega⟩

theorem blk0 (c : Dev nD) (t : Fin cfg0.N) (r : Fin 512) (j : Fin 1024) : iblk m c 0 t (ix2 r j) = xA m c (rowOf t r) j := by
  unfold xA
  blk_ext [iblk, V, idx t, rowOf]

theorem blk1 (c : Dev nD) (t : Fin cfg0.N) (j : Fin 1024) : iblk m c 1 t (ix2 0 j) = gA m c j := by
  have e : V m c main_v1 (ix2 0 j) = gA m c j := by
    rw [V_gain]
    exact read_gain _ _
  rw [← e]
  blk_ext [iblk, V, idx t]

theorem blk2 (c : Dev nD) (t : Fin cfg0.N) (j : Fin 1024) (k : Fin 1408) : iblk m c 2 t (ix2 j k) = wgA m c j (lane t k) := by
  have e : V m c main_v3 (ix2 j (lane t k)) = wgA m c j (lane t k) := by
    rw [V_wg]
    exact read_inV _ _ _
  rw [← e]
  blk_ext [iblk, V, idx t, lane]

theorem blk3 (c : Dev nD) (t : Fin cfg0.N) (j : Fin 1024) (k : Fin 1408) : iblk m c 3 t (ix2 j k) = wuA m c j (lane t k) := by
  have e : V m c main_v5 (ix2 j (lane t k)) = wuA m c j (lane t k) := by
    rw [V_wu]
    exact read_inV _ _ _
  rw [← e]
  blk_ext [iblk, V, idx t, lane]

theorem blk4 (c : Dev nD) (t : Fin cfg0.N) (k : Fin 1408) (n : Fin 1024) : iblk m c 4 t (ix2 k n) = wdA m c (lane t k) n := by
  have e : V m c main_v7 (ix2 (lane t k) n) = wdA m c (lane t k) n := by
    rw [V_wd]
    exact read_downV _ _ _
  rw [← e]
  blk_ext [iblk, V, idx t, lane]

/-- A row of the result. -/
def hA (c : Dev nD) (R : Fin 512) (n : Fin 1024) : EReal := ff (xA m c R) (gA m c) (wgA m c) (wuA m c) (wdA m c) n

/-- The result array the formula gives. -/
def outH (c : Dev nD) : FVec Ideal S512x1024 .f32 := fun y => hA m c (y 0) (y 1)

/-- The half step at a tile's second point is the formula. -/
theorem tile_h (c : Dev nD) (t : Fin cfg0.N) (h1 : t.val % 2 = 1) (r : Fin 512) (n : Fin 1024) :
    k0_pay4 (iblk m c 0 t) (total m c t) (ix2 r n) = hA m c (rowOf t r) n := by
  have er : rowOf (prev t) r = rowOf t r := Fin.ext (by show (t.val - 1) / 2 * 512 + r.val = t.val / 2 * 512 + r.val; omega)
  have l0 : ∀ k, lane (prev t) k = ⟨0 * 1408 + k.val, by omega⟩ := fun k => Fin.ext (by show (t.val - 1) % 2 * 1408 + k.val = 0 * 1408 + k.val; omega)
  have l1 : ∀ k, lane t k = ⟨1 * 1408 + k.val, by omega⟩ := fun k => Fin.ext (by show t.val % 2 * 1408 + k.val = 1 * 1408 + k.val; omega)
  rw [read_pay4, blk0]
  unfold total
  simp only [read_pay3, read_pay1, read_pay2, blk0, blk1, blk2, blk3, blk4, er, l0, l1, zero_add]
  unfold hA ff
  rw [sum_halves]

/-- The result array after the kernel. -/
theorem final6 (c : Dev nD) : (dats m 0 c).arrAt 6 cfg0.N = outH m c := by
  refine (dats m 0 c).arrAt_eq_of_covers 6 _ (by decide +kernel) fun t hf y => ?_
  have h1 : t.val % 2 = 1 := (flush0_6 t).mp hf
  blk_simp
  rw [after0_6]
  obtain ⟨r, d, rfl⟩ : ∃ (r : Fin 512) (d : Fin 1024), y = ix2 r d := by
    idx_vars y
    exact ⟨_, _, rfl⟩
  have e : outH m c ((win0_6.blk t).view.emb (ix2 r d)) = hA m c (rowOf t r) d := by
    show outH m c _ = outH m c (ix2 (rowOf t r) d)
    refine congrArg (outH m c) ?_
    blk_ext [idx t, rowOf]
  rw [out_h m c t h1, tile_h m c t h1]
  exact e.symm

end Cert.PostSampleBlock
-- ==== Proof.PostSampleRef.lean ====
module

public import proofs.«01_k».proof.Defs
public import proofs.«01_k».proof.Proof.PostSampleBlock
public import proofs.«01_k».proof.Proof.Gen.PostSampleRefIdeal.Run
public import Idealize.ShloMosaic.Lib.Pointwise

@[expose] public section

set_option maxRecDepth 16384

noncomputable section

/-! The layer's last part, as the reference computes it, and the two programs together. -/

namespace Cert.PostSampleRef

open Idealize.ShloMosaic Idealize.ShloMosaic.Tactic Idealize.ShloMosaic.TcCoe Idealize.SL.Sem
open Cert.PostSampleRefIdeal Cert.PostSampleRefIdeal.Gen Cert.PostSampleRefIdeal.Value Cert.PostSampleBlock Cert.Rows
open Cert.FfnBlock (D gate ff)

/-- The reference's norm of a row. -/
def rNorm (x : FVec Ideal S512x1024 .f32) (g : FVec Ideal S1x1024 .f32) : FVec Ideal S512x1024 .f32 :=
  mulf (mulf x (broadcastInDim S512x1024 ![0, 1] bcast_S512x1_S512x1024_0_1 (Host.rsqrt (addf (Host.divf
      (broadcastInDim S512x1 ![0] bcast_S512_S512x1_0 (Host.reduceAdd (mulf x x) (constant S_ .f32 0x00000000#32) reducesTo_S512x1024_S512_d1 h_S_))
      (broadcastInDim S512x1 ![] bcast_S_S512x1 (constant S_ .f32 0x44800000#32)))
      (broadcastInDim S512x1 ![] bcast_S_S512x1 (constant S_ .f32 0x358637BD#32))))))
    (broadcastInDim S512x1024 ![0, 1] bcast_S1x1024_S512x1024_0_1 (broadcastInDim S1x1024 ![1] bcast_S1024_S1x1024_1 (shapeCast _ g shapeCasts_S1x1024_S1024)))

/-- The reference's product with a gate's or up matrix. -/
def rIn (xn : FVec Ideal S512x1024 .f32) (w : FVec Ideal S1x1024x2816 .f32) : FVec Ideal S512x2816 .f32 :=
  Host.dotGeneral dot_S512x1024_S1024x2816_S512x2816_1_0_0_1_n_n none xn (shapeCast _ w shapeCasts_S1x1024x2816_S1024x2816)

/-- The reference's gated lanes. -/
def rGate (a b : FVec Ideal S512x2816 .f32) : FVec Ideal S512x2816 .f32 :=
  mulf (mulf a (Host.divf (broadcastInDim S512x2816 ![] bcast_S_S512x2816 (constant S_ .f32 0x3F800000#32))
    (addf (broadcastInDim S512x2816 ![] bcast_S_S512x2816 (constant S_ .f32 0x3F800000#32)) (Host.exp (Host.negf a))))) b

/-- The reference's half step. -/
def rStep (x : FVec Ideal S512x1024 .f32) (h : FVec Ideal S512x2816 .f32) (w : FVec Ideal S1x2816x1024 .f32) : FVec Ideal S512x1024 .f32 :=
  addf x (mulf (broadcastInDim S512x1024 ![] bcast_S_S512x1024 (constant S_ .f32 0x3F000000#32))
    (Host.dotGeneral dot_S512x2816_S2816x1024_S512x1024_1_0_0_1_n_n none h (shapeCast _ w shapeCasts_S1x2816x1024_S2816x1024)))

/-- The reference's rows after the half step. -/
def rFf (x : FVec Ideal S512x1024 .f32) (g : FVec Ideal S1x1024 .f32) (wg wu : FVec Ideal S1x1024x2816 .f32) (wd : FVec Ideal S1x2816x1024 .f32) :
    FVec Ideal S512x1024 .f32 :=
  rStep x (rGate (rIn (rNorm x g) wg) (rIn (rNorm x g) wu)) wd

/-- The norm, read. -/
theorem read_norm (x : FVec Ideal S512x1024 .f32) (g : FVec Ideal S1x1024 .f32) (R : Fin 512) (n : Fin 1024) :
    rNorm x g (ix2 R n) = rms D (fun j => x (ix2 R j)) (fun j => g (ix2 0 j)) n := by
  pointwise [rNorm]
  rfl

/-- The product, read. -/
theorem read_in (xn : FVec Ideal S512x1024 .f32) (w : FVec Ideal S1x1024x2816 .f32) (R : Fin 512) (k : Fin 2816) :
    rIn xn w (ix2 R k) = ∑ j, xn (ix2 R j) * w (ix3 0 j k) := by
  pointwise [rIn]

/-- The gated lane, read. -/
theorem read_gate (a c : FVec Ideal S512x2816 .f32) (R : Fin 512) (k : Fin 2816) :
    rGate a c (ix2 R k) = a (ix2 R k) * Ideal.logistic (a (ix2 R k)) * c (ix2 R k) := by
  pointwise [rGate]
  rfl

/-- The half step, read. -/
theorem read_step (x : FVec Ideal S512x1024 .f32) (h : FVec Ideal S512x2816 .f32) (w : FVec Ideal S1x2816x1024 .f32) (R : Fin 512) (n : Fin 1024) :
    rStep x h w (ix2 R n) = x (ix2 R n) + Ideal.ofBits .f32 1056964608#32 * ∑ k, h (ix2 R k) * w (ix3 0 k n) := by
  pointwise [rStep]

/-- The rows after the half step are the formula. -/
theorem read_ff (x : FVec Ideal S512x1024 .f32) (g : FVec Ideal S1x1024 .f32) (wg wu : FVec Ideal S1x1024x2816 .f32) (wd : FVec Ideal S1x2816x1024 .f32)
    (R : Fin 512) (n : Fin 1024) :
    rFf x g wg wu wd (ix2 R n) = ff (fun j => x (ix2 R j)) (fun j => g (ix2 0 j)) (fun j k => wg (ix3 0 j k)) (fun j k => wu (ix3 0 j k))
      (fun k n => wd (ix3 0 k n)) n := by
  unfold rFf ff gate
  simp only [read_step, read_gate, read_in, read_norm]

/-- The reference's frame: its run read at the arguments, and the program has no semaphore. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, Idealize.ShloMosaic.sem_eq_zero_of_no_sems (by decide) r.2⟩)
    (Value.run m ρ)

/-- The kernel and the reference give equal rows. -/
theorem algebraic : Cert.algebraic_PostSampleIdeal_PostSampleRefIdeal := by
  intro m g m' g' _ hagree
  refine ⟨fun c => outH m c, ?_, ?_⟩
  · refine (θ_run _ _ _).mono (fun r h c => ?_) (Cert.PostSampleIdeal.Value.run_blocks m g)
    obtain ⟨h0, h1⟩ := h c
    exact ⟨h0.trans (final6 m c), h1⟩
  · refine (θ_run _ _ _).mono (fun r h c => ?_) (Cert.PostSampleRefIdeal.Value.run m' g')
    obtain ⟨h0, h1⟩ := h c
    obtain ⟨e0, e1, e2, e3, e4, e5⟩ := hagree c
    refine ⟨h0.trans ?_, h1⟩
    rw [e0, e1, e2, e3, e4]
    funext y
    obtain ⟨R, n, rfl⟩ : ∃ (R : Fin 512) (n : Fin 1024), y = ix2 R n := by
      idx_vars y
      exact ⟨_, _, rfl⟩
    exact read_ff _ _ _ _ _ R n

end Cert.PostSampleRef
-- ==== Proof.ProjSampBlock.lean ====
module

public import proofs.«01_k».proof.Proof.ProjBlock
public import proofs.«01_k».proof.Proof.Gen.ProjectSampleIdeal.Value
public import Idealize.ShloMosaic.Lib.Pointwise
public import Idealize.ShloMosaic.Lib.Pipeline.ReadBack

@[expose] public section

set_option maxRecDepth 16384

noncomputable section

/-! The input projection of the sample as the kernel computes it: the arrays that are results of the layer. -/

namespace Cert.ProjSampBlock

open Idealize.ShloMosaic Idealize.ShloMosaic.Tactic Idealize.ShloMosaic.TcCoe Idealize.SL.Sem
open Cert.ProjectSampleIdeal Cert.ProjectSampleIdeal.Gen Cert.ProjectSampleIdeal.Value Cert.Rows Cert.ProjSpec

theorem read_pay3 (u : Vec Ideal S512x1024 .bf16) (w : Vec Ideal S1024x2560 .bf16) (r : Fin 512) (n : Fin 2560) :
    k0_pay3 u w (ix2 r n) = ∑ j, u (ix2 r j) * w (ix2 j n) := by
  pointwise [k0_pay3]

/-- The keys' columns, read over the product. -/
theorem read_pay7 (u : Vec Ideal S512x1024 .bf16) (w : Vec Ideal S1024x2560 .bf16) (r n : Fin 512) :
    k0_pay7 u w (ix2 r n) = k0_pay3 u w (ix2 r ⟨512 + n.val, by omega⟩) := by
  generalize e : k0_pay3 u w = y
  unfold k0_pay7
  rw [e]
  pointwise []

theorem read_pay8 (u : Vec Ideal S512x1024 .bf16) (w : Vec Ideal S1024x2560 .bf16) (e6 : Vec Ideal S512x512 .bf16) (r n : Fin 512) :
    k0_pay8 u w e6 (ix2 r n) = (∑ j, k0_pay7 u w (ix2 r j) * k0_pay7 u w (ix2 r j) * e6 (ix2 j n)) * Ideal.ofBits .f32 0x3C800000#32 := by
  generalize e : k0_pay7 u w = y
  unfold k0_pay8
  rw [e]
  pointwise []

theorem read_pay9 (r n : Fin 512) : k0_pay9 (F := Ideal) (ix2 r n) = Ideal.ofBits .f32 897988541#32 := by
  pointwise [k0_pay9]

theorem read_pay10 (a b d : FVec Ideal S512x512 .f32) (g : Vec Ideal S1x512 .f32) (r n : Fin 512) :
    k0_pay10 a b d g (ix2 r n) = a (ix2 r n) * Ideal.rsqrt (b (ix2 r n) + d (ix2 r n)) * g (ix2 0 n) := by
  pointwise [k0_pay10]

theorem read_pay14 (z : FVec Ideal S512x2560 .f32) (r n : Fin 512) : k0_pay14 z (ix2 r n) = z (ix2 r ⟨1024 + n.val, by omega⟩) := by
  pointwise [k0_pay14]

theorem read_pay23 (z : FVec Ideal S512x2560 .f32) (g : Vec Ideal S1x128 .f32) (r : Fin 512) (n : Fin 128) :
    k0_pay23 z g (ix2 r n) = rms D128 (fun i : Fin 128 => z (ix2 r ⟨1792 + i.val, by omega⟩)) (fun i => g (ix2 0 i)) n := by
  pointwise [k0_pay23]
  rfl

theorem read_pay26 (z : FVec Ideal S512x2560 .f32) (r : Fin 512) (n : Fin 32) : k0_pay26 z (ix2 r n) = z (ix2 r ⟨2432 + n.val, by omega⟩) := by
  pointwise [k0_pay26]

variable (m : (ℓ : Loc nD τ sig) → Buf (Elt Ideal) ℓ)

theorem V_wp (c : Dev nD) : V m c main_v46 = ProjBlock.wpV (m ((c : Thread nD τ).loc main_arg1)) := by entry_read; rfl
theorem V_e64 (c : Dev nD) : V m c main_v18 = ProjBlock.e64V := by entry_read; rfl
theorem V_gak (c : Dev nD) : V m c main_v71 = ProjBlock.tileV (m ((c : Thread nD τ).loc main_arg3)) := by entry_read; rfl
theorem V_gmkv (c : Dev nD) : V m c main_v82 = ProjBlock.g128V (m ((c : Thread nD τ).loc main_arg7)) := by entry_read; rfl

theorem idx : ∀ t : Fin cfg0.N, win0_0.index t = ![t.val, 0] ∧ win0_3.index t = ![0, 0] ∧ win0_4.index t = ![0, 0] ∧ win0_10.index t = ![0, 0]
    ∧ win0_13.index t = ![0, 0] :=
  (by decide +kernel : ∀ t : Fin grid0.N, _)

theorem idxo : ∀ t : Fin cfg0.N, win0_17.index t = ![t.val, 0] ∧ win0_19.index t = ![t.val, 0] ∧ win0_22.index t = ![t.val, 0]
    ∧ win0_23.index t = ![t.val, 0] :=
  (by decide +kernel : ∀ t : Fin grid0.N, _)

/-- A row of the input. -/
def uA (c : Dev nD) (R : Fin 512) (j : Fin 1024) : EReal := m ((c : Thread nD τ).loc main_arg0) (ix2 R j)

/-- The projection's matrix. -/
def wA (c : Dev nD) (j : Fin 1024) (n : Fin 5536) : EReal := m ((c : Thread nD τ).loc main_arg1) (ix3 0 j n)

/-- The keys' gain. -/
def gakA (c : Dev nD) (d : Fin 64) : EReal := m ((c : Thread nD τ).loc main_arg3) (ix2 0 d)

/-- The latent's gain. -/
def gmkvA (c : Dev nD) (d : Fin 128) : EReal := m ((c : Thread nD τ).loc main_arg7) (ix2 0 d)

/-- Row `r` of the tile at point `t`. -/
def rowOf (t : Fin cfg0.N) (r : Fin 512) : Fin 512 := ⟨t.val * 512 + r.val, by have h : t.val < 1 := t.isLt; omega⟩

theorem blk_u (c : Dev nD) (t : Fin cfg0.N) (r : Fin 512) (j : Fin 1024) : iblk m c 0 t (ix2 r j) = uA m c (rowOf t r) j := by
  unfold uA
  blk_ext [iblk, V, idx t, rowOf]

theorem blk_wp (c : Dev nD) (t : Fin cfg0.N) (j : Fin 1024) (n : Fin 2560) : iblk m c 3 t (ix2 j n) = ProjBlock.wpV (m ((c : Thread nD τ).loc main_arg1)) (ix2 j n) := by
  refine Eq.trans ?_ (congrFun (V_wp m c) (ix2 j n))
  blk_ext [iblk, V, idx t]

theorem blk_e64 (c : Dev nD) (t : Fin cfg0.N) (j n : Fin 512) : iblk m c 4 t (ix2 j n) = (if hd5 j = hd5 n then 1 else 0 : EReal) := by
  refine Eq.trans ?_ ((congrFun (V_e64 m c) (ix2 j n)).trans (ProjBlock.read_e64V j n))
  blk_ext [iblk, V, idx t]

theorem blk_gak (c : Dev nD) (t : Fin cfg0.N) (n : Fin 512) : iblk m c 10 t (ix2 0 n) = gakA m c (dd5 n) := by
  refine Eq.trans ?_ ((congrFun (V_gak m c) (ix2 0 n)).trans (ProjBlock.read_tileV _ n))
  blk_ext [iblk, V, idx t]

theorem blk_gmkv (c : Dev nD) (t : Fin cfg0.N) (n : Fin 128) : iblk m c 13 t (ix2 0 n) = gmkvA m c n := by
  refine Eq.trans ?_ ((congrFun (V_gmkv m c) (ix2 0 n)).trans (ProjBlock.read_g128V _ n))
  blk_ext [iblk, V, idx t]

/-- The tile of the product. -/
def zT (c : Dev nD) (t : Fin cfg0.N) : FVec Ideal S512x2560 .f32 := k0_pay3 (iblk m c 0 t) (iblk m c 3 t)

theorem z_lo (c : Dev nD) (t : Fin cfg0.N) (r : Fin 512) (n : Fin 1920) :
    zT m c t (ix2 r ⟨n.val, by omega⟩) = zrow (uA m c (rowOf t r)) (wA m c) ⟨n.val, by omega⟩ := by
  unfold zT zrow
  rw [read_pay3]
  refine Finset.sum_congr rfl fun j _ => ?_
  rw [blk_u, blk_wp, ProjBlock.read_wpV_lo]
  rfl

theorem z_kr (c : Dev nD) (t : Fin cfg0.N) (r : Fin 512) (n : Fin 32) :
    zT m c t (ix2 r ⟨2432 + n.val, by omega⟩) = zrow (uA m c (rowOf t r)) (wA m c) ⟨1920 + n.val, by omega⟩ := by
  unfold zT zrow
  rw [read_pay3]
  refine Finset.sum_congr rfl fun j _ => ?_
  rw [blk_u, blk_wp, ProjBlock.read_wpV_kr]
  rfl

/-- A key's column of the product. -/
theorem ak_col (c : Dev nD) (t : Fin cfg0.N) (r n : Fin 512) :
    k0_pay7 (iblk m c 0 t) (iblk m c 3 t) (ix2 r n) = zrow (uA m c (rowOf t r)) (wA m c) ⟨512 + n.val, by omega⟩ :=
  (read_pay7 _ _ r n).trans (z_lo m c t r ⟨512 + n.val, by omega⟩)

/-- The tile of the keys. -/
def akT (c : Dev nD) (t : Fin cfg0.N) : FVec Ideal S512x512 .f32 :=
  k0_pay10 (k0_pay7 (iblk m c 0 t) (iblk m c 3 t)) (k0_pay8 (iblk m c 0 t) (iblk m c 3 t) (iblk m c 4 t)) k0_pay9 (iblk m c 10 t)

/-- A key's lane in the tile. -/
theorem ak_tile (c : Dev nD) (t : Fin cfg0.N) (r n : Fin 512) :
    akT m c t (ix2 r n) = akF (uA m c (rowOf t r)) (wA m c) (gakA m c) (hd5 n) (dd5 n) := by
  unfold akT
  rw [read_pay10, read_pay8, read_pay9]
  simp only [ak_col]
  refine (group5 (fun j => zrow (uA m c (rowOf t r)) (wA m c) ⟨512 + j.val, by omega⟩) (fun n => iblk m c 10 t (ix2 0 n)) (gakA m c)
    (fun j n => iblk m c 4 t (ix2 j n)) (blk_e64 m c t) (blk_gak m c t) n).trans ?_
  unfold akF
  refine congrArg (fun f => rms D64 f (gakA m c) (dd5 n)) (funext fun d => ?_)
  exact congrArg (zrow (uA m c (rowOf t r)) (wA m c)) (Fin.ext (by simp only [lane5]; omega))

/-- The latent's lane in the tile. -/
theorem ckv_tile (c : Dev nD) (t : Fin cfg0.N) (r : Fin 512) (n : Fin 128) :
    k0_pay23 (zT m c t) (iblk m c 13 t) (ix2 r n) = ckvF (uA m c (rowOf t r)) (wA m c) (gmkvA m c) n := by
  rw [read_pay23]
  unfold ckvF
  simp only [blk_gmkv]
  exact congrArg (fun f => rms D128 f (fun i => gmkvA m c i) n) (funext fun i => z_lo m c t r ⟨1792 + i.val, by omega⟩)

/-- The keys' array. -/
def outAk (c : Dev nD) : FVec Ideal S512x512 .f32 := fun y => akF (uA m c (y 0)) (wA m c) (gakA m c) (hd5 (y 1)) (dd5 (y 1))

/-- The values' array. -/
def outAv (c : Dev nD) : FVec Ideal S512x512 .f32 := fun y => avF (uA m c (y 0)) (wA m c) (y 1)

/-- The latent's array. -/
def outCkv (c : Dev nD) : FVec Ideal S512x128 .f32 := fun y => ckvF (uA m c (y 0)) (wA m c) (gmkvA m c) (y 1)

/-- The shared key's array. -/
def outKr (c : Dev nD) : FVec Ideal S512x32 .f32 := fun y => krF (uA m c (y 0)) (wA m c) (y 1)

/-- The keys are written whole. -/
theorem final17 (c : Dev nD) : (dats m 0 c).arrAt 17 cfg0.N = outAk m c := by
  refine (dats m 0 c).arrAt_eq_of_covers 17 _ (by decide +kernel) fun t hf y => ?_
  blk_simp
  rw [after0_17]
  obtain ⟨r, n, rfl⟩ : ∃ (r : Fin 512) (n : Fin 512), y = ix2 r n := by
    idx_vars y
    exact ⟨_, _, rfl⟩
  have e : outAk m c ((win0_17.blk t).view.emb (ix2 r n)) = akF (uA m c (rowOf t r)) (wA m c) (gakA m c) (hd5 n) (dd5 n) := by
    show outAk m c _ = outAk m c (ix2 (rowOf t r) n)
    refine congrArg (outAk m c) ?_
    blk_ext [idxo t, rowOf]
  refine Eq.trans ?_ e.symm
  unfold outsAt0
  frame_out
  exact ak_tile m c t r n

/-- The values are written whole. -/
theorem final19 (c : Dev nD) : (dats m 0 c).arrAt 19 cfg0.N = outAv m c := by
  refine (dats m 0 c).arrAt_eq_of_covers 19 _ (by decide +kernel) fun t hf y => ?_
  blk_simp
  rw [after0_19]
  obtain ⟨r, n, rfl⟩ : ∃ (r : Fin 512) (n : Fin 512), y = ix2 r n := by
    idx_vars y
    exact ⟨_, _, rfl⟩
  have e : outAv m c ((win0_19.blk t).view.emb (ix2 r n)) = avF (uA m c (rowOf t r)) (wA m c) n := by
    show outAv m c _ = outAv m c (ix2 (rowOf t r) n)
    refine congrArg (outAv m c) ?_
    blk_ext [idxo t, rowOf]
  refine Eq.trans ?_ e.symm
  unfold outsAt0
  frame_out
  exact (read_pay14 _ r n).trans (z_lo m c t r ⟨1024 + n.val, by omega⟩)

/-- The latent is written whole. -/
theorem final22 (c : Dev nD) : (dats m 0 c).arrAt 22 cfg0.N = outCkv m c := by
  refine (dats m 0 c).arrAt_eq_of_covers 22 _ (by decide +kernel) fun t hf y => ?_
  blk_simp
  rw [after0_22]
  obtain ⟨r, n, rfl⟩ : ∃ (r : Fin 512) (n : Fin 128), y = ix2 r n := by
    idx_vars y
    exact ⟨_, _, rfl⟩
  have e : outCkv m c ((win0_22.blk t).view.emb (ix2 r n)) = ckvF (uA m c (rowOf t r)) (wA m c) (gmkvA m c) n := by
    show outCkv m c _ = outCkv m c (ix2 (rowOf t r) n)
    refine congrArg (outCkv m c) ?_
    blk_ext [idxo t, rowOf]
  refine Eq.trans ?_ e.symm
  unfold outsAt0
  frame_out
  exact ckv_tile m c t r n

/-- The shared key is written whole. -/
theorem final23 (c : Dev nD) : (dats m 0 c).arrAt 23 cfg0.N = outKr m c := by
  refine (dats m 0 c).arrAt_eq_of_covers 23 _ (by decide +kernel) fun t hf y => ?_
  blk_simp
  rw [after0_23]
  obtain ⟨r, n, rfl⟩ : ∃ (r : Fin 512) (n : Fin 32), y = ix2 r n := by
    idx_vars y
    exact ⟨_, _, rfl⟩
  have e : outKr m c ((win0_23.blk t).view.emb (ix2 r n)) = krF (uA m c (rowOf t r)) (wA m c) n := by
    show outKr m c _ = outKr m c (ix2 (rowOf t r) n)
    refine congrArg (outKr m c) ?_
    blk_ext [idxo t, rowOf]
  refine Eq.trans ?_ e.symm
  unfold outsAt0
  frame_out
  exact (read_pay26 _ r n).trans (z_kr m c t r n)

end Cert.ProjSampBlock
-- ==== Proof.ProjSampRef.lean ====
module

public import proofs.«01_k».proof.Defs
public import proofs.«01_k».proof.Proof.ProjSampBlock
public import proofs.«01_k».proof.Proof.Gen.ProjectSampleRefIdeal.Run
public import Idealize.ShloMosaic.Lib.Pointwise

@[expose] public section

set_option maxRecDepth 16384

noncomputable section

/-! The projections of the sample, as the reference computes them, and the two programs together. -/

namespace Cert.ProjSampRef

open Idealize.ShloMosaic Idealize.ShloMosaic.Tactic Idealize.ShloMosaic.TcCoe Idealize.SL.Sem
open Cert.ProjectSampleRefIdeal Cert.ProjectSampleRefIdeal.Gen Cert.ProjectSampleRefIdeal.Value Cert.ProjSampBlock Cert.ProjSpec Cert.Rows

/-- The reference's product of the normed rows with their matrix. -/
def rZ (u : FVec Ideal S512x1024 .bf16) (w : FVec Ideal S1x1024x5536 .f32) : FVec Ideal S512x5536 .f32 :=
  Host.dotGeneral dot_S512x1024_S1024x5536_S512x5536_1_0_0_1_n_n none (extf .f32 u bitsLt_bf16_f32) (shapeCast _ w shapeCasts_S1x1024x5536_S1024x5536)

/-- The norm of the heads of 64 lanes. -/
def rN64 (x : FVec Ideal S512x8x64 .f32) (g : FVec Ideal S1x64 .f32) : FVec Ideal S512x8x64 .f32 :=
  mulf (mulf x (broadcastInDim S512x8x64 ![0, 1, 2] bcast_S512x8x1_S512x8x64_0_1_2 (Host.rsqrt (addf (Host.divf (broadcastInDim S512x8x1 ![0, 1] bcast_S512x8_S512x8x1_0_1
    (Host.reduceAdd (mulf x x) (constant S_ .f32 0x00000000#32) reducesTo_S512x8x64_S512x8_d2 h_S_)) (broadcastInDim S512x8x1 ![] bcast_S_S512x8x1 (constant S_ .f32 0x42800000#32)))
    (broadcastInDim S512x8x1 ![] bcast_S_S512x8x1 (constant S_ .f32 0x358637BD#32))))))
    (broadcastInDim S512x8x64 ![0, 1, 2] bcast_S1x1x64_S512x8x64_0_1_2 (broadcastInDim S1x1x64 ![2] bcast_S64_S1x1x64_2 (shapeCast _ g shapeCasts_S1x64_S64)))

/-- The norm of the latent. -/
def rNl (x : FVec Ideal S512x128 .f32) (g : FVec Ideal S1x128 .f32) : FVec Ideal S512x128 .f32 :=
  mulf (mulf x (broadcastInDim S512x128 ![0, 1] bcast_S512x1_S512x128_0_1 (Host.rsqrt (addf (Host.divf (broadcastInDim S512x1 ![0] bcast_S512_S512x1_0
    (Host.reduceAdd (mulf x x) (constant S_ .f32 0x00000000#32) reducesTo_S512x128_S512_d1 h_S_)) (broadcastInDim S512x1 ![] bcast_S_S512x1 (constant S_ .f32 0x43000000#32)))
    (broadcastInDim S512x1 ![] bcast_S_S512x1 (constant S_ .f32 0x358637BD#32))))))
    (broadcastInDim S512x128 ![0, 1] bcast_S1x128_S512x128_0_1 (broadcastInDim S1x128 ![1] bcast_S128_S1x128_1 (shapeCast _ g shapeCasts_S1x128_S128)))

/-- The keys' lanes. -/
def rK (z : FVec Ideal S512x5536 .f32) : FVec Ideal S512x8x64 .f32 :=
  shapeCast _ (extractStridedSlice S512x512 ![0, 512] z slices_S512x5536_S512x512_0_512) shapeCasts_S512x512_S512x8x64

theorem read_z (u : FVec Ideal S512x1024 .bf16) (w : FVec Ideal S1x1024x5536 .f32) (R : Fin 512) (n : Fin 5536) :
    rZ u w (ix2 R n) = zrow (fun j => u (ix2 R j)) (fun j n => w (ix3 0 j n)) n := by
  pointwise [rZ]
  rfl

theorem read_rN64 (x : FVec Ideal S512x8x64 .f32) (g : FVec Ideal S1x64 .f32) (R : Fin 512) (h : Fin 8) (d : Fin 64) :
    rN64 x g (ix3 R h d) = rms D64 (fun d => x (ix3 R h d)) (fun d => g (ix2 0 d)) d := by
  pointwise [rN64]
  rfl

theorem read_rNl (x : FVec Ideal S512x128 .f32) (g : FVec Ideal S1x128 .f32) (R : Fin 512) (d : Fin 128) :
    rNl x g (ix2 R d) = rms D128 (fun d => x (ix2 R d)) (fun d => g (ix2 0 d)) d := by
  pointwise [rNl]
  rfl

theorem read_rK (z : FVec Ideal S512x5536 .f32) (R : Fin 512) (h : Fin 8) (d : Fin 64) :
    rK z (ix3 R h d) = z (ix2 R ⟨512 + 64 * h.val + d.val, by omega⟩) := by
  refine Eq.trans (b := z (ix2 R ⟨512 + (h.val * 64 + d.val), by omega⟩)) (by pointwise [rK]) (congrArg (fun n => z (ix2 R n)) (Fin.ext (by simp only; omega)))

variable (u : FVec Ideal S512x1024 .bf16) (w : FVec Ideal S1x1024x5536 .f32)

/-- The keys. -/
theorem out_ak (g : FVec Ideal S1x64 .f32) : (shapeCast _ (rN64 (rK (rZ u w)) g) shapeCasts_S512x8x64_S512x512 : FVec Ideal S512x512 .f32)
    = fun y => akF (fun j => u (ix2 (y 0) j)) (fun j n => w (ix3 0 j n)) (fun d => g (ix2 0 d)) (hd5 (y 1)) (dd5 (y 1)) := by
  funext y
  obtain ⟨R, n, rfl⟩ : ∃ (R : Fin 512) (n : Fin 512), y = ix2 R n := by
    idx_vars y
    exact ⟨_, _, rfl⟩
  generalize hx : rN64 (rK (rZ u w)) g = x
  pointwise []
  rw [← hx, read_rN64]
  simp only [read_rK, read_z]
  rfl

/-- The values. -/
theorem out_av : (extractStridedSlice S512x512 ![0, 1024] (rZ u w) slices_S512x5536_S512x512_0_1024 : FVec Ideal S512x512 .f32)
    = fun y => avF (fun j => u (ix2 (y 0) j)) (fun j n => w (ix3 0 j n)) (y 1) := by
  funext y
  obtain ⟨R, n, rfl⟩ : ∃ (R : Fin 512) (n : Fin 512), y = ix2 R n := by
    idx_vars y
    exact ⟨_, _, rfl⟩
  generalize hx : rZ u w = x
  pointwise []
  rw [← hx, read_z]
  rfl

/-- The latent. -/
theorem out_ckv (g : FVec Ideal S1x128 .f32) : rNl (extractStridedSlice S512x128 ![0, 1792] (rZ u w) slices_S512x5536_S512x128_0_1792) g
    = fun y => ckvF (fun j => u (ix2 (y 0) j)) (fun j n => w (ix3 0 j n)) (fun d => g (ix2 0 d)) (y 1) := by
  funext y
  obtain ⟨R, n, rfl⟩ : ∃ (R : Fin 512) (n : Fin 128), y = ix2 R n := by
    idx_vars y
    exact ⟨_, _, rfl⟩
  refine (read_rNl _ g R n).trans (congrArg (fun f => rms D128 f (fun d => g (ix2 0 d)) n) (funext fun i => ?_))
  refine Eq.trans ?_ (read_z u w R ⟨1792 + i.val, by omega⟩)
  generalize rZ u w = x
  pointwise []

/-- The shared key. -/
theorem out_kr : (extractStridedSlice S512x32 ![0, 1920] (rZ u w) slices_S512x5536_S512x32_0_1920 : FVec Ideal S512x32 .f32)
    = fun y => krF (fun j => u (ix2 (y 0) j)) (fun j n => w (ix3 0 j n)) (y 1) := by
  funext y
  obtain ⟨R, n, rfl⟩ : ∃ (R : Fin 512) (n : Fin 32), y = ix2 R n := by
    idx_vars y
    exact ⟨_, _, rfl⟩
  generalize hx : rZ u w = x
  pointwise []
  rw [← hx, read_z]
  rfl

/-- The reference's frame: its run read at the arguments, and the program has no semaphore. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => (h c).2.2.2.2, Idealize.ShloMosaic.sem_eq_zero_of_no_sems (by decide) r.2⟩)
    (Value.run m ρ)

/-- The kernel and the reference give equal keys, values, latents and shared keys. -/
theorem algebraic : Cert.algebraic_ProjectSampleIdeal_ProjectSampleRefIdeal := by
  intro m g m' g' _ hagree
  refine ⟨fun c => outAk m c, fun c => outAv m c, fun c => outCkv m c, fun c => outKr m c, ?_, ?_⟩
  · refine (θ_run _ _ _).mono (fun r h c => ?_) (Cert.ProjectSampleIdeal.Value.run_blocks m g)
    obtain ⟨_, h1, _, h3, _, _, h6, h7, _, _, _, _, h12⟩ := h c
    exact ⟨h1.trans (final17 m c), h3.trans (final19 m c), h6.trans (final22 m c), h7.trans (final23 m c), h12⟩
  · refine (θ_run _ _ _).mono (fun r h c => ?_) (Cert.ProjectSampleRefIdeal.Value.run m' g')
    obtain ⟨h0, h1, h2, h3, h4⟩ := h c
    obtain ⟨e0, e1, e2, e3, e4, e5, e6, e7, e8, e9, e10⟩ := hagree c
    refine ⟨h0.trans ?_, h1.trans ?_, h2.trans ?_, h3.trans ?_, h4⟩
    · refine (out_ak (m' ((c.tc : Thread nD τ).loc main_arg0)) (m' ((c.tc : Thread nD τ).loc main_arg1)) (m' ((c.tc : Thread nD τ).loc main_arg3))).trans ?_
      rw [e0, e1, e3]
      rfl
    · refine (out_av (m' ((c.tc : Thread nD τ).loc main_arg0)) (m' ((c.tc : Thread nD τ).loc main_arg1))).trans ?_
      rw [e0, e1]
      rfl
    · refine (out_ckv (m' ((c.tc : Thread nD τ).loc main_arg0)) (m' ((c.tc : Thread nD τ).loc main_arg1)) (m' ((c.tc : Thread nD τ).loc main_arg7))).trans ?_
      rw [e0, e1, e7]
      rfl
    · refine (out_kr (m' ((c.tc : Thread nD τ).loc main_arg0)) (m' ((c.tc : Thread nD τ).loc main_arg1))).trans ?_
      rw [e0, e1]
      rfl

end Cert.ProjSampRef
-- ==== Proof.MergeBlock.lean ====
module

public import proofs.«01_k».proof.Proof.Gen.MergeIdeal.Value
public import Idealize.ShloMosaic.Lib.Claim
public import Idealize.ShloMosaic.Lib.Pipeline.ValueKit
public import Idealize.ShloMosaic.Lib.Pointwise
public import Idealize.ShloMosaic.Lib.Pipeline.ReadBack

@[expose] public section

set_option maxRecDepth 16384

noncomputable section

/-! The merge of the three branches, as the kernel computes it. -/

namespace Cert.MergeBlock

open Idealize.ShloMosaic Idealize.ShloMosaic.Tactic Idealize.ShloMosaic.TcCoe Idealize.SL.Sem
open Cert.MergeIdeal Cert.MergeIdeal.Gen Cert.MergeIdeal.Value

/-- A branch's lane, gated: the gate is the sigmoid of the row's product with the gate's column. -/
def branch (u : Fin 1024 → EReal) (wg : Fin 1024 → EReal) (o : Fin 512 → EReal) (w : Fin 512 → EReal) : EReal :=
  Ideal.logistic (∑ j, u j * wg j) * ∑ j, o j * w j

/-- The column of branch `b`'s gate for lane `n` among all columns of the input projection. -/
def gcol (b : Fin 3) (n : Fin 1024) : Fin 5536 := ⟨2464 + b.val * 1024 + n.val, by omega⟩

/-- The gated sum of the branches at a lane. -/
def mixed (u : Fin 1024 → EReal) (oa om ox : Fin 512 → EReal) (Wi : Fin 1024 → Fin 5536 → EReal)
    (Wa Wm Wx : Fin 512 → Fin 1024 → EReal) (n : Fin 1024) : EReal :=
  branch u (fun j => Wi j (gcol 0 n)) oa (fun j => Wa j n) + branch u (fun j => Wi j (gcol 1 n)) om (fun j => Wm j n)
    + branch u (fun j => Wi j (gcol 2 n)) ox (fun j => Wx j n)

/-- A row after the merge. -/
def merged (u : Fin 1024 → EReal) (oa om ox : Fin 512 → EReal) (h : Fin 1024 → EReal) (Wi : Fin 1024 → Fin 5536 → EReal)
    (Wa Wm Wx : Fin 512 → Fin 1024 → EReal) (Wo : Fin 1024 → Fin 1024 → EReal) (n : Fin 1024) : EReal :=
  h n + ∑ k, mixed u oa om ox Wi Wa Wm Wx k * Wo k n

/-- The gated sum, read. -/
theorem read_pay2 (u : Vec Ideal S512x1024 .bf16) (g0 : Vec Ideal S1024x1024 .bf16) (oa : Vec Ideal S512x512 .bf16) (wa : Vec Ideal S512x1024 .bf16)
    (g1 : Vec Ideal S1024x1024 .bf16) (om : Vec Ideal S512x512 .bf16) (wm : Vec Ideal S512x1024 .bf16)
    (g2 : Vec Ideal S1024x1024 .bf16) (ox : Vec Ideal S512x512 .bf16) (wx : Vec Ideal S512x1024 .bf16) (r : Fin 512) (n : Fin 1024) :
    k0_pay2 u g0 oa wa g1 om wm g2 ox wx (ix2 r n)
      = branch (fun j => u (ix2 r j)) (fun j => g0 (ix2 j n)) (fun j => oa (ix2 r j)) (fun j => wa (ix2 j n))
        + branch (fun j => u (ix2 r j)) (fun j => g1 (ix2 j n)) (fun j => om (ix2 r j)) (fun j => wm (ix2 j n))
        + branch (fun j => u (ix2 r j)) (fun j => g2 (ix2 j n)) (fun j => ox (ix2 r j)) (fun j => wx (ix2 j n)) := by
  pointwise [k0_pay2]
  rfl

/-- The output projection, read. -/
theorem read_pay1 (y : FVec Ideal S512x1024 .f32) (h : Vec Ideal S512x1024 .f32) (w : Vec Ideal S1024x1024 .bf16) (r : Fin 512) (n : Fin 1024) :
    k0_pay1 y h w (ix2 r n) = h (ix2 r n) + ∑ k, y (ix2 r k) * w (ix2 k n) := by
  pointwise [k0_pay1]

/-- A gate's part of the gate columns, read. -/
theorem read_gates (x : Vec Ideal S1024x3072 .bf16) (j n : Fin 1024) :
    View.ld x r0_1 (ix2 j n) = x (ix2 j ⟨0 * 1024 + n.val, by omega⟩)
      ∧ View.ld x r0_3 (ix2 j n) = x (ix2 j ⟨1 * 1024 + n.val, by omega⟩)
      ∧ View.ld x r0_4 (ix2 j n) = x (ix2 j ⟨2 * 1024 + n.val, by omega⟩) := by
  refine ⟨?_, ?_, ?_⟩
  · pointwise []
  · pointwise []
  · pointwise []

variable (m : (ℓ : Loc nD τ sig) → Buf (Elt Ideal) ℓ)

/-- The gate columns as the host hands them over. -/
def gateV (a : FVec Ideal S1x1024x5536 .f32) : FVec Ideal S1024x3072 .bf16 :=
  truncf .bf16 (extractStridedSlice S1024x3072 ![0, 2464] (shapeCast S1024x5536 a shapeCasts_S1x1024x5536_S1024x5536) slices_S1024x5536_S1024x3072_0_2464) bitsLt_bf16_f32

/-- A branch's matrix as the host hands it over. -/
def brV (a : FVec Ideal S1x512x1024 .f32) : FVec Ideal S512x1024 .bf16 :=
  truncf .bf16 (shapeCast S512x1024 a shapeCasts_S1x512x1024_S512x1024) bitsLt_bf16_f32

/-- The output matrix as the host hands it over. -/
def outV (a : FVec Ideal S1x1024x1024 .f32) : FVec Ideal S1024x1024 .bf16 :=
  truncf .bf16 (shapeCast S1024x1024 a shapeCasts_S1x1024x1024_S1024x1024) bitsLt_bf16_f32

/-- A branch's rows one after the other. -/
def rowsV (a : FVec Ideal S8x2048x512 .bf16) : FVec Ideal S16384x512 .bf16 := shapeCast S16384x512 a shapeCasts_S8x2048x512_S16384x512

theorem V_oa (c : Dev nD) : V m c main_v11 = rowsV (m ((c : Thread nD τ).loc main_arg1)) := by entry_read; rfl
theorem V_om (c : Dev nD) : V m c main_v12 = rowsV (m ((c : Thread nD τ).loc main_arg2)) := by entry_read; rfl
theorem V_ox (c : Dev nD) : V m c main_v13 = rowsV (m ((c : Thread nD τ).loc main_arg3)) := by entry_read; rfl
theorem V_gates (c : Dev nD) : V m c main_v2 = gateV (m ((c : Thread nD τ).loc main_arg5)) := by entry_read; rfl
theorem V_wa (c : Dev nD) : V m c main_v4 = brV (m ((c : Thread nD τ).loc main_arg6)) := by entry_read; rfl
theorem V_wm (c : Dev nD) : V m c main_v6 = brV (m ((c : Thread nD τ).loc main_arg7)) := by entry_read; rfl
theorem V_wx (c : Dev nD) : V m c main_v8 = brV (m ((c : Thread nD τ).loc main_arg8)) := by entry_read; rfl
theorem V_wo (c : Dev nD) : V m c main_v10 = outV (m ((c : Thread nD τ).loc main_arg9)) := by entry_read; rfl

theorem read_gateV (a : FVec Ideal S1x1024x5536 .f32) (j : Fin 1024) (b : Fin 3) (n : Fin 1024) :
    gateV a (ix2 j ⟨b.val * 1024 + n.val, by omega⟩) = a (ix3 0 j (gcol b n)) := by
  have h : ∀ k : Fin 3072, gateV a (ix2 j k) = a (ix3 0 j ⟨2464 + k.val, by omega⟩) := fun k => by pointwise [gateV]
  rw [h]
  exact congrArg (fun k => a (ix3 0 j k)) (Fin.ext (by show 2464 + (b.val * 1024 + n.val) = 2464 + b.val * 1024 + n.val; omega))

theorem read_brV (a : FVec Ideal S1x512x1024 .f32) (j : Fin 512) (n : Fin 1024) : brV a (ix2 j n) = a (ix3 0 j n) := by
  pointwise [brV]

theorem read_outV (a : FVec Ideal S1x1024x1024 .f32) (j n : Fin 1024) : outV a (ix2 j n) = a (ix3 0 j n) := by
  pointwise [outV]

theorem read_rowsV (a : FVec Ideal S8x2048x512 .bf16) (R : Fin 16384) (j : Fin 512) :
    rowsV a (ix2 R j) = a (ix3 ⟨R.val / 2048, by omega⟩ ⟨R.val % 2048, by omega⟩ j) := by
  pointwise [rowsV]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- A normed row. -/
def uA (c : Dev nD) (R : Fin 16384) (j : Fin 1024) : EReal := m ((c : Thread nD τ).loc main_arg0) (ix2 R j)

/-- A row of the block attention's branch. -/
def oaA (c : Dev nD) (R : Fin 16384) (j : Fin 512) : EReal := m ((c : Thread nD τ).loc main_arg1) (ix3 ⟨R.val / 2048, by omega⟩ ⟨R.val % 2048, by omega⟩ j)

/-- A row of the latent attention's branch. -/
def omA (c : Dev nD) (R : Fin 16384) (j : Fin 512) : EReal := m ((c : Thread nD τ).loc main_arg2) (ix3 ⟨R.val / 2048, by omega⟩ ⟨R.val % 2048, by omega⟩ j)

/-- A row of the memory attention's branch. -/
def oxA (c : Dev nD) (R : Fin 16384) (j : Fin 512) : EReal := m ((c : Thread nD τ).loc main_arg3) (ix3 ⟨R.val / 2048, by omega⟩ ⟨R.val % 2048, by omega⟩ j)

/-- A row of the residual. -/
def hA (c : Dev nD) (R : Fin 16384) (n : Fin 1024) : EReal := m ((c : Thread nD τ).loc main_arg4) (ix2 R n)

/-- The input projection's matrix. -/
def wiA (c : Dev nD) (j : Fin 1024) (n : Fin 5536) : EReal := m ((c : Thread nD τ).loc main_arg5) (ix3 0 j n)

/-- The block attention's matrix. -/
def waA (c : Dev nD) (j : Fin 512) (n : Fin 1024) : EReal := m ((c : Thread nD τ).loc main_arg6) (ix3 0 j n)

/-- The latent attention's matrix. -/
def wmA (c : Dev nD) (j : Fin 512) (n : Fin 1024) : EReal := m ((c : Thread nD τ).loc main_arg7) (ix3 0 j n)

/-- The memory attention's matrix. -/
def wxA (c : Dev nD) (j : Fin 512) (n : Fin 1024) : EReal := m ((c : Thread nD τ).loc main_arg8) (ix3 0 j n)

/-- The output matrix. -/
def woA (c : Dev nD) (j n : Fin 1024) : EReal := m ((c : Thread nD τ).loc main_arg9) (ix3 0 j n)

/-- Row `r` of the tile at point `t`. -/
def rowOf (t : Fin cfg0.N) (r : Fin 512) : Fin 16384 := ⟨t.val * 512 + r.val, by have h : t.val < 32 := t.isLt; omega⟩

theorem blk0 (c : Dev nD) (t : Fin cfg0.N) (r : Fin 512) (j : Fin 1024) : iblk m c 0 t (ix2 r j) = uA m c (rowOf t r) j := by
  unfold uA
  blk_ext [iblk, V, idx t, rowOf]

theorem blk1 (c : Dev nD) (t : Fin cfg0.N) (r j : Fin 512) : iblk m c 1 t (ix2 r j) = oaA m c (rowOf t r) j := by
  refine Eq.trans ?_ ((congrFun (V_oa m c) (ix2 (rowOf t r) j)).trans (read_rowsV _ _ _))
  blk_ext [iblk, V, idx t, rowOf]

theorem blk2 (c : Dev nD) (t : Fin cfg0.N) (r j : Fin 512) : iblk m c 2 t (ix2 r j) = omA m c (rowOf t r) j := by
  refine Eq.trans ?_ ((congrFun (V_om m c) (ix2 (rowOf t r) j)).trans (read_rowsV _ _ _))
  blk_ext [iblk, V, idx t, rowOf]

theorem blk3 (c : Dev nD) (t : Fin cfg0.N) (r j : Fin 512) : iblk m c 3 t (ix2 r j) = oxA m c (rowOf t r) j := by
  refine Eq.trans ?_ ((congrFun (V_ox m c) (ix2 (rowOf t r) j)).trans (read_rowsV _ _ _))
  blk_ext [iblk, V, idx t, rowOf]

theorem blk4 (c : Dev nD) (t : Fin cfg0.N) (r : Fin 512) (n : Fin 1024) : iblk m c 4 t (ix2 r n) = hA m c (rowOf t r) n := by
  unfold hA
  blk_ext [iblk, V, idx t, rowOf]

theorem blk5 (c : Dev nD) (t : Fin cfg0.N) (j : Fin 1024) (b : Fin 3) (n : Fin 1024) :
    iblk m c 5 t (ix2 j ⟨b.val * 1024 + n.val, by omega⟩) = wiA m c j (gcol b n) := by
  refine Eq.trans ?_ ((congrFun (V_gates m c) (ix2 j ⟨b.val * 1024 + n.val, by omega⟩)).trans (read_gateV _ _ _ _))
  blk_ext [iblk, V, idx t]

theorem blk6 (c : Dev nD) (t : Fin cfg0.N) (j : Fin 512) (n : Fin 1024) : iblk m c 6 t (ix2 j n) = waA m c j n := by
  refine Eq.trans ?_ ((congrFun (V_wa m c) (ix2 j n)).trans (read_brV _ _ _))
  blk_ext [iblk, V, idx t]

theorem blk7 (c : Dev nD) (t : Fin cfg0.N) (j : Fin 512) (n : Fin 1024) : iblk m c 7 t (ix2 j n) = wmA m c j n := by
  refine Eq.trans ?_ ((congrFun (V_wm m c) (ix2 j n)).trans (read_brV _ _ _))
  blk_ext [iblk, V, idx t]

theorem blk8 (c : Dev nD) (t : Fin cfg0.N) (j : Fin 512) (n : Fin 1024) : iblk m c 8 t (ix2 j n) = wxA m c j n := by
  refine Eq.trans ?_ ((congrFun (V_wx m c) (ix2 j n)).trans (read_brV _ _ _))
  blk_ext [iblk, V, idx t]

theorem blk9 (c : Dev nD) (t : Fin cfg0.N) (j n : Fin 1024) : iblk m c 9 t (ix2 j n) = woA m c j n := by
  refine Eq.trans ?_ ((congrFun (V_wo m c) (ix2 j n)).trans (read_outV _ _ _))
  blk_ext [iblk, V, idx t]

/-- A row of the result. -/
def yA (c : Dev nD) (R : Fin 16384) (n : Fin 1024) : EReal :=
  merged (uA m c R) (oaA m c R) (omA m c R) (oxA m c R) (hA m c R) (wiA m c) (waA m c) (wmA m c) (wxA m c) (woA m c) n

/-- The result array the formula gives. -/
def outY (c : Dev nD) : FVec Ideal S16384x1024 .f32 := fun y => yA m c (y 0) (y 1)

/-- The result array after the kernel. -/
theorem final10 (c : Dev nD) : (dats m 0 c).arrAt 10 cfg0.N = outY m c := by
  refine (dats m 0 c).arrAt_eq_of_covers 10 _ (by decide +kernel) fun t hf y => ?_
  blk_simp
  rw [after0_10]
  obtain ⟨r, d, rfl⟩ : ∃ (r : Fin 512) (d : Fin 1024), y = ix2 r d := by
    idx_vars y
    exact ⟨_, _, rfl⟩
  have e : outY m c ((win0_10.blk t).view.emb (ix2 r d)) = yA m c (rowOf t r) d := by
    show outY m c _ = outY m c (ix2 (rowOf t r) d)
    refine congrArg (outY m c) ?_
    blk_ext [idx t, rowOf]
  refine Eq.trans ?_ e.symm
  frame_out
  have hz : (![0, 0] : Fin 2 → Nat) = fun _ => 0 := by funext z; fin_cases z <;> rfl
  have g0 := fun j n => (read_gates (iblk m c 5 t) j n).1.trans (blk5 m c t j 0 n)
  have g1 := fun j n => (read_gates (iblk m c 5 t) j n).2.1.trans (blk5 m c t j 1 n)
  have g2 := fun j n => (read_gates (iblk m c 5 t) j n).2.2.trans (blk5 m c t j 2 n)
  rw [read_pay1]
  simp only [read_pay2, g0, g1, g2, blk0, blk1, blk2, blk3, blk4, blk6, blk7, blk8, blk9]
  rfl

end Cert.MergeBlock
-- ==== Proof.MergeRef.lean ====
module

public import proofs.«01_k».proof.Defs
public import proofs.«01_k».proof.Proof.MergeBlock
public import proofs.«01_k».proof.Proof.Gen.MergeRefIdeal.Run
public import Idealize.ShloMosaic.Lib.Pointwise

@[expose] public section

set_option maxRecDepth 16384

noncomputable section

/-! The merge of the three branches, as the reference computes it, and the two programs together. -/

namespace Cert.MergeRef

open Idealize.ShloMosaic Idealize.ShloMosaic.Tactic Idealize.ShloMosaic.TcCoe Idealize.SL.Sem
open Cert.MergeRefIdeal Cert.MergeRefIdeal.Gen Cert.MergeRefIdeal.Value Cert.MergeBlock

/-- The three gates of every row, as the reference writes them. -/
def rGates (u : FVec Ideal S16384x1024 .bf16) (w : FVec Ideal S1x1024x5536 .f32) : FVec Ideal S16384x3072 .f32 :=
  Host.divf (broadcastInDim S16384x3072 ![] bcast_S_S16384x3072 (constant S_ .f32 0x3F800000#32))
    (addf (broadcastInDim S16384x3072 ![] bcast_S_S16384x3072 (constant S_ .f32 0x3F800000#32))
      (Host.exp (Host.negf (extractStridedSlice S16384x3072 ![0, 2464]
        (Host.dotGeneral dot_S16384x1024_S1024x5536_S16384x5536_1_0_0_1_n_n none (extf .f32 u bitsLt_bf16_f32)
          (shapeCast _ w shapeCasts_S1x1024x5536_S1024x5536)) slices_S16384x5536_S16384x3072_0_2464))))

/-- A branch through its own matrix. -/
def rBranch (o : FVec Ideal S8x2048x512 .bf16) (w : FVec Ideal S1x512x1024 .f32) : FVec Ideal S16384x1024 .f32 :=
  Host.dotGeneral dot_S16384x512_S512x1024_S16384x1024_1_0_0_1_n_n none
    (shapeCast _ (extf .f32 o bitsLt_bf16_f32) shapeCasts_S8x2048x512_S16384x512) (shapeCast _ w shapeCasts_S1x512x1024_S512x1024)

/-- The gated sum of the branches. -/
def rMix (s : FVec Ideal S16384x3072 .f32) (a m x : FVec Ideal S16384x1024 .f32) : FVec Ideal S16384x1024 .f32 :=
  addf (addf (mulf (extractStridedSlice S16384x1024 ![0, 0] s slices_S16384x3072_S16384x1024_0_0) a)
    (mulf (extractStridedSlice S16384x1024 ![0, 1024] s slices_S16384x3072_S16384x1024_0_1024) m))
    (mulf (extractStridedSlice S16384x1024 ![0, 2048] s slices_S16384x3072_S16384x1024_0_2048) x)

/-- The output projection and the residual. -/
def rOut (h y : FVec Ideal S16384x1024 .f32) (w : FVec Ideal S1x1024x1024 .f32) : FVec Ideal S16384x1024 .f32 :=
  addf h (Host.dotGeneral dot_S16384x1024_S1024x1024_S16384x1024_1_0_0_1_n_n none y (shapeCast _ w shapeCasts_S1x1024x1024_S1024x1024))

/-- The number one, as the reference writes it. -/
theorem ofBits_one : Ideal.ofBits .f32 1065353216#32 = (1 : EReal) := by
  simp [Ideal.ofBits, Ideal.ieee, -EReal.coe_mul]
  try norm_num

/-- A gate, read. -/
theorem read_gates (u : FVec Ideal S16384x1024 .bf16) (w : FVec Ideal S1x1024x5536 .f32) (R : Fin 16384) (k : Fin 3072) :
    rGates u w (ix2 R k) = Ideal.logistic (∑ j, u (ix2 R j) * w (ix3 0 j ⟨2464 + k.val, by omega⟩)) := by
  pointwise [rGates]
  rfl

/-- A branch, read. -/
theorem read_branch (o : FVec Ideal S8x2048x512 .bf16) (w : FVec Ideal S1x512x1024 .f32) (R : Fin 16384) (n : Fin 1024) :
    rBranch o w (ix2 R n) = ∑ j, o (ix3 ⟨R.val / 2048, by omega⟩ ⟨R.val % 2048, by omega⟩ j) * w (ix3 0 j n) := by
  pointwise [rBranch]

/-- The gated sum, read. -/
theorem read_mix (s : FVec Ideal S16384x3072 .f32) (a m x : FVec Ideal S16384x1024 .f32) (R : Fin 16384) (n : Fin 1024) :
    rMix s a m x (ix2 R n) = s (ix2 R ⟨n.val, by omega⟩) * a (ix2 R n) + s (ix2 R ⟨1024 + n.val, by omega⟩) * m (ix2 R n)
      + s (ix2 R ⟨2048 + n.val, by omega⟩) * x (ix2 R n) := by
  pointwise [rMix]

/-- The output projection, read. -/
theorem read_out (h y : FVec Ideal S16384x1024 .f32) (w : FVec Ideal S1x1024x1024 .f32) (R : Fin 16384) (n : Fin 1024) :
    rOut h y w (ix2 R n) = h (ix2 R n) + ∑ k, y (ix2 R k) * w (ix3 0 k n) := by
  pointwise [rOut]

/-- A gated branch of the reference is the formula's. -/
theorem read_gated (u : FVec Ideal S16384x1024 .bf16) (w : FVec Ideal S1x1024x5536 .f32) (o : FVec Ideal S8x2048x512 .bf16)
    (p : FVec Ideal S1x512x1024 .f32) (R : Fin 16384) (b : Fin 3) (n : Fin 1024) (k : Fin 3072) (hk : k.val = b.val * 1024 + n.val) :
    rGates u w (ix2 R k) * rBranch o p (ix2 R n)
      = branch (fun j => u (ix2 R j)) (fun j => w (ix3 0 j (gcol b n)))
          (fun j => o (ix3 ⟨R.val / 2048, by omega⟩ ⟨R.val % 2048, by omega⟩ j)) (fun j => p (ix3 0 j n)) := by
  rw [read_gates, read_branch]
  have e : (⟨2464 + k.val, by omega⟩ : Fin 5536) = gcol b n := Fin.ext (by show 2464 + k.val = 2464 + b.val * 1024 + n.val; omega)
  rw [e]
  rfl

/-- The reference's frame: its run read at the arguments, and the program has no semaphore. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h c).2, Idealize.ShloMosaic.sem_eq_zero_of_no_sems (by decide) r.2⟩)
    (Value.run m ρ)

/-- The kernel and the reference give equal rows. -/
theorem algebraic : Cert.algebraic_MergeIdeal_MergeRefIdeal := by
  intro m g m' g' _ hagree
  refine ⟨fun c => outY m c, ?_, ?_⟩
  · refine (θ_run _ _ _).mono (fun r h c => ?_) (Cert.MergeIdeal.Value.run_blocks m g)
    obtain ⟨h0, h1⟩ := h c
    exact ⟨h0.trans (final10 m c), h1⟩
  · refine (θ_run _ _ _).mono (fun r h c => ?_) (Cert.MergeRefIdeal.Value.run m' g')
    obtain ⟨h0, h1⟩ := h c
    obtain ⟨e0, e1, e2, e3, e4, e5, e6, e7, e8, e9⟩ := hagree c
    refine ⟨h0.trans ?_, h1⟩
    rw [e0, e1, e2, e3, e4, e5, e6, e7, e8, e9]
    funext y
    obtain ⟨R, n, rfl⟩ : ∃ (R : Fin 16384) (n : Fin 1024), y = ix2 R n := by
      idx_vars y
      exact ⟨_, _, rfl⟩
    refine (read_out _ (rMix (rGates _ _) (rBranch _ _) (rBranch _ _) (rBranch _ _)) _ R n).trans ?_
    refine congrArg₂ (· + ·) rfl (Finset.sum_congr rfl fun k _ => congrArg₂ (· * ·) ?_ rfl)
    rw [read_mix, read_gated _ _ _ _ R 0 k _ (by show k.val = 0 * 1024 + k.val; omega),
      read_gated _ _ _ _ R 1 k _ (by rfl), read_gated _ _ _ _ R 2 k _ (by rfl)]
    rfl

end Cert.MergeRef
-- ==== Proof.FfnRef.lean ====
module

public import proofs.«01_k».proof.Defs
public import proofs.«01_k».proof.Proof.FfnBlock
public import proofs.«01_k».proof.Proof.Gen.FfnRefIdeal.Run
public import Idealize.ShloMosaic.Lib.Pointwise

@[expose] public section

set_option maxRecDepth 16384

noncomputable section

/-! The feed-forward part, as the reference computes it, and the two programs together. -/

namespace Cert.FfnRef

open Idealize.ShloMosaic Idealize.ShloMosaic.Tactic Idealize.ShloMosaic.TcCoe Idealize.SL.Sem
open Cert.FfnRefIdeal Cert.FfnRefIdeal.Gen Cert.FfnRefIdeal.Value Cert.FfnBlock Cert.Rows

/-- The reference's norm of a row. -/
def rNorm (x : FVec Ideal S8x2048x1024 .f32) (g : FVec Ideal S1x1024 .f32) : FVec Ideal S8x2048x1024 .f32 :=
  mulf (mulf x (broadcastInDim S8x2048x1024 ![0, 1, 2] bcast_S8x2048x1_S8x2048x1024_0_1_2 (Host.rsqrt (addf (Host.divf
      (broadcastInDim S8x2048x1 ![0, 1] bcast_S8x2048_S8x2048x1_0_1 (Host.reduceAdd (mulf x x) (constant S_ .f32 0x00000000#32) reducesTo_S8x2048x1024_S8x2048_d2 h_S_))
      (broadcastInDim S8x2048x1 ![] bcast_S_S8x2048x1 (constant S_ .f32 0x44800000#32)))
      (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 (shapeCast _ g shapeCasts_S1x1024_S1024)))

/-- The reference's product with a gate's or up matrix. -/
def rIn (xn : FVec Ideal S8x2048x1024 .f32) (w : FVec Ideal S1x1024x2816 .f32) : FVec Ideal S8x2048x2816 .f32 :=
  Host.dotGeneral dot_S8x2048x1024_S1024x2816_S8x2048x2816_2_0_01_1_n_n none xn (shapeCast _ w shapeCasts_S1x1024x2816_S1024x2816)

/-- The reference's gated lanes. -/
def rGate (a b : FVec Ideal S8x2048x2816 .f32) : FVec Ideal S8x2048x2816 .f32 :=
  mulf (mulf a (Host.divf (broadcastInDim S8x2048x2816 ![] bcast_S_S8x2048x2816 (constant S_ .f32 0x3F800000#32))
    (addf (broadcastInDim S8x2048x2816 ![] bcast_S_S8x2048x2816 (constant S_ .f32 0x3F800000#32)) (Host.exp (Host.negf a))))) b

/-- The reference's half step. -/
def rStep (x : FVec Ideal S8x2048x1024 .f32) (h : FVec Ideal S8x2048x2816 .f32) (w : FVec Ideal S1x2816x1024 .f32) : FVec Ideal S8x2048x1024 .f32 :=
  addf x (mulf (broadcastInDim S8x2048x1024 ![] bcast_S_S8x2048x1024 (constant S_ .f32 0x3F000000#32))
    (Host.dotGeneral dot_S8x2048x2816_S2816x1024_S8x2048x1024_2_0_01_1_n_n none h (shapeCast _ w shapeCasts_S1x2816x1024_S2816x1024)))

/-- The reference's rows after the half step. -/
def rFf (x : FVec Ideal S8x2048x1024 .f32) (g : FVec Ideal S1x1024 .f32) (wg wu : FVec Ideal S1x1024x2816 .f32) (wd : FVec Ideal S1x2816x1024 .f32) :
    FVec Ideal S8x2048x1024 .f32 :=
  rStep x (rGate (rIn (rNorm x g) wg) (rIn (rNorm x g) wu)) wd

/-- The norm, read. -/
theorem read_norm (x : FVec Ideal S8x2048x1024 .f32) (g : FVec Ideal S1x1024 .f32) (b : Fin 8) (t : Fin 2048) (n : Fin 1024) :
    rNorm x g (ix3 b t n) = rms D (fun j => x (ix3 b t j)) (fun j => g (ix2 0 j)) n := by
  pointwise [rNorm]
  rfl

/-- The product, read. -/
theorem read_in (xn : FVec Ideal S8x2048x1024 .f32) (w : FVec Ideal S1x1024x2816 .f32) (b : Fin 8) (t : Fin 2048) (k : Fin 2816) :
    rIn xn w (ix3 b t k) = ∑ j, xn (ix3 b t j) * w (ix3 0 j k) := by
  pointwise [rIn]

/-- The number one, as the reference writes it. -/
theorem ofBits_one : Ideal.ofBits .f32 1065353216#32 = (1 : EReal) := by
  simp [Ideal.ofBits, Ideal.ieee, -EReal.coe_mul]
  try norm_num

/-- The gated lane, read. -/
theorem read_gate (a c : FVec Ideal S8x2048x2816 .f32) (b : Fin 8) (t : Fin 2048) (k : Fin 2816) :
    rGate a c (ix3 b t k) = a (ix3 b t k) * Ideal.logistic (a (ix3 b t k)) * c (ix3 b t k) := by
  pointwise [rGate]
  rfl

/-- The half step, read. -/
theorem read_step (x : FVec Ideal S8x2048x1024 .f32) (h : FVec Ideal S8x2048x2816 .f32) (w : FVec Ideal S1x2816x1024 .f32) (b : Fin 8) (t : Fin 2048) (n : Fin 1024) :
    rStep x h w (ix3 b t n) = x (ix3 b t n) + Ideal.ofBits .f32 1056964608#32 * ∑ k, h (ix3 b t k) * w (ix3 0 k n) := by
  pointwise [rStep]

/-- The rows after the half step are the formula. -/
theorem read_ff (x : FVec Ideal S8x2048x1024 .f32) (g : FVec Ideal S1x1024 .f32) (wg wu : FVec Ideal S1x1024x2816 .f32) (wd : FVec Ideal S1x2816x1024 .f32)
    (b : Fin 8) (t : Fin 2048) (n : Fin 1024) :
    rFf x g wg wu wd (ix3 b t n) = ff (fun j => x (ix3 b t j)) (fun j => g (ix2 0 j)) (fun j k => wg (ix3 0 j k)) (fun j k => wu (ix3 0 j k))
      (fun k n => wd (ix3 0 k n)) n := by
  unfold rFf ff gate
  simp only [read_step, read_gate, read_in, read_norm]

/-- The rows one after the other, read. -/
theorem read_rows (a : FVec Ideal S8x2048x1024 .f32) (R : Fin 16384) (j : Fin 1024) :
    shapeCast S16384x1024 a shapeCasts_S8x2048x1024_S16384x1024 (ix2 R j) = a (ix3 ⟨R.val / 2048, by omega⟩ ⟨R.val % 2048, by omega⟩ j) := by
  pointwise []

/-- The second result as the reference leaves it. -/
def rU (y : FVec Ideal S8x2048x1024 .f32) (g : FVec Ideal S1x1024 .f32) : FVec Ideal S16384x1024 .bf16 :=
  truncf .bf16 (shapeCast S16384x1024 (rNorm y g) shapeCasts_S8x2048x1024_S16384x1024) bitsLt_bf16_f32

/-- The second result, read. -/
theorem read_u (y : FVec Ideal S8x2048x1024 .f32) (g : FVec Ideal S1x1024 .f32) (R : Fin 16384) (n : Fin 1024) :
    rU y g (ix2 R n) = rms D (fun j => y (ix3 ⟨R.val / 2048, by omega⟩ ⟨R.val % 2048, by omega⟩ j)) (fun j => g (ix2 0 j)) n := by
  show shapeCast S16384x1024 (rNorm y g) shapeCasts_S8x2048x1024_S16384x1024 (ix2 R n) = _
  rw [read_rows, read_norm]

/-- The reference's frame: its run read at the arguments, and the program has no semaphore. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2, Idealize.ShloMosaic.sem_eq_zero_of_no_sems (by decide) r.2⟩)
    (Value.run m ρ)

variable (m : (ℓ : Loc nD τ sig) → Buf (Elt Ideal) ℓ)

/-- The reference's second result, from its arguments. -/
theorem res_u (c : Dev nD) : res_main_v41 m c = rU (rFf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))) (m ((c.tc : Thread nD τ).loc main_arg5)) :=
  rfl

/-- The kernel and the reference give equal rows and equal normed rows. -/
theorem algebraic : Cert.algebraic_FfnIdeal_FfnRefIdeal := by
  intro m g m' g' _ hagree
  refine ⟨fun c => outH m c, fun c => outU m c, ?_, ?_⟩
  · refine (θ_run _ _ _).mono (fun r h c => ?_) (Cert.FfnIdeal.Value.run_blocks m g)
    obtain ⟨h0, h1, h2⟩ := h c
    exact ⟨h0.trans (final6 m c), h1.trans (final7 m c), h2⟩
  · refine (θ_run _ _ _).mono (fun r h c => ?_) (Cert.FfnRefIdeal.Value.run m' g')
    obtain ⟨h0, h1, h2⟩ := h c
    obtain ⟨e0, e1, e2, e3, e4, e5⟩ := hagree c
    refine ⟨h0.trans ?_, h1.trans ?_, h2⟩
    · rw [e0, e1, e2, e3, e4]
      funext y
      obtain ⟨R, n, rfl⟩ : ∃ (R : Fin 16384) (n : Fin 1024), y = ix2 R n := by
        idx_vars y
        exact ⟨_, _, rfl⟩
      exact (read_rows (rFf _ _ _ _ _) R n).trans (read_ff _ _ _ _ _ _ _ _)
    · rw [res_u, e0, e1, e2, e3, e4, e5]
      funext y
      obtain ⟨R, n, rfl⟩ : ∃ (R : Fin 16384) (n : Fin 1024), y = ix2 R n := by
        idx_vars y
        exact ⟨_, _, rfl⟩
      rw [read_u]
      simp only [read_ff]
      rfl

end Cert.FfnRef
-- ==== Proof.MemBlock.lean ====
module

public import proofs.«01_k».proof.Proof.Rows
public import proofs.«01_k».proof.Proof.Gen.MemoryIdeal.Value
public import Idealize.ShloMosaic.Lib.Pointwise

@[expose] public section

set_option maxRecDepth 16384

noncomputable section

/-! The keys and values of the memory, as the kernel computes them. -/

namespace Cert.MemBlock

open Idealize.ShloMosaic Idealize.ShloMosaic.Tactic Idealize.ShloMosaic.TcCoe Idealize.SL.Sem
open Cert.MemoryIdeal Cert.MemoryIdeal.Gen Cert.MemoryIdeal.Value Cert.Rows

/-- The joint projection of a row of the memory. -/
def kv (X : Fin 1024 → EReal) (g : Fin 1024 → EReal) (W : Fin 1024 → Fin 1024 → EReal) (n : Fin 1024) : EReal :=
  ∑ j, rms (Ideal.ofBits .f32 1149239296#32) X g j * W j n

/-- The key of a row at a lane: the head's part of the projection, normed. -/
def mk (X : Fin 1024 → EReal) (g : Fin 1024 → EReal) (W : Fin 1024 → Fin 1024 → EReal) (k : Fin 128 → EReal) (n : Fin 512) : EReal :=
  rms (Ideal.ofBits .f32 1124073472#32) (fun d : Fin 128 => kv X g W ⟨n.val / 128 * 128 + d.val, by omega⟩) k ⟨n.val % 128, by omega⟩

/-- The value of a row at a lane: the projection's second half. -/
def mv (X : Fin 1024 → EReal) (g : Fin 1024 → EReal) (W : Fin 1024 → Fin 1024 → EReal) (n : Fin 512) : EReal :=
  kv X g W ⟨n.val + 512, by omega⟩

section Tile

variable (x : Vec Ideal S512x1024 .f32) (g : Vec Ideal S1x1024 .f32) (w : Vec Ideal S1024x1024 .bf16) (k : Vec Ideal S1x128 .f32)

/-- The projection, read. -/
theorem read_kv (r : Fin 512) (n : Fin 1024) :
    k0_pay3 x g w (ix2 r n) = kv (fun j => x (ix2 r j)) (fun j => g (ix2 0 j)) (fun j n => w (ix2 j n)) n := by
  pointwise [k0_pay3]
  rfl

/-- The sum of squares of a head's lanes, read. -/
theorem read_fam (h : Fin 4) (r : Fin 512) :
    Fam4_1 x g w k h (ix1 r) = ∑ d : Fin 128, k0_pay3 x g w (ix2 r ⟨h.val * 128 + d.val, by omega⟩) * k0_pay3 x g w (ix2 r ⟨h.val * 128 + d.val, by omega⟩) := by
  generalize e : k0_pay3 x g w = y
  unfold Fam4_1
  rw [e]
  match h with
  | ⟨0, _⟩ => pointwise []
  | ⟨1, _⟩ => pointwise []
  | ⟨2, _⟩ => pointwise []
  | ⟨3, _⟩ => pointwise []

/-- The keys the body stores. -/
theorem out4 (r n : Fin 512) : out0_4 x g w k (ix2 r n)
    = mk (fun j => x (ix2 r j)) (fun j => g (ix2 0 j)) (fun j n => w (ix2 j n)) (fun d => k (ix2 0 d)) n := by
  have hz : (![0, 0] : Fin 2 → Nat) = fun _ => 0 := by funext z; fin_cases z <;> rfl
  unfold out0_4 k0_pay12
  rw [View.ld_unit_zero (S := S512x1024) hz, View.ld_unit_zero (S := S1x1024) hz, View.ld_unit_zero (S := S1024x1024) hz, View.ld_unit_zero (S := S1x128) hz,
    canon4_eq]
  unfold mk rms
  simp only [← read_kv]
  have e0 : ix4_0 (ix2 r n) = ix2 r ⟨n.val / 128 * 128 + n.val % 128, by omega⟩ := by
    funext a
    match a with
    | ⟨0, _⟩ => rfl
    | ⟨1, _⟩ => exact Fin.ext (show n.val = n.val / 128 * 128 + n.val % 128 by omega)
  have e1 : ix4_1 (ix2 r n) = ix1 r := by
    funext a
    match a with
    | ⟨0, _⟩ => rfl
  have e2 : ix4_2 (ix2 r n) = ix2 0 ⟨n.val % 128, by omega⟩ := by
    funext a
    match a with
    | ⟨0, _⟩ => rfl
    | ⟨1, _⟩ => rfl
  show (k0_pay3 x g w (ix4_0 (ix2 r n)) : EReal) * Ideal.rsqrt (Ideal.div (Fam4_1 x g w k (sel4 (ix2 r n)) (ix4_1 (ix2 r n))) _ + _) * k (ix4_2 (ix2 r n)) = _
  rw [e0, e1, e2, read_fam x g w k (sel4 (ix2 r n)) r]
  rfl

/-- The values the body stores. -/
theorem out5 (r n : Fin 512) : out0_5 x g w k (ix2 r n)
    = mv (fun j => x (ix2 r j)) (fun j => g (ix2 0 j)) (fun j n => w (ix2 j n)) n := by
  have hz : (![0, 0] : Fin 2 → Nat) = fun _ => 0 := by funext z; fin_cases z <;> rfl
  unfold out0_5 k0_pay12
  rw [View.ld_unit_zero (S := S512x1024) hz, View.ld_unit_zero (S := S1x1024) hz, View.ld_unit_zero (S := S1024x1024) hz, canon5_eq]
  unfold mv
  rw [← read_kv]
  show k0_pay3 x g w (ix5_0 (ix2 r n)) = _
  refine congrArg _ ?_
  funext a
  match a with
  | ⟨0, _⟩ => rfl
  | ⟨1, _⟩ => rfl

end Tile

variable (m : (ℓ : Loc nD τ sig) → Buf (Elt Ideal) ℓ)

theorem V_rows (c : Dev nD) : V m c main_v0 = shapeCast _ (m ((c : Thread nD τ).loc main_arg0)) shapeCasts_S8x256x1024_S2048x1024 := by
  entry_read
  rfl

theorem V_gain (c : Dev nD) : V m c main_v2 = shapeCast _ (shapeCast _ (m ((c : Thread nD τ).loc main_arg1)) shapeCasts_S1x1024_S1024) shapeCasts_S1024_S1x1024 := by
  entry_read
  rfl

/-- The weights as the host hands them over. -/
def wV (a : FVec Ideal S1x1024x1024 .f32) : FVec Ideal S1024x1024 .bf16 :=
  truncf .bf16 (shapeCast S1024x1024 a shapeCasts_S1x1024x1024_S1024x1024) bitsLt_bf16_f32

/-- They are the weights, read. -/
theorem read_wV (a : FVec Ideal S1x1024x1024 .f32) (j n : Fin 1024) : wV a (ix2 j n) = a (ix3 0 j n) := by
  pointwise [wV]

/-- The memory's rows one after the other, read. -/
theorem read_rows (a : FVec Ideal S8x256x1024 .f32) (R : Fin 2048) (j : Fin 1024) :
    shapeCast S2048x1024 a shapeCasts_S8x256x1024_S2048x1024 (ix2 R j) = a (ix3 ⟨R.val / 256, by omega⟩ ⟨R.val % 256, by omega⟩ j) := by
  pointwise []

theorem V_weight (c : Dev nD) : V m c main_v4 = wV (m ((c : Thread nD τ).loc main_arg2)) := by
  entry_read
  rfl

theorem V_kgain (c : Dev nD) : V m c main_v6 = shapeCast _ (shapeCast _ (m ((c : Thread nD τ).loc main_arg3)) shapeCasts_S1x128_S128) shapeCasts_S128_S1x128 := by
  entry_read
  rfl

theorem idx : ∀ t : Fin cfg0.N, win0_0.index t = ![t.val, 0]
    ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

/-- A row of the memory. -/
def xA (c : Dev nD) (R : Fin 2048) (j : Fin 1024) : EReal := m ((c : Thread nD τ).loc main_arg0) (ix3 ⟨R.val / 256, by omega⟩ ⟨R.val % 256, by omega⟩ j)

/-- The gain of the memory's norm. -/
def gA (c : Dev nD) (j : Fin 1024) : EReal := m ((c : Thread nD τ).loc main_arg1) (ix2 0 j)

/-- The weights. -/
def wA (c : Dev nD) (j n : Fin 1024) : EReal := m ((c : Thread nD τ).loc main_arg2) (ix3 0 j n)

/-- The gain of the keys' norm. -/
def kA (c : Dev nD) (d : Fin 128) : EReal := m ((c : Thread nD τ).loc main_arg3) (ix2 0 d)

/-- Row `r` of the tile at point `t`. -/
def rowOf (t : Fin cfg0.N) (r : Fin 512) : Fin 2048 := ⟨t.val * 512 + r.val, by have h : t.val < 4 := t.isLt; omega⟩

theorem blk0 (c : Dev nD) (t : Fin cfg0.N) (r : Fin 512) (j : Fin 1024) : iblk m c 0 t (ix2 r j) = xA m c (rowOf t r) j := by
  have e : V m c main_v0 (ix2 (rowOf t r) j) = xA m c (rowOf t r) j := by
    rw [V_rows]
    exact read_rows _ _ _
  rw [← e]
  blk_ext [iblk, V, idx t, rowOf]

theorem blk1 (c : Dev nD) (t : Fin cfg0.N) (j : Fin 1024) : iblk m c 1 t (ix2 0 j) = gA m c j := by
  have e : V m c main_v2 (ix2 0 j) = gA m c j := by
    rw [V_gain]
    unfold gA
    pointwise []
  rw [← e]
  blk_ext [iblk, V, idx t]

theorem blk2 (c : Dev nD) (t : Fin cfg0.N) (j n : Fin 1024) : iblk m c 2 t (ix2 j n) = wA m c j n := by
  have e : V m c main_v4 (ix2 j n) = wA m c j n := by
    rw [V_weight]
    exact read_wV _ _ _
  rw [← e]
  blk_ext [iblk, V, idx t]

theorem blk3 (c : Dev nD) (t : Fin cfg0.N) (d : Fin 128) : iblk m c 3 t (ix2 0 d) = kA m c d := by
  have e : V m c main_v6 (ix2 0 d) = kA m c d := by
    rw [V_kgain]
    unfold kA
    pointwise []
  rw [← e]
  blk_ext [iblk, V, idx t]

/-- The key array the formula gives. -/
def outK (c : Dev nD) : FVec Ideal S2048x512 .f32 := fun y => mk (xA m c (y 0)) (gA m c) (wA m c) (kA m c) (y 1)

/-- The value array the formula gives. -/
def outV (c : Dev nD) : FVec Ideal S2048x512 .f32 := fun y => mv (xA m c (y 0)) (gA m c) (wA m c) (y 1)

/-- The key array after the kernel. -/
theorem final4 (c : Dev nD) : (dats m 0 c).arrAt 4 cfg0.N = outK m c := by
  refine (dats m 0 c).arrAt_eq_of_covers 4 _ (by decide +kernel) fun t hf y => ?_
  blk_simp
  rw [after0_4]
  obtain ⟨r, d, rfl⟩ : ∃ (r d : Fin 512), y = ix2 r d := by
    idx_vars y
    exact ⟨_, _, rfl⟩
  have e : outK m c ((win0_4.blk t).view.emb (ix2 r d)) = mk (xA m c (rowOf t r)) (gA m c) (wA m c) (kA m c) d := by
    show outK m c _ = outK m c (ix2 (rowOf t r) d)
    refine congrArg (outK m c) ?_
    blk_ext [idx t, rowOf]
  rw [out4, funext (blk0 m c t r), funext (blk1 m c t), funext₂ (blk2 m c t), funext (blk3 m c t)]
  exact e.symm

/-- The value array after the kernel. -/
theorem final5 (c : Dev nD) : (dats m 0 c).arrAt 5 cfg0.N = outV m c := by
  refine (dats m 0 c).arrAt_eq_of_covers 5 _ (by decide +kernel) fun t hf y => ?_
  blk_simp
  rw [after0_5]
  obtain ⟨r, d, rfl⟩ : ∃ (r d : Fin 512), y = ix2 r d := by
    idx_vars y
    exact ⟨_, _, rfl⟩
  have e : outV m c ((win0_5.blk t).view.emb (ix2 r d)) = mv (xA m c (rowOf t r)) (gA m c) (wA m c) d := by
    show outV m c _ = outV m c (ix2 (rowOf t r) d)
    refine congrArg (outV m c) ?_
    blk_ext [idx t, rowOf]
  rw [out5, funext (blk0 m c t r), funext (blk1 m c t), funext₂ (blk2 m c t)]
  exact e.symm

end Cert.MemBlock
-- ==== Proof.MemRef.lean ====
module

public import proofs.«01_k».proof.Defs
public import proofs.«01_k».proof.Proof.MemBlock
public import proofs.«01_k».proof.Proof.Gen.MemoryRefIdeal.Run
public import Idealize.ShloMosaic.Lib.Pointwise

@[expose] public section

set_option maxRecDepth 16384

noncomputable section

/-! The keys and values of the memory, as the reference computes them, and the two programs together. -/

namespace Cert.MemRef

open Idealize.ShloMosaic Idealize.ShloMosaic.Tactic Idealize.ShloMosaic.TcCoe Idealize.SL.Sem
open Cert.MemoryRefIdeal Cert.MemoryRefIdeal.Gen Cert.MemoryRefIdeal.Value Cert.MemBlock Cert.Rows

/-- The reference's projection. -/
def rKv (x : FVec Ideal S8x256x1024 .f32) (g : FVec Ideal S1x1024 .f32) (w : FVec Ideal S1x1024x1024 .f32) : FVec Ideal S8x256x1024 .f32 :=
  Host.dotGeneral dot_S8x256x1024_S1024x1024_S8x256x1024_2_0_01_1_n_n none (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ g shapeCasts_S1x1024_S1024)))) (shapeCast _ w shapeCasts_S1x1024x1024_S1024x1024)

/-- The reference's keys before their norm. -/
def rHead (y : FVec Ideal S8x256x1024 .f32) : FVec Ideal S8x256x4x128 .f32 :=
  shapeCast _ (extractStridedSlice S8x256x512 ![0, 0, 0] y slices_S8x256x1024_S8x256x512_0_0_0) shapeCasts_S8x256x512_S8x256x4x128

/-- The reference's keys. -/
def rK (h : FVec Ideal S8x256x4x128 .f32) (k : FVec Ideal S1x128 .f32) : FVec Ideal S2048x512 .f32 :=
  shapeCast _ (mulf (mulf h (broadcastInDim S8x256x4x128 ![0, 1, 2, 3] bcast_S8x256x4x1_S8x256x4x128_0_1_2_3 (Host.rsqrt (addf (Host.divf (broadcastInDim S8x256x4x1 ![0, 1, 2] bcast_S8x256x4_S8x256x4x1_0_1_2 (Host.reduceAdd (mulf h h) (constant S_ .f32 0x00000000#32) reducesTo_S8x256x4x128_S8x256x4_d3 h_S_)) (broadcastInDim S8x256x4x1 ![] bcast_S_S8x256x4x1 (constant S_ .f32 0x43000000#32))) (broadcastInDim S8x256x4x1 ![] bcast_S_S8x256x4x1 (constant S_ .f32 0x358637BD#32)))))) (broadcastInDim S8x256x4x128 ![0, 1, 2, 3] bcast_S1x1x1x128_S8x256x4x128_0_1_2_3 (broadcastInDim S1x1x1x128 ![3] bcast_S128_S1x1x1x128_3 (shapeCast _ k shapeCasts_S1x128_S128)))) shapeCasts_S8x256x4x128_S2048x512

/-- The reference's values. -/
def rV (y : FVec Ideal S8x256x1024 .f32) : FVec Ideal S2048x512 .f32 :=
  shapeCast _ (extractStridedSlice S8x256x512 ![0, 0, 512] y slices_S8x256x1024_S8x256x512_0_0_512) shapeCasts_S8x256x512_S2048x512

/-- The projection, read. -/
theorem read_kv (x : FVec Ideal S8x256x1024 .f32) (g : FVec Ideal S1x1024 .f32) (w : FVec Ideal S1x1024x1024 .f32) (b : Fin 8) (t : Fin 256) (n : Fin 1024) :
    rKv x g w (ix3 b t n) = kv (fun j => x (ix3 b t j)) (fun j => g (ix2 0 j)) (fun j n => w (ix3 0 j n)) n := by
  pointwise [rKv]
  rfl

/-- A head's key, read. -/
theorem read_head (y : FVec Ideal S8x256x1024 .f32) (b : Fin 8) (t : Fin 256) (h : Fin 4) (d : Fin 128) :
    rHead y (ix4 b t h d) = y (ix3 b t ⟨h.val * 128 + d.val, by omega⟩) := by
  pointwise [rHead]

/-- The normed keys, read. -/
theorem read_k (h : FVec Ideal S8x256x4x128 .f32) (k : FVec Ideal S1x128 .f32) (R : Fin 2048) (n : Fin 512) :
    rK h k (ix2 R n) = rms (Ideal.ofBits .f32 1124073472#32)
      (fun d => h (ix4 ⟨R.val / 256, by omega⟩ ⟨R.val % 256, by omega⟩ ⟨n.val / 128, by omega⟩ d)) (fun d => k (ix2 0 d)) ⟨n.val % 128, by omega⟩ := by
  pointwise [rK]
  rfl

/-- The values, read. -/
theorem read_v (y : FVec Ideal S8x256x1024 .f32) (R : Fin 2048) (n : Fin 512) :
    rV y (ix2 R n) = y (ix3 ⟨R.val / 256, by omega⟩ ⟨R.val % 256, by omega⟩ ⟨512 + n.val, by omega⟩) := by
  pointwise [rV]

/-- The reference's keys are the formula. -/
theorem ref_k (x : FVec Ideal S8x256x1024 .f32) (g : FVec Ideal S1x1024 .f32) (w : FVec Ideal S1x1024x1024 .f32) (k : FVec Ideal S1x128 .f32) (R : Fin 2048) (n : Fin 512) :
    rK (rHead (rKv x g w)) k (ix2 R n)
      = mk (fun j => x (ix3 ⟨R.val / 256, by omega⟩ ⟨R.val % 256, by omega⟩ j)) (fun j => g (ix2 0 j)) (fun j n => w (ix3 0 j n)) (fun d => k (ix2 0 d)) n := by
  rw [read_k]
  unfold mk
  simp only [read_head, read_kv]

/-- The reference's values are the formula. -/
theorem ref_v (x : FVec Ideal S8x256x1024 .f32) (g : FVec Ideal S1x1024 .f32) (w : FVec Ideal S1x1024x1024 .f32) (R : Fin 2048) (n : Fin 512) :
    rV (rKv x g w) (ix2 R n)
      = mv (fun j => x (ix3 ⟨R.val / 256, by omega⟩ ⟨R.val % 256, by omega⟩ j)) (fun j => g (ix2 0 j)) (fun j n => w (ix3 0 j n)) n := by
  rw [read_v, read_kv]
  unfold mv
  exact congrArg _ (Fin.ext (Nat.add_comm _ _))

/-- The reference's frame: its run read at the arguments, and the program has no semaphore. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, Idealize.ShloMosaic.sem_eq_zero_of_no_sems (by decide) r.2⟩)
    (Value.run m ρ)

/-- The kernel and the reference give equal keys and values. -/
theorem algebraic : Cert.algebraic_MemoryIdeal_MemoryRefIdeal := by
  intro m g m' g' _ hagree
  refine ⟨fun c => outK m c, fun c => outV m c, ?_, ?_⟩
  · refine (θ_run _ _ _).mono (fun r h c => ?_) (Cert.MemoryIdeal.Value.run_blocks m g)
    obtain ⟨h0, h1, h2⟩ := h c
    exact ⟨h0.trans (final4 m c), h1.trans (final5 m c), h2⟩
  · refine (θ_run _ _ _).mono (fun r h c => ?_) (Cert.MemoryRefIdeal.Value.run m' g')
    obtain ⟨h0, h1, h2⟩ := h c
    obtain ⟨e0, e1, e2, e3⟩ := hagree c
    refine ⟨h0.trans ?_, h1.trans ?_, h2⟩
    · rw [e0, e1, e2, e3]
      funext y
      obtain ⟨R, n, rfl⟩ : ∃ (R : Fin 2048) (n : Fin 512), y = ix2 R n := by
        idx_vars y
        exact ⟨_, _, rfl⟩
      exact ref_k _ _ _ _ R n
    · rw [e0, e1, e2]
      funext y
      obtain ⟨R, n, rfl⟩ : ∃ (R : Fin 2048) (n : Fin 512), y = ix2 R n := by
        idx_vars y
        exact ⟨_, _, rfl⟩
      exact ref_v _ _ _ R n

end Cert.MemRef
-- ==== Proof.lean ====
module

public import proofs.«01_k».proof.Defs
public import proofs.«01_k».proof.Proof.Gen.Moba
public import proofs.«01_k».proof.Proof.Gen.Moba.Skeleton
public import proofs.«01_k».proof.Proof.Gen.Moba.Loops
public import proofs.«01_k».proof.Proof.Gen.Moba.Launch
public import proofs.«01_k».proof.Proof.Gen.Moba.Points
public import proofs.«01_k».proof.Proof.Gen.Moba.Frame
public import proofs.«01_k».proof.Proof.Gen.MobaIdeal
public import proofs.«01_k».proof.Proof.Gen.MobaIdeal.Skeleton
public import proofs.«01_k».proof.Proof.Gen.MobaIdeal.Loops
public import proofs.«01_k».proof.Proof.Gen.MobaIdeal.Launch
public import proofs.«01_k».proof.Proof.Gen.MobaIdeal.Points
public import proofs.«01_k».proof.Proof.Gen.MobaIdeal.Frame
public import proofs.«01_k».proof.Proof.Gen.MobaRefIdeal
public import proofs.«01_k».proof.Proof.Gen.Pre_finite
public import proofs.«01_k».proof.Proof.Gen.Pre_finite_mla
public import proofs.«01_k».proof.Proof.Gen.MobaIdeal.Value
public import proofs.«01_k».proof.Proof.Gen.MobaRefIdeal.Run
public import proofs.«01_k».proof.Proof.Join
public import proofs.«01_k».proof.Proof.MlaJoin
public import proofs.«01_k».proof.Proof.PostRef
public import proofs.«01_k».proof.Proof.ProjRef
public import proofs.«01_k».proof.Proof.PostSampleRef
public import proofs.«01_k».proof.Proof.ProjSampRef
public import proofs.«01_k».proof.Proof.MergeRef
public import proofs.«01_k».proof.Proof.FfnRef
public import proofs.«01_k».proof.Proof.MemRef
public import Idealize.ShloMosaic.Adequacy
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.PostIdeal.Value
public import proofs.«01_k».proof.Proof.Gen.PostRefIdeal.Run
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectRefIdeal
public import proofs.«01_k».proof.Proof.Gen.ProjectIdeal.Value
public import proofs.«01_k».proof.Proof.Gen.ProjectRefIdeal.Run
public import proofs.«01_k».proof.Proof.Gen.ProjectSample
public import proofs.«01_k».proof.Proof.Gen.ProjectSample.Skeleton
public import proofs.«01_k».proof.Proof.Gen.ProjectSample.Launch
public import proofs.«01_k».proof.Proof.Gen.ProjectSample.Points
public import proofs.«01_k».proof.Proof.Gen.ProjectSample.Frame
public import proofs.«01_k».proof.Proof.Gen.ProjectSampleIdeal
public import proofs.«01_k».proof.Proof.Gen.ProjectSampleIdeal.Skeleton
public import proofs.«01_k».proof.Proof.Gen.ProjectSampleIdeal.Launch
public import proofs.«01_k».proof.Proof.Gen.ProjectSampleIdeal.Points
public import proofs.«01_k».proof.Proof.Gen.ProjectSampleIdeal.Frame
public import proofs.«01_k».proof.Proof.Gen.ProjectSampleRefIdeal
public import proofs.«01_k».proof.Proof.Gen.ProjectSampleIdeal.Value
public import proofs.«01_k».proof.Proof.Gen.ProjectSampleRefIdeal.Run
public import proofs.«01_k».proof.Proof.Gen.PostSample
public import proofs.«01_k».proof.Proof.Gen.PostSample.Skeleton
public import proofs.«01_k».proof.Proof.Gen.PostSample.Launch
public import proofs.«01_k».proof.Proof.Gen.PostSample.Points
public import proofs.«01_k».proof.Proof.Gen.PostSample.Frame
public import proofs.«01_k».proof.Proof.Gen.PostSampleIdeal
public import proofs.«01_k».proof.Proof.Gen.PostSampleIdeal.Skeleton
public import proofs.«01_k».proof.Proof.Gen.PostSampleIdeal.Launch
public import proofs.«01_k».proof.Proof.Gen.PostSampleIdeal.Points
public import proofs.«01_k».proof.Proof.Gen.PostSampleIdeal.Frame
public import proofs.«01_k».proof.Proof.Gen.PostSampleRefIdeal
public import proofs.«01_k».proof.Proof.Gen.PostSampleIdeal.Value
public import proofs.«01_k».proof.Proof.Gen.PostSampleRefIdeal.Run
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.MlaIdeal.Value
public import proofs.«01_k».proof.Proof.Gen.MlaRefIdeal.Run
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal
public import proofs.«01_k».proof.Proof.Gen.MemoryIdeal.Value
public import proofs.«01_k».proof.Proof.Gen.MemoryRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import Idealize.ShloMosaic.Init

@[expose] public section

noncomputable section

namespace Cert.Proof

open Idealize.ShloMosaic Idealize.SL.Sem Cert.Moba

theorem claim : Cert.Claim := ⟨Cert.Moba.Gen.facts,
  Cert.MobaIdeal.Gen.facts,
  Cert.MobaRefIdeal.Gen.facts,
  Cert.Memory.Gen.facts,
  Cert.MemoryIdeal.Gen.facts,
  Cert.MemoryRefIdeal.Gen.facts,
  Cert.Ffn.Gen.facts,
  Cert.FfnIdeal.Gen.facts,
  Cert.FfnRefIdeal.Gen.facts,
  Cert.Merge.Gen.facts,
  Cert.MergeIdeal.Gen.facts,
  Cert.MergeRefIdeal.Gen.facts,
  Cert.Post.Gen.facts,
  Cert.PostIdeal.Gen.facts,
  Cert.PostRefIdeal.Gen.facts,
  Cert.Project.Gen.facts,
  Cert.ProjectIdeal.Gen.facts,
  Cert.ProjectRefIdeal.Gen.facts,
  Cert.PostSample.Gen.facts,
  Cert.PostSampleIdeal.Gen.facts,
  Cert.PostSampleRefIdeal.Gen.facts,
  Cert.ProjectSample.Gen.facts,
  Cert.ProjectSampleIdeal.Gen.facts,
  Cert.ProjectSampleRefIdeal.Gen.facts,
  Cert.Mla.Gen.facts,
  Cert.MlaIdeal.Gen.facts,
  Cert.MlaRefIdeal.Gen.facts,
  Cert.Pre_finite.Gen.facts,
  Cert.Pre_finite_mla.Gen.facts,
  fun m ρ _ => Cert.Moba.Gen.frame m ρ,
  fun m ρ _ => Cert.MobaIdeal.Gen.frame m ρ,
  fun m ρ _ => Cert.MobaIdeal.Gen.frame m ρ,
  fun m ρ _ => Cert.MobaJoin.frame_ref m ρ,
  fun m ρ _ => Cert.MobaJoin.frame_ref m ρ,
  fun m ρ _ => Cert.Memory.Gen.frame m ρ,
  fun m ρ _ => Cert.MemoryIdeal.Gen.frame m ρ,
  fun m ρ _ => Cert.MemRef.frame_ref m ρ,
  fun m ρ _ => Cert.Ffn.Gen.frame m ρ,
  fun m ρ _ => Cert.FfnIdeal.Gen.frame m ρ,
  fun m ρ _ => Cert.FfnRef.frame_ref m ρ,
  fun m ρ _ => Cert.Merge.Gen.frame m ρ,
  fun m ρ _ => Cert.MergeIdeal.Gen.frame m ρ,
  fun m ρ _ => Cert.MergeRef.frame_ref m ρ,
  fun m ρ _ => Cert.Post.Gen.frame m ρ,
  fun m ρ _ => Cert.PostIdeal.Gen.frame m ρ,
  fun m ρ _ => Cert.PostRef.frame_ref m ρ,
  fun m ρ _ => Cert.Project.Gen.frame m ρ,
  fun m ρ _ => Cert.ProjectIdeal.Gen.frame m ρ,
  fun m ρ _ => Cert.ProjRef.frame_ref m ρ,
  fun m ρ _ => Cert.PostSample.Gen.frame m ρ,
  fun m ρ _ => Cert.PostSampleIdeal.Gen.frame m ρ,
  fun m ρ _ => Cert.PostSampleRef.frame_ref m ρ,
  fun m ρ _ => Cert.ProjectSample.Gen.frame m ρ,
  fun m ρ _ => Cert.ProjectSampleIdeal.Gen.frame m ρ,
  fun m ρ _ => Cert.ProjSampRef.frame_ref m ρ,
  fun m ρ _ => Cert.Mla.Gen.frame m ρ,
  fun m ρ _ => Cert.MlaIdeal.Gen.frame m ρ,
  fun m ρ _ => Cert.MlaIdeal.Gen.frame m ρ,
  fun m ρ _ => Cert.MlaJoin.frame_ref m ρ,
  fun m ρ _ => Cert.MlaJoin.frame_ref m ρ,
  trivial,
  Cert.MobaJoin.algebraic,
  trivial,
  Cert.MemRef.algebraic,
  trivial,
  Cert.FfnRef.algebraic,
  trivial,
  Cert.MergeRef.algebraic,
  trivial,
  Cert.PostRef.algebraic,
  IdealRules.named_const.statement Cert.ProjectIdeal.κ "i96" .f32 0x3C2AAAAB#32 ((96⁻¹ : ℝ) : EReal) rfl,
  Cert.ProjRef.algebraic,
  trivial,
  Cert.PostSampleRef.algebraic,
  IdealRules.named_const.statement Cert.ProjectSampleIdeal.κ "i96" .f32 0x3C2AAAAB#32 ((96⁻¹ : ℝ) : EReal) rfl,
  Cert.ProjSampRef.algebraic,
  trivial,
  Cert.MlaJoin.algebraic⟩

end Cert.Proof

end
